-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v31) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8192x2048 : Shape := ⟨2, ![8192, 2048]⟩
abbrev S1x2048x19504 : Shape := ⟨3, ![1, 2048, 19504]⟩
abbrev S1x19504 : Shape := ⟨2, ![1, 19504]⟩
abbrev S1x3x2048 : Shape := ⟨3, ![1, 3, 2048]⟩
abbrev S1x2048 : Shape := ⟨2, ![1, 2048]⟩
abbrev S1x2048x2048 : Shape := ⟨3, ![1, 2048, 2048]⟩
abbrev S19504 : Shape := ⟨1, ![19504]⟩
abbrev S3x2048 : Shape := ⟨2, ![3, 2048]⟩
abbrev S2048 : Shape := ⟨1, ![2048]⟩
abbrev S1x19504x2048 : Shape := ⟨3, ![1, 19504, 2048]⟩
abbrev S19504x2048 : Shape := ⟨2, ![19504, 2048]⟩
abbrev S8192 : Shape := ⟨1, ![8192]⟩
abbrev S4x8x256 : Shape := ⟨3, ![4, 8, 256]⟩
abbrev S8x4x256 : Shape := ⟨3, ![8, 4, 256]⟩
abbrev S1x8192 : Shape := ⟨2, ![1, 8192]⟩
abbrev S2048x2048 : Shape := ⟨2, ![2048, 2048]⟩
abbrev S1x1024 : Shape := ⟨2, ![1, 1024]⟩
abbrev S3x256 : Shape := ⟨2, ![3, 256]⟩
abbrev S1x256 : Shape := ⟨2, ![1, 256]⟩
abbrev S256x2048 : Shape := ⟨2, ![256, 2048]⟩
abbrev S1x64x2048 : Shape := ⟨3, ![1, 64, 2048]⟩
abbrev S2048x256 : Shape := ⟨2, ![2048, 256]⟩
abbrev S64x2048 : Shape := ⟨2, ![64, 2048]⟩
abbrev S1024x2048 : Shape := ⟨2, ![1024, 2048]⟩
abbrev S8x256 : Shape := ⟨2, ![8, 256]⟩
abbrev S2048x1024 : Shape := ⟨2, ![2048, 1024]⟩
abbrev S2048x1 : Shape := ⟨2, ![2048, 1]⟩

abbrev nBuf : Space → Nat
  | .hbm => 22
  | .vmem => 32
  | .smem => 0
  | _ => 0

abbrev bufTy : (tb : Table) → Fin (tcTables nBuf tb) → BufTy
  | .hbm, ⟨0, _⟩ => ⟨S8192x2048, .bf16⟩
  | .hbm, ⟨1, _⟩ => ⟨S1x2048x19504, .f32⟩
  | .hbm, ⟨2, _⟩ => ⟨S1x19504, .f32⟩
  | .hbm, ⟨3, _⟩ => ⟨S1x3x2048, .f32⟩
  | .hbm, ⟨4, _⟩ => ⟨S1x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .hbm, ⟨8, _⟩ => ⟨S19504, .f32⟩
  | .hbm, ⟨9, _⟩ => ⟨S3x2048, .f32⟩
  | .hbm, ⟨10, _⟩ => ⟨S2048, .f32⟩
  | .hbm, ⟨11, _⟩ => ⟨S1x19504x2048, .f32⟩
  | .hbm, ⟨12, _⟩ => ⟨S19504x2048, .f32⟩
  | .hbm, ⟨13, _⟩ => ⟨S8192, .f32⟩
  | .hbm, ⟨14, _⟩ => ⟨S4x8x256, .f32⟩
  | .hbm, ⟨15, _⟩ => ⟨S8x4x256, .f32⟩
  | .hbm, ⟨16, _⟩ => ⟨S1x8192, .f32⟩
  | .hbm, ⟨17, _⟩ => ⟨S1x2048, .f32⟩
  | .hbm, ⟨18, _⟩ => ⟨S8192x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024, .f32⟩
  | .local _ .vmem, ⟨3, _⟩ => ⟨S1x1024, .f32⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S1x64x2048, .f32⟩
  | .local _ .vmem, ⟨17, _⟩ => ⟨S1x64x2048, .f32⟩
  | .local _ .vmem, ⟨18, _⟩ => ⟨S1x64x2048, .f32⟩
  | .local _ .vmem, ⟨19, _⟩ => ⟨S1x64x2048, .f32⟩
  | .local _ .vmem, ⟨20, _⟩ => ⟨S1x64x2048, .f32⟩
  | .local _ .vmem, ⟨21, _⟩ => ⟨S1x64x2048, .f32⟩
  | .local _ .vmem, ⟨22, _⟩ => ⟨S2048x256, .bf16⟩
  | .local _ .vmem, ⟨23, _⟩ => ⟨S2048x256, .bf16⟩
  | .local _ .vmem, ⟨24, _⟩ => ⟨S64x2048, .bf16⟩
  | .local _ .vmem, ⟨25, _⟩ => ⟨S64x2048, .bf16⟩
  | .local _ .vmem, ⟨26, _⟩ => ⟨S64x2048, .bf16⟩
  | .local _ .vmem, ⟨27, _⟩ => ⟨S64x2048, .bf16⟩
  | .local _ .vmem, ⟨28, _⟩ => ⟨S64x2048, .bf16⟩
  | .local _ .vmem, ⟨29, _⟩ => ⟨S64x2048, .bf16⟩
  | .local _ .vmem, ⟨30, _⟩ => ⟨S1024x2048, .bf16⟩
  | .local _ .vmem, ⟨31, _⟩ => ⟨S8x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c7216_i32 : BitVec 32 := 7216#32
  let arg0 : BitVec 32 := BitVec.ofNat 32 (i 0).val
  let c256_i32 : BitVec 32 := 256#32
  let v0 : BitVec 32 := Scalar.muli arg0 c256_i32
  let v1 : BitVec 32 := Scalar.addi c7216_i32 v0
  v1
def k0_mult2 (i : grid0.Coords) : BitVec 32 :=
  let c9264_i32 : BitVec 32 := 9264#32
  let arg0 : BitVec 32 := BitVec.ofNat 32 (i 0).val
  let c256_i32 : BitVec 32 := 256#32
  let v0 : BitVec 32 := Scalar.muli arg0 c256_i32
  let v1 : BitVec 32 := Scalar.addi c9264_i32 v0
  v1
def k0_mult3 (i : grid0.Coords) : BitVec 32 :=
  let c11312_i32 : BitVec 32 := 11312#32
  let arg0 : BitVec 32 := BitVec.ofNat 32 (i 0).val
  let c256_i32 : BitVec 32 := 256#32
  let v0 : BitVec 32 := Scalar.muli arg0 c256_i32
  let v1 : BitVec 32 := Scalar.addi c11312_i32 v0
  v1
def k0_mult4 (i : grid0.Coords) : BitVec 32 :=
  let c13360_i32 : BitVec 32 := 13360#32
  let arg0 : BitVec 32 := BitVec.ofNat 32 (i 0).val
  let c256_i32 : BitVec 32 := 256#32
  let v0 : BitVec 32 := Scalar.muli arg0 c256_i32
  let v1 : BitVec 32 := Scalar.addi c13360_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c7216_i32 : BitVec 32 := 7216#32
  let v1 : BitVec 32 := Scalar.addi c7216_i32 v0
  let v2 : BitVec 32 := v1
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c9264_i32 : BitVec 32 := 9264#32
  let v1 : BitVec 32 := Scalar.addi c9264_i32 v0
  let v2 : BitVec 32 := v1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c11312_i32 : BitVec 32 := 11312#32
  let v1 : BitVec 32 := Scalar.addi c11312_i32 v0
  let v2 : BitVec 32 := v1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c13360_i32 : BitVec 32 := 13360#32
  let v1 : BitVec 32 := Scalar.addi c13360_i32 v0
  let v2 : BitVec 32 := v1
  let c0_i32 : BitVec 32 := 0#32
  let c0_i32_0 : BitVec 32 := 0#32
  ![v2.toNat, c0_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8192x2048 : Shape := ⟨2, ![8192, 2048]⟩
abbrev S1x2048x19504 : Shape := ⟨3, ![1, 2048, 19504]⟩
abbrev S1x19504 : Shape := ⟨2, ![1, 19504]⟩
abbrev S1x3x2048 : Shape := ⟨3, ![1, 3, 2048]⟩
abbrev S1x2048 : Shape := ⟨2, ![1, 2048]⟩
abbrev S1x2048x2048 : Shape := ⟨3, ![1, 2048, 2048]⟩
abbrev S4x2048x2048 : Shape := ⟨3, ![4, 2048, 2048]⟩
abbrev S2048x19504 : Shape := ⟨2, ![2048, 19504]⟩
abbrev S4x2048x19504 : Shape := ⟨3, ![4, 2048, 19504]⟩
abbrev S19504 : Shape := ⟨1, ![19504]⟩
abbrev S1x1x19504 : Shape := ⟨3, ![1, 1, 19504]⟩
abbrev S4x2048x512 : Shape := ⟨3, ![4, 2048, 512]⟩
abbrev S4x2048x48 : Shape := ⟨3, ![4, 2048, 48]⟩
abbrev S4x2048x4096 : Shape := ⟨3, ![4, 2048, 4096]⟩
abbrev S_ : Shape := ⟨0, ![]⟩
abbrev S4x2050x2048 : Shape := ⟨3, ![4, 2050, 2048]⟩
abbrev S1x1x2048 : Shape := ⟨3, ![1, 1, 2048]⟩
abbrev S2048 : Shape := ⟨1, ![2048]⟩
abbrev S2048x2048 : Shape := ⟨2, ![2048, 2048]⟩

abbrev nBuf : Space → Nat
  | .hbm => 80
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x19504, .f32⟩
  | .hbm, ⟨2, _⟩ => ⟨S1x19504, .f32⟩
  | .hbm, ⟨3, _⟩ => ⟨S1x3x2048, .f32⟩
  | .hbm, ⟨4, _⟩ => ⟨S1x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .hbm, ⟨8, _⟩ => ⟨S4x2048x2048, .bf16⟩
  | .hbm, ⟨9, _⟩ => ⟨S4x2048x2048, .f32⟩
  | .hbm, ⟨10, _⟩ => ⟨S2048x19504, .f32⟩
  | .hbm, ⟨11, _⟩ => ⟨S4x2048x19504, .f32⟩
  | .hbm, ⟨12, _⟩ => ⟨S19504, .f32⟩
  | .hbm, ⟨13, _⟩ => ⟨S1x1x19504, .f32⟩
  | .hbm, ⟨14, _⟩ => ⟨S4x2048x19504, .f32⟩
  | .hbm, ⟨15, _⟩ => ⟨S4x2048x19504, .f32⟩
  | .hbm, ⟨16, _⟩ => ⟨S4x2048x2048, .f32⟩
  | .hbm, ⟨17, _⟩ => ⟨S4x2048x512, .f32⟩
  | .hbm, ⟨18, _⟩ => ⟨S4x2048x512, .f32⟩
  | .hbm, ⟨19, _⟩ => ⟨S4x2048x512, .f32⟩
  | .hbm, ⟨20, _⟩ => ⟨S4x2048x512, .f32⟩
  | .hbm, ⟨21, _⟩ => ⟨S4x2048x512, .f32⟩
  | .hbm, ⟨22, _⟩ => ⟨S4x2048x512, .f32⟩
  | .hbm, ⟨23, _⟩ => ⟨S4x2048x48, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x4096, .f32⟩
  | .hbm, ⟨30, _⟩ => ⟨S4x2048x2048, .f32⟩
  | .hbm, ⟨31, _⟩ => ⟨S_, .i32⟩
  | .hbm, ⟨32, _⟩ => ⟨S_, .f32⟩
  | .hbm, ⟨33, _⟩ => ⟨S4x2050x2048, .f32⟩
  | .hbm, ⟨34, _⟩ => ⟨S1x1x2048, .f32⟩
  | .hbm, ⟨35, _⟩ => ⟨S2048, .f32⟩
  | .hbm, ⟨36, _⟩ => ⟨S4x2048x2048, .f32⟩
  | .hbm, ⟨37, _⟩ => ⟨S1x1x2048, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048x2048, .f32⟩
  | .hbm, ⟨42, _⟩ => ⟨S4x2048x2048, .f32⟩
  | .hbm, ⟨43, _⟩ => ⟨S1x1x2048, .f32⟩
  | .hbm, ⟨44, _⟩ => ⟨S2048, .f32⟩
  | .hbm, ⟨45, _⟩ => ⟨S4x2048x2048, .f32⟩
  | .hbm, ⟨46, _⟩ => ⟨S1x1x2048, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S1x1x2048, .f32⟩
  | .hbm, ⟨51, _⟩ => ⟨S2048, .f32⟩
  | .hbm, ⟨52, _⟩ => ⟨S4x2048x2048, .f32⟩
  | .hbm, ⟨53, _⟩ => ⟨S1x1x2048, .f32⟩
  | .hbm, ⟨54, _⟩ => ⟨S4x2048x2048, .f32⟩
  | .hbm, ⟨55, _⟩ => ⟨S4x2048x2048, .f32⟩
  | .hbm, ⟨56, _⟩ => ⟨S4x2048x2048, .f32⟩
  | .hbm, ⟨57, _⟩ => ⟨S2048, .f32⟩
  | .hbm, ⟨58, _⟩ => ⟨S1x1x2048, .f32⟩
  | .hbm, ⟨59, _⟩ => ⟨S4x2048x2048, .f32⟩
  | .hbm, ⟨60, _⟩ => ⟨S4x2048x2048, .f32⟩
  | .hbm, ⟨61, _⟩ => ⟨S4x2048x2048, .f32⟩
  | .hbm, ⟨62, _⟩ => ⟨S4x2048x2048, .f32⟩
  | .hbm, ⟨63, _⟩ => ⟨S4x2048x2048, .f32⟩
  | .hbm, ⟨64, _⟩ => ⟨S_, .f32⟩
  | .hbm, ⟨65, _⟩ => ⟨S4x2048x2048, .f32⟩
  | .hbm, ⟨66, _⟩ => ⟨S4x2048x2048, .f32⟩
  | .hbm, ⟨67, _⟩ => ⟨S_, .f32⟩
  | .hbm, ⟨68, _⟩ => ⟨S4x2048x2048, .f32⟩
  | .hbm, ⟨69, _⟩ => ⟨S4x2048x2048, .f32⟩
  | .hbm, ⟨70, _⟩ => ⟨S4x2048x2048, .f32⟩
  | .hbm, ⟨71, _⟩ => ⟨S4x2048x2048, .f32⟩
  | .hbm, ⟨72, _⟩ => ⟨S8192x2048, .f32⟩
  | .hbm, ⟨73, _⟩ => ⟨S8192x2048, .bf16⟩
  | .hbm, ⟨74, _⟩ => ⟨S2048x2048, .f32⟩
  | .hbm, ⟨75, _⟩ => ⟨S2048x2048, .bf16⟩
  | .hbm, ⟨76, _⟩ => ⟨S2048x2048, .f32⟩
  | .hbm, ⟨77, _⟩ => ⟨S2048x2048, .bf16⟩
  | .hbm, ⟨78, _⟩ => ⟨S2048x2048, .f32⟩
  | .hbm, ⟨79, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_call0_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel2.lean ====
abbrev S8192x2048 : Shape := ⟨2, ![8192, 2048]⟩
abbrev S2048x2048 : Shape := ⟨2, ![2048, 2048]⟩
abbrev S4x2048x2048 : Shape := ⟨3, ![4, 2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S4x2048x2048, .f32⟩
  | .hbm, ⟨3, _⟩ => ⟨S2048, .f32⟩
  | .hbm, ⟨4, _⟩ => ⟨S8192x2048, .f32⟩
  | .hbm, ⟨5, _⟩ => ⟨S1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x2048 : Shape := ⟨2, ![8192, 2048]⟩
abbrev S2048x2048 : Shape := ⟨2, ![2048, 2048]⟩
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S4x2048x2048, .f32⟩
  | .hbm, ⟨3, _⟩ => ⟨S2048, .f32⟩
  | .hbm, ⟨4, _⟩ => ⟨S4x2048x2048, .bf16⟩
  | .hbm, ⟨5, _⟩ => ⟨S4x2048x2048, .f32⟩
  | .hbm, ⟨6, _⟩ => ⟨S2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S1x1x2048, .f32⟩
  | .hbm, ⟨23, _⟩ => ⟨S4x2048x2048, .f32⟩
  | .hbm, ⟨24, _⟩ => ⟨S4x2048x2048, .f32⟩
  | .hbm, ⟨25, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel3.lean ====
abbrev S4x2048x2048 : Shape := ⟨3, ![4, 2048, 2048]⟩
abbrev S1x2048 : Shape := ⟨2, ![1, 2048]⟩
abbrev S1x2048x19504 : Shape := ⟨3, ![1, 2048, 19504]⟩
abbrev S1x19504 : Shape := ⟨2, ![1, 19504]⟩
abbrev S2048 : Shape := ⟨1, ![2048]⟩
abbrev S19504 : Shape := ⟨1, ![19504]⟩
abbrev S8192x2048 : Shape := ⟨2, ![8192, 2048]⟩
abbrev S1x19504x2048 : Shape := ⟨3, ![1, 19504, 2048]⟩
abbrev S19504x2048 : Shape := ⟨2, ![19504, 2048]⟩
abbrev S1024 : Shape := ⟨1, ![1024]⟩
abbrev S128 : Shape := ⟨1, ![128]⟩
abbrev S1152 : Shape := ⟨1, ![1152]⟩
abbrev S1x1152 : Shape := ⟨2, ![1, 1152]⟩
abbrev S8192x1024 : Shape := ⟨2, ![8192, 1024]⟩
abbrev S8192x128 : Shape := ⟨2, ![8192, 128]⟩
abbrev S1024x2048 : Shape := ⟨2, ![1024, 2048]⟩
abbrev S128x2048 : Shape := ⟨2, ![128, 2048]⟩
abbrev S1024x1024 : Shape := ⟨2, ![1024, 1024]⟩
abbrev S1024x128 : Shape := ⟨2, ![1024, 128]⟩
abbrev S1152x2048 : Shape := ⟨2, ![1152, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S256x1152 : Shape := ⟨2, ![256, 1152]⟩
abbrev S256x1024 : Shape := ⟨2, ![256, 1024]⟩
abbrev S256x128 : Shape := ⟨2, ![256, 128]⟩

abbrev nBuf : Space → Nat
  | .hbm => 17
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x19504, .f32⟩
  | .hbm, ⟨3, _⟩ => ⟨S1x19504, .f32⟩
  | .hbm, ⟨4, _⟩ => ⟨S2048, .f32⟩
  | .hbm, ⟨5, _⟩ => ⟨S19504, .f32⟩
  | .hbm, ⟨6, _⟩ => ⟨S8192x2048, .f32⟩
  | .hbm, ⟨7, _⟩ => ⟨S1x19504x2048, .f32⟩
  | .hbm, ⟨8, _⟩ => ⟨S19504x2048, .f32⟩
  | .hbm, ⟨9, _⟩ => ⟨S1024, .f32⟩
  | .hbm, ⟨10, _⟩ => ⟨S128, .f32⟩
  | .hbm, ⟨11, _⟩ => ⟨S1152, .f32⟩
  | .hbm, ⟨12, _⟩ => ⟨S1x2048, .f32⟩
  | .hbm, ⟨13, _⟩ => ⟨S1x1152, .f32⟩
  | .hbm, ⟨14, _⟩ => ⟨S8192x2048, .bf16⟩
  | .hbm, ⟨15, _⟩ => ⟨S8192x1024, .f32⟩
  | .hbm, ⟨16, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1152, .f32⟩
  | .local _ .vmem, ⟨4, _⟩ => ⟨S1024x2048, .f32⟩
  | .local _ .vmem, ⟨5, _⟩ => ⟨S128x2048, .f32⟩
  | .local _ .vmem, ⟨6, _⟩ => ⟨S1024x2048, .bf16⟩
  | .local _ .vmem, ⟨7, _⟩ => ⟨S1024x2048, .bf16⟩
  | .local _ .vmem, ⟨8, _⟩ => ⟨S1024x1024, .f32⟩
  | .local _ .vmem, ⟨9, _⟩ => ⟨S1024x1024, .f32⟩
  | .local _ .vmem, ⟨10, _⟩ => ⟨S1024x128, .f32⟩
  | .local _ .vmem, ⟨11, _⟩ => ⟨S1024x128, .f32⟩
  | .local _ .vmem, ⟨12, _⟩ => ⟨S1152x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2048_i32 : BitVec 32 := 2048#32
  let c0_i32 : BitVec 32 := 0#32
  let c0_i32_0 : BitVec 32 := 0#32
  ![c2048_i32.toNat, c0_i32.toNat]

def cc0_transform_4 (i : grid0.Coords) : Fin 2 → Nat :=
  let arg0 : BitVec 32 := BitVec.ofNat 32 (i 0).val
  let c5120_i32 : BitVec 32 := 5120#32
  let c0_i32 : BitVec 32 := 0#32
  let c0_i32_0 : BitVec 32 := 0#32
  ![c5120_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x2048x2048 : Shape := ⟨3, ![4, 2048, 2048]⟩
abbrev S1x2048 : Shape := ⟨2, ![1, 2048]⟩
abbrev S1x2048x19504 : Shape := ⟨3, ![1, 2048, 19504]⟩
abbrev S1x19504 : Shape := ⟨2, ![1, 19504]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x19504 : Shape := ⟨2, ![2048, 19504]⟩
abbrev S4x2048x19504 : Shape := ⟨3, ![4, 2048, 19504]⟩
abbrev S19504 : Shape := ⟨1, ![19504]⟩
abbrev S1x1x19504 : Shape := ⟨3, ![1, 1, 19504]⟩
abbrev S8192x2048 : Shape := ⟨2, ![8192, 2048]⟩
abbrev S4x2048x1024 : Shape := ⟨3, ![4, 2048, 1024]⟩
abbrev S8192x1024 : Shape := ⟨2, ![8192, 1024]⟩
abbrev S4x2048x128 : Shape := ⟨3, ![4, 2048, 128]⟩
abbrev S8192x128 : Shape := ⟨2, ![8192, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x19504, .f32⟩
  | .hbm, ⟨3, _⟩ => ⟨S1x19504, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S2048x19504, .f32⟩
  | .hbm, ⟨22, _⟩ => ⟨S4x2048x19504, .f32⟩
  | .hbm, ⟨23, _⟩ => ⟨S19504, .f32⟩
  | .hbm, ⟨24, _⟩ => ⟨S1x1x19504, .f32⟩
  | .hbm, ⟨25, _⟩ => ⟨S4x2048x19504, .f32⟩
  | .hbm, ⟨26, _⟩ => ⟨S4x2048x19504, .f32⟩
  | .hbm, ⟨27, _⟩ => ⟨S8192x2048, .f32⟩
  | .hbm, ⟨28, _⟩ => ⟨S8192x2048, .bf16⟩
  | .hbm, ⟨29, _⟩ => ⟨S4x2048x1024, .f32⟩
  | .hbm, ⟨30, _⟩ => ⟨S8192x1024, .f32⟩
  | .hbm, ⟨31, _⟩ => ⟨S4x2048x128, .f32⟩
  | .hbm, ⟨32, _⟩ => ⟨S4x2048x128, .f32⟩
  | .hbm, ⟨33, _⟩ => ⟨S4x2048x128, .f32⟩
  | .hbm, ⟨34, _⟩ => ⟨S_, .f32⟩
  | .hbm, ⟨35, _⟩ => ⟨S4x2048x128, .f32⟩
  | .hbm, ⟨36, _⟩ => ⟨S4x2048x128, .f32⟩
  | .hbm, ⟨37, _⟩ => ⟨S_, .f32⟩
  | .hbm, ⟨38, _⟩ => ⟨S4x2048x128, .f32⟩
  | .hbm, ⟨39, _⟩ => ⟨S4x2048x128, .f32⟩
  | .hbm, ⟨40, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel4.lean ====
abbrev S8192x2048 : Shape := ⟨2, ![8192, 2048]⟩
abbrev S1x2048x19504 : Shape := ⟨3, ![1, 2048, 19504]⟩
abbrev S1x19504 : Shape := ⟨2, ![1, 19504]⟩
abbrev S19504 : Shape := ⟨1, ![19504]⟩
abbrev S1x19504x2048 : Shape := ⟨3, ![1, 19504, 2048]⟩
abbrev S19504x2048 : Shape := ⟨2, ![19504, 2048]⟩
abbrev S2048 : Shape := ⟨1, ![2048]⟩
abbrev S4096 : Shape := ⟨1, ![4096]⟩
abbrev S6144 : Shape := ⟨1, ![6144]⟩
abbrev S1x6144 : Shape := ⟨2, ![1, 6144]⟩
abbrev S8192x6144 : Shape := ⟨2, ![8192, 6144]⟩
abbrev S1x1024 : Shape := ⟨2, ![1, 1024]⟩
abbrev S1024x2048 : Shape := ⟨2, ![1024, 2048]⟩
abbrev S1024x1024 : Shape := ⟨2, ![1024, 1024]⟩
abbrev S3x1024x2048 : Shape := ⟨3, ![3, 1024, 2048]⟩
abbrev S3 : Shape := ⟨1, ![3]⟩
abbrev S512x2048 : Shape := ⟨2, ![512, 2048]⟩
abbrev S1 : Shape := ⟨1, ![1]⟩
abbrev S_ : Shape := ⟨0, ![]⟩
abbrev S1x1024x2048 : Shape := ⟨3, ![1, 1024, 2048]⟩

abbrev nBuf : Space → Nat
  | .hbm => 11
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x19504, .f32⟩
  | .hbm, ⟨2, _⟩ => ⟨S1x19504, .f32⟩
  | .hbm, ⟨3, _⟩ => ⟨S19504, .f32⟩
  | .hbm, ⟨4, _⟩ => ⟨S1x19504x2048, .f32⟩
  | .hbm, ⟨5, _⟩ => ⟨S19504x2048, .f32⟩
  | .hbm, ⟨6, _⟩ => ⟨S2048, .f32⟩
  | .hbm, ⟨7, _⟩ => ⟨S4096, .f32⟩
  | .hbm, ⟨8, _⟩ => ⟨S6144, .f32⟩
  | .hbm, ⟨9, _⟩ => ⟨S1x6144, .f32⟩
  | .hbm, ⟨10, _⟩ => ⟨S8192x6144, .f32⟩
  | .local _ .vmem, ⟨0, _⟩ => ⟨S1x1024, .f32⟩
  | .local _ .vmem, ⟨1, _⟩ => ⟨S1x1024, .f32⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S3x1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def k0_mult1 (i : grid0.Coords) : BitVec 32 :=
  let arg0 : BitVec 32 := BitVec.ofNat 32 (i 0).val
  let c2_i32 : BitVec 32 := 2#32
  let v0 : BitVec 1 := Scalar.cmpi .slt arg0 c2_i32
  let c5168_i32 : BitVec 32 := 5168#32
  let c1024_i32 : BitVec 32 := 1024#32
  let v1 : BitVec 32 := Scalar.muli arg0 c1024_i32
  let v2 : BitVec 32 := Scalar.addi c5168_i32 v1
  let c15408_i32 : BitVec 32 := 15408#32
  let c2_i32_0 : BitVec 32 := 2#32
  let v3 : BitVec 32 := Scalar.subi arg0 c2_i32_0
  let c1024_i32_1 : BitVec 32 := 1024#32
  let v4 : BitVec 32 := Scalar.muli v3 c1024_i32_1
  let v5 : BitVec 32 := Scalar.addi c15408_i32 v4
  let v6 : BitVec 32 := Scalar.select v0 v2 v5
  v6
def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_1 : BitVec 32 := 0#32
  let v5 : BitVec 1 := Scalar.cmpi .eq v1 c0_i32_1
  let v6 : BitVec 32 := Scalar.extui v5
  let c0_i32_2 : BitVec 32 := 0#32
  let v7 : BitVec 1 := Scalar.cmpi .ne v6 c0_i32_2
  v7

def k0_mult2 : BitVec 32 :=
  let c0_i32_30 : BitVec 32 := 0#32
  c0_i32_30
def k0_mult3 : BitVec 32 :=
  let c1024_i32_36 : BitVec 32 := 1024#32
  c1024_i32_36
def k0_cond3 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32 : BitVec 32 := 2#32
  let v8 : BitVec 32 := Scalar.addi v1 c2_i32
  let c48_i32 : BitVec 32 := 48#32
  let v9 : BitVec 1 := Scalar.cmpi .slt v8 c48_i32
  let v10 : BitVec 32 := Scalar.extui v9
  let c0_i32_3 : BitVec 32 := 0#32
  let v11 : BitVec 1 := Scalar.cmpi .ne v10 c0_i32_3
  v11

def k0_mult4 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_30 : BitVec 32 := 2#32
  let v59 : BitVec 32 := Scalar.addi v1 c2_i32_30
  let c8_i32_31 : BitVec 32 := 8#32
  let c0_i32_32 : BitVec 32 := 0#32
  let v60 : BitVec 1 := Scalar.cmpi .eq c8_i32_31 c0_i32_32
  let c1_i32_33 : BitVec 32 := 1#32
  let v61 : BitVec 32 := Scalar.select v60 c1_i32_33 c8_i32_31
  let v62 : BitVec 32 := Scalar.remsi v59 v61
  let c0_i32_35 : BitVec 32 := 0#32
  let v64 : BitVec 1 := Scalar.cmpi .slt v62 c0_i32_35
  let c0_i32_36 : BitVec 32 := 0#32
  let v65 : BitVec 1 := Scalar.cmpi .slt v61 c0_i32_36
  let v66 : BitVec 1 := Scalar.xori v64 v65
  let c0_i32_34 : BitVec 32 := 0#32
  let v63 : BitVec 1 := Scalar.cmpi .ne v62 c0_i32_34
  let v67 : BitVec 1 := Scalar.andi v66 v63
  let v68 : BitVec 32 := Scalar.addi v62 v61
  let v69 : BitVec 32 := Scalar.select v67 v68 v62
  let c1024_i32_43 : BitVec 32 := 1024#32
  let v80 : BitVec 32 := Scalar.muli v69 c1024_i32_43
  v80
def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_30 : BitVec 32 := 2#32
  let v59 : BitVec 32 := Scalar.addi v1 c2_i32_30
  let c3_i32_37 : BitVec 32 := 3#32
  let c0_i32_38 : BitVec 32 := 0#32
  let v70 : BitVec 1 := Scalar.cmpi .eq c3_i32_37 c0_i32_38
  let c1_i32_39 : BitVec 32 := 1#32
  let v71 : BitVec 32 := Scalar.select v70 c1_i32_39 c3_i32_37
  let v72 : BitVec 32 := Scalar.remsi v59 v71
  let c0_i32_41 : BitVec 32 := 0#32
  let v74 : BitVec 1 := Scalar.cmpi .slt v72 c0_i32_41
  let c0_i32_42 : BitVec 32 := 0#32
  let v75 : BitVec 1 := Scalar.cmpi .slt v71 c0_i32_42
  let v76 : BitVec 1 := Scalar.xori v74 v75
  let c0_i32_40 : BitVec 32 := 0#32
  let v73 : BitVec 1 := Scalar.cmpi .ne v72 c0_i32_40
  let v77 : BitVec 1 := Scalar.andi v76 v73
  let v78 : BitVec 32 := Scalar.addi v72 v71
  let v79 : BitVec 32 := Scalar.select v77 v78 v72
  ![v79.toNat]
def k0_off2 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_30 : BitVec 32 := 2#32
  let v59 : BitVec 32 := Scalar.addi v1 c2_i32_30
  let c3_i32_37 : BitVec 32 := 3#32
  let c0_i32_38 : BitVec 32 := 0#32
  let v70 : BitVec 1 := Scalar.cmpi .eq c3_i32_37 c0_i32_38
  let c1_i32_39 : BitVec 32 := 1#32
  let v71 : BitVec 32 := Scalar.select v70 c1_i32_39 c3_i32_37
  let v72 : BitVec 32 := Scalar.remsi v59 v71
  let c0_i32_41 : BitVec 32 := 0#32
  let v74 : BitVec 1 := Scalar.cmpi .slt v72 c0_i32_41
  let c0_i32_42 : BitVec 32 := 0#32
  let v75 : BitVec 1 := Scalar.cmpi .slt v71 c0_i32_42
  let v76 : BitVec 1 := Scalar.xori v74 v75
  let c0_i32_40 : BitVec 32 := 0#32
  let v73 : BitVec 1 := Scalar.cmpi .ne v72 c0_i32_40
  let v77 : BitVec 1 := Scalar.andi v76 v73
  let v78 : BitVec 32 := Scalar.addi v72 v71
  let v79 : BitVec 32 := Scalar.select v77 v78 v72
  let c0_i32_44 : BitVec 32 := 0#32
  let c0_i32_45 : BitVec 32 := 0#32
  ![v79.toNat, 0, 0]
def k0_off3 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c2_i32_30 : BitVec 32 := 2#32
  let v59 : BitVec 32 := Scalar.addi v1 c2_i32_30
  let c8_i32_31 : BitVec 32 := 8#32
  let c0_i32_32 : BitVec 32 := 0#32
  let v60 : BitVec 1 := Scalar.cmpi .eq c8_i32_31 c0_i32_32
  let c1_i32_33 : BitVec 32 := 1#32
  let v61 : BitVec 32 := Scalar.select v60 c1_i32_33 c8_i32_31
  let v62 : BitVec 32 := Scalar.remsi v59 v61
  let c0_i32_35 : BitVec 32 := 0#32
  let v64 : BitVec 1 := Scalar.cmpi .slt v62 c0_i32_35
  let c0_i32_36 : BitVec 32 := 0#32
  let v65 : BitVec 1 := Scalar.cmpi .slt v61 c0_i32_36
  let v66 : BitVec 1 := Scalar.xori v64 v65
  let c0_i32_34 : BitVec 32 := 0#32
  let v63 : BitVec 1 := Scalar.cmpi .ne v62 c0_i32_34
  let v67 : BitVec 1 := Scalar.andi v66 v63
  let v68 : BitVec 32 := Scalar.addi v62 v61
  let v69 : BitVec 32 := Scalar.select v67 v68 v62
  let c1024_i32_43 : BitVec 32 := 1024#32
  let v80 : BitVec 32 := Scalar.muli v69 c1024_i32_43
  let v81 : BitVec 32 := v80
  let c0_i32_46 : BitVec 32 := 0#32
  ![v81.toNat, 0]
def k0_mult5 (i : grid0.Coords) : BitVec 32 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_4 : BitVec 32 := 8#32
  let c0_i32_5 : BitVec 32 := 0#32
  let v12 : BitVec 1 := Scalar.cmpi .eq c8_i32_4 c0_i32_5
  let c1_i32 : BitVec 32 := 1#32
  let v13 : BitVec 32 := Scalar.select v12 c1_i32 c8_i32_4
  let v14 : BitVec 32 := Scalar.remsi v1 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1024_i32 : BitVec 32 := 1024#32
  let v32 : BitVec 32 := Scalar.muli v21 c1024_i32
  v32
def k0_off4 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c3_i32 : BitVec 32 := 3#32
  let c0_i32_9 : BitVec 32 := 0#32
  let v22 : BitVec 1 := Scalar.cmpi .eq c3_i32 c0_i32_9
  let c1_i32_10 : BitVec 32 := 1#32
  let v23 : BitVec 32 := Scalar.select v22 c1_i32_10 c3_i32
  let v24 : BitVec 32 := Scalar.remsi v1 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  ![v31.toNat]
def k0_off5 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c3_i32 : BitVec 32 := 3#32
  let c0_i32_9 : BitVec 32 := 0#32
  let v22 : BitVec 1 := Scalar.cmpi .eq c3_i32 c0_i32_9
  let c1_i32_10 : BitVec 32 := 1#32
  let v23 : BitVec 32 := Scalar.select v22 c1_i32_10 c3_i32
  let v24 : BitVec 32 := Scalar.remsi v1 v23
  let c0_i32_12 : BitVec 32 := 0#32
  let v26 : BitVec 1 := Scalar.cmpi .slt v24 c0_i32_12
  let c0_i32_13 : BitVec 32 := 0#32
  let v27 : BitVec 1 := Scalar.cmpi .slt v23 c0_i32_13
  let v28 : BitVec 1 := Scalar.xori v26 v27
  let c0_i32_11 : BitVec 32 := 0#32
  let v25 : BitVec 1 := Scalar.cmpi .ne v24 c0_i32_11
  let v29 : BitVec 1 := Scalar.andi v28 v25
  let v30 : BitVec 32 := Scalar.addi v24 v23
  let v31 : BitVec 32 := Scalar.select v29 v30 v24
  let c0_i32_14 : BitVec 32 := 0#32
  let c0_i32_15 : BitVec 32 := 0#32
  ![v31.toNat, 0, 0]
def k0_off6 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c8_i32_4 : BitVec 32 := 8#32
  let c0_i32_5 : BitVec 32 := 0#32
  let v12 : BitVec 1 := Scalar.cmpi .eq c8_i32_4 c0_i32_5
  let c1_i32 : BitVec 32 := 1#32
  let v13 : BitVec 32 := Scalar.select v12 c1_i32 c8_i32_4
  let v14 : BitVec 32 := Scalar.remsi v1 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1024_i32 : BitVec 32 := 1024#32
  let v32 : BitVec 32 := Scalar.muli v21 c1024_i32
  let v33 : BitVec 32 := v32
  let c0_i32_16 : BitVec 32 := 0#32
  ![v33.toNat, 0]
def k0_off7 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c3_i32_17 : BitVec 32 := 3#32
  let c0_i32_18 : BitVec 32 := 0#32
  let v39 : BitVec 1 := Scalar.cmpi .eq c3_i32_17 c0_i32_18
  let c1_i32_19 : BitVec 32 := 1#32
  let v40 : BitVec 32 := Scalar.select v39 c1_i32_19 c3_i32_17
  let v41 : BitVec 32 := Scalar.remsi v1 v40
  let c0_i32_21 : BitVec 32 := 0#32
  let v43 : BitVec 1 := Scalar.cmpi .slt v41 c0_i32_21
  let c0_i32_22 : BitVec 32 := 0#32
  let v44 : BitVec 1 := Scalar.cmpi .slt v40 c0_i32_22
  let v45 : BitVec 1 := Scalar.xori v43 v44
  let c0_i32_20 : BitVec 32 := 0#32
  let v42 : BitVec 1 := Scalar.cmpi .ne v41 c0_i32_20
  let v46 : BitVec 1 := Scalar.andi v45 v42
  let v47 : BitVec 32 := Scalar.addi v41 v40
  let v48 : BitVec 32 := Scalar.select v46 v47 v41
  let v49 : Index := Scalar.indexCast v48
  let c0 : Index := 0#32
  let c0_23 : Index := 0#32
  ![v49.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c1024_i32 : BitVec 32 := 1024#32
  let v1 : BitVec 32 := Scalar.muli arg0 c1024_i32
  let c5168_i32 : BitVec 32 := 5168#32
  let v2 : BitVec 32 := Scalar.addi c5168_i32 v1
  let c2_i32_0 : BitVec 32 := 2#32
  let v3 : BitVec 32 := Scalar.subi arg0 c2_i32_0
  let c1024_i32_1 : BitVec 32 := 1024#32
  let v4 : BitVec 32 := Scalar.muli v3 c1024_i32_1
  let c15408_i32 : BitVec 32 := 15408#32
  let v5 : BitVec 32 := Scalar.addi c15408_i32 v4
  let v6 : BitVec 32 := Scalar.select v0 v2 v5
  let v7 : BitVec 32 := v6
  let c0_i32 : BitVec 32 := 0#32
  let c0_i32_2 : BitVec 32 := 0#32
  ![v7.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S1x2048x19504 : Shape := ⟨3, ![1, 2048, 19504]⟩
abbrev S1x19504 : Shape := ⟨2, ![1, 19504]⟩
abbrev S4x2048x2048 : Shape := ⟨3, ![4, 2048, 2048]⟩
abbrev S2048x19504 : Shape := ⟨2, ![2048, 19504]⟩
abbrev S4x2048x19504 : Shape := ⟨3, ![4, 2048, 19504]⟩
abbrev S19504 : Shape := ⟨1, ![19504]⟩
abbrev S1x1x19504 : Shape := ⟨3, ![1, 1, 19504]⟩
abbrev S4x2048x512 : Shape := ⟨3, ![4, 2048, 512]⟩
abbrev S4x2048x48 : Shape := ⟨3, ![4, 2048, 48]⟩
abbrev S4x2048x4096 : Shape := ⟨3, ![4, 2048, 4096]⟩
abbrev S4x2048x6144 : Shape := ⟨3, ![4, 2048, 6144]⟩
abbrev S8192x6144 : Shape := ⟨2, ![8192, 6144]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x19504, .f32⟩
  | .hbm, ⟨2, _⟩ => ⟨S1x19504, .f32⟩
  | .hbm, ⟨3, _⟩ => ⟨S4x2048x2048, .bf16⟩
  | .hbm, ⟨4, _⟩ => ⟨S4x2048x2048, .f32⟩
  | .hbm, ⟨5, _⟩ => ⟨S2048x19504, .f32⟩
  | .hbm, ⟨6, _⟩ => ⟨S4x2048x19504, .f32⟩
  | .hbm, ⟨7, _⟩ => ⟨S19504, .f32⟩
  | .hbm, ⟨8, _⟩ => ⟨S1x1x19504, .f32⟩
  | .hbm, ⟨9, _⟩ => ⟨S4x2048x19504, .f32⟩
  | .hbm, ⟨10, _⟩ => ⟨S4x2048x19504, .f32⟩
  | .hbm, ⟨11, _⟩ => ⟨S4x2048x2048, .f32⟩
  | .hbm, ⟨12, _⟩ => ⟨S4x2048x512, .f32⟩
  | .hbm, ⟨13, _⟩ => ⟨S4x2048x512, .f32⟩
  | .hbm, ⟨14, _⟩ => ⟨S4x2048x512, .f32⟩
  | .hbm, ⟨15, _⟩ => ⟨S4x2048x512, .f32⟩
  | .hbm, ⟨16, _⟩ => ⟨S4x2048x512, .f32⟩
  | .hbm, ⟨17, _⟩ => ⟨S4x2048x512, .f32⟩
  | .hbm, ⟨18, _⟩ => ⟨S4x2048x48, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x4096, .f32⟩
  | .hbm, ⟨25, _⟩ => ⟨S4x2048x6144, .f32⟩
  | .hbm, ⟨26, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== Kernel5.lean ====
abbrev S8192x2048 : Shape := ⟨2, ![8192, 2048]⟩
abbrev S1x2048x19504 : Shape := ⟨3, ![1, 2048, 19504]⟩
abbrev S1x19504 : Shape := ⟨2, ![1, 19504]⟩
abbrev S19504 : Shape := ⟨1, ![19504]⟩
abbrev S1x19504x2048 : Shape := ⟨3, ![1, 19504, 2048]⟩
abbrev S19504x2048 : Shape := ⟨2, ![19504, 2048]⟩
abbrev S2048 : Shape := ⟨1, ![2048]⟩
abbrev S4096 : Shape := ⟨1, ![4096]⟩
abbrev S1x4096 : Shape := ⟨2, ![1, 4096]⟩
abbrev S8192x4096 : Shape := ⟨2, ![8192, 4096]⟩
abbrev S1x1024 : Shape := ⟨2, ![1, 1024]⟩
abbrev S1024x2048 : Shape := ⟨2, ![1024, 2048]⟩
abbrev S2048x1024 : Shape := ⟨2, ![2048, 1024]⟩
abbrev S2x2048x2048 : Shape := ⟨3, ![2, 2048, 2048]⟩
abbrev S2 : Shape := ⟨1, ![2]⟩
abbrev S512x2048 : Shape := ⟨2, ![512, 2048]⟩
abbrev S1 : Shape := ⟨1, ![1]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 11
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x19504, .f32⟩
  | .hbm, ⟨2, _⟩ => ⟨S1x19504, .f32⟩
  | .hbm, ⟨3, _⟩ => ⟨S19504, .f32⟩
  | .hbm, ⟨4, _⟩ => ⟨S1x19504x2048, .f32⟩
  | .hbm, ⟨5, _⟩ => ⟨S19504x2048, .f32⟩
  | .hbm, ⟨6, _⟩ => ⟨S2048, .f32⟩
  | .hbm, ⟨7, _⟩ => ⟨S2048, .f32⟩
  | .hbm, ⟨8, _⟩ => ⟨S4096, .f32⟩
  | .hbm, ⟨9, _⟩ => ⟨S1x4096, .f32⟩
  | .hbm, ⟨10, _⟩ => ⟨S8192x4096, .bf16⟩
  | .local _ .vmem, ⟨0, _⟩ => ⟨S1x1024, .f32⟩
  | .local _ .vmem, ⟨1, _⟩ => ⟨S1x1024, .f32⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S2x2048x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg0 : BitVec 32 := BitVec.ofNat 32 (i 0).val
  let c2_i32 : BitVec 32 := 2#32
  let v0 : BitVec 1 := Scalar.cmpi .slt arg0 c2_i32
  let c1024_i32 : BitVec 32 := 1024#32
  let v1 : BitVec 32 := Scalar.muli arg0 c1024_i32
  let c3072_i32 : BitVec 32 := 3072#32
  let c2_i32_0 : BitVec 32 := 2#32
  let v2 : BitVec 32 := Scalar.subi arg0 c2_i32_0
  let c1024_i32_1 : BitVec 32 := 1024#32
  let v3 : BitVec 32 := Scalar.muli v2 c1024_i32_1
  let v4 : BitVec 32 := Scalar.addi c3072_i32 v3
  let v5 : BitVec 32 := Scalar.select v0 v1 v4
  v5
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_1 : BitVec 32 := 0#32
  let v5 : BitVec 1 := Scalar.cmpi .eq v1 c0_i32_1
  let v6 : BitVec 32 := Scalar.extui v5
  let c0_i32_2 : BitVec 32 := 0#32
  let v7 : BitVec 1 := Scalar.cmpi .ne v6 c0_i32_2
  v7

def k0_mult2 : BitVec 32 :=
  let c0_i32_34 : BitVec 32 := 0#32
  c0_i32_34
def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v8 : BitVec 32 := Scalar.addi v1 c1_i32
  let c16_i32 : BitVec 32 := 16#32
  let v9 : BitVec 1 := Scalar.cmpi .slt v8 c16_i32
  let v10 : BitVec 32 := Scalar.extui v9
  let c0_i32_3 : BitVec 32 := 0#32
  let v11 : BitVec 1 := Scalar.cmpi .ne v10 c0_i32_3
  v11

def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_34 : BitVec 32 := 1#32
  let v64 : BitVec 32 := Scalar.addi v1 c1_i32_34
  let c4_i32_35 : BitVec 32 := 4#32
  let c0_i32_36 : BitVec 32 := 0#32
  let v65 : BitVec 1 := Scalar.cmpi .eq c4_i32_35 c0_i32_36
  let c1_i32_37 : BitVec 32 := 1#32
  let v66 : BitVec 32 := Scalar.select v65 c1_i32_37 c4_i32_35
  let v67 : BitVec 32 := Scalar.remsi v64 v66
  let c0_i32_39 : BitVec 32 := 0#32
  let v69 : BitVec 1 := Scalar.cmpi .slt v67 c0_i32_39
  let c0_i32_40 : BitVec 32 := 0#32
  let v70 : BitVec 1 := Scalar.cmpi .slt v66 c0_i32_40
  let v71 : BitVec 1 := Scalar.xori v69 v70
  let c0_i32_38 : BitVec 32 := 0#32
  let v68 : BitVec 1 := Scalar.cmpi .ne v67 c0_i32_38
  let v72 : BitVec 1 := Scalar.andi v71 v68
  let v73 : BitVec 32 := Scalar.addi v67 v66
  let v74 : BitVec 32 := Scalar.select v72 v73 v67
  let c2048_i32_47 : BitVec 32 := 2048#32
  let v85 : BitVec 32 := Scalar.muli v74 c2048_i32_47
  v85
def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_34 : BitVec 32 := 1#32
  let v64 : BitVec 32 := Scalar.addi v1 c1_i32_34
  let c2_i32_41 : BitVec 32 := 2#32
  let c0_i32_42 : BitVec 32 := 0#32
  let v75 : BitVec 1 := Scalar.cmpi .eq c2_i32_41 c0_i32_42
  let c1_i32_43 : BitVec 32 := 1#32
  let v76 : BitVec 32 := Scalar.select v75 c1_i32_43 c2_i32_41
  let v77 : BitVec 32 := Scalar.remsi v64 v76
  let c0_i32_45 : BitVec 32 := 0#32
  let v79 : BitVec 1 := Scalar.cmpi .slt v77 c0_i32_45
  let c0_i32_46 : BitVec 32 := 0#32
  let v80 : BitVec 1 := Scalar.cmpi .slt v76 c0_i32_46
  let v81 : BitVec 1 := Scalar.xori v79 v80
  let c0_i32_44 : BitVec 32 := 0#32
  let v78 : BitVec 1 := Scalar.cmpi .ne v77 c0_i32_44
  let v82 : BitVec 1 := Scalar.andi v81 v78
  let v83 : BitVec 32 := Scalar.addi v77 v76
  let v84 : BitVec 32 := Scalar.select v82 v83 v77
  ![v84.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_34 : BitVec 32 := 1#32
  let v64 : BitVec 32 := Scalar.addi v1 c1_i32_34
  let c2_i32_41 : BitVec 32 := 2#32
  let c0_i32_42 : BitVec 32 := 0#32
  let v75 : BitVec 1 := Scalar.cmpi .eq c2_i32_41 c0_i32_42
  let c1_i32_43 : BitVec 32 := 1#32
  let v76 : BitVec 32 := Scalar.select v75 c1_i32_43 c2_i32_41
  let v77 : BitVec 32 := Scalar.remsi v64 v76
  let c0_i32_45 : BitVec 32 := 0#32
  let v79 : BitVec 1 := Scalar.cmpi .slt v77 c0_i32_45
  let c0_i32_46 : BitVec 32 := 0#32
  let v80 : BitVec 1 := Scalar.cmpi .slt v76 c0_i32_46
  let v81 : BitVec 1 := Scalar.xori v79 v80
  let c0_i32_44 : BitVec 32 := 0#32
  let v78 : BitVec 1 := Scalar.cmpi .ne v77 c0_i32_44
  let v82 : BitVec 1 := Scalar.andi v81 v78
  let v83 : BitVec 32 := Scalar.addi v77 v76
  let v84 : BitVec 32 := Scalar.select v82 v83 v77
  let c0_i32_48 : BitVec 32 := 0#32
  let c0_i32_49 : BitVec 32 := 0#32
  ![v84.toNat, 0, 0]
def k0_off3 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_34 : BitVec 32 := 1#32
  let v64 : BitVec 32 := Scalar.addi v1 c1_i32_34
  let c4_i32_35 : BitVec 32 := 4#32
  let c0_i32_36 : BitVec 32 := 0#32
  let v65 : BitVec 1 := Scalar.cmpi .eq c4_i32_35 c0_i32_36
  let c1_i32_37 : BitVec 32 := 1#32
  let v66 : BitVec 32 := Scalar.select v65 c1_i32_37 c4_i32_35
  let v67 : BitVec 32 := Scalar.remsi v64 v66
  let c0_i32_39 : BitVec 32 := 0#32
  let v69 : BitVec 1 := Scalar.cmpi .slt v67 c0_i32_39
  let c0_i32_40 : BitVec 32 := 0#32
  let v70 : BitVec 1 := Scalar.cmpi .slt v66 c0_i32_40
  let v71 : BitVec 1 := Scalar.xori v69 v70
  let c0_i32_38 : BitVec 32 := 0#32
  let v68 : BitVec 1 := Scalar.cmpi .ne v67 c0_i32_38
  let v72 : BitVec 1 := Scalar.andi v71 v68
  let v73 : BitVec 32 := Scalar.addi v67 v66
  let v74 : BitVec 32 := Scalar.select v72 v73 v67
  let c2048_i32_47 : BitVec 32 := 2048#32
  let v85 : BitVec 32 := Scalar.muli v74 c2048_i32_47
  let v86 : BitVec 32 := v85
  let c0_i32_50 : BitVec 32 := 0#32
  ![v86.toNat, 0]
def k0_mult4 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_4 : BitVec 32 := 4#32
  let c0_i32_5 : BitVec 32 := 0#32
  let v12 : BitVec 1 := Scalar.cmpi .eq c4_i32_4 c0_i32_5
  let c1_i32_6 : BitVec 32 := 1#32
  let v13 : BitVec 32 := Scalar.select v12 c1_i32_6 c4_i32_4
  let v14 : BitVec 32 := Scalar.remsi v1 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2048_i32 : BitVec 32 := 2048#32
  let v32 : BitVec 32 := Scalar.muli v21 c2048_i32
  v32
def k0_off4 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32_10 : BitVec 32 := 0#32
  let v22 : BitVec 1 := Scalar.cmpi .eq c2_i32 c0_i32_10
  let c1_i32_11 : BitVec 32 := 1#32
  let v23 : BitVec 32 := Scalar.select v22 c1_i32_11 c2_i32
  let v24 : BitVec 32 := Scalar.remsi v1 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  ![v31.toNat]
def k0_off5 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let c0_i32_10 : BitVec 32 := 0#32
  let v22 : BitVec 1 := Scalar.cmpi .eq c2_i32 c0_i32_10
  let c1_i32_11 : BitVec 32 := 1#32
  let v23 : BitVec 32 := Scalar.select v22 c1_i32_11 c2_i32
  let v24 : BitVec 32 := Scalar.remsi v1 v23
  let c0_i32_13 : BitVec 32 := 0#32
  let v26 : BitVec 1 := Scalar.cmpi .slt v24 c0_i32_13
  let c0_i32_14 : BitVec 32 := 0#32
  let v27 : BitVec 1 := Scalar.cmpi .slt v23 c0_i32_14
  let v28 : BitVec 1 := Scalar.xori v26 v27
  let c0_i32_12 : BitVec 32 := 0#32
  let v25 : BitVec 1 := Scalar.cmpi .ne v24 c0_i32_12
  let v29 : BitVec 1 := Scalar.andi v28 v25
  let v30 : BitVec 32 := Scalar.addi v24 v23
  let v31 : BitVec 32 := Scalar.select v29 v30 v24
  let c0_i32_15 : BitVec 32 := 0#32
  let c0_i32_16 : BitVec 32 := 0#32
  ![v31.toNat, 0, 0]
def k0_off6 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_4 : BitVec 32 := 4#32
  let c0_i32_5 : BitVec 32 := 0#32
  let v12 : BitVec 1 := Scalar.cmpi .eq c4_i32_4 c0_i32_5
  let c1_i32_6 : BitVec 32 := 1#32
  let v13 : BitVec 32 := Scalar.select v12 c1_i32_6 c4_i32_4
  let v14 : BitVec 32 := Scalar.remsi v1 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c2048_i32 : BitVec 32 := 2048#32
  let v32 : BitVec 32 := Scalar.muli v21 c2048_i32
  let v33 : BitVec 32 := v32
  let c0_i32_17 : BitVec 32 := 0#32
  ![v33.toNat, 0]
def k0_off7 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_18 : BitVec 32 := 2#32
  let c0_i32_19 : BitVec 32 := 0#32
  let v39 : BitVec 1 := Scalar.cmpi .eq c2_i32_18 c0_i32_19
  let c1_i32_20 : BitVec 32 := 1#32
  let v40 : BitVec 32 := Scalar.select v39 c1_i32_20 c2_i32_18
  let v41 : BitVec 32 := Scalar.remsi v1 v40
  let c0_i32_22 : BitVec 32 := 0#32
  let v43 : BitVec 1 := Scalar.cmpi .slt v41 c0_i32_22
  let c0_i32_23 : BitVec 32 := 0#32
  let v44 : BitVec 1 := Scalar.cmpi .slt v40 c0_i32_23
  let v45 : BitVec 1 := Scalar.xori v43 v44
  let c0_i32_21 : BitVec 32 := 0#32
  let v42 : BitVec 1 := Scalar.cmpi .ne v41 c0_i32_21
  let v46 : BitVec 1 := Scalar.andi v45 v42
  let v47 : BitVec 32 := Scalar.addi v41 v40
  let v48 : BitVec 32 := Scalar.select v46 v47 v41
  let v49 : Index := Scalar.indexCast v48
  let c0 : Index := 0#32
  let c0_24 : Index := 0#32
  ![v49.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c1024_i32 : BitVec 32 := 1024#32
  let v1 : BitVec 32 := Scalar.muli arg0 c1024_i32
  let c2_i32_0 : BitVec 32 := 2#32
  let v2 : BitVec 32 := Scalar.subi arg0 c2_i32_0
  let c1024_i32_1 : BitVec 32 := 1024#32
  let v3 : BitVec 32 := Scalar.muli v2 c1024_i32_1
  let c3072_i32 : BitVec 32 := 3072#32
  let v4 : BitVec 32 := Scalar.addi c3072_i32 v3
  let v5 : BitVec 32 := Scalar.select v0 v1 v4
  let v6 : BitVec 32 := v5
  let c0_i32 : BitVec 32 := 0#32
  let c0_i32_2 : BitVec 32 := 0#32
  ![v6.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x2048 : Shape := ⟨2, ![8192, 2048]⟩
abbrev S1x2048x19504 : Shape := ⟨3, ![1, 2048, 19504]⟩
abbrev S1x19504 : Shape := ⟨2, ![1, 19504]⟩
abbrev S4x2048x2048 : Shape := ⟨3, ![4, 2048, 2048]⟩
abbrev S2048x19504 : Shape := ⟨2, ![2048, 19504]⟩
abbrev S4x2048x19504 : Shape := ⟨3, ![4, 2048, 19504]⟩
abbrev S19504 : Shape := ⟨1, ![19504]⟩
abbrev S1x1x19504 : Shape := ⟨3, ![1, 1, 19504]⟩
abbrev S4x2048x512 : Shape := ⟨3, ![4, 2048, 512]⟩
abbrev S4x2048x48 : Shape := ⟨3, ![4, 2048, 48]⟩
abbrev S4x2048x4096 : Shape := ⟨3, ![4, 2048, 4096]⟩
abbrev S_ : Shape := ⟨0, ![]⟩
abbrev S8192x4096 : Shape := ⟨2, ![8192, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x19504, .f32⟩
  | .hbm, ⟨2, _⟩ => ⟨S1x19504, .f32⟩
  | .hbm, ⟨3, _⟩ => ⟨S4x2048x2048, .bf16⟩
  | .hbm, ⟨4, _⟩ => ⟨S4x2048x2048, .f32⟩
  | .hbm, ⟨5, _⟩ => ⟨S2048x19504, .f32⟩
  | .hbm, ⟨6, _⟩ => ⟨S4x2048x19504, .f32⟩
  | .hbm, ⟨7, _⟩ => ⟨S19504, .f32⟩
  | .hbm, ⟨8, _⟩ => ⟨S1x1x19504, .f32⟩
  | .hbm, ⟨9, _⟩ => ⟨S4x2048x19504, .f32⟩
  | .hbm, ⟨10, _⟩ => ⟨S4x2048x19504, .f32⟩
  | .hbm, ⟨11, _⟩ => ⟨S4x2048x2048, .f32⟩
  | .hbm, ⟨12, _⟩ => ⟨S4x2048x512, .f32⟩
  | .hbm, ⟨13, _⟩ => ⟨S4x2048x512, .f32⟩
  | .hbm, ⟨14, _⟩ => ⟨S4x2048x512, .f32⟩
  | .hbm, ⟨15, _⟩ => ⟨S4x2048x512, .f32⟩
  | .hbm, ⟨16, _⟩ => ⟨S4x2048x512, .f32⟩
  | .hbm, ⟨17, _⟩ => ⟨S4x2048x512, .f32⟩
  | .hbm, ⟨18, _⟩ => ⟨S4x2048x48, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S4x2048x2048, .f32⟩
  | .hbm, ⟨24, _⟩ => ⟨S4x2048x4096, .f32⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S4x2048x4096, .f32⟩
  | .hbm, ⟨29, _⟩ => ⟨S8192x4096, .f32⟩
  | .hbm, ⟨30, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S8192x6144 : Shape := ⟨2, ![8192, 6144]⟩
abbrev S2048x1024 : Shape := ⟨2, ![2048, 1024]⟩
abbrev S512x1024 : Shape := ⟨2, ![512, 1024]⟩
abbrev S3x512x2048 : Shape := ⟨3, ![3, 512, 2048]⟩
abbrev S3x512x1024 : Shape := ⟨3, ![3, 512, 1024]⟩
abbrev S4x3 : Shape := ⟨2, ![4, 3]⟩
abbrev S1x3 : Shape := ⟨2, ![1, 3]⟩
abbrev S3 : Shape := ⟨1, ![3]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S1x512x1024 : Shape := ⟨3, ![1, 512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .hbm, ⟨3, _⟩ => ⟨S2048x2048, .bf16⟩
  | .hbm, ⟨4, _⟩ => ⟨S8192x6144, .f32⟩
  | .hbm, ⟨5, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S3x512x2048, .bf16⟩
  | .local _ .vmem, ⟨7, _⟩ => ⟨S3x512x2048, .bf16⟩
  | .local _ .vmem, ⟨8, _⟩ => ⟨S3x512x1024, .f32⟩
  | .local _ .vmem, ⟨9, _⟩ => ⟨S3x512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_1 : BitVec 32 := 0#32
  let v4 : BitVec 1 := Scalar.cmpi .ne v3 c0_i32_1
  v4

def k0_mult1 : BitVec 32 :=
  let c0_i32_136 : BitVec 32 := 0#32
  c0_i32_136
def k0_mult2 : BitVec 32 :=
  let c0_i32_137 : BitVec 32 := 0#32
  c0_i32_137
def k0_mult3 : BitVec 32 :=
  let c2048_i32_138 : BitVec 32 := 2048#32
  c2048_i32_138
def k0_mult4 : BitVec 32 :=
  let c0_i32_139 : BitVec 32 := 0#32
  c0_i32_139
def k0_mult5 : BitVec 32 :=
  let c4096_i32_140 : BitVec 32 := 4096#32
  c4096_i32_140
def k0_mult6 : BitVec 32 :=
  let c0_i32_141 : BitVec 32 := 0#32
  c0_i32_141
def k0_mult7 : BitVec 32 :=
  let c512_i32_164 : BitVec 32 := 512#32
  c512_i32_164
def k0_mult8 : BitVec 32 :=
  let c512_i32_165 : BitVec 32 := 512#32
  c512_i32_165
def k0_mult9 : BitVec 32 :=
  let c2048_i32_166 : BitVec 32 := 2048#32
  c2048_i32_166
def k0_mult10 : BitVec 32 :=
  let c512_i32_167 : BitVec 32 := 512#32
  c512_i32_167
def k0_mult11 : BitVec 32 :=
  let c4096_i32_168 : BitVec 32 := 4096#32
  c4096_i32_168
def k0_mult12 : BitVec 32 :=
  let c512_i32_169 : BitVec 32 := 512#32
  c512_i32_169
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_2 : BitVec 32 := 2#32
  let v5 : BitVec 32 := Scalar.addi v1 c2_i32_2
  let c32_i32 : BitVec 32 := 32#32
  let v6 : BitVec 1 := Scalar.cmpi .slt v5 c32_i32
  let v7 : BitVec 32 := Scalar.extui v6
  let c0_i32_7 : BitVec 32 := 0#32
  let v8 : BitVec 1 := Scalar.cmpi .ne v7 c0_i32_7
  v8

def k0_mult13 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_136 : BitVec 32 := 2#32
  let v240 : BitVec 32 := Scalar.addi v1 c2_i32_136
  let c16_i32_137 : BitVec 32 := 16#32
  let c0_i32_138 : BitVec 32 := 0#32
  let v241 : BitVec 1 := Scalar.cmpi .eq c16_i32_137 c0_i32_138
  let c1_i32_139 : BitVec 32 := 1#32
  let v242 : BitVec 32 := Scalar.select v241 c1_i32_139 c16_i32_137
  let v243 : BitVec 32 := Scalar.remsi v240 v242
  let c0_i32_141 : BitVec 32 := 0#32
  let v245 : BitVec 1 := Scalar.cmpi .slt v243 c0_i32_141
  let c0_i32_142 : BitVec 32 := 0#32
  let v246 : BitVec 1 := Scalar.cmpi .slt v242 c0_i32_142
  let v247 : BitVec 1 := Scalar.xori v245 v246
  let c0_i32_140 : BitVec 32 := 0#32
  let v244 : BitVec 1 := Scalar.cmpi .ne v243 c0_i32_140
  let v248 : BitVec 1 := Scalar.andi v247 v244
  let v249 : BitVec 32 := Scalar.addi v243 v242
  let v250 : BitVec 32 := Scalar.select v248 v249 v243
  let c512_i32_149 : BitVec 32 := 512#32
  let v261 : BitVec 32 := Scalar.muli v250 c512_i32_149
  v261
def k0_mult14 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_136 : BitVec 32 := 2#32
  let v240 : BitVec 32 := Scalar.addi v1 c2_i32_136
  let c16_i32_150 : BitVec 32 := 16#32
  let c0_i32_151 : BitVec 32 := 0#32
  let v263 : BitVec 1 := Scalar.cmpi .eq c16_i32_150 c0_i32_151
  let c1_i32_152 : BitVec 32 := 1#32
  let v264 : BitVec 32 := Scalar.select v263 c1_i32_152 c16_i32_150
  let v265 : BitVec 32 := Scalar.remsi v240 v264
  let c0_i32_154 : BitVec 32 := 0#32
  let v267 : BitVec 1 := Scalar.cmpi .slt v265 c0_i32_154
  let c0_i32_155 : BitVec 32 := 0#32
  let v268 : BitVec 1 := Scalar.cmpi .slt v264 c0_i32_155
  let v269 : BitVec 1 := Scalar.xori v267 v268
  let c0_i32_153 : BitVec 32 := 0#32
  let v266 : BitVec 1 := Scalar.cmpi .ne v265 c0_i32_153
  let v270 : BitVec 1 := Scalar.andi v269 v266
  let v271 : BitVec 32 := Scalar.addi v265 v264
  let v272 : BitVec 32 := Scalar.select v270 v271 v265
  let c512_i32_162 : BitVec 32 := 512#32
  let v283 : BitVec 32 := Scalar.muli v272 c512_i32_162
  v283
def k0_mult15 (i : grid0.Coords) : BitVec 32 :=
  let c2048_i32_177 : BitVec 32 := 2048#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_136 : BitVec 32 := 2#32
  let v240 : BitVec 32 := Scalar.addi v1 c2_i32_136
  let c0_i32_170 : BitVec 32 := 0#32
  let v296 : BitVec 1 := Scalar.cmpi .sgt v240 c0_i32_170
  let v297 : BitVec 32 := Scalar.extui v296
  let c0_i32_171 : BitVec 32 := 0#32
  let v298 : BitVec 1 := Scalar.cmpi .slt v240 c0_i32_171
  let v299 : BitVec 32 := Scalar.extui v298
  let v300 : BitVec 32 := Scalar.subi v297 v299
  let c16_i32_169 : BitVec 32 := 16#32
  let c0_i32_172 : BitVec 32 := 0#32
  let v301 : BitVec 1 := Scalar.cmpi .sgt c16_i32_169 c0_i32_172
  let v302 : BitVec 32 := Scalar.extui v301
  let c0_i32_173 : BitVec 32 := 0#32
  let v303 : BitVec 1 := Scalar.cmpi .slt c16_i32_169 c0_i32_173
  let v304 : BitVec 32 := Scalar.extui v303
  let v305 : BitVec 32 := Scalar.subi v302 v304
  let v306 : BitVec 1 := Scalar.cmpi .ne v300 v305
  let v307 : BitVec 32 := Scalar.remsi v240 c16_i32_169
  let c0_i32_174 : BitVec 32 := 0#32
  let v308 : BitVec 1 := Scalar.cmpi .ne v307 c0_i32_174
  let v309 : BitVec 1 := Scalar.andi v306 v308
  let v295 : BitVec 32 := Scalar.divsi v240 c16_i32_169
  let c1_i32_175 : BitVec 32 := 1#32
  let v310 : BitVec 32 := Scalar.subi v295 c1_i32_175
  let v311 : BitVec 32 := Scalar.select v309 v310 v295
  let c1024_i32_176 : BitVec 32 := 1024#32
  let v312 : BitVec 32 := Scalar.muli v311 c1024_i32_176
  let v313 : BitVec 32 := Scalar.addi c2048_i32_177 v312
  v313
def k0_mult16 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_136 : BitVec 32 := 2#32
  let v240 : BitVec 32 := Scalar.addi v1 c2_i32_136
  let c16_i32_163 : BitVec 32 := 16#32
  let c0_i32_164 : BitVec 32 := 0#32
  let v285 : BitVec 1 := Scalar.cmpi .eq c16_i32_163 c0_i32_164
  let c1_i32_165 : BitVec 32 := 1#32
  let v286 : BitVec 32 := Scalar.select v285 c1_i32_165 c16_i32_163
  let v287 : BitVec 32 := Scalar.remsi v240 v286
  let c0_i32_167 : BitVec 32 := 0#32
  let v289 : BitVec 1 := Scalar.cmpi .slt v287 c0_i32_167
  let c0_i32_168 : BitVec 32 := 0#32
  let v290 : BitVec 1 := Scalar.cmpi .slt v286 c0_i32_168
  let v291 : BitVec 1 := Scalar.xori v289 v290
  let c0_i32_166 : BitVec 32 := 0#32
  let v288 : BitVec 1 := Scalar.cmpi .ne v287 c0_i32_166
  let v292 : BitVec 1 := Scalar.andi v291 v288
  let v293 : BitVec 32 := Scalar.addi v287 v286
  let v294 : BitVec 32 := Scalar.select v292 v293 v287
  let c512_i32_184 : BitVec 32 := 512#32
  let v325 : BitVec 32 := Scalar.muli v294 c512_i32_184
  v325
def k0_mult17 (i : grid0.Coords) : BitVec 32 :=
  let c4096_i32_199 : BitVec 32 := 4096#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_136 : BitVec 32 := 2#32
  let v240 : BitVec 32 := Scalar.addi v1 c2_i32_136
  let c0_i32_192 : BitVec 32 := 0#32
  let v338 : BitVec 1 := Scalar.cmpi .sgt v240 c0_i32_192
  let v339 : BitVec 32 := Scalar.extui v338
  let c0_i32_193 : BitVec 32 := 0#32
  let v340 : BitVec 1 := Scalar.cmpi .slt v240 c0_i32_193
  let v341 : BitVec 32 := Scalar.extui v340
  let v342 : BitVec 32 := Scalar.subi v339 v341
  let c16_i32_191 : BitVec 32 := 16#32
  let c0_i32_194 : BitVec 32 := 0#32
  let v343 : BitVec 1 := Scalar.cmpi .sgt c16_i32_191 c0_i32_194
  let v344 : BitVec 32 := Scalar.extui v343
  let c0_i32_195 : BitVec 32 := 0#32
  let v345 : BitVec 1 := Scalar.cmpi .slt c16_i32_191 c0_i32_195
  let v346 : BitVec 32 := Scalar.extui v345
  let v347 : BitVec 32 := Scalar.subi v344 v346
  let v348 : BitVec 1 := Scalar.cmpi .ne v342 v347
  let v349 : BitVec 32 := Scalar.remsi v240 c16_i32_191
  let c0_i32_196 : BitVec 32 := 0#32
  let v350 : BitVec 1 := Scalar.cmpi .ne v349 c0_i32_196
  let v351 : BitVec 1 := Scalar.andi v348 v350
  let v337 : BitVec 32 := Scalar.divsi v240 c16_i32_191
  let c1_i32_197 : BitVec 32 := 1#32
  let v352 : BitVec 32 := Scalar.subi v337 c1_i32_197
  let v353 : BitVec 32 := Scalar.select v351 v352 v337
  let c1024_i32_198 : BitVec 32 := 1024#32
  let v354 : BitVec 32 := Scalar.muli v353 c1024_i32_198
  let v355 : BitVec 32 := Scalar.addi c4096_i32_199 v354
  v355
def k0_mult18 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_136 : BitVec 32 := 2#32
  let v240 : BitVec 32 := Scalar.addi v1 c2_i32_136
  let c16_i32_185 : BitVec 32 := 16#32
  let c0_i32_186 : BitVec 32 := 0#32
  let v327 : BitVec 1 := Scalar.cmpi .eq c16_i32_185 c0_i32_186
  let c1_i32_187 : BitVec 32 := 1#32
  let v328 : BitVec 32 := Scalar.select v327 c1_i32_187 c16_i32_185
  let v329 : BitVec 32 := Scalar.remsi v240 v328
  let c0_i32_189 : BitVec 32 := 0#32
  let v331 : BitVec 1 := Scalar.cmpi .slt v329 c0_i32_189
  let c0_i32_190 : BitVec 32 := 0#32
  let v332 : BitVec 1 := Scalar.cmpi .slt v328 c0_i32_190
  let v333 : BitVec 1 := Scalar.xori v331 v332
  let c0_i32_188 : BitVec 32 := 0#32
  let v330 : BitVec 1 := Scalar.cmpi .ne v329 c0_i32_188
  let v334 : BitVec 1 := Scalar.andi v333 v330
  let v335 : BitVec 32 := Scalar.addi v329 v328
  let v336 : BitVec 32 := Scalar.select v334 v335 v329
  let c512_i32_206 : BitVec 32 := 512#32
  let v367 : BitVec 32 := Scalar.muli v336 c512_i32_206
  v367
def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_136 : BitVec 32 := 2#32
  let v240 : BitVec 32 := Scalar.addi v1 c2_i32_136
  let c3_i32_143 : BitVec 32 := 3#32
  let c0_i32_144 : BitVec 32 := 0#32
  let v251 : BitVec 1 := Scalar.cmpi .eq c3_i32_143 c0_i32_144
  let c1_i32_145 : BitVec 32 := 1#32
  let v252 : BitVec 32 := Scalar.select v251 c1_i32_145 c3_i32_143
  let v253 : BitVec 32 := Scalar.remsi v240 v252
  let c0_i32_147 : BitVec 32 := 0#32
  let v255 : BitVec 1 := Scalar.cmpi .slt v253 c0_i32_147
  let c0_i32_148 : BitVec 32 := 0#32
  let v256 : BitVec 1 := Scalar.cmpi .slt v252 c0_i32_148
  let v257 : BitVec 1 := Scalar.xori v255 v256
  let c0_i32_146 : BitVec 32 := 0#32
  let v254 : BitVec 1 := Scalar.cmpi .ne v253 c0_i32_146
  let v258 : BitVec 1 := Scalar.andi v257 v254
  let v259 : BitVec 32 := Scalar.addi v253 v252
  let v260 : BitVec 32 := Scalar.select v258 v259 v253
  ![v260.toNat]
def k0_off2 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_136 : BitVec 32 := 2#32
  let v240 : BitVec 32 := Scalar.addi v1 c2_i32_136
  let c3_i32_143 : BitVec 32 := 3#32
  let c0_i32_144 : BitVec 32 := 0#32
  let v251 : BitVec 1 := Scalar.cmpi .eq c3_i32_143 c0_i32_144
  let c1_i32_145 : BitVec 32 := 1#32
  let v252 : BitVec 32 := Scalar.select v251 c1_i32_145 c3_i32_143
  let v253 : BitVec 32 := Scalar.remsi v240 v252
  let c0_i32_147 : BitVec 32 := 0#32
  let v255 : BitVec 1 := Scalar.cmpi .slt v253 c0_i32_147
  let c0_i32_148 : BitVec 32 := 0#32
  let v256 : BitVec 1 := Scalar.cmpi .slt v252 c0_i32_148
  let v257 : BitVec 1 := Scalar.xori v255 v256
  let c0_i32_146 : BitVec 32 := 0#32
  let v254 : BitVec 1 := Scalar.cmpi .ne v253 c0_i32_146
  let v258 : BitVec 1 := Scalar.andi v257 v254
  let v259 : BitVec 32 := Scalar.addi v253 v252
  let v260 : BitVec 32 := Scalar.select v258 v259 v253
  let c0_i32_208 : BitVec 32 := 0#32
  let c0_i32_209 : BitVec 32 := 0#32
  ![v260.toNat, 0, 0]
def k0_off3 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_136 : BitVec 32 := 2#32
  let v240 : BitVec 32 := Scalar.addi v1 c2_i32_136
  let c16_i32_137 : BitVec 32 := 16#32
  let c0_i32_138 : BitVec 32 := 0#32
  let v241 : BitVec 1 := Scalar.cmpi .eq c16_i32_137 c0_i32_138
  let c1_i32_139 : BitVec 32 := 1#32
  let v242 : BitVec 32 := Scalar.select v241 c1_i32_139 c16_i32_137
  let v243 : BitVec 32 := Scalar.remsi v240 v242
  let c0_i32_141 : BitVec 32 := 0#32
  let v245 : BitVec 1 := Scalar.cmpi .slt v243 c0_i32_141
  let c0_i32_142 : BitVec 32 := 0#32
  let v246 : BitVec 1 := Scalar.cmpi .slt v242 c0_i32_142
  let v247 : BitVec 1 := Scalar.xori v245 v246
  let c0_i32_140 : BitVec 32 := 0#32
  let v244 : BitVec 1 := Scalar.cmpi .ne v243 c0_i32_140
  let v248 : BitVec 1 := Scalar.andi v247 v244
  let v249 : BitVec 32 := Scalar.addi v243 v242
  let v250 : BitVec 32 := Scalar.select v248 v249 v243
  let c512_i32_149 : BitVec 32 := 512#32
  let v261 : BitVec 32 := Scalar.muli v250 c512_i32_149
  let v262 : BitVec 32 := v261
  let c0_i32_210 : BitVec 32 := 0#32
  ![v262.toNat, 0]
def k0_off4 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_136 : BitVec 32 := 2#32
  let v240 : BitVec 32 := Scalar.addi v1 c2_i32_136
  let c3_i32_178 : BitVec 32 := 3#32
  let c0_i32_179 : BitVec 32 := 0#32
  let v315 : BitVec 1 := Scalar.cmpi .eq c3_i32_178 c0_i32_179
  let c1_i32_180 : BitVec 32 := 1#32
  let v316 : BitVec 32 := Scalar.select v315 c1_i32_180 c3_i32_178
  let v317 : BitVec 32 := Scalar.remsi v240 v316
  let c0_i32_182 : BitVec 32 := 0#32
  let v319 : BitVec 1 := Scalar.cmpi .slt v317 c0_i32_182
  let c0_i32_183 : BitVec 32 := 0#32
  let v320 : BitVec 1 := Scalar.cmpi .slt v316 c0_i32_183
  let v321 : BitVec 1 := Scalar.xori v319 v320
  let c0_i32_181 : BitVec 32 := 0#32
  let v318 : BitVec 1 := Scalar.cmpi .ne v317 c0_i32_181
  let v322 : BitVec 1 := Scalar.andi v321 v318
  let v323 : BitVec 32 := Scalar.addi v317 v316
  let v324 : BitVec 32 := Scalar.select v322 v323 v317
  let c0_i32_216 : BitVec 32 := 0#32
  let c0_i32_217 : BitVec 32 := 0#32
  ![v324.toNat, 0, 0]
def k0_off5 (i : grid0.Coords) (c2048_i32_177 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_136 : BitVec 32 := 2#32
  let v240 : BitVec 32 := Scalar.addi v1 c2_i32_136
  let c16_i32_163 : BitVec 32 := 16#32
  let c0_i32_164 : BitVec 32 := 0#32
  let v285 : BitVec 1 := Scalar.cmpi .eq c16_i32_163 c0_i32_164
  let c1_i32_165 : BitVec 32 := 1#32
  let v286 : BitVec 32 := Scalar.select v285 c1_i32_165 c16_i32_163
  let v287 : BitVec 32 := Scalar.remsi v240 v286
  let c0_i32_167 : BitVec 32 := 0#32
  let v289 : BitVec 1 := Scalar.cmpi .slt v287 c0_i32_167
  let c0_i32_168 : BitVec 32 := 0#32
  let v290 : BitVec 1 := Scalar.cmpi .slt v286 c0_i32_168
  let v291 : BitVec 1 := Scalar.xori v289 v290
  let c0_i32_166 : BitVec 32 := 0#32
  let v288 : BitVec 1 := Scalar.cmpi .ne v287 c0_i32_166
  let v292 : BitVec 1 := Scalar.andi v291 v288
  let v293 : BitVec 32 := Scalar.addi v287 v286
  let v294 : BitVec 32 := Scalar.select v292 v293 v287
  let c512_i32_184 : BitVec 32 := 512#32
  let v325 : BitVec 32 := Scalar.muli v294 c512_i32_184
  let v326 : BitVec 32 := v325
  let c0_i32_170 : BitVec 32 := 0#32
  let v296 : BitVec 1 := Scalar.cmpi .sgt v240 c0_i32_170
  let v297 : BitVec 32 := Scalar.extui v296
  let c0_i32_171 : BitVec 32 := 0#32
  let v298 : BitVec 1 := Scalar.cmpi .slt v240 c0_i32_171
  let v299 : BitVec 32 := Scalar.extui v298
  let v300 : BitVec 32 := Scalar.subi v297 v299
  let c16_i32_169 : BitVec 32 := 16#32
  let c0_i32_172 : BitVec 32 := 0#32
  let v301 : BitVec 1 := Scalar.cmpi .sgt c16_i32_169 c0_i32_172
  let v302 : BitVec 32 := Scalar.extui v301
  let c0_i32_173 : BitVec 32 := 0#32
  let v303 : BitVec 1 := Scalar.cmpi .slt c16_i32_169 c0_i32_173
  let v304 : BitVec 32 := Scalar.extui v303
  let v305 : BitVec 32 := Scalar.subi v302 v304
  let v306 : BitVec 1 := Scalar.cmpi .ne v300 v305
  let v307 : BitVec 32 := Scalar.remsi v240 c16_i32_169
  let c0_i32_174 : BitVec 32 := 0#32
  let v308 : BitVec 1 := Scalar.cmpi .ne v307 c0_i32_174
  let v309 : BitVec 1 := Scalar.andi v306 v308
  let v295 : BitVec 32 := Scalar.divsi v240 c16_i32_169
  let c1_i32_175 : BitVec 32 := 1#32
  let v310 : BitVec 32 := Scalar.subi v295 c1_i32_175
  let v311 : BitVec 32 := Scalar.select v309 v310 v295
  let c1024_i32_176 : BitVec 32 := 1024#32
  let v312 : BitVec 32 := Scalar.muli v311 c1024_i32_176
  let v313 : BitVec 32 := Scalar.addi c2048_i32_177 v312
  let v314 : BitVec 32 := v313
  ![v326.toNat, v314.toNat]
def k0_mult19 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_8 : BitVec 32 := 16#32
  let c0_i32_9 : BitVec 32 := 0#32
  let v9 : BitVec 1 := Scalar.cmpi .eq c16_i32_8 c0_i32_9
  let c1_i32_10 : BitVec 32 := 1#32
  let v10 : BitVec 32 := Scalar.select v9 c1_i32_10 c16_i32_8
  let v11 : BitVec 32 := Scalar.remsi v1 v10
  let c0_i32_12 : BitVec 32 := 0#32
  let v13 : BitVec 1 := Scalar.cmpi .slt v11 c0_i32_12
  let c0_i32_13 : BitVec 32 := 0#32
  let v14 : BitVec 1 := Scalar.cmpi .slt v10 c0_i32_13
  let v15 : BitVec 1 := Scalar.xori v13 v14
  let c0_i32_11 : BitVec 32 := 0#32
  let v12 : BitVec 1 := Scalar.cmpi .ne v11 c0_i32_11
  let v16 : BitVec 1 := Scalar.andi v15 v12
  let v17 : BitVec 32 := Scalar.addi v11 v10
  let v18 : BitVec 32 := Scalar.select v16 v17 v11
  let c512_i32 : BitVec 32 := 512#32
  let v29 : BitVec 32 := Scalar.muli v18 c512_i32
  v29
def k0_mult20 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_20 : BitVec 32 := 16#32
  let c0_i32_21 : BitVec 32 := 0#32
  let v31 : BitVec 1 := Scalar.cmpi .eq c16_i32_20 c0_i32_21
  let c1_i32_22 : BitVec 32 := 1#32
  let v32 : BitVec 32 := Scalar.select v31 c1_i32_22 c16_i32_20
  let v33 : BitVec 32 := Scalar.remsi v1 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c512_i32_32 : BitVec 32 := 512#32
  let v51 : BitVec 32 := Scalar.muli v40 c512_i32_32
  v51
def k0_mult21 (i : grid0.Coords) : BitVec 32 :=
  let c2048_i32 : BitVec 32 := 2048#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_40 : BitVec 32 := 0#32
  let v64 : BitVec 1 := Scalar.cmpi .sgt v1 c0_i32_40
  let v65 : BitVec 32 := Scalar.extui v64
  let c0_i32_41 : BitVec 32 := 0#32
  let v66 : BitVec 1 := Scalar.cmpi .slt v1 c0_i32_41
  let v67 : BitVec 32 := Scalar.extui v66
  let v68 : BitVec 32 := Scalar.subi v65 v67
  let c16_i32_39 : BitVec 32 := 16#32
  let c0_i32_42 : BitVec 32 := 0#32
  let v69 : BitVec 1 := Scalar.cmpi .sgt c16_i32_39 c0_i32_42
  let v70 : BitVec 32 := Scalar.extui v69
  let c0_i32_43 : BitVec 32 := 0#32
  let v71 : BitVec 1 := Scalar.cmpi .slt c16_i32_39 c0_i32_43
  let v72 : BitVec 32 := Scalar.extui v71
  let v73 : BitVec 32 := Scalar.subi v70 v72
  let v74 : BitVec 1 := Scalar.cmpi .ne v68 v73
  let v75 : BitVec 32 := Scalar.remsi v1 c16_i32_39
  let c0_i32_44 : BitVec 32 := 0#32
  let v76 : BitVec 1 := Scalar.cmpi .ne v75 c0_i32_44
  let v77 : BitVec 1 := Scalar.andi v74 v76
  let v63 : BitVec 32 := Scalar.divsi v1 c16_i32_39
  let c1_i32_45 : BitVec 32 := 1#32
  let v78 : BitVec 32 := Scalar.subi v63 c1_i32_45
  let v79 : BitVec 32 := Scalar.select v77 v78 v63
  let c1024_i32 : BitVec 32 := 1024#32
  let v80 : BitVec 32 := Scalar.muli v79 c1024_i32
  let v81 : BitVec 32 := Scalar.addi c2048_i32 v80
  v81
def k0_mult22 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_33 : BitVec 32 := 16#32
  let c0_i32_34 : BitVec 32 := 0#32
  let v53 : BitVec 1 := Scalar.cmpi .eq c16_i32_33 c0_i32_34
  let c1_i32_35 : BitVec 32 := 1#32
  let v54 : BitVec 32 := Scalar.select v53 c1_i32_35 c16_i32_33
  let v55 : BitVec 32 := Scalar.remsi v1 v54
  let c0_i32_37 : BitVec 32 := 0#32
  let v57 : BitVec 1 := Scalar.cmpi .slt v55 c0_i32_37
  let c0_i32_38 : BitVec 32 := 0#32
  let v58 : BitVec 1 := Scalar.cmpi .slt v54 c0_i32_38
  let v59 : BitVec 1 := Scalar.xori v57 v58
  let c0_i32_36 : BitVec 32 := 0#32
  let v56 : BitVec 1 := Scalar.cmpi .ne v55 c0_i32_36
  let v60 : BitVec 1 := Scalar.andi v59 v56
  let v61 : BitVec 32 := Scalar.addi v55 v54
  let v62 : BitVec 32 := Scalar.select v60 v61 v55
  let c512_i32_52 : BitVec 32 := 512#32
  let v93 : BitVec 32 := Scalar.muli v62 c512_i32_52
  v93
def k0_mult23 (i : grid0.Coords) : BitVec 32 :=
  let c4096_i32 : BitVec 32 := 4096#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_60 : BitVec 32 := 0#32
  let v106 : BitVec 1 := Scalar.cmpi .sgt v1 c0_i32_60
  let v107 : BitVec 32 := Scalar.extui v106
  let c0_i32_61 : BitVec 32 := 0#32
  let v108 : BitVec 1 := Scalar.cmpi .slt v1 c0_i32_61
  let v109 : BitVec 32 := Scalar.extui v108
  let v110 : BitVec 32 := Scalar.subi v107 v109
  let c16_i32_59 : BitVec 32 := 16#32
  let c0_i32_62 : BitVec 32 := 0#32
  let v111 : BitVec 1 := Scalar.cmpi .sgt c16_i32_59 c0_i32_62
  let v112 : BitVec 32 := Scalar.extui v111
  let c0_i32_63 : BitVec 32 := 0#32
  let v113 : BitVec 1 := Scalar.cmpi .slt c16_i32_59 c0_i32_63
  let v114 : BitVec 32 := Scalar.extui v113
  let v115 : BitVec 32 := Scalar.subi v112 v114
  let v116 : BitVec 1 := Scalar.cmpi .ne v110 v115
  let v117 : BitVec 32 := Scalar.remsi v1 c16_i32_59
  let c0_i32_64 : BitVec 32 := 0#32
  let v118 : BitVec 1 := Scalar.cmpi .ne v117 c0_i32_64
  let v119 : BitVec 1 := Scalar.andi v116 v118
  let v105 : BitVec 32 := Scalar.divsi v1 c16_i32_59
  let c1_i32_65 : BitVec 32 := 1#32
  let v120 : BitVec 32 := Scalar.subi v105 c1_i32_65
  let v121 : BitVec 32 := Scalar.select v119 v120 v105
  let c1024_i32_66 : BitVec 32 := 1024#32
  let v122 : BitVec 32 := Scalar.muli v121 c1024_i32_66
  let v123 : BitVec 32 := Scalar.addi c4096_i32 v122
  v123
def k0_mult24 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_53 : BitVec 32 := 16#32
  let c0_i32_54 : BitVec 32 := 0#32
  let v95 : BitVec 1 := Scalar.cmpi .eq c16_i32_53 c0_i32_54
  let c1_i32_55 : BitVec 32 := 1#32
  let v96 : BitVec 32 := Scalar.select v95 c1_i32_55 c16_i32_53
  let v97 : BitVec 32 := Scalar.remsi v1 v96
  let c0_i32_57 : BitVec 32 := 0#32
  let v99 : BitVec 1 := Scalar.cmpi .slt v97 c0_i32_57
  let c0_i32_58 : BitVec 32 := 0#32
  let v100 : BitVec 1 := Scalar.cmpi .slt v96 c0_i32_58
  let v101 : BitVec 1 := Scalar.xori v99 v100
  let c0_i32_56 : BitVec 32 := 0#32
  let v98 : BitVec 1 := Scalar.cmpi .ne v97 c0_i32_56
  let v102 : BitVec 1 := Scalar.andi v101 v98
  let v103 : BitVec 32 := Scalar.addi v97 v96
  let v104 : BitVec 32 := Scalar.select v102 v103 v97
  let c512_i32_73 : BitVec 32 := 512#32
  let v135 : BitVec 32 := Scalar.muli v104 c512_i32_73
  v135
def k0_off6 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_14 : BitVec 32 := 3#32
  let c0_i32_15 : BitVec 32 := 0#32
  let v19 : BitVec 1 := Scalar.cmpi .eq c3_i32_14 c0_i32_15
  let c1_i32_16 : BitVec 32 := 1#32
  let v20 : BitVec 32 := Scalar.select v19 c1_i32_16 c3_i32_14
  let v21 : BitVec 32 := Scalar.remsi v1 v20
  let c0_i32_18 : BitVec 32 := 0#32
  let v23 : BitVec 1 := Scalar.cmpi .slt v21 c0_i32_18
  let c0_i32_19 : BitVec 32 := 0#32
  let v24 : BitVec 1 := Scalar.cmpi .slt v20 c0_i32_19
  let v25 : BitVec 1 := Scalar.xori v23 v24
  let c0_i32_17 : BitVec 32 := 0#32
  let v22 : BitVec 1 := Scalar.cmpi .ne v21 c0_i32_17
  let v26 : BitVec 1 := Scalar.andi v25 v22
  let v27 : BitVec 32 := Scalar.addi v21 v20
  let v28 : BitVec 32 := Scalar.select v26 v27 v21
  ![v28.toNat]
def k0_off7 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_14 : BitVec 32 := 3#32
  let c0_i32_15 : BitVec 32 := 0#32
  let v19 : BitVec 1 := Scalar.cmpi .eq c3_i32_14 c0_i32_15
  let c1_i32_16 : BitVec 32 := 1#32
  let v20 : BitVec 32 := Scalar.select v19 c1_i32_16 c3_i32_14
  let v21 : BitVec 32 := Scalar.remsi v1 v20
  let c0_i32_18 : BitVec 32 := 0#32
  let v23 : BitVec 1 := Scalar.cmpi .slt v21 c0_i32_18
  let c0_i32_19 : BitVec 32 := 0#32
  let v24 : BitVec 1 := Scalar.cmpi .slt v20 c0_i32_19
  let v25 : BitVec 1 := Scalar.xori v23 v24
  let c0_i32_17 : BitVec 32 := 0#32
  let v22 : BitVec 1 := Scalar.cmpi .ne v21 c0_i32_17
  let v26 : BitVec 1 := Scalar.andi v25 v22
  let v27 : BitVec 32 := Scalar.addi v21 v20
  let v28 : BitVec 32 := Scalar.select v26 v27 v21
  let c0_i32_76 : BitVec 32 := 0#32
  let c0_i32_77 : BitVec 32 := 0#32
  ![v28.toNat, 0, 0]
def k0_off8 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_8 : BitVec 32 := 16#32
  let c0_i32_9 : BitVec 32 := 0#32
  let v9 : BitVec 1 := Scalar.cmpi .eq c16_i32_8 c0_i32_9
  let c1_i32_10 : BitVec 32 := 1#32
  let v10 : BitVec 32 := Scalar.select v9 c1_i32_10 c16_i32_8
  let v11 : BitVec 32 := Scalar.remsi v1 v10
  let c0_i32_12 : BitVec 32 := 0#32
  let v13 : BitVec 1 := Scalar.cmpi .slt v11 c0_i32_12
  let c0_i32_13 : BitVec 32 := 0#32
  let v14 : BitVec 1 := Scalar.cmpi .slt v10 c0_i32_13
  let v15 : BitVec 1 := Scalar.xori v13 v14
  let c0_i32_11 : BitVec 32 := 0#32
  let v12 : BitVec 1 := Scalar.cmpi .ne v11 c0_i32_11
  let v16 : BitVec 1 := Scalar.andi v15 v12
  let v17 : BitVec 32 := Scalar.addi v11 v10
  let v18 : BitVec 32 := Scalar.select v16 v17 v11
  let c512_i32 : BitVec 32 := 512#32
  let v29 : BitVec 32 := Scalar.muli v18 c512_i32
  let v30 : BitVec 32 := v29
  let c0_i32_78 : BitVec 32 := 0#32
  ![v30.toNat, 0]
def k0_off9 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_46 : BitVec 32 := 3#32
  let c0_i32_47 : BitVec 32 := 0#32
  let v83 : BitVec 1 := Scalar.cmpi .eq c3_i32_46 c0_i32_47
  let c1_i32_48 : BitVec 32 := 1#32
  let v84 : BitVec 32 := Scalar.select v83 c1_i32_48 c3_i32_46
  let v85 : BitVec 32 := Scalar.remsi v1 v84
  let c0_i32_50 : BitVec 32 := 0#32
  let v87 : BitVec 1 := Scalar.cmpi .slt v85 c0_i32_50
  let c0_i32_51 : BitVec 32 := 0#32
  let v88 : BitVec 1 := Scalar.cmpi .slt v84 c0_i32_51
  let v89 : BitVec 1 := Scalar.xori v87 v88
  let c0_i32_49 : BitVec 32 := 0#32
  let v86 : BitVec 1 := Scalar.cmpi .ne v85 c0_i32_49
  let v90 : BitVec 1 := Scalar.andi v89 v86
  let v91 : BitVec 32 := Scalar.addi v85 v84
  let v92 : BitVec 32 := Scalar.select v90 v91 v85
  let c0_i32_86 : BitVec 32 := 0#32
  let c0_i32_87 : BitVec 32 := 0#32
  ![v92.toNat, 0, 0]
def k0_off10 (i : grid0.Coords) (c2048_i32 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c16_i32_33 : BitVec 32 := 16#32
  let c0_i32_34 : BitVec 32 := 0#32
  let v53 : BitVec 1 := Scalar.cmpi .eq c16_i32_33 c0_i32_34
  let c1_i32_35 : BitVec 32 := 1#32
  let v54 : BitVec 32 := Scalar.select v53 c1_i32_35 c16_i32_33
  let v55 : BitVec 32 := Scalar.remsi v1 v54
  let c0_i32_37 : BitVec 32 := 0#32
  let v57 : BitVec 1 := Scalar.cmpi .slt v55 c0_i32_37
  let c0_i32_38 : BitVec 32 := 0#32
  let v58 : BitVec 1 := Scalar.cmpi .slt v54 c0_i32_38
  let v59 : BitVec 1 := Scalar.xori v57 v58
  let c0_i32_36 : BitVec 32 := 0#32
  let v56 : BitVec 1 := Scalar.cmpi .ne v55 c0_i32_36
  let v60 : BitVec 1 := Scalar.andi v59 v56
  let v61 : BitVec 32 := Scalar.addi v55 v54
  let v62 : BitVec 32 := Scalar.select v60 v61 v55
  let c512_i32_52 : BitVec 32 := 512#32
  let v93 : BitVec 32 := Scalar.muli v62 c512_i32_52
  let v94 : BitVec 32 := v93
  let c0_i32_40 : BitVec 32 := 0#32
  let v64 : BitVec 1 := Scalar.cmpi .sgt v1 c0_i32_40
  let v65 : BitVec 32 := Scalar.extui v64
  let c0_i32_41 : BitVec 32 := 0#32
  let v66 : BitVec 1 := Scalar.cmpi .slt v1 c0_i32_41
  let v67 : BitVec 32 := Scalar.extui v66
  let v68 : BitVec 32 := Scalar.subi v65 v67
  let c16_i32_39 : BitVec 32 := 16#32
  let c0_i32_42 : BitVec 32 := 0#32
  let v69 : BitVec 1 := Scalar.cmpi .sgt c16_i32_39 c0_i32_42
  let v70 : BitVec 32 := Scalar.extui v69
  let c0_i32_43 : BitVec 32 := 0#32
  let v71 : BitVec 1 := Scalar.cmpi .slt c16_i32_39 c0_i32_43
  let v72 : BitVec 32 := Scalar.extui v71
  let v73 : BitVec 32 := Scalar.subi v70 v72
  let v74 : BitVec 1 := Scalar.cmpi .ne v68 v73
  let v75 : BitVec 32 := Scalar.remsi v1 c16_i32_39
  let c0_i32_44 : BitVec 32 := 0#32
  let v76 : BitVec 1 := Scalar.cmpi .ne v75 c0_i32_44
  let v77 : BitVec 1 := Scalar.andi v74 v76
  let v63 : BitVec 32 := Scalar.divsi v1 c16_i32_39
  let c1_i32_45 : BitVec 32 := 1#32
  let v78 : BitVec 32 := Scalar.subi v63 c1_i32_45
  let v79 : BitVec 32 := Scalar.select v77 v78 v63
  let c1024_i32 : BitVec 32 := 1024#32
  let v80 : BitVec 32 := Scalar.muli v79 c1024_i32
  let v81 : BitVec 32 := Scalar.addi c2048_i32 v80
  let v82 : BitVec 32 := v81
  ![v94.toNat, v82.toNat]
def k0_off11 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_92 : BitVec 32 := 3#32
  let c0_i32_93 : BitVec 32 := 0#32
  let v165 : BitVec 1 := Scalar.cmpi .eq c3_i32_92 c0_i32_93
  let c1_i32_94 : BitVec 32 := 1#32
  let v166 : BitVec 32 := Scalar.select v165 c1_i32_94 c3_i32_92
  let v167 : BitVec 32 := Scalar.remsi v1 v166
  let c0_i32_96 : BitVec 32 := 0#32
  let v169 : BitVec 1 := Scalar.cmpi .slt v167 c0_i32_96
  let c0_i32_97 : BitVec 32 := 0#32
  let v170 : BitVec 1 := Scalar.cmpi .slt v166 c0_i32_97
  let v171 : BitVec 1 := Scalar.xori v169 v170
  let c0_i32_95 : BitVec 32 := 0#32
  let v168 : BitVec 1 := Scalar.cmpi .ne v167 c0_i32_95
  let v172 : BitVec 1 := Scalar.andi v171 v168
  let v173 : BitVec 32 := Scalar.addi v167 v166
  let v174 : BitVec 32 := Scalar.select v172 v173 v167
  let v175 : Index := Scalar.indexCast v174
  let c0 : Index := 0#32
  let c0_98 : Index := 0#32
  ![v175.toNat, 0, 0]
def k0_off12 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32_107 : BitVec 32 := 3#32
  let c0_i32_108 : BitVec 32 := 0#32
  let v191 : BitVec 1 := Scalar.cmpi .eq c3_i32_107 c0_i32_108
  let c1_i32_109 : BitVec 32 := 1#32
  let v192 : BitVec 32 := Scalar.select v191 c1_i32_109 c3_i32_107
  let v193 : BitVec 32 := Scalar.remsi v1 v192
  let c0_i32_111 : BitVec 32 := 0#32
  let v195 : BitVec 1 := Scalar.cmpi .slt v193 c0_i32_111
  let c0_i32_112 : BitVec 32 := 0#32
  let v196 : BitVec 1 := Scalar.cmpi .slt v192 c0_i32_112
  let v197 : BitVec 1 := Scalar.xori v195 v196
  let c0_i32_110 : BitVec 32 := 0#32
  let v194 : BitVec 1 := Scalar.cmpi .ne v193 c0_i32_110
  let v198 : BitVec 1 := Scalar.andi v197 v194
  let v199 : BitVec 32 := Scalar.addi v193 v192
  let v200 : BitVec 32 := Scalar.select v198 v199 v193
  let v201 : Index := Scalar.indexCast v200
  let c0_113 : Index := 0#32
  let c0_114 : Index := 0#32
  ![v201.toNat, 0, 0]
def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x2048 : Shape := ⟨2, ![8192, 2048]⟩
abbrev S2048x2048 : Shape := ⟨2, ![2048, 2048]⟩
abbrev S8192x6144 : Shape := ⟨2, ![8192, 6144]⟩
abbrev S4x2048x2048 : Shape := ⟨3, ![4, 2048, 2048]⟩
abbrev S4x2048x6144 : Shape := ⟨3, ![4, 2048, 6144]⟩
abbrev S4x2048x4096 : Shape := ⟨3, ![4, 2048, 4096]⟩
abbrev S_ : Shape := ⟨0, ![]⟩
abbrev S4x2048x2x2048 : Shape := ⟨4, ![4, 2048, 2, 2048]⟩
abbrev S4x2048x1x2048 : Shape := ⟨4, ![4, 2048, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .hbm, ⟨3, _⟩ => ⟨S2048x2048, .bf16⟩
  | .hbm, ⟨4, _⟩ => ⟨S8192x6144, .f32⟩
  | .hbm, ⟨5, _⟩ => ⟨S4x2048x2048, .bf16⟩
  | .hbm, ⟨6, _⟩ => ⟨S4x2048x2048, .f32⟩
  | .hbm, ⟨7, _⟩ => ⟨S4x2048x2048, .bf16⟩
  | .hbm, ⟨8, _⟩ => ⟨S4x2048x2048, .f32⟩
  | .hbm, ⟨9, _⟩ => ⟨S2048x2048, .f32⟩
  | .hbm, ⟨10, _⟩ => ⟨S4x2048x2048, .f32⟩
  | .hbm, ⟨11, _⟩ => ⟨S2048x2048, .f32⟩
  | .hbm, ⟨12, _⟩ => ⟨S4x2048x2048, .f32⟩
  | .hbm, ⟨13, _⟩ => ⟨S4x2048x6144, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S_, .f32⟩
  | .hbm, ⟨18, _⟩ => ⟨S4x2048x4096, .f32⟩
  | .hbm, ⟨19, _⟩ => ⟨S4x2048x4096, .f32⟩
  | .hbm, ⟨20, _⟩ => ⟨S_, .f32⟩
  | .hbm, ⟨21, _⟩ => ⟨S4x2048x4096, .f32⟩
  | .hbm, ⟨22, _⟩ => ⟨S4x2048x4096, .f32⟩
  | .hbm, ⟨23, _⟩ => ⟨S4x2048x2x2048, .f32⟩
  | .hbm, ⟨24, _⟩ => ⟨S4x2048x1x2048, .f32⟩
  | .hbm, ⟨25, _⟩ => ⟨S4x2048x2048, .f32⟩
  | .hbm, ⟨26, _⟩ => ⟨S4x2048x2048, .f32⟩
  | .hbm, ⟨27, _⟩ => ⟨S4x2048x1x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S8192x2048, .f32⟩
  | .hbm, ⟨32, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.ConvBody.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Conv

open Cert.KernelIdeal Cert.KernelIdeal.Gen Idealize.ShloMosaic Idealize.ShloMosaic.TcCoe Idealize.SL.Sem

variable {F : FTy → Type} [FloatOps F]

/-- Row `k` of the convolution's three rows of weights, as a block of one row. -/
def tap (x : Vec F S3x256 .f32) (k : Fin 3) : Vec F S1x256 .f32 := fun j => x (ix2 k (j 1))

/-- Four row blocks of weights, rounded and laid one under the other. -/
def stacked (x4 x5 x6 x7 : Vec F S256x2048 .f32) : Vec F S1024x2048 .bf16 := fun y =>
  if h0 : (y 0).val < 256 then k0_pay5 x4 (ix2 (⟨(y 0).val, h0⟩ : Fin 256) (y 1))
  else if h1 : (y 0).val < 512 then k0_pay6 x5 (ix2 (⟨(y 0).val - 256, by omega⟩ : Fin 256) (y 1))
  else if h2 : (y 0).val < 768 then k0_pay7 x6 (ix2 (⟨(y 0).val - 512, by omega⟩ : Fin 256) (y 1))
  else k0_pay8 x7 (ix2 (⟨(y 0).val - 768, by have h3 : (y 0).val < 1024 := (y 0).isLt; omega⟩ : Fin 256) (y 1))

/-- What one grid point stores in its block of the result, from the block of activations, the rounded weights,
    the bias, the taps and the convolution's bias. -/
def mixed (x0 : Vec F S2048x2048 .bf16) (w : Vec F S1024x2048 .bf16) (x1 : Vec F S1x1024 .f32) (x2 : Vec F S3x256 .f32) (x3 : Vec F S1x256 .f32) :
    FVec F S2048x256 .bf16 :=
  k0_pay1 (k0_pay11 x0 w x1) (k0_pay12 x0 w x1) k0_pay9 (iota Kind.tc S2048x1 32 [0] iota_S2048x1_d0_w32)
    (k0_pay15 x0 w x1 k0_pay9 (tap x2 2) (tap x2 1)) (k0_pay16 x0 w x1) k0_pay17 (tap x2 0) x3

theorem ld_tap0 (x : Vec F S3x256 .f32) :
    (View.ld x (Rect.unit (s := S3x256) ![0, 0] ![1, 256] inb_S3x256_S1x256_0_0) : Vec F S1x256 .f32) = tap x 0 := by
  funext j
  pointwise [tap]

theorem ld_tap1 (x : Vec F S3x256 .f32) :
    (View.ld x (Rect.unit (s := S3x256) ![1, 0] ![1, 256] inb_S3x256_S1x256_1_0) : Vec F S1x256 .f32) = tap x 1 := by
  funext j
  pointwise [tap]

theorem ld_tap2 (x : Vec F S3x256 .f32) :
    (View.ld x (Rect.unit (s := S3x256) ![2, 0] ![1, 256] inb_S3x256_S1x256_2_0) : Vec F S1x256 .f32) = tap x 2 := by
  funext j
  pointwise [tap]

theorem canon_stacked (x4 x5 x6 x7 : Vec F S256x2048 .f32) :
    View.canon [(⟨Rect.unit ![768, 0] ![256, 2048] inb_S1024x2048_S256x2048_768_0, k0_pay8 x7⟩ : View.Piece (Elt F) S1024x2048 .bf16),
        ⟨Rect.unit ![512, 0] ![256, 2048] inb_S1024x2048_S256x2048_512_0, k0_pay7 x6⟩,
        ⟨Rect.unit ![256, 0] ![256, 2048] inb_S1024x2048_S256x2048_256_0, k0_pay6 x5⟩,
        ⟨Rect.unit ![0, 0] ![256, 2048] inb_S1024x2048_S256x2048_0_0, k0_pay5 x4⟩] = stacked x4 x5 x6 x7 := by
  funext y
  canon_tiles x h
  all_goals unfold stacked
  · rw [dif_neg (by omega), dif_neg (by omega), dif_neg (by omega)]
    exact congrArg (k0_pay8 x7) ((eq_ix2 x).trans ((ix2_inj ..).2 ⟨Fin.ext (by show (x 0).val = (y 0).val - 768; omega), Fin.ext (by show (x 1).val = (y 1).val; omega)⟩))
  · rw [dif_neg (by omega), dif_neg (by omega), dif_pos (by omega)]
    exact congrArg (k0_pay7 x6) ((eq_ix2 x).trans ((ix2_inj ..).2 ⟨Fin.ext (by show (x 0).val = (y 0).val - 512; omega), Fin.ext (by show (x 1).val = (y 1).val; omega)⟩))
  · rw [dif_neg (by omega), dif_pos (by omega)]
    exact congrArg (k0_pay6 x5) ((eq_ix2 x).trans ((ix2_inj ..).2 ⟨Fin.ext (by show (x 0).val = (y 0).val - 256; omega), Fin.ext (by show (x 1).val = (y 1).val; omega)⟩))
  · rw [dif_pos (by omega)]
    exact congrArg (k0_pay5 x4) ((eq_ix2 x).trans ((ix2_inj ..).2 ⟨Fin.ext (by show (x 0).val = (y 0).val; omega), Fin.ext (by show (x 1).val = (y 1).val; omega)⟩))

/-- A load of a whole buffer of 1024 rows, after stores whose pieces are `L`. -/
theorem readCov_rows {sp : Space} (v : View sig .tc sp S1024x2048 .bf16) (L : List (View.Piece (Elt F) S1024x2048 .bf16)) :
    v.readCov L (Rect.unit (s := S1024x2048) ![0, 0] ![1024, 2048] inb_S1024x2048_S1024x2048_0_0).toLoadRect = View.canon L := by
  rw [View.readCov_eq_canon']
  exact View.ld_unit_lit (Val := Elt F) inb_S1024x2048_S1024x2048_0_0 (View.canon L) (by decide)

variable (c : Dev nD) (i : grid0.Coords) (arg2 : Memref sig .tc .vmem S2048x2048 .bf16) (harg2 : arg2.IsWhole) (arg3 : Memref sig .tc .vmem S1x1024 .f32) (harg3 : arg3.IsWhole) (arg4 : Memref sig .tc .vmem S3x256 .f32) (harg4 : arg4.IsWhole) (arg5 : Memref sig .tc .vmem S1x256 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S256x2048 .f32) (harg9 : arg9.IsWhole) (arg10 : Memref sig .tc .vmem S1x64x2048 .f32) (harg10 : arg10.IsWhole) (arg11 : Memref sig .tc .vmem S1x64x2048 .f32) (harg11 : arg11.IsWhole) (arg12 : Memref sig .tc .vmem S1x64x2048 .f32) (harg12 : arg12.IsWhole) (arg13 : Memref sig .tc .vmem S2048x256 .bf16) (harg13 : arg13.IsWhole) (arg14 : Memref sig .tc .vmem S64x2048 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S1024x2048 .bf16) (harg17 : arg17.IsWhole) (arg18 : Memref sig .tc .vmem S8x256 .f32) (harg18 : arg18.IsWhole)
variable (x0 : Vec F S2048x2048 .bf16) (x1 : Vec F S1x1024 .f32) (x2 : Vec F S3x256 .f32) (x3 : Vec F S1x256 .f32) (x4 x5 x6 x7 : Vec F S256x2048 .f32) (x8 x9 x10 : Vec F S1x64x2048 .f32) (xs0 : Vec F S1024x2048 .bf16)

theorem out_A11 (hc0 : cond0_0 i) (hc1 : cond0_1 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = mixed x0 (stacked x4 x5 x6 x7) x1 x2 x3 := by
  frame_out
  rw [readCov_rows, canon_stacked, ld_tap0, ld_tap1, ld_tap2]
  rfl

theorem sout_A (hc0 : cond0_0 i) (hc1 : cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = stacked x4 x5 x6 x7 := by
  frame_out
  exact canon_stacked x4 x5 x6 x7

theorem out_B11 (hc0 : ¬cond0_0 i) (hc1 : cond0_1 i) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 = mixed x0 xs0 x1 x2 x3 := by
  frame_out
  rw [ld_tap0, ld_tap1, ld_tap2]
  rfl

theorem out_A12 (hc0 : cond0_0 i) (hc1 : cond0_1 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = k0_pay2 x8 := by
  frame_out

theorem out_A13 (hc0 : cond0_0 i) (hc1 : cond0_1 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = k0_pay3 x9 := by
  frame_out

theorem out_A14 (hc0 : cond0_0 i) (hc1 : cond0_1 i) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 = k0_pay4 x10 := by
  frame_out

theorem out_B12 (hc0 : ¬cond0_0 i) (hc1 : cond0_1 i) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 = k0_pay2 x8 := by
  frame_out

theorem out_B13 (hc0 : ¬cond0_0 i) (hc1 : cond0_1 i) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 = k0_pay3 x9 := by
  frame_out

theorem out_B14 (hc0 : ¬cond0_0 i) (hc1 : cond0_1 i) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 xs0 = k0_pay4 x10 := by
  frame_out

end Cert.KernelIdeal.Conv
-- ==== Proof.ConvReads.lean ====
module

public import proofs.«01_k».proof.Proof.ConvBody
public import Idealize.ShloMosaic.Lib.Claim

@[expose] public section

set_option maxRecDepth 16384

noncomputable section

namespace Cert.KernelIdeal.Conv

open Cert.KernelIdeal Cert.KernelIdeal.Gen Cert.KernelIdeal.Value Idealize.ShloMosaic Idealize.ShloMosaic.TcCoe Idealize.SL.Sem

variable {F : FTy → Type} [FloatOps F]
variable (m : (ℓ : Loc nD τ sig) → Buf (Elt F) ℓ)

theorem idx_all : ∀ t : Fin grid0.N, win0_0.index t = ![t.val % 4, 0] ∧ win0_1.index t = ![0, t.val / 4] ∧ win0_2.index t = ![0, t.val / 4]
    ∧ win0_3.index t = ![0, t.val / 4] ∧ win0_8.index t = ![0, t.val, 0] ∧ win0_9.index t = ![0, t.val, 0] ∧ win0_10.index t = ![0, t.val, 0] := by
  decide +kernel

theorem blk0 (c : Dev nD) (t : Fin grid0.N) (r k : Fin 2048) (hr : t.val % 4 * 2048 + r.val < 8192) :
    iblk m c 0 t (ix2 r k) = m ((c : Thread nD τ).loc main_arg0) (ix2 (⟨t.val % 4 * 2048 + r.val, hr⟩ : Fin 8192) k) := by
  blk_ext [iblk, V, idx_all t]

theorem read_bias (c : Dev nD) (p : Fin 8192) (hp : 7216 + p.val / 256 % 4 * 2048 + p.val / 1024 * 256 + p.val % 256 < 19504) :
    (V m c main_v8 : S1x8192.Idx → F .f32) (ix2 0 p) = (m ((c : Thread nD τ).loc main_arg2) : S1x19504.Idx → F .f32)
      (ix2 0 ⟨7216 + p.val / 256 % 4 * 2048 + p.val / 1024 * 256 + p.val % 256, hp⟩) := by
  entry_read
  pointwise
  blk_ext

theorem read_w (c : Dev nD) (p : Fin 19504) (k : Fin 2048) :
    (V m c main_v4 : S19504x2048.Idx → F .f32) (ix2 p k) = (m ((c : Thread nD τ).loc main_arg1) : S1x2048x19504.Idx → F .f32) (ix3 0 k p) := by
  entry_read
  pointwise

theorem read_taps (c : Dev nD) (p : Fin 3) (k : Fin 2048) :
    (V m c main_v1 : S3x2048.Idx → F .f32) (ix2 p k) = (m ((c : Thread nD τ).loc main_arg3) : S1x3x2048.Idx → F .f32) (ix3 0 p k) := by
  entry_read
  pointwise

theorem read_cbias (c : Dev nD) (k : Fin 2048) :
    (V m c main_v9 : S1x2048.Idx → F .f32) (ix2 0 k) = (m ((c : Thread nD τ).loc main_arg4) : S1x2048.Idx → F .f32) (ix2 0 k) := by
  entry_read
  pointwise

theorem blk1 (c : Dev nD) (t : Fin grid0.N) (q : Fin 4) (k : Fin 256) (hk : q.val * 256 + k.val < 1024) (hp : 7216 + q.val * 2048 + t.val / 4 * 256 + k.val < 19504) :
    iblk m c 1 t (ix2 0 (⟨q.val * 256 + k.val, hk⟩ : Fin 1024)) = (m ((c : Thread nD τ).loc main_arg2) : S1x19504.Idx → F .f32)
      (ix2 0 ⟨7216 + q.val * 2048 + t.val / 4 * 256 + k.val, hp⟩) := by
  have ht : t.val < 32 := lt_of_lt_of_eq t.isLt Gen.N_0
  refine (?_ : _ = (V m c main_v8 : S1x8192.Idx → F .f32) (ix2 0 (⟨t.val / 4 * 1024 + (q.val * 256 + k.val), by omega⟩ : Fin 8192))).trans ?_
  · blk_ext [iblk, idx_all t]
  · have e1 : (t.val / 4 * 1024 + (q.val * 256 + k.val)) / 256 % 4 = q.val := by omega
    have e2 : (t.val / 4 * 1024 + (q.val * 256 + k.val)) / 1024 = t.val / 4 := by omega
    have e3 : (t.val / 4 * 1024 + (q.val * 256 + k.val)) % 256 = k.val := by omega
    rw [read_bias m c _ (by show 7216 + (t.val / 4 * 1024 + (q.val * 256 + k.val)) / 256 % 4 * 2048 + (t.val / 4 * 1024 + (q.val * 256 + k.val)) / 1024 * 256 + (t.val / 4 * 1024 + (q.val * 256 + k.val)) % 256 < 19504; rw [e1, e2, e3]; exact hp)]
    refine congrArg _ ((ix2_inj ..).2 ⟨rfl, Fin.ext ?_⟩)
    show 7216 + (t.val / 4 * 1024 + (q.val * 256 + k.val)) / 256 % 4 * 2048 + (t.val / 4 * 1024 + (q.val * 256 + k.val)) / 1024 * 256 + (t.val / 4 * 1024 + (q.val * 256 + k.val)) % 256 = _
    rw [e1, e2, e3]

theorem blk2 (c : Dev nD) (t : Fin grid0.N) (p : Fin 3) (k : Fin 256) (hk : t.val / 4 * 256 + k.val < 2048) :
    iblk m c 2 t (ix2 p k) = (m ((c : Thread nD τ).loc main_arg3) : S1x3x2048.Idx → F .f32) (ix3 0 p ⟨t.val / 4 * 256 + k.val, hk⟩) := by
  refine Eq.trans ?_ (read_taps m c p ⟨t.val / 4 * 256 + k.val, hk⟩)
  blk_ext [iblk, idx_all t]

theorem blk3 (c : Dev nD) (t : Fin grid0.N) (k : Fin 256) (hk : t.val / 4 * 256 + k.val < 2048) :
    iblk m c 3 t (ix2 0 k) = (m ((c : Thread nD τ).loc main_arg4) : S1x2048.Idx → F .f32) (ix2 0 ⟨t.val / 4 * 256 + k.val, hk⟩) := by
  refine Eq.trans ?_ (read_cbias m c ⟨t.val / 4 * 256 + k.val, hk⟩)
  blk_ext [iblk, idx_all t]

theorem blk8 (c : Dev nD) (t : Fin grid0.N) (r : Fin 64) (k : Fin 2048) (hr : t.val * 64 + r.val < 2048) :
    iblk m c 8 t (ix3 0 r k) = m ((c : Thread nD τ).loc main_arg5) (ix3 0 (⟨t.val * 64 + r.val, hr⟩ : Fin 2048) k) := by
  blk_ext [iblk, V, idx_all t]

theorem blk9 (c : Dev nD) (t : Fin grid0.N) (r : Fin 64) (k : Fin 2048) (hr : t.val * 64 + r.val < 2048) :
    iblk m c 9 t (ix3 0 r k) = m ((c : Thread nD τ).loc main_arg6) (ix3 0 (⟨t.val * 64 + r.val, hr⟩ : Fin 2048) k) := by
  blk_ext [iblk, V, idx_all t]

theorem blk10 (c : Dev nD) (t : Fin grid0.N) (r : Fin 64) (k : Fin 2048) (hr : t.val * 64 + r.val < 2048) :
    iblk m c 10 t (ix3 0 r k) = m ((c : Thread nD τ).loc main_arg7) (ix3 0 (⟨t.val * 64 + r.val, hr⟩ : Fin 2048) k) := by
  blk_ext [iblk, V, idx_all t]

theorem idx4 : ∀ t : Fin grid0.N, win0_4.index t 0 = 7216 + t.val / 4 * 256 ∧ win0_4.index t 1 = 0 := by decide +kernel

theorem blk4 (c : Dev nD) (t : Fin grid0.N) (r : Fin 256) (k : Fin 2048) (hr : 7216 + t.val / 4 * 256 + r.val < 19504) :
    iblk m c 4 t (ix2 r k) = (m ((c : Thread nD τ).loc main_arg1) : S1x2048x19504.Idx → F .f32) (ix3 0 k ⟨7216 + t.val / 4 * 256 + r.val, hr⟩) := by
  refine Eq.trans ?_ (read_w m c ⟨7216 + t.val / 4 * 256 + r.val, hr⟩ k)
  show V m c main_v4 ((win0_4.blk t).view.emb (ix2 r k)) = _
  refine congrArg (V m c main_v4) (funext fun a => Fin.ext ?_)
  match a with
  | ⟨0, _⟩ =>
    show win0_4.index t 0 + 1 * r.val = 7216 + t.val / 4 * 256 + r.val
    rw [(idx4 t).1, Nat.one_mul]
  | ⟨1, _⟩ =>
    show win0_4.index t 1 + 1 * k.val = k.val
    rw [(idx4 t).2, Nat.one_mul, Nat.zero_add]

theorem idx5 : ∀ t : Fin grid0.N, win0_5.index t 0 = 9264 + t.val / 4 * 256 ∧ win0_5.index t 1 = 0 := by decide +kernel

theorem blk5 (c : Dev nD) (t : Fin grid0.N) (r : Fin 256) (k : Fin 2048) (hr : 9264 + t.val / 4 * 256 + r.val < 19504) :
    iblk m c 5 t (ix2 r k) = (m ((c : Thread nD τ).loc main_arg1) : S1x2048x19504.Idx → F .f32) (ix3 0 k ⟨9264 + t.val / 4 * 256 + r.val, hr⟩) := by
  refine Eq.trans ?_ (read_w m c ⟨9264 + t.val / 4 * 256 + r.val, hr⟩ k)
  show V m c main_v4 ((win0_5.blk t).view.emb (ix2 r k)) = _
  refine congrArg (V m c main_v4) (funext fun a => Fin.ext ?_)
  match a with
  | ⟨0, _⟩ =>
    show win0_5.index t 0 + 1 * r.val = 9264 + t.val / 4 * 256 + r.val
    rw [(idx5 t).1, Nat.one_mul]
  | ⟨1, _⟩ =>
    show win0_5.index t 1 + 1 * k.val = k.val
    rw [(idx5 t).2, Nat.one_mul, Nat.zero_add]

theorem idx6 : ∀ t : Fin grid0.N, win0_6.index t 0 = 11312 + t.val / 4 * 256 ∧ win0_6.index t 1 = 0 := by decide +kernel

theorem blk6 (c : Dev nD) (t : Fin grid0.N) (r : Fin 256) (k : Fin 2048) (hr : 11312 + t.val / 4 * 256 + r.val < 19504) :
    iblk m c 6 t (ix2 r k) = (m ((c : Thread nD τ).loc main_arg1) : S1x2048x19504.Idx → F .f32) (ix3 0 k ⟨11312 + t.val / 4 * 256 + r.val, hr⟩) := by
  refine Eq.trans ?_ (read_w m c ⟨11312 + t.val / 4 * 256 + r.val, hr⟩ k)
  show V m c main_v4 ((win0_6.blk t).view.emb (ix2 r k)) = _
  refine congrArg (V m c main_v4) (funext fun a => Fin.ext ?_)
  match a with
  | ⟨0, _⟩ =>
    show win0_6.index t 0 + 1 * r.val = 11312 + t.val / 4 * 256 + r.val
    rw [(idx6 t).1, Nat.one_mul]
  | ⟨1, _⟩ =>
    show win0_6.index t 1 + 1 * k.val = k.val
    rw [(idx6 t).2, Nat.one_mul, Nat.zero_add]

theorem idx7 : ∀ t : Fin grid0.N, win0_7.index t 0 = 13360 + t.val / 4 * 256 ∧ win0_7.index t 1 = 0 := by decide +kernel

theorem blk7 (c : Dev nD) (t : Fin grid0.N) (r : Fin 256) (k : Fin 2048) (hr : 13360 + t.val / 4 * 256 + r.val < 19504) :
    iblk m c 7 t (ix2 r k) = (m ((c : Thread nD τ).loc main_arg1) : S1x2048x19504.Idx → F .f32) (ix3 0 k ⟨13360 + t.val / 4 * 256 + r.val, hr⟩) := by
  refine Eq.trans ?_ (read_w m c ⟨13360 + t.val / 4 * 256 + r.val, hr⟩ k)
  show V m c main_v4 ((win0_7.blk t).view.emb (ix2 r k)) = _
  refine congrArg (V m c main_v4) (funext fun a => Fin.ext ?_)
  match a with
  | ⟨0, _⟩ =>
    show win0_7.index t 0 + 1 * r.val = 13360 + t.val / 4 * 256 + r.val
    rw [(idx7 t).1, Nat.one_mul]
  | ⟨1, _⟩ =>
    show win0_7.index t 1 + 1 * k.val = k.val
    rw [(idx7 t).2, Nat.one_mul, Nat.zero_add]

end Cert.KernelIdeal.Conv
-- ==== Proof.ConvSpec.lean ====
/-
  The short-convolution projection at one element, over the extended reals: what the kernel's value lemma and the
  reference's both come down to. `dot` is one entry of the input projection with its bias, `gated` the convolved
  signal (the product of two projections), `shifted` that signal some positions earlier in its sequence (zero before
  the sequence starts), and `entry` the mixer's result.
-/
module

public import Idealize.ShloMosaic.Lib.Pointwise

@[expose] public section

noncomputable section

namespace Cert.Conv

open Idealize.ShloMosaic

variable (a : FVec Ideal ⟨2, ![8192, 2048]⟩ .bf16) (w : FVec Ideal ⟨3, ![1, 2048, 19504]⟩ .f32) (b : FVec Ideal ⟨2, ![1, 19504]⟩ .f32)
variable (taps : FVec Ideal ⟨3, ![1, 3, 2048]⟩ .f32) (cb : FVec Ideal ⟨2, ![1, 2048]⟩ .f32)

/-- Entry `(row, col)` of the input projection. -/
def dot (row : Fin 8192) (col : Fin 19504) : EReal :=
  (∑ h : Fin 2048, a (ix2 row h) * w (ix3 0 h col)) + b (ix2 0 col)

/-- The signal the convolution runs over. -/
def gated (row : Fin 8192) (d : Fin 2048) : EReal :=
  dot a w b row ⟨9264 + d.val, by omega⟩ * dot a w b row ⟨7216 + d.val, by omega⟩

/-- The signal `k` positions earlier, zero before the sequence (of 2048 positions) starts. -/
def shifted (k : ℕ) (row : Fin 8192) (d : Fin 2048) : EReal :=
  if row.val % 2048 < k then 0 else gated a w b ⟨row.val - k, by omega⟩ d

/-- The mixer's result at a position and a channel. -/
def entry (row : Fin 8192) (d : Fin 2048) : EReal :=
  dot a w b row ⟨11312 + d.val, by omega⟩
      * (((taps (ix3 0 2 d) * gated a w b row d + taps (ix3 0 1 d) * shifted a w b 1 row d) + taps (ix3 0 0 d) * shifted a w b 2 row d)
          + cb (ix2 0 d))
    * (dot a w b row ⟨13360 + d.val, by omega⟩
        * Ideal.div 1 (1 + Ideal.exp (-dot a w b row ⟨13360 + d.val, by omega⟩)))

end Cert.Conv
-- ==== Proof.ConvPure.lean ====
module

public import proofs.«01_k».proof.Proof.ConvReads
public import proofs.«01_k».proof.Proof.ConvSpec

@[expose] public section

set_option maxRecDepth 16384

noncomputable section

namespace Cert.KernelIdeal.Conv

open Cert.KernelIdeal Cert.KernelIdeal.Gen Cert.KernelIdeal.Value Idealize.ShloMosaic Idealize.ShloMosaic.TcCoe Idealize.SL.Sem

variable (x0 : Vec Ideal S2048x2048 .bf16) (w : Vec Ideal S1024x2048 .bf16) (x1 : Vec Ideal S1x1024 .f32)

/-- One entry of the block of the input projection a grid point computes. -/
def pj (r : Fin 2048) (n : Fin 1024) : EReal := (∑ h : Fin 2048, x0 (ix2 r h) * w (ix2 n h)) + x1 (ix2 0 n)

theorem pay10_apply (r : Fin 2048) (n : Fin 1024) : k0_pay10 (F := Ideal) x0 w x1 (ix2 r n) = pj x0 w x1 r n := by
  pointwise [k0_pay10, pj]

theorem pay11_apply (r : Fin 2048) (k : Fin 256) : k0_pay11 (F := Ideal) x0 w x1 (ix2 r k) = pj x0 w x1 r ⟨512 + k.val, by omega⟩ := by
  pointwise [k0_pay11, pay10_apply]

theorem pay12_apply (r : Fin 2048) (k : Fin 256) : k0_pay12 (F := Ideal) x0 w x1 (ix2 r k) = pj x0 w x1 r ⟨768 + k.val, by omega⟩ := by
  pointwise [k0_pay12, pay10_apply]

/-- The gated signal of a grid point's block. -/
def gt (r : Fin 2048) (k : Fin 256) : EReal := pj x0 w x1 r ⟨256 + k.val, by omega⟩ * pj x0 w x1 r ⟨k.val, by omega⟩

theorem pay13_apply (r : Fin 2048) (k : Fin 256) : k0_pay13 (F := Ideal) x0 w x1 (ix2 r k) = gt x0 w x1 r k := by
  pointwise [k0_pay13, pay10_apply, gt]

theorem pay16_apply (r : Fin 2048) (k : Fin 256) : k0_pay16 (F := Ideal) x0 w x1 (ix2 r k) = gt x0 w x1 ⟨(r.val + 2048 - 2) % 2048, Nat.mod_lt _ (by norm_num)⟩ k := by
  pointwise [k0_pay16, pay13_apply]

theorem pay9_apply (r : Fin 8) (k : Fin 256) : k0_pay9 (F := Ideal) (ix2 r k) = 0 := by
  pointwise [k0_pay9]

/-- The gated signal of the block `d` rows up, zero above its first row. -/
def sh (d : ℕ) (r : Fin 2048) (k : Fin 256) : EReal :=
  if r.val < d then 0 else gt x0 w x1 ⟨r.val - d, by omega⟩ k

/-- A selection on "the row is number `n`". -/
theorem sel_row (r n : ℕ) (hr : r < 2048) (hn : n < 2048) (p q : EReal) :
    Scalar.select (IntOp.cmpi CmpIPredicate.eq (BitVec.ofNat 32 r) (BitVec.ofNat 32 n)) p q = if r = n then p else q := by
  have h : (BitVec.ofNat 32 r = BitVec.ofNat 32 n) ↔ r = n := by
    constructor
    · intro h
      have h' := congrArg BitVec.toNat h
      simp only [BitVec.toNat_ofNat] at h'
      omega
    · rintro rfl; rfl
  by_cases e : r = n
  · subst e
    simp [Scalar.select, IntOp.cmpi]
  · have h' : ¬ BitVec.ofNat 32 r = BitVec.ofNat 32 n := fun x => e (h.1 x)
    have h2 : (BitVec.ofNat 32 r == BitVec.ofNat 32 n) = false := beq_eq_false_iff_ne.2 h'
    simp [Scalar.select, IntOp.cmpi, e, h2]

theorem pay15_apply (u v : Vec Ideal S1x256 .f32) (r : Fin 2048) (k : Fin 256) :
    k0_pay15 (F := Ideal) x0 w x1 (k0_pay9 (F := Ideal)) u v (ix2 r k) = u (ix2 0 k) * gt x0 w x1 r k + v (ix2 0 k) * sh x0 w x1 1 r k := by
  pointwise [k0_pay15, pay13_apply, pay9_apply]
  rw [sel_row r.val 0 r.isLt (by norm_num)]
  unfold sh
  by_cases h : r.val = 0
  · rw [if_pos h, if_pos (by omega), mul_zero]
  · rw [if_neg h, if_neg (by omega)]
    have e : (⟨(r.val + 2048 - 1) % 2048, Nat.mod_lt _ (by norm_num)⟩ : Fin 2048) = ⟨r.val - 1, by omega⟩ := Fin.ext (by show (r.val + 2048 - 1) % 2048 = r.val - 1; omega)
    rw [e]

/-- What a grid point stores, at one element. -/
theorem mixed_apply (x2 : Vec Ideal S3x256 .f32) (x3 : Vec Ideal S1x256 .f32) (r : Fin 2048) (k : Fin 256) :
    mixed (F := Ideal) x0 w x1 x2 x3 (ix2 r k)
      = pj x0 w x1 r ⟨512 + k.val, by omega⟩
          * (((x2 (ix2 2 k) * gt x0 w x1 r k + x2 (ix2 1 k) * sh x0 w x1 1 r k) + x2 (ix2 0 k) * sh x0 w x1 2 r k) + x3 (ix2 0 k))
        * (pj x0 w x1 r ⟨768 + k.val, by omega⟩ * Ideal.div 1 (1 + Ideal.exp (-pj x0 w x1 r ⟨768 + k.val, by omega⟩))) := by
  unfold mixed
  pointwise [k0_pay1, k0_pay17, pay9_apply, pay11_apply, pay12_apply, pay15_apply, pay16_apply, tap]
  rw [sel_row r.val 0 r.isLt (by norm_num), sel_row r.val 1 r.isLt (by norm_num)]
  have e0 : ∀ z : EReal, (0 : EReal) - z = -z := fun z => by rw [sub_eq_add_neg, zero_add]
  rw [e0]
  have e2 : (if r.val = 1 then (0 : EReal) else if r.val = 0 then 0 else x2 (ix2 0 k) * gt x0 w x1 ⟨(r.val + 2048 - 2) % 2048, Nat.mod_lt _ (by norm_num)⟩ k)
      = x2 (ix2 0 k) * sh x0 w x1 2 r k := by
    unfold sh
    by_cases h : r.val < 2
    · rw [if_pos h, mul_zero]
      by_cases h1 : r.val = 1
      · rw [if_pos h1]
      · rw [if_neg h1, if_pos (by omega)]
    · rw [if_neg h, if_neg (by omega), if_neg (by omega)]
      have e : (⟨(r.val + 2048 - 2) % 2048, Nat.mod_lt _ (by norm_num)⟩ : Fin 2048) = ⟨r.val - 2, by omega⟩ := Fin.ext (by show (r.val + 2048 - 2) % 2048 = r.val - 2; omega)
      rw [e]
  rw [e2]

end Cert.KernelIdeal.Conv
-- ==== Proof.ConvOuts.lean ====
module

public import proofs.«01_k».proof.Proof.ConvPure
public import Idealize.ShloMosaic.Lib.Claim

@[expose] public section

set_option maxRecDepth 16384

noncomputable section

namespace Cert.KernelIdeal.Conv

open Cert.KernelIdeal Cert.KernelIdeal.Gen Cert.KernelIdeal.Value Idealize.ShloMosaic Idealize.ShloMosaic.TcCoe Idealize.SL.Sem

variable {F : FTy → Type} [FloatOps F]
variable (m : (ℓ : Loc nD τ sig) → Buf (Elt F) ℓ)

theorem same4 (c : Dev nD) (t t' : Fin grid0.N) (h : t.val / 4 = t'.val / 4) : iblk m c 4 t = iblk m c 4 t' := by
  have ht : t.val < 32 := lt_of_lt_of_eq t.isLt Gen.N_0
  have ht' : t'.val < 32 := lt_of_lt_of_eq t'.isLt Gen.N_0
  refine funext fun (y : S256x2048.Idx) => ?_
  obtain ⟨r, k, rfl⟩ : ∃ (r : Fin 256) (k : Fin 2048), y = ix2 r k := ⟨y 0, y 1, eq_ix2 y⟩
  rw [blk4 m c t r k (by omega), blk4 m c t' r k (by omega)]
  exact congrArg _ ((ix3_inj ..).2 ⟨rfl, rfl, Fin.ext (by show 7216 + t.val / 4 * 256 + r.val = 7216 + t'.val / 4 * 256 + r.val; rw [h])⟩)

theorem same5 (c : Dev nD) (t t' : Fin grid0.N) (h : t.val / 4 = t'.val / 4) : iblk m c 5 t = iblk m c 5 t' := by
  have ht : t.val < 32 := lt_of_lt_of_eq t.isLt Gen.N_0
  have ht' : t'.val < 32 := lt_of_lt_of_eq t'.isLt Gen.N_0
  refine funext fun (y : S256x2048.Idx) => ?_
  obtain ⟨r, k, rfl⟩ : ∃ (r : Fin 256) (k : Fin 2048), y = ix2 r k := ⟨y 0, y 1, eq_ix2 y⟩
  rw [blk5 m c t r k (by omega), blk5 m c t' r k (by omega)]
  exact congrArg _ ((ix3_inj ..).2 ⟨rfl, rfl, Fin.ext (by show 9264 + t.val / 4 * 256 + r.val = 9264 + t'.val / 4 * 256 + r.val; rw [h])⟩)

theorem same6 (c : Dev nD) (t t' : Fin grid0.N) (h : t.val / 4 = t'.val / 4) : iblk m c 6 t = iblk m c 6 t' := by
  have ht : t.val < 32 := lt_of_lt_of_eq t.isLt Gen.N_0
  have ht' : t'.val < 32 := lt_of_lt_of_eq t'.isLt Gen.N_0
  refine funext fun (y : S256x2048.Idx) => ?_
  obtain ⟨r, k, rfl⟩ : ∃ (r : Fin 256) (k : Fin 2048), y = ix2 r k := ⟨y 0, y 1, eq_ix2 y⟩
  rw [blk6 m c t r k (by omega), blk6 m c t' r k (by omega)]
  exact congrArg _ ((ix3_inj ..).2 ⟨rfl, rfl, Fin.ext (by show 11312 + t.val / 4 * 256 + r.val = 11312 + t'.val / 4 * 256 + r.val; rw [h])⟩)

theorem same7 (c : Dev nD) (t t' : Fin grid0.N) (h : t.val / 4 = t'.val / 4) : iblk m c 7 t = iblk m c 7 t' := by
  have ht : t.val < 32 := lt_of_lt_of_eq t.isLt Gen.N_0
  have ht' : t'.val < 32 := lt_of_lt_of_eq t'.isLt Gen.N_0
  refine funext fun (y : S256x2048.Idx) => ?_
  obtain ⟨r, k, rfl⟩ : ∃ (r : Fin 256) (k : Fin 2048), y = ix2 r k := ⟨y 0, y 1, eq_ix2 y⟩
  rw [blk7 m c t r k (by omega), blk7 m c t' r k (by omega)]
  exact congrArg _ ((ix3_inj ..).2 ⟨rfl, rfl, Fin.ext (by show 13360 + t.val / 4 * 256 + r.val = 13360 + t'.val / 4 * 256 + r.val; rw [h])⟩)

/-- The rounded weights of a point: the four row blocks at its column of the grid. -/
def wts (c : Dev nD) (t : Fin cfg0.N) : Vec F S1024x2048 .bf16 := stacked (iblk m c 4 t) (iblk m c 5 t) (iblk m c 6 t) (iblk m c 7 t)

/-- After every point the carried scratch holds the rounded weights of that point's column of the grid. -/
theorem scratch_eq (c : Dev nD) : ∀ (n : ℕ) (hn : n < cfg0.N), (outsAt0 m c n hn).2.2.2.2 = wts m c ⟨n, hn⟩ := by
  intro n
  induction n with
  | zero =>
    intro hn
    rw [outsAt0_A m c ⟨0, hn⟩ rfl]
    dsimp only
    rw [sout_A]
    rfl
  | succ n ih =>
    intro hn
    by_cases h : (n + 1) % 4 = 0
    · rw [outsAt0_A m c ⟨n + 1, hn⟩ h]
      dsimp only
      rw [sout_A]
      rfl
    · rw [outsAt0_B m c ⟨n + 1, hn⟩ h]
      dsimp only
      unfold sout0_B_0
      refine (ih (Nat.lt_of_succ_lt hn)).trans ?_
      have e : (⟨n, Nat.lt_of_succ_lt hn⟩ : Fin cfg0.N).val / 4 = (⟨n + 1, hn⟩ : Fin cfg0.N).val / 4 := by
        show n / 4 = (n + 1) / 4
        omega
      unfold wts
      rw [same4 m c _ _ e, same5 m c _ _ e, same6 m c _ _ e, same7 m c _ _ e]

theorem outs_1 (c : Dev nD) (t : Fin cfg0.N) :
    (outsAt0 m c t.val t.isLt).1 = mixed (iblk m c 0 t) (wts m c t) (iblk m c 1 t) (iblk m c 2 t) (iblk m c 3 t) := by
  by_cases h : t.val % 4 = 0
  · rw [outsAt0_A m c t h]
    dsimp only
    rw [out_A11]
    rfl
  · rw [outsAt0_B m c t h]
    dsimp only
    have ht : 1 ≤ t.val := by omega
    have e : ∀ hh, (⟨t.val - 1, hh⟩ : Fin cfg0.N).val / 4 = t.val / 4 := fun _ => by
      show (t.val - 1) / 4 = t.val / 4
      omega
    rw [out_B11, scratch_eq]
    unfold wts
    rw [same4 m c _ _ (e _), same5 m c _ _ (e _), same6 m c _ _ (e _), same7 m c _ _ (e _)]

theorem outs_12 (c : Dev nD) (t : Fin cfg0.N) : (outsAt0 m c t.val t.isLt).2.1 = k0_pay2 (iblk m c 8 t) := by
  by_cases h : t.val % 4 = 0
  · rw [outsAt0_A m c t h]
    dsimp only
    rw [out_A12]
  · rw [outsAt0_B m c t h]
    dsimp only
    rw [out_B12]

theorem outs_13 (c : Dev nD) (t : Fin cfg0.N) : (outsAt0 m c t.val t.isLt).2.2.1 = k0_pay3 (iblk m c 9 t) := by
  by_cases h : t.val % 4 = 0
  · rw [outsAt0_A m c t h]
    dsimp only
    rw [out_A13]
  · rw [outsAt0_B m c t h]
    dsimp only
    rw [out_B13]

theorem outs_14 (c : Dev nD) (t : Fin cfg0.N) : (outsAt0 m c t.val t.isLt).2.2.2.1 = k0_pay4 (iblk m c 10 t) := by
  by_cases h : t.val % 4 = 0
  · rw [outsAt0_A m c t h]
    dsimp only
    rw [out_A14]
  · rw [outsAt0_B m c t h]
    dsimp only
    rw [out_B14]

end Cert.KernelIdeal.Conv
-- ==== Proof.ConvArr.lean ====
module

public import proofs.«01_k».proof.Proof.ConvOuts
public import Idealize.ShloMosaic.Lib.Claim

@[expose] public section

set_option maxRecDepth 16384

noncomputable section

namespace Cert.KernelIdeal.Conv

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The arguments the projection reads. -/
abbrev aA (c : Dev nD) : FVec Ideal S8192x2048 .bf16 := m ((c : Thread nD τ).loc main_arg0)
abbrev wA (c : Dev nD) : FVec Ideal S1x2048x19504 .f32 := m ((c : Thread nD τ).loc main_arg1)
abbrev bA (c : Dev nD) : FVec Ideal S1x19504 .f32 := m ((c : Thread nD τ).loc main_arg2)
abbrev tA (c : Dev nD) : FVec Ideal S1x3x2048 .f32 := m ((c : Thread nD τ).loc main_arg3)
abbrev cA (c : Dev nD) : FVec Ideal S1x2048 .f32 := m ((c : Thread nD τ).loc main_arg4)

theorem wts_row0 (c : Dev nD) (t : Fin grid0.N) (k : Fin 256) (h : Fin 2048) (hr : 7216 + t.val / 4 * 256 + k.val < 19504) :
    wts m c t (ix2 (⟨0 + k.val, by omega⟩ : Fin 1024) h) = wA m c (ix3 0 h ⟨7216 + t.val / 4 * 256 + k.val, hr⟩) := by
  refine Eq.trans ?_ (blk4 m c t k h hr)
  unfold wts stacked
  rw [dif_pos (by show 0 + k.val < 256; omega)]
  pointwise [k0_pay5]

theorem pj_0 (c : Dev nD) (t : Fin grid0.N) (r : Fin 2048) (k : Fin 256) (hrow : t.val % 4 * 2048 + r.val < 8192)
    (hr : 7216 + t.val / 4 * 256 + k.val < 19504) :
    pj (iblk m c 0 t) (wts m c t) (iblk m c 1 t) r ⟨0 + k.val, by omega⟩
      = Cert.Conv.dot (aA m c) (wA m c) (bA m c) ⟨t.val % 4 * 2048 + r.val, hrow⟩ ⟨7216 + t.val / 4 * 256 + k.val, hr⟩ := by
  unfold pj Cert.Conv.dot
  refine Ideal.add_congr (Finset.sum_congr rfl fun h _ => Ideal.mul_congr (blk0 m c t r h hrow) (wts_row0 m c t k h hr)) ?_
  exact blk1 m c t 0 k (by show 0 * 256 + k.val < 1024; omega) (by show 7216 + 0 * 2048 + t.val / 4 * 256 + k.val < 19504; omega)

theorem wts_row1 (c : Dev nD) (t : Fin grid0.N) (k : Fin 256) (h : Fin 2048) (hr : 9264 + t.val / 4 * 256 + k.val < 19504) :
    wts m c t (ix2 (⟨256 + k.val, by omega⟩ : Fin 1024) h) = wA m c (ix3 0 h ⟨9264 + t.val / 4 * 256 + k.val, hr⟩) := by
  refine Eq.trans ?_ (blk5 m c t k h hr)
  unfold wts stacked
  rw [dif_neg (by show ¬256 + k.val < 256; omega), dif_pos (by show 256 + k.val < 512; omega)]
  pointwise [k0_pay6]

theorem pj_1 (c : Dev nD) (t : Fin grid0.N) (r : Fin 2048) (k : Fin 256) (hrow : t.val % 4 * 2048 + r.val < 8192)
    (hr : 9264 + t.val / 4 * 256 + k.val < 19504) :
    pj (iblk m c 0 t) (wts m c t) (iblk m c 1 t) r ⟨256 + k.val, by omega⟩
      = Cert.Conv.dot (aA m c) (wA m c) (bA m c) ⟨t.val % 4 * 2048 + r.val, hrow⟩ ⟨9264 + t.val / 4 * 256 + k.val, hr⟩ := by
  unfold pj Cert.Conv.dot
  refine Ideal.add_congr (Finset.sum_congr rfl fun h _ => Ideal.mul_congr (blk0 m c t r h hrow) (wts_row1 m c t k h hr)) ?_
  exact blk1 m c t 1 k (by show 1 * 256 + k.val < 1024; omega) (by show 7216 + 1 * 2048 + t.val / 4 * 256 + k.val < 19504; omega)

theorem wts_row2 (c : Dev nD) (t : Fin grid0.N) (k : Fin 256) (h : Fin 2048) (hr : 11312 + t.val / 4 * 256 + k.val < 19504) :
    wts m c t (ix2 (⟨512 + k.val, by omega⟩ : Fin 1024) h) = wA m c (ix3 0 h ⟨11312 + t.val / 4 * 256 + k.val, hr⟩) := by
  refine Eq.trans ?_ (blk6 m c t k h hr)
  unfold wts stacked
  rw [dif_neg (by show ¬512 + k.val < 256; omega), dif_neg (by show ¬512 + k.val < 512; omega), dif_pos (by show 512 + k.val < 768; omega)]
  pointwise [k0_pay7]

theorem pj_2 (c : Dev nD) (t : Fin grid0.N) (r : Fin 2048) (k : Fin 256) (hrow : t.val % 4 * 2048 + r.val < 8192)
    (hr : 11312 + t.val / 4 * 256 + k.val < 19504) :
    pj (iblk m c 0 t) (wts m c t) (iblk m c 1 t) r ⟨512 + k.val, by omega⟩
      = Cert.Conv.dot (aA m c) (wA m c) (bA m c) ⟨t.val % 4 * 2048 + r.val, hrow⟩ ⟨11312 + t.val / 4 * 256 + k.val, hr⟩ := by
  unfold pj Cert.Conv.dot
  refine Ideal.add_congr (Finset.sum_congr rfl fun h _ => Ideal.mul_congr (blk0 m c t r h hrow) (wts_row2 m c t k h hr)) ?_
  exact blk1 m c t 2 k (by show 2 * 256 + k.val < 1024; omega) (by show 7216 + 2 * 2048 + t.val / 4 * 256 + k.val < 19504; omega)

theorem wts_row3 (c : Dev nD) (t : Fin grid0.N) (k : Fin 256) (h : Fin 2048) (hr : 13360 + t.val / 4 * 256 + k.val < 19504) :
    wts m c t (ix2 (⟨768 + k.val, by omega⟩ : Fin 1024) h) = wA m c (ix3 0 h ⟨13360 + t.val / 4 * 256 + k.val, hr⟩) := by
  refine Eq.trans ?_ (blk7 m c t k h hr)
  unfold wts stacked
  rw [dif_neg (by show ¬768 + k.val < 256; omega), dif_neg (by show ¬768 + k.val < 512; omega), dif_neg (by show ¬768 + k.val < 768; omega)]
  pointwise [k0_pay8]

theorem pj_3 (c : Dev nD) (t : Fin grid0.N) (r : Fin 2048) (k : Fin 256) (hrow : t.val % 4 * 2048 + r.val < 8192)
    (hr : 13360 + t.val / 4 * 256 + k.val < 19504) :
    pj (iblk m c 0 t) (wts m c t) (iblk m c 1 t) r ⟨768 + k.val, by omega⟩
      = Cert.Conv.dot (aA m c) (wA m c) (bA m c) ⟨t.val % 4 * 2048 + r.val, hrow⟩ ⟨13360 + t.val / 4 * 256 + k.val, hr⟩ := by
  unfold pj Cert.Conv.dot
  refine Ideal.add_congr (Finset.sum_congr rfl fun h _ => Ideal.mul_congr (blk0 m c t r h hrow) (wts_row3 m c t k h hr)) ?_
  exact blk1 m c t 3 k (by show 3 * 256 + k.val < 1024; omega) (by show 7216 + 3 * 2048 + t.val / 4 * 256 + k.val < 19504; omega)

theorem gt_eq (c : Dev nD) (t : Fin grid0.N) (r : Fin 2048) (k : Fin 256) (hrow : t.val % 4 * 2048 + r.val < 8192) (hd : t.val / 4 * 256 + k.val < 2048) :
    gt (iblk m c 0 t) (wts m c t) (iblk m c 1 t) r k
      = Cert.Conv.gated (aA m c) (wA m c) (bA m c) ⟨t.val % 4 * 2048 + r.val, hrow⟩ ⟨t.val / 4 * 256 + k.val, hd⟩ := by
  unfold gt Cert.Conv.gated
  refine Ideal.mul_congr ?_ ?_
  · refine (pj_1 m c t r k hrow (by omega)).trans (congrArg _ (Fin.ext ?_))
    show 9264 + t.val / 4 * 256 + k.val = 9264 + (t.val / 4 * 256 + k.val)
    omega
  · refine Eq.trans (congrArg _ (Fin.ext ?_)) ((pj_0 m c t r k hrow (by omega)).trans (congrArg _ (Fin.ext ?_)))
    · show k.val = 0 + k.val
      omega
    · show 7216 + t.val / 4 * 256 + k.val = 7216 + (t.val / 4 * 256 + k.val)
      omega

theorem sh_eq (c : Dev nD) (t : Fin grid0.N) (j : ℕ) (r : Fin 2048) (k : Fin 256) (hrow : t.val % 4 * 2048 + r.val < 8192) (hd : t.val / 4 * 256 + k.val < 2048) :
    sh (iblk m c 0 t) (wts m c t) (iblk m c 1 t) j r k
      = Cert.Conv.shifted (aA m c) (wA m c) (bA m c) j ⟨t.val % 4 * 2048 + r.val, hrow⟩ ⟨t.val / 4 * 256 + k.val, hd⟩ := by
  unfold sh Cert.Conv.shifted
  have e : (t.val % 4 * 2048 + r.val) % 2048 = r.val := by omega
  by_cases h : r.val < j
  · rw [if_pos h, if_pos (by show (t.val % 4 * 2048 + r.val) % 2048 < j; rw [e]; exact h)]
  · rw [if_neg h, if_neg (by show ¬(t.val % 4 * 2048 + r.val) % 2048 < j; rw [e]; exact h)]
    refine (gt_eq m c t ⟨r.val - j, by omega⟩ k (by show t.val % 4 * 2048 + (r.val - j) < 8192; omega) hd).trans (congrArg (fun p => Cert.Conv.gated _ _ _ p _) (Fin.ext ?_))
    show t.val % 4 * 2048 + (r.val - j) = t.val % 4 * 2048 + r.val - j
    omega

/-- What grid point `t` stores at row `r` and column `k` of its block is the mixer's entry there. -/
theorem point_eq (c : Dev nD) (t : Fin grid0.N) (r : Fin 2048) (k : Fin 256) (hrow : t.val % 4 * 2048 + r.val < 8192) (hd : t.val / 4 * 256 + k.val < 2048) :
    (outsAt0 m c t.val t.isLt).1 (ix2 r k)
      = Cert.Conv.entry (aA m c) (wA m c) (bA m c) (tA m c) (cA m c) ⟨t.val % 4 * 2048 + r.val, hrow⟩ ⟨t.val / 4 * 256 + k.val, hd⟩ := by
  rw [outs_1]
  refine (mixed_apply (iblk m c 0 t) (wts m c t) (iblk m c 1 t) (iblk m c 2 t) (iblk m c 3 t) r k).trans ?_
  have e2 := pj_2 m c t r k hrow (by omega)
  have e3 := pj_3 m c t r k hrow (by omega)
  have e2' : (⟨11312 + t.val / 4 * 256 + k.val, by omega⟩ : Fin 19504) = ⟨11312 + (t.val / 4 * 256 + k.val), by omega⟩ := Fin.ext (by show 11312 + t.val / 4 * 256 + k.val = 11312 + (t.val / 4 * 256 + k.val); omega)
  have e3' : (⟨13360 + t.val / 4 * 256 + k.val, by omega⟩ : Fin 19504) = ⟨13360 + (t.val / 4 * 256 + k.val), by omega⟩ := Fin.ext (by show 13360 + t.val / 4 * 256 + k.val = 13360 + (t.val / 4 * 256 + k.val); omega)
  rw [e2, e3, e2', e3', gt_eq m c t r k hrow hd, sh_eq m c t 1 r k hrow hd, sh_eq m c t 2 r k hrow hd,
    blk2 m c t 0 k hd, blk2 m c t 1 k hd, blk2 m c t 2 k hd, blk3 m c t k hd]
  rfl

/-- The kernel's convolved result at an element. -/
theorem G11_apply (c : Dev nD) (n : Fin 4) (s d : Fin 2048) :
    (G11 m c : S8192x2048.Idx → EReal) (ix2 ⟨n.val * 2048 + s.val, by omega⟩ d)
      = Cert.Conv.entry (aA m c) (wA m c) (bA m c) (tA m c) (cA m c) ⟨n.val * 2048 + s.val, by omega⟩ d := by
  unfold G11
  have hv : pt11Of (ix2 (⟨n.val * 2048 + s.val, by omega⟩ : Fin 8192) d : S8192x2048.Idx) = n.val + 4 * (d.val / 256) := by
    show 1 * ((n.val * 2048 + s.val) / 2048 - 0) + 4 * (d.val / 256 - 0) = n.val + 4 * (d.val / 256)
    omega
  have hlt : pt11Of (ix2 (⟨n.val * 2048 + s.val, by omega⟩ : Fin 8192) d : S8192x2048.Idx) < cfg0.N := by
    rw [hv]
    show _ < grid0.N
    rw [Gen.N_0]
    omega
  rw [dif_pos hlt]
  have hp : ∀ (p : ℕ) (hp : p < cfg0.N) (l : S2048x256.Idx) (_ : p = n.val + 4 * (d.val / 256))
      (_ : l = ix2 s (⟨d.val % 256, Nat.mod_lt _ (by decide)⟩ : Fin 256)),
      (Pipeline.accAt (fun n h => stAt0 m c n h junk0) (stAt0 m c) 0 p (by omega)).1 l
        = Cert.Conv.entry (aA m c) (wA m c) (bA m c) (tA m c) (cA m c) ⟨n.val * 2048 + s.val, by omega⟩ d := by
    intro p hp l ep el
    rw [← outsAt0_sweep m c p hp, el]
    refine (point_eq m c ⟨p, hp⟩ s ⟨d.val % 256, Nat.mod_lt _ (by decide)⟩ (by show p % 4 * 2048 + s.val < 8192; omega)
      (by show p / 4 * 256 + d.val % 256 < 2048; omega)).trans (congrArg₂ (Cert.Conv.entry _ _ _ _ _) (Fin.ext ?_) (Fin.ext ?_))
    · show p % 4 * 2048 + s.val = n.val * 2048 + s.val
      have : p % 4 = n.val := by omega
      rw [this]
    · show p / 4 * 256 + d.val % 256 = d.val
      have : p / 4 = d.val / 256 := by omega
      rw [this]
      omega
  refine hp _ hlt _ hv (funext fun a => ?_)
  match a with
  | ⟨0, _⟩ => exact Fin.ext (by show (n.val * 2048 + s.val) % 2048 = s.val; omega)
  | ⟨1, _⟩ => rfl

/-- The kernel's narrowed copy of argument 5 at an element. -/
theorem G12_apply (c : Dev nD) (r k : Fin 2048) :
    (G12 m c : S2048x2048.Idx → EReal) (ix2 r k) = (m ((c : Thread nD τ).loc main_arg5) : S1x2048x2048.Idx → EReal) (ix3 0 r k) := by
  unfold G12
  have hv : pt12Of (ix2 r k : S2048x2048.Idx) = r.val / 64 := by
    show 1 * (r.val / 64 - 0) + 1 * (k.val / 2048 - 0) = r.val / 64
    omega
  have hlt : pt12Of (ix2 r k : S2048x2048.Idx) < cfg0.N := by
    rw [hv]
    show _ < grid0.N
    rw [Gen.N_0]
    omega
  rw [dif_pos hlt]
  have hp : ∀ (p : ℕ) (hp : p < cfg0.N) (l : S64x2048.Idx) (_ : p = r.val / 64)
      (_ : l = ix2 (⟨r.val % 64, Nat.mod_lt _ (by decide)⟩ : Fin 64) k),
      (Pipeline.accAt (fun n h => stAt0 m c n h junk0) (stAt0 m c) 0 p (by omega)).2.1 l
        = (m ((c : Thread nD τ).loc main_arg5) : S1x2048x2048.Idx → EReal) (ix3 0 r k) := by
    intro p hp l ep el
    rw [← outsAt0_sweep m c p hp, el]
    refine (congrFun (outs_12 m c ⟨p, hp⟩) _).trans ?_
    have hr : p * 64 + r.val % 64 < 2048 := by omega
    have e := blk8 m c ⟨p, hp⟩ ⟨r.val % 64, Nat.mod_lt _ (by decide)⟩ k hr
    have er : (⟨p * 64 + r.val % 64, hr⟩ : Fin 2048) = r := Fin.ext (by show p * 64 + r.val % 64 = r.val; omega)
    refine Eq.trans ?_ (e.trans (congrArg (fun q => (m ((c : Thread nD τ).loc main_arg5) : S1x2048x2048.Idx → EReal) (ix3 0 q k)) er))
    pointwise [k0_pay2]
  refine hp _ hlt _ hv (funext fun a => ?_)
  match a with
  | ⟨0, _⟩ => rfl
  | ⟨1, _⟩ => exact Fin.ext (by show k.val % 2048 = k.val; omega)

/-- The kernel's narrowed copy of argument 6 at an element. -/
theorem G13_apply (c : Dev nD) (r k : Fin 2048) :
    (G13 m c : S2048x2048.Idx → EReal) (ix2 r k) = (m ((c : Thread nD τ).loc main_arg6) : S1x2048x2048.Idx → EReal) (ix3 0 r k) := by
  unfold G13
  have hv : pt13Of (ix2 r k : S2048x2048.Idx) = r.val / 64 := by
    show 1 * (r.val / 64 - 0) + 1 * (k.val / 2048 - 0) = r.val / 64
    omega
  have hlt : pt13Of (ix2 r k : S2048x2048.Idx) < cfg0.N := by
    rw [hv]
    show _ < grid0.N
    rw [Gen.N_0]
    omega
  rw [dif_pos hlt]
  have hp : ∀ (p : ℕ) (hp : p < cfg0.N) (l : S64x2048.Idx) (_ : p = r.val / 64)
      (_ : l = ix2 (⟨r.val % 64, Nat.mod_lt _ (by decide)⟩ : Fin 64) k),
      (Pipeline.accAt (fun n h => stAt0 m c n h junk0) (stAt0 m c) 0 p (by omega)).2.2.1 l
        = (m ((c : Thread nD τ).loc main_arg6) : S1x2048x2048.Idx → EReal) (ix3 0 r k) := by
    intro p hp l ep el
    rw [← outsAt0_sweep m c p hp, el]
    refine (congrFun (outs_13 m c ⟨p, hp⟩) _).trans ?_
    have hr : p * 64 + r.val % 64 < 2048 := by omega
    have e := blk9 m c ⟨p, hp⟩ ⟨r.val % 64, Nat.mod_lt _ (by decide)⟩ k hr
    have er : (⟨p * 64 + r.val % 64, hr⟩ : Fin 2048) = r := Fin.ext (by show p * 64 + r.val % 64 = r.val; omega)
    refine Eq.trans ?_ (e.trans (congrArg (fun q => (m ((c : Thread nD τ).loc main_arg6) : S1x2048x2048.Idx → EReal) (ix3 0 q k)) er))
    pointwise [k0_pay3]
  refine hp _ hlt _ hv (funext fun a => ?_)
  match a with
  | ⟨0, _⟩ => rfl
  | ⟨1, _⟩ => exact Fin.ext (by show k.val % 2048 = k.val; omega)

/-- The kernel's narrowed copy of argument 7 at an element. -/
theorem G14_apply (c : Dev nD) (r k : Fin 2048) :
    (G14 m c : S2048x2048.Idx → EReal) (ix2 r k) = (m ((c : Thread nD τ).loc main_arg7) : S1x2048x2048.Idx → EReal) (ix3 0 r k) := by
  unfold G14
  have hv : pt14Of (ix2 r k : S2048x2048.Idx) = r.val / 64 := by
    show 1 * (r.val / 64 - 0) + 1 * (k.val / 2048 - 0) = r.val / 64
    omega
  have hlt : pt14Of (ix2 r k : S2048x2048.Idx) < cfg0.N := by
    rw [hv]
    show _ < grid0.N
    rw [Gen.N_0]
    omega
  rw [dif_pos hlt]
  have hp : ∀ (p : ℕ) (hp : p < cfg0.N) (l : S64x2048.Idx) (_ : p = r.val / 64)
      (_ : l = ix2 (⟨r.val % 64, Nat.mod_lt _ (by decide)⟩ : Fin 64) k),
      (Pipeline.accAt (fun n h => stAt0 m c n h junk0) (stAt0 m c) 0 p (by omega)).2.2.2.1 l
        = (m ((c : Thread nD τ).loc main_arg7) : S1x2048x2048.Idx → EReal) (ix3 0 r k) := by
    intro p hp l ep el
    rw [← outsAt0_sweep m c p hp, el]
    refine (congrFun (outs_14 m c ⟨p, hp⟩) _).trans ?_
    have hr : p * 64 + r.val % 64 < 2048 := by omega
    have e := blk10 m c ⟨p, hp⟩ ⟨r.val % 64, Nat.mod_lt _ (by decide)⟩ k hr
    have er : (⟨p * 64 + r.val % 64, hr⟩ : Fin 2048) = r := Fin.ext (by show p * 64 + r.val % 64 = r.val; omega)
    refine Eq.trans ?_ (e.trans (congrArg (fun q => (m ((c : Thread nD τ).loc main_arg7) : S1x2048x2048.Idx → EReal) (ix3 0 q k)) er))
    pointwise [k0_pay4]
  refine hp _ hlt _ hv (funext fun a => ?_)
  match a with
  | ⟨0, _⟩ => rfl
  | ⟨1, _⟩ => exact Fin.ext (by show k.val % 2048 = k.val; omega)

end Cert.KernelIdeal.Conv
-- ==== Proof.ConvRef.lean ====
/-
  The reference's convolved block at one element: `Conv.entry` of its arguments.
-/
module

public import proofs.«01_k».proof.Proof.Gen.ReferenceIdeal.Run
public import proofs.«01_k».proof.Proof.ConvSpec

@[expose] public section

set_option maxRecDepth 16384

noncomputable section

namespace Cert.ReferenceIdeal.Conv

open Cert.ReferenceIdeal Cert.ReferenceIdeal.Gen Idealize.ShloMosaic Idealize.ShloMosaic.TcCoe Idealize.SL.Sem

variable (a : FVec Ideal S8192x2048 .bf16) (w : FVec Ideal S1x2048x19504 .f32) (b : FVec Ideal S1x19504 .f32)
variable (taps : FVec Ideal S1x3x2048 .f32) (cb : FVec Ideal S1x2048 .f32)

/-- The input projection with its bias. -/
def proj : FVec Ideal S4x2048x19504 .f32 :=
  addf (Host.dotGeneral dot_S4x2048x2048_S2048x19504_S4x2048x19504_2_0_01_1_n_n none (extf .f32 (shapeCast S4x2048x2048 a shapeCasts_S8192x2048_S4x2048x2048) bitsLt_bf16_f32) (shapeCast S2048x19504 w shapeCasts_S1x2048x19504_S2048x19504)) (broadcastInDim S4x2048x19504 ![0, 1, 2] bcast_S1x1x19504_S4x2048x19504_0_1_2 (broadcastInDim S1x1x19504 ![2] bcast_S19504_S1x1x19504_2 (shapeCast S19504 b shapeCasts_S1x19504_S19504)))

/-- The gated signal with two positions of zeros before each sequence. -/
def padded : FVec Ideal S4x2050x2048 .f32 :=
  pad S4x2050x2048 ![0, 2, 0] ![0, 0, 0] ![0, 0, 0] (mulf (extractStridedSlice S4x2048x2048 ![0, 0, 9264] (proj a w b) slices_S4x2048x19504_S4x2048x2048_0_0_9264) (extractStridedSlice S4x2048x2048 ![0, 0, 7216] (proj a w b) slices_S4x2048x19504_S4x2048x2048_0_0_7216)) (sitofp .f32 (constantI S_ 32 0#32)) pads_S4x2048x2048_S4x2050x2048_000_200_000 h_S_

/-- The part of the projection that gates the result. -/
def gateIn : FVec Ideal S4x2048x2048 .f32 :=
  extractStridedSlice S4x2048x2048 ![0, 0, 13360] (proj a w b) slices_S4x2048x19504_S4x2048x2048_0_0_13360

/-- The mixer's result. -/
def result : FVec Ideal S8192x2048 .bf16 :=
  truncf .bf16 (shapeCast S8192x2048 (mulf (mulf (extractStridedSlice S4x2048x2048 ![0, 0, 11312] (proj a w b) slices_S4x2048x19504_S4x2048x2048_0_0_11312) (addf (addf (addf (addf (broadcastInDim S4x2048x2048 ![] bcast_S_S4x2048x2048 (constant S_ .f32 0x00000000#32)) (mulf (broadcastInDim S4x2048x2048 ![0, 1, 2] bcast_S1x1x2048_S4x2048x2048_0_1_2 (broadcastInDim S1x1x2048 ![2] bcast_S2048_S1x1x2048_2 (shapeCast S2048 (extractStridedSlice S1x1x2048 ![0, 0, 0] taps slices_S1x3x2048_S1x1x2048_0_0_0) shapeCasts_S1x1x2048_S2048))) (extractStridedSlice S4x2048x2048 ![0, 0, 0] (padded a w b) slices_S4x2050x2048_S4x2048x2048_0_0_0))) (mulf (broadcastInDim S4x2048x2048 ![0, 1, 2] bcast_S1x1x2048_S4x2048x2048_0_1_2 (broadcastInDim S1x1x2048 ![2] bcast_S2048_S1x1x2048_2 (shapeCast S2048 (extractStridedSlice S1x1x2048 ![0, 1, 0] taps slices_S1x3x2048_S1x1x2048_0_1_0) shapeCasts_S1x1x2048_S2048))) (extractStridedSlice S4x2048x2048 ![0, 1, 0] (padded a w b) slices_S4x2050x2048_S4x2048x2048_0_1_0))) (mulf (broadcastInDim S4x2048x2048 ![0, 1, 2] bcast_S1x1x2048_S4x2048x2048_0_1_2 (broadcastInDim S1x1x2048 ![2] bcast_S2048_S1x1x2048_2 (shapeCast S2048 (extractStridedSlice S1x1x2048 ![0, 2, 0] taps slices_S1x3x2048_S1x1x2048_0_2_0) shapeCasts_S1x1x2048_S2048))) (extractStridedSlice S4x2048x2048 ![0, 2, 0] (padded a w b) slices_S4x2050x2048_S4x2048x2048_0_2_0))) (broadcastInDim S4x2048x2048 ![0, 1, 2] bcast_S1x1x2048_S4x2048x2048_0_1_2 (broadcastInDim S1x1x2048 ![2] bcast_S2048_S1x1x2048_2 (shapeCast S2048 cb shapeCasts_S1x2048_S2048))))) (mulf (gateIn a w b) (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (gateIn a w b))))))) shapeCasts_S4x2048x2048_S8192x2048) bitsLt_bf16_f32

theorem res_eq (m : (ℓ : Loc nD τ sig) → Buf (Elt Ideal) ℓ) (c : Dev nD) :
    Cert.ReferenceIdeal.Value.res_main_v54 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem proj_apply (n : Fin 4) (s : Fin 2048) (col : Fin 19504) :
    proj a w b (ix3 n s col) = Cert.Conv.dot a w b ⟨n.val * 2048 + s.val, by omega⟩ col := by
  pointwise [proj, Cert.Conv.dot]

theorem padded_apply (n : Fin 4) (s : Fin 2050) (d : Fin 2048) :
    padded a w b (ix3 n s d) = if h : s.val < 2 then 0 else Cert.Conv.gated a w b ⟨n.val * 2048 + (s.val - 2), by omega⟩ d := by
  pointwise [padded, proj_apply, Cert.Conv.gated]
  by_cases h : s.val < 2
  · rw [dif_pos h, dif_neg (by omega)]
    pointwise
    show (((0#32 : BitVec 32).toInt : ℝ) : EReal) = 0
    simp
  · rw [dif_neg h, dif_pos (by omega)]

theorem result_apply (n : Fin 4) (s d : Fin 2048) :
    result a w b taps cb (ix2 ⟨n.val * 2048 + s.val, by omega⟩ d) = Cert.Conv.entry a w b taps cb ⟨n.val * 2048 + s.val, by omega⟩ d := by
  have e1 : Cert.Conv.shifted a w b 1 ⟨n.val * 2048 + s.val, by omega⟩ d
      = if h : 1 + s.val < 2 then 0 else Cert.Conv.gated a w b ⟨n.val * 2048 + (1 + s.val - 2), by omega⟩ d := by
    unfold Cert.Conv.shifted
    by_cases h : 1 + s.val < 2
    · rw [dif_pos h, if_pos (by show (n.val * 2048 + s.val) % 2048 < 1; omega)]
    · rw [dif_neg h, if_neg (by show ¬(n.val * 2048 + s.val) % 2048 < 1; omega)]
      refine congrArg (fun r => Cert.Conv.gated a w b r d) (Fin.ext ?_)
      show n.val * 2048 + s.val - 1 = n.val * 2048 + (1 + s.val - 2)
      omega
  have e2 : Cert.Conv.shifted a w b 2 ⟨n.val * 2048 + s.val, by omega⟩ d
      = if h : s.val < 2 then 0 else Cert.Conv.gated a w b ⟨n.val * 2048 + (s.val - 2), by omega⟩ d := by
    unfold Cert.Conv.shifted
    by_cases h : s.val < 2
    · rw [dif_pos h, if_pos (by show (n.val * 2048 + s.val) % 2048 < 2; omega)]
    · rw [dif_neg h, if_neg (by show ¬(n.val * 2048 + s.val) % 2048 < 2; omega)]
      refine congrArg (fun r => Cert.Conv.gated a w b r d) (Fin.ext ?_)
      show n.val * 2048 + s.val - 2 = n.val * 2048 + (s.val - 2)
      omega
  unfold Cert.Conv.entry
  rw [e1, e2]
  pointwise [result, gateIn, proj_apply, padded_apply]
  have e : ∀ x y z : EReal, x + y + z = z + y + x := fun x y z => by rw [add_comm x y, add_comm, add_assoc, add_comm y x, ← add_assoc, add_assoc, add_comm x y, ← add_assoc]
  rw [e (taps (ix3 0 0 d) * _)]

end Cert.ReferenceIdeal.Conv
-- ==== Proof.ConvClaim.lean ====
/-
  The short-convolution projection: kernel and reference end with the same four arrays.
-/
module

public import proofs.«01_k».proof.Defs
public import proofs.«01_k».proof.Proof.Gen.Kernel
public import proofs.«01_k».proof.Proof.Gen.ReferenceIdeal
public import proofs.«01_k».proof.Proof.ConvArr
public import proofs.«01_k».proof.Proof.ConvRef
public import Idealize.ShloMosaic.Lib.Claim

@[expose] public section

set_option maxRecDepth 16384

noncomputable section

namespace Cert.Conv

open Idealize.ShloMosaic Idealize.ShloMosaic.TcCoe Idealize.SL.Sem

section
open Cert.KernelIdeal Cert.KernelIdeal.Gen

variable (m : (ℓ : Loc Cert.KernelIdeal.nD Cert.KernelIdeal.τ Cert.KernelIdeal.sig) → Buf (Elt Ideal) ℓ)

theorem result_eq (c : Dev Cert.KernelIdeal.nD) :
    Cert.ReferenceIdeal.Conv.result (m ((c.tc : Thread Cert.KernelIdeal.nD Cert.KernelIdeal.τ).loc main_arg0)) (m ((c.tc : Thread Cert.KernelIdeal.nD Cert.KernelIdeal.τ).loc main_arg1)) (m ((c.tc : Thread Cert.KernelIdeal.nD Cert.KernelIdeal.τ).loc main_arg2))
      (m ((c.tc : Thread Cert.KernelIdeal.nD Cert.KernelIdeal.τ).loc main_arg3)) (m ((c.tc : Thread Cert.KernelIdeal.nD Cert.KernelIdeal.τ).loc main_arg4)) = Cert.KernelIdeal.Value.G11 m c := by
  refine funext fun (i : Cert.KernelIdeal.S8192x2048.Idx) => ?_
  obtain ⟨p, d, rfl⟩ : ∃ (p : Fin 8192) (d : Fin 2048), i = ix2 p d := ⟨i 0, i 1, (ix2_eta i).symm⟩
  have hp : p = (⟨(⟨p.val / 2048, by omega⟩ : Fin 4).val * 2048 + (⟨p.val % 2048, Nat.mod_lt _ (by decide)⟩ : Fin 2048).val, by show p.val / 2048 * 2048 + p.val % 2048 < 8192; omega⟩ : Fin 8192) :=
    Fin.ext (by show p.val = p.val / 2048 * 2048 + p.val % 2048; omega)
  rw [hp]
  exact (Cert.ReferenceIdeal.Conv.result_apply _ _ _ _ _ _ _ _).trans (Cert.KernelIdeal.Conv.G11_apply m c _ _ _).symm
end

/-- A weight stored narrowed by the kernel is the reference's narrowing of its matrix. -/
theorem narrowed_eq (x : FVec Ideal Cert.ReferenceIdeal.S1x2048x2048 .f32) (G : FVec Ideal Cert.ReferenceIdeal.S2048x2048 .bf16)
    (h : ∀ r k : Fin 2048, G (ix2 r k) = x (ix3 0 r k)) :
    truncf .bf16 (shapeCast Cert.ReferenceIdeal.S2048x2048 x Cert.ReferenceIdeal.Gen.shapeCasts_S1x2048x2048_S2048x2048) Cert.ReferenceIdeal.Gen.bitsLt_bf16_f32 = G := by
  refine funext fun (i : Cert.ReferenceIdeal.S2048x2048.Idx) => ?_
  obtain ⟨p, d, rfl⟩ : ∃ p d : Fin 2048, i = ix2 p d := ⟨i 0, i 1, (ix2_eta i).symm⟩
  rw [h]
  pointwise []

theorem algebraic : Cert.algebraic_KernelIdeal_ReferenceIdeal := by
  pair_intro
  · run_from Cert.KernelIdeal.Value.run m g
  · run_from Cert.ReferenceIdeal.Value.run m' g'
    · obtain ⟨h0, h1, h2, h3, h4, _⟩ := hagree c
      rw [Cert.ReferenceIdeal.Conv.res_eq, h0, h1, h2, h3, h4]
      exact result_eq m c
    · exact narrowed_eq _ _ fun r k => Cert.KernelIdeal.Conv.G12_apply m c r k
    · exact narrowed_eq _ _ fun r k => Cert.KernelIdeal.Conv.G13_apply m c r k
    · exact narrowed_eq _ _ fun r k => Cert.KernelIdeal.Conv.G14_apply m c r k

theorem frame_reference : Cert.quiescent_ReferenceIdeal := fun m g _ =>
  θ_run_mono (Cert.ReferenceIdeal.Value.run m g) fun r h => ⟨fun c => (h c).2.2.2.2, sem_eq_zero_of_no_sems (by decide) r.2⟩

end Cert.Conv

end
-- ==== Proof.OutClaim.lean ====
/-
  The output projection with the final norm: both programs end with `Cert.Out.entry` of their arguments at each element.
-/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import Idealize.ShloMosaic.Lib.Claim
public import Idealize.ShloMosaic.Lib.Pipeline.ValueKit
public import Idealize.ShloMosaic.Lib.Pointwise

@[expose] public section

set_option maxRecDepth 16384

noncomputable section

namespace Cert.Out
open Idealize.ShloMosaic

/-- The root mean square norm of a row `f`, scaled by `g`, at position `k`. -/
def norm (f g : Fin 2048 → EReal) (k : Fin 2048) : EReal :=
  f k * Ideal.rsqrt (Ideal.div (∑ j, f j * f j) (Ideal.ofBits .f32 0x45000000#32) + Ideal.ofBits .f32 0x358637BD#32) * g k

/-- Row `s` of sequence `n` of the residual sum. -/
def row (y : (⟨2, ![8192, 2048]⟩ : Shape).Idx → EReal) (w : (⟨2, ![2048, 2048]⟩ : Shape).Idx → EReal) (x : (⟨3, ![4, 2048, 2048]⟩ : Shape).Idx → EReal)
    (n : Fin 4) (s k : Fin 2048) : EReal :=
  x (ix3 n s k) + ∑ h : Fin 2048, y (ix2 ⟨n.val * 2048 + s.val, by omega⟩ h) * w (ix2 h k)

end Cert.Out

namespace Cert.Kernel2Ideal.Out
open Cert.Kernel2Ideal Cert.Kernel2Ideal.Gen Idealize.ShloMosaic Idealize.ShloMosaic.TcCoe Idealize.SL.Sem
variable (m : (ℓ : Loc nD τ sig) → Buf (Elt Ideal) ℓ)

theorem pay_apply (x : Vec Ideal S512x2048 .f32) (y : Vec Ideal S512x2048 .bf16) (w : Vec Ideal S2048x2048 .bf16) (g : Vec Ideal S1x2048 .f32) (r : Fin 512) (k : Fin 2048) :
    k0_pay1 x y w g (ix2 r k) = Cert.Out.norm (fun j => x (ix2 r j) + ∑ h : Fin 2048, y (ix2 r h) * w (ix2 h j)) (fun j => g (ix2 0 j)) k := by
  pointwise [k0_pay1, Cert.Out.norm]

theorem out_4  (x0 : Vec Ideal S512x2048 .bf16) (x1 : Vec Ideal S2048x2048 .bf16) (x2 : Vec Ideal S512x2048 .f32) (x3 : Vec Ideal S1x2048 .f32) :
  out0_4 x0 x1 x2 x3 = k0_pay1 x2 x0 x1 x3 := by
  frame_out
theorem idx_all : ∀ t : Fin grid0.N, win0_0.index t = ![t.val, 0] ∧ win0_1.index t = ![0, 0] ∧ win0_2.index t = ![t.val, 0]
    ∧ win0_3.index t = ![0, 0] ∧ win0_4.index t = ![t.val, 0] := by
  decide +kernel
theorem blk0 (c : Dev nD) (t : Fin grid0.N) (r : Fin 512) (k : Fin 2048) (hr : t.val * 512 + r.val < 8192) :
    iblk m c 0 t (ix2 r k) = m ((c : Thread nD τ).loc main_arg0) (ix2 (⟨t.val * 512 + r.val, hr⟩ : Fin 8192) k) := by
  blk_ext [iblk, V, idx_all t]
theorem blk1 (c : Dev nD) (t : Fin grid0.N) (r : Fin 2048) (k : Fin 2048) :
    iblk m c 1 t (ix2 r k) = m ((c : Thread nD τ).loc main_arg1) (ix2 r k) := by
  blk_ext [iblk, V, idx_all t]
theorem read_x (c : Dev nD) (n : Fin 4) (s k : Fin 2048) :
    (V m c main_v0 : S8192x2048.Idx → EReal) (ix2 ⟨n.val * 2048 + s.val, by omega⟩ k) = (m ((c : Thread nD τ).loc main_arg2) : S4x2048x2048.Idx → EReal) (ix3 n s k) := by
  entry_read
  pointwise
theorem read_g (c : Dev nD) (k : Fin 2048) :
    (V m c main_v1 : S1x2048.Idx → EReal) (ix2 0 k) = (m ((c : Thread nD τ).loc main_arg3) : S2048.Idx → EReal) (ix1 k) := by
  entry_read
  pointwise
theorem blk2 (c : Dev nD) (t : Fin grid0.N) (r : Fin 512) (k : Fin 2048) (hr : t.val * 512 + r.val < 8192) :
    iblk m c 2 t (ix2 r k) = (V m c main_v0 : S8192x2048.Idx → EReal) (ix2 (⟨t.val * 512 + r.val, hr⟩ : Fin 8192) k) := by
  blk_ext [iblk, idx_all t]

theorem blk3 (c : Dev nD) (t : Fin grid0.N) (k : Fin 2048) :
    iblk m c 3 t (ix2 0 k) = (V m c main_v1 : S1x2048.Idx → EReal) (ix2 0 k) := by
  blk_ext [iblk, idx_all t]

/-- The element the block of point `t` holds at row `r`. -/
theorem emb_eq (t : Fin cfg0.N) (r : Fin 512) (k : Fin 2048) (hr : t.val * 512 + r.val < 8192) :
    ((cfg0.win 4).blk t).view.emb (ix2 r k) = (ix2 (⟨t.val * 512 + r.val, hr⟩ : Fin 8192) k : S8192x2048.Idx) := by
  refine funext fun a => ?_
  match a with
  | ⟨0, _⟩ =>
    refine Fin.ext ?_
    have e := congrFun (idx_all t).2.2.2.2 0
    show win0_4.index t 0 * 512 + 1 * r.val = _
    rw [e]
    show t.val * 512 + 1 * r.val = t.val * 512 + r.val
    omega
  | ⟨1, _⟩ =>
    refine Fin.ext ?_
    have e := congrFun (idx_all t).2.2.2.2 1
    show win0_4.index t 1 * 2048 + 1 * k.val = _
    rw [e]
    show 0 * 2048 + 1 * k.val = k.val
    omega

theorem final_apply (c : Dev nD) (n : Fin 4) (s k : Fin 2048) :
    ((Gen.dats m 0 c).arrAt 4 cfg0.N : S8192x2048.Idx → EReal) (ix2 ⟨n.val * 2048 + s.val, by omega⟩ k)
      = Cert.Out.norm (Cert.Out.row (m ((c : Thread nD τ).loc main_arg0)) (m ((c : Thread nD τ).loc main_arg1)) (m ((c : Thread nD τ).loc main_arg2)) n s)
          (fun j => (m ((c : Thread nD τ).loc main_arg3) : S2048.Idx → EReal) (ix1 j)) k := by
  have hlt : (n.val * 2048 + s.val) / 512 < cfg0.N := by
    show _ < grid0.N
    rw [Gen.N_0]
    omega
  obtain ⟨t, ht⟩ : ∃ t : Fin cfg0.N, t.val = (n.val * 2048 + s.val) / 512 := ⟨⟨_, hlt⟩, rfl⟩
  obtain ⟨r, hr⟩ : ∃ r : Fin 512, r.val = (n.val * 2048 + s.val) % 512 := ⟨⟨_, Nat.mod_lt _ (by decide)⟩, rfl⟩
  have hp : t.val * 512 + r.val < 8192 := by omega
  have ep : (⟨t.val * 512 + r.val, hp⟩ : Fin 8192) = ⟨n.val * 2048 + s.val, by omega⟩ := Fin.ext (by show t.val * 512 + r.val = n.val * 2048 + s.val; omega)
  have e := congrFun (Value.blocks4 m c t (flush0_4 t)) (ix2 r k)
  rw [Value.flushed4, out_4] at e
  have e' : ((Gen.dats m 0 c).arrAt 4 cfg0.N : S8192x2048.Idx → EReal) (((cfg0.win 4).blk t).view.emb (ix2 r k)) = _ := e
  rw [emb_eq t r k hp, ep] at e'
  refine e'.trans ((pay_apply _ _ _ _ r k).trans ?_)
  refine congrArg₂ (Cert.Out.norm · · k) (funext fun j => ?_) (funext fun j => (blk3 m c t j).trans (read_g m c j))
  unfold Cert.Out.row
  refine Ideal.add_congr ((blk2 m c t r j hp).trans ?_) (Finset.sum_congr rfl fun h _ => Ideal.mul_congr ((blk0 m c t r h hp).trans ?_) (blk1 m c t h j))
  · rw [ep]
    exact read_x m c n s j
  · rw [ep]

end Cert.Kernel2Ideal.Out

namespace Cert.Reference2Ideal.Out
open Cert.Reference2Ideal Cert.Reference2Ideal.Gen Idealize.ShloMosaic Idealize.ShloMosaic.TcCoe Idealize.SL.Sem
variable (y : FVec Ideal S8192x2048 .bf16) (w : FVec Ideal S2048x2048 .bf16) (x : FVec Ideal S4x2048x2048 .f32) (g : FVec Ideal S2048 .f32)
def summed : FVec Ideal S4x2048x2048 .f32 :=
  addf x (Host.dotGeneral dot_S4x2048x2048_S2048x2048_S4x2048x2048_2_0_01_1_n_n none (extf .f32 (shapeCast _ y shapeCasts_S8192x2048_S4x2048x2048) bitsLt_bf16_f32) (extf .f32 w bitsLt_bf16_f32))
def result : FVec Ideal S8192x2048 .f32 :=
  shapeCast _ (mulf (mulf (summed y w x) (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf (summed y w x) (summed y w x)) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))) shapeCasts_S4x2048x2048_S8192x2048
theorem summed_apply (n : Fin 4) (s k : Fin 2048) :
   summed y w x (ix3 n s k) = x (ix3 n s k) + ∑ h : Fin 2048, y (ix2 ⟨n.val * 2048 + s.val, by omega⟩ h) * w (ix2 h k) := by
  pointwise [summed]
theorem result_apply (n : Fin 4) (s k : Fin 2048) :
  result y w x g (ix2 ⟨n.val * 2048 + s.val, by omega⟩ k) = Cert.Out.norm (Cert.Out.row y w x n s) (fun j => g (ix1 j)) k := by
  have e : Cert.Out.row y w x n s = fun j => summed y w x (ix3 n s j) := funext fun j => (summed_apply y w x n s j).symm
  rw [e]
  pointwise [result, Cert.Out.norm]

end Cert.Reference2Ideal.Out

namespace Cert.Out
open Idealize.ShloMosaic Idealize.ShloMosaic.TcCoe Idealize.SL.Sem

theorem algebraic : Cert.algebraic_Kernel2Ideal_Reference2Ideal := by
  pair_intro
  · run_from Cert.Kernel2Ideal.Value.run_blocks m g
  · run_from Cert.Reference2Ideal.Value.run m' g'
    refine funext fun (i : Cert.Kernel2Ideal.S8192x2048.Idx) => ?_
    obtain ⟨p, d, rfl⟩ : ∃ (p : Fin 8192) (d : Fin 2048), i = ix2 p d := ⟨i 0, i 1, (ix2_eta i).symm⟩
    have hp : p = (⟨(⟨p.val / 2048, by omega⟩ : Fin 4).val * 2048 + (⟨p.val % 2048, Nat.mod_lt _ (by decide)⟩ : Fin 2048).val, by show p.val / 2048 * 2048 + p.val % 2048 < 8192; omega⟩ : Fin 8192) :=
      Fin.ext (by show p.val = p.val / 2048 * 2048 + p.val % 2048; omega)
    rw [hp]
    exact (Cert.Reference2Ideal.Out.result_apply _ _ _ _ _ _ _).trans (Cert.Kernel2Ideal.Out.final_apply m c _ _ _).symm

theorem frame_reference : Cert.quiescent_Reference2Ideal := fun m g _ =>
  θ_run_mono (Cert.Reference2Ideal.Value.run m g) fun r h => ⟨fun c => (h c).2, sem_eq_zero_of_no_sems (by decide) r.2⟩

end Cert.Out

end
-- ==== Proof.NormBody.lean ====
/-
  One grid point of the norm and projection kernel: what it leaves in its blocks and in the carried weights.
-/
module

public import proofs.«01_k».proof.Proof.Gen.Kernel3Ideal.Value
public import proofs.«01_k».proof.Proof.OutClaim
public import Idealize.ShloMosaic.Lib.Pipeline.ValueKit
public import Idealize.ShloMosaic.Lib.Pointwise

@[expose] public section

set_option maxRecDepth 16384

noncomputable section

namespace Cert.Kernel3Ideal.Norm

open Cert.Kernel3Ideal Cert.Kernel3Ideal.Gen Idealize.ShloMosaic Idealize.ShloMosaic.TcCoe Idealize.SL.Sem

variable (x0 : Vec Ideal S1024x2048 .f32) (x1 : Vec Ideal S1x2048 .f32) (x2 : Vec Ideal S1x1152 .f32) (x3 : Vec Ideal S1024x2048 .f32) (x4 : Vec Ideal S128x2048 .f32) (xs0 : Vec Ideal S1152x2048 .bf16)

/-- The rows of the two weight blocks, one under the other. -/
def under : Vec Ideal S1152x2048 .bf16 := fun y =>
  if h : (y 0).val < 1024 then x3 (ix2 (⟨(y 0).val, h⟩ : Fin 1024) (y 1))
  else x4 (ix2 (⟨(y 0).val - 1024, by have h3 : (y 0).val < 1152 := (y 0).isLt; omega⟩ : Fin 128) (y 1))

/-- The normed row `r` of the block of activations at column `k`. -/
def hn (r : Fin 1024) (k : Fin 2048) : EReal := Cert.Out.norm (fun j => x0 (ix2 r j)) (fun j => x1 (ix2 0 j)) k

/-- The projected row `r` of the block at column `n` of the weights. -/
def pj (w : Vec Ideal S1152x2048 .bf16) (r : Fin 1024) (n : Fin 1152) : EReal := (∑ h : Fin 2048, hn x0 x1 r h * w (ix2 n h)) + x2 (ix2 0 n)

/-- The three blocks a grid point stores. -/
def hnB : Vec Ideal S1024x2048 .bf16 := fun y => hn x0 x1 (y 0) (y 1)
def kvB (w : Vec Ideal S1152x2048 .bf16) : Vec Ideal S1024x1024 .f32 := fun y => pj x0 x1 x2 w (y 0) ⟨0 + (y 1).val, by have h : (y 1).val < 1024 := (y 1).isLt; omega⟩
def gtB (w : Vec Ideal S1152x2048 .bf16) : Vec Ideal S1024x128 .f32 := fun y =>
  Ideal.div 1 (1 + Ideal.exp (-pj x0 x1 x2 w (y 0) ⟨1024 + (y 1).val, by have h : (y 1).val < 128 := (y 1).isLt; omega⟩))

theorem pay4_apply (v : Vec Ideal S256x2048 .f32) (g : Vec Ideal S1x2048 .f32) (r : Fin 256) (k : Fin 2048) :
    k0_pay4 (F := Ideal) v g (ix2 r k) = Cert.Out.norm (fun j => v (ix2 r j)) (fun j => g (ix2 0 j)) k := by
  pointwise [k0_pay4, Cert.Out.norm]

theorem pay5_apply (v : Vec Ideal S256x2048 .f32) (g : Vec Ideal S1x2048 .f32) (w : Vec Ideal S1152x2048 .bf16) (b : Vec Ideal S1x1152 .f32) (r : Fin 256) (n : Fin 1152) :
    k0_pay5 (F := Ideal) v g w b (ix2 r n) = (∑ h : Fin 2048, Cert.Out.norm (fun j => v (ix2 r j)) (fun j => g (ix2 0 j)) h * w (ix2 n h)) + b (ix2 0 n) := by
  pointwise [k0_pay5, pay4_apply]

theorem pay6_apply (v : Vec Ideal S256x2048 .f32) (g : Vec Ideal S1x2048 .f32) (w : Vec Ideal S1152x2048 .bf16) (b : Vec Ideal S1x1152 .f32) (r : Fin 256) (n : Fin 1024) :
    k0_pay6 (F := Ideal) v g w b (ix2 r n) = k0_pay5 (F := Ideal) v g w b (ix2 r ⟨0 + n.val, by omega⟩) := by
  have e : (⟨0 + n.val, by omega⟩ : Fin 1152) = ⟨n.val, by omega⟩ := Fin.ext (Nat.zero_add _)
  rw [e]
  pointwise [k0_pay6]

/-- The gate of a part of 256 rows, as its two stages. -/
def gate (v : Vec Ideal S256x2048 .f32) (g : Vec Ideal S1x2048 .f32) (w : Vec Ideal S1152x2048 .bf16) (b : Vec Ideal S1x1152 .f32) : FVec Ideal S256x128 .f32 :=
  k0_pay8 (F := Ideal) (k0_pay7 (F := Ideal) v g w b) (FloatOps.ofBits FTy.f32 1065353216#32)

theorem gate_apply (v : Vec Ideal S256x2048 .f32) (g : Vec Ideal S1x2048 .f32) (w : Vec Ideal S1152x2048 .bf16) (b : Vec Ideal S1x1152 .f32) (r : Fin 256) (n : Fin 128) :
    gate v g w b (ix2 r n) = Ideal.div 1 (1 + Ideal.exp (-k0_pay5 (F := Ideal) v g w b (ix2 r ⟨1024 + n.val, by omega⟩))) := by
  unfold gate
  have e0 : ∀ z : EReal, -z = 0 - z := fun z => by rw [sub_eq_add_neg, zero_add]
  rw [e0]
  pointwise [k0_pay8, k0_pay7]

theorem pay9_eq : k0_pay9 (F := Ideal) = k0_pay4 (F := Ideal) := rfl
theorem pay15_eq : k0_pay15 (F := Ideal) = k0_pay4 (F := Ideal) := rfl
theorem pay19_eq : k0_pay19 (F := Ideal) = k0_pay4 (F := Ideal) := rfl
theorem pay11_eq : k0_pay11 (F := Ideal) = k0_pay6 (F := Ideal) := rfl
theorem pay17_eq : k0_pay17 (F := Ideal) = k0_pay6 (F := Ideal) := rfl
theorem pay21_eq : k0_pay21 (F := Ideal) = k0_pay6 (F := Ideal) := rfl
theorem gate_1 (v g w b) : k0_pay14 (F := Ideal) (k0_pay12 (F := Ideal) v g w b) (k0_pay13 (F := Ideal)) = gate v g w b := rfl
theorem gate_2 (v g w b) : k0_pay18 (F := Ideal) v g w b = gate v g w b := rfl
theorem gate_3 (v g w b) : k0_pay22 (F := Ideal) v g w b = gate v g w b := rfl

theorem ld_0 (r : Fin 256) (k : Fin 2048) :
    (View.ld x0 (Rect.unit (s := S1024x2048) ![0, 0] ![256, 2048] inb_S1024x2048_S256x2048_0_0) : Vec Ideal S256x2048 .f32) (ix2 r k) = x0 (ix2 (⟨0 + r.val, by omega⟩ : Fin 1024) k) := by
  have e : (⟨0 + r.val, by omega⟩ : Fin 1024) = ⟨r.val, by omega⟩ := Fin.ext (Nat.zero_add _)
  rw [e]
  pointwise

theorem hn_0 (r : Fin 256) (k : Fin 2048) :
    Cert.Out.norm (fun j => (View.ld x0 (Rect.unit (s := S1024x2048) ![0, 0] ![256, 2048] inb_S1024x2048_S256x2048_0_0) : Vec Ideal S256x2048 .f32) (ix2 r j)) (fun j => x1 (ix2 0 j)) k
      = hn x0 x1 ⟨0 + r.val, by omega⟩ k :=
  congrArg (Cert.Out.norm · _ k) (funext fun j => ld_0 x0 r j)

theorem pj_0 (w : Vec Ideal S1152x2048 .bf16) (r : Fin 256) (n : Fin 1152) :
    k0_pay5 (F := Ideal) (View.ld x0 (Rect.unit (s := S1024x2048) ![0, 0] ![256, 2048] inb_S1024x2048_S256x2048_0_0)) x1 w x2 (ix2 r n)
      = pj x0 x1 x2 w ⟨0 + r.val, by omega⟩ n :=
  (pay5_apply _ _ _ _ r n).trans (Ideal.add_congr (Finset.sum_congr rfl fun h _ => Ideal.mul_congr (hn_0 x0 x1 r h) rfl) rfl)

theorem ld_256 (r : Fin 256) (k : Fin 2048) :
    (View.ld x0 (Rect.unit (s := S1024x2048) ![256, 0] ![256, 2048] inb_S1024x2048_S256x2048_256_0) : Vec Ideal S256x2048 .f32) (ix2 r k) = x0 (ix2 (⟨256 + r.val, by omega⟩ : Fin 1024) k) := by
  skip
  skip
  pointwise

theorem hn_256 (r : Fin 256) (k : Fin 2048) :
    Cert.Out.norm (fun j => (View.ld x0 (Rect.unit (s := S1024x2048) ![256, 0] ![256, 2048] inb_S1024x2048_S256x2048_256_0) : Vec Ideal S256x2048 .f32) (ix2 r j)) (fun j => x1 (ix2 0 j)) k
      = hn x0 x1 ⟨256 + r.val, by omega⟩ k :=
  congrArg (Cert.Out.norm · _ k) (funext fun j => ld_256 x0 r j)

theorem pj_256 (w : Vec Ideal S1152x2048 .bf16) (r : Fin 256) (n : Fin 1152) :
    k0_pay5 (F := Ideal) (View.ld x0 (Rect.unit (s := S1024x2048) ![256, 0] ![256, 2048] inb_S1024x2048_S256x2048_256_0)) x1 w x2 (ix2 r n)
      = pj x0 x1 x2 w ⟨256 + r.val, by omega⟩ n :=
  (pay5_apply _ _ _ _ r n).trans (Ideal.add_congr (Finset.sum_congr rfl fun h _ => Ideal.mul_congr (hn_256 x0 x1 r h) rfl) rfl)

theorem ld_512 (r : Fin 256) (k : Fin 2048) :
    (View.ld x0 (Rect.unit (s := S1024x2048) ![512, 0] ![256, 2048] inb_S1024x2048_S256x2048_512_0) : Vec Ideal S256x2048 .f32) (ix2 r k) = x0 (ix2 (⟨512 + r.val, by omega⟩ : Fin 1024) k) := by
  skip
  skip
  pointwise

theorem hn_512 (r : Fin 256) (k : Fin 2048) :
    Cert.Out.norm (fun j => (View.ld x0 (Rect.unit (s := S1024x2048) ![512, 0] ![256, 2048] inb_S1024x2048_S256x2048_512_0) : Vec Ideal S256x2048 .f32) (ix2 r j)) (fun j => x1 (ix2 0 j)) k
      = hn x0 x1 ⟨512 + r.val, by omega⟩ k :=
  congrArg (Cert.Out.norm · _ k) (funext fun j => ld_512 x0 r j)

theorem pj_512 (w : Vec Ideal S1152x2048 .bf16) (r : Fin 256) (n : Fin 1152) :
    k0_pay5 (F := Ideal) (View.ld x0 (Rect.unit (s := S1024x2048) ![512, 0] ![256, 2048] inb_S1024x2048_S256x2048_512_0)) x1 w x2 (ix2 r n)
      = pj x0 x1 x2 w ⟨512 + r.val, by omega⟩ n :=
  (pay5_apply _ _ _ _ r n).trans (Ideal.add_congr (Finset.sum_congr rfl fun h _ => Ideal.mul_congr (hn_512 x0 x1 r h) rfl) rfl)

theorem ld_768 (r : Fin 256) (k : Fin 2048) :
    (View.ld x0 (Rect.unit (s := S1024x2048) ![768, 0] ![256, 2048] inb_S1024x2048_S256x2048_768_0) : Vec Ideal S256x2048 .f32) (ix2 r k) = x0 (ix2 (⟨768 + r.val, by omega⟩ : Fin 1024) k) := by
  skip
  skip
  pointwise

theorem hn_768 (r : Fin 256) (k : Fin 2048) :
    Cert.Out.norm (fun j => (View.ld x0 (Rect.unit (s := S1024x2048) ![768, 0] ![256, 2048] inb_S1024x2048_S256x2048_768_0) : Vec Ideal S256x2048 .f32) (ix2 r j)) (fun j => x1 (ix2 0 j)) k
      = hn x0 x1 ⟨768 + r.val, by omega⟩ k :=
  congrArg (Cert.Out.norm · _ k) (funext fun j => ld_768 x0 r j)

theorem pj_768 (w : Vec Ideal S1152x2048 .bf16) (r : Fin 256) (n : Fin 1152) :
    k0_pay5 (F := Ideal) (View.ld x0 (Rect.unit (s := S1024x2048) ![768, 0] ![256, 2048] inb_S1024x2048_S256x2048_768_0)) x1 w x2 (ix2 r n)
      = pj x0 x1 x2 w ⟨768 + r.val, by omega⟩ n :=
  (pay5_apply _ _ _ _ r n).trans (Ideal.add_congr (Finset.sum_congr rfl fun h _ => Ideal.mul_congr (hn_768 x0 x1 r h) rfl) rfl)

theorem canon_hn :
    View.canon [(⟨Rect.unit ![768, 0] ![256, 2048] inb_S1024x2048_S256x2048_768_0, k0_pay4 (View.ld x0 (Rect.unit ![768, 0] ![256, 2048] inb_S1024x2048_S256x2048_768_0)) x1⟩ : View.Piece (Elt Ideal) S1024x2048 .bf16),
        ⟨Rect.unit ![512, 0] ![256, 2048] inb_S1024x2048_S256x2048_512_0, k0_pay4 (View.ld x0 (Rect.unit ![512, 0] ![256, 2048] inb_S1024x2048_S256x2048_512_0)) x1⟩,
        ⟨Rect.unit ![256, 0] ![256, 2048] inb_S1024x2048_S256x2048_256_0, k0_pay4 (View.ld x0 (Rect.unit ![256, 0] ![256, 2048] inb_S1024x2048_S256x2048_256_0)) x1⟩,
        ⟨Rect.unit ![0, 0] ![256, 2048] inb_S1024x2048_S256x2048_0_0, k0_pay4 (View.ld x0 (Rect.unit ![0, 0] ![256, 2048] inb_S1024x2048_S256x2048_0_0)) x1⟩] = hnB x0 x1 := by
  funext y
  canon_tiles x h
  · have hx : (x 0).val < 256 := (x 0).isLt
    have e : y = ix2 (⟨768 + (x 0).val, by omega⟩ : Fin 1024) (x 1) := (eq_ix2 y).trans ((ix2_inj ..).2 ⟨Fin.ext (by show (y 0).val = 768 + (x 0).val; omega), Fin.ext (by show (y 1).val = (x 1).val; omega)⟩)
    have ex : x = ix2 (x 0) (x 1) := eq_ix2 x
    rw [e]
    refine (congrArg _ ex).trans ?_
    exact (pay4_apply _ _ _ _).trans (hn_768 x0 x1 (x 0) (x 1))
  · have hx : (x 0).val < 256 := (x 0).isLt
    have e : y = ix2 (⟨512 + (x 0).val, by omega⟩ : Fin 1024) (x 1) := (eq_ix2 y).trans ((ix2_inj ..).2 ⟨Fin.ext (by show (y 0).val = 512 + (x 0).val; omega), Fin.ext (by show (y 1).val = (x 1).val; omega)⟩)
    have ex : x = ix2 (x 0) (x 1) := eq_ix2 x
    rw [e]
    refine (congrArg _ ex).trans ?_
    exact (pay4_apply _ _ _ _).trans (hn_512 x0 x1 (x 0) (x 1))
  · have hx : (x 0).val < 256 := (x 0).isLt
    have e : y = ix2 (⟨256 + (x 0).val, by omega⟩ : Fin 1024) (x 1) := (eq_ix2 y).trans ((ix2_inj ..).2 ⟨Fin.ext (by show (y 0).val = 256 + (x 0).val; omega), Fin.ext (by show (y 1).val = (x 1).val; omega)⟩)
    have ex : x = ix2 (x 0) (x 1) := eq_ix2 x
    rw [e]
    refine (congrArg _ ex).trans ?_
    exact (pay4_apply _ _ _ _).trans (hn_256 x0 x1 (x 0) (x 1))
  · have hx : (x 0).val < 256 := (x 0).isLt
    have e : y = ix2 (⟨0 + (x 0).val, by omega⟩ : Fin 1024) (x 1) := (eq_ix2 y).trans ((ix2_inj ..).2 ⟨Fin.ext (by show (y 0).val = 0 + (x 0).val; omega), Fin.ext (by show (y 1).val = (x 1).val; omega)⟩)
    have ex : x = ix2 (x 0) (x 1) := eq_ix2 x
    rw [e]
    refine (congrArg _ ex).trans ?_
    exact (pay4_apply _ _ _ _).trans (hn_0 x0 x1 (x 0) (x 1))

theorem canon_kv (w : Vec Ideal S1152x2048 .bf16) :
    View.canon [(⟨Rect.unit ![768, 0] ![256, 1024] inb_S1024x1024_S256x1024_768_0, k0_pay6 (View.ld x0 (Rect.unit ![768, 0] ![256, 2048] inb_S1024x2048_S256x2048_768_0)) x1 w x2⟩ : View.Piece (Elt Ideal) S1024x1024 .f32),
        ⟨Rect.unit ![512, 0] ![256, 1024] inb_S1024x1024_S256x1024_512_0, k0_pay6 (View.ld x0 (Rect.unit ![512, 0] ![256, 2048] inb_S1024x2048_S256x2048_512_0)) x1 w x2⟩,
        ⟨Rect.unit ![256, 0] ![256, 1024] inb_S1024x1024_S256x1024_256_0, k0_pay6 (View.ld x0 (Rect.unit ![256, 0] ![256, 2048] inb_S1024x2048_S256x2048_256_0)) x1 w x2⟩,
        ⟨Rect.unit ![0, 0] ![256, 1024] inb_S1024x1024_S256x1024_0_0, k0_pay6 (View.ld x0 (Rect.unit ![0, 0] ![256, 2048] inb_S1024x2048_S256x2048_0_0)) x1 w x2⟩] = kvB x0 x1 x2 w := by
  funext y
  canon_tiles x h
  · have hx : (x 0).val < 256 := (x 0).isLt
    have e : y = ix2 (⟨768 + (x 0).val, by omega⟩ : Fin 1024) (x 1) := (eq_ix2 y).trans ((ix2_inj ..).2 ⟨Fin.ext (by show (y 0).val = 768 + (x 0).val; omega), Fin.ext (by show (y 1).val = (x 1).val; omega)⟩)
    have ex : x = ix2 (x 0) (x 1) := eq_ix2 x
    rw [e]
    refine (congrArg _ ex).trans ?_
    exact (pay6_apply _ _ _ _ _ _).trans (pj_768 x0 x1 x2 w (x 0) _)
  · have hx : (x 0).val < 256 := (x 0).isLt
    have e : y = ix2 (⟨512 + (x 0).val, by omega⟩ : Fin 1024) (x 1) := (eq_ix2 y).trans ((ix2_inj ..).2 ⟨Fin.ext (by show (y 0).val = 512 + (x 0).val; omega), Fin.ext (by show (y 1).val = (x 1).val; omega)⟩)
    have ex : x = ix2 (x 0) (x 1) := eq_ix2 x
    rw [e]
    refine (congrArg _ ex).trans ?_
    exact (pay6_apply _ _ _ _ _ _).trans (pj_512 x0 x1 x2 w (x 0) _)
  · have hx : (x 0).val < 256 := (x 0).isLt
    have e : y = ix2 (⟨256 + (x 0).val, by omega⟩ : Fin 1024) (x 1) := (eq_ix2 y).trans ((ix2_inj ..).2 ⟨Fin.ext (by show (y 0).val = 256 + (x 0).val; omega), Fin.ext (by show (y 1).val = (x 1).val; omega)⟩)
    have ex : x = ix2 (x 0) (x 1) := eq_ix2 x
    rw [e]
    refine (congrArg _ ex).trans ?_
    exact (pay6_apply _ _ _ _ _ _).trans (pj_256 x0 x1 x2 w (x 0) _)
  · have hx : (x 0).val < 256 := (x 0).isLt
    have e : y = ix2 (⟨0 + (x 0).val, by omega⟩ : Fin 1024) (x 1) := (eq_ix2 y).trans ((ix2_inj ..).2 ⟨Fin.ext (by show (y 0).val = 0 + (x 0).val; omega), Fin.ext (by show (y 1).val = (x 1).val; omega)⟩)
    have ex : x = ix2 (x 0) (x 1) := eq_ix2 x
    rw [e]
    refine (congrArg _ ex).trans ?_
    exact (pay6_apply _ _ _ _ _ _).trans (pj_0 x0 x1 x2 w (x 0) _)

theorem canon_gt (w : Vec Ideal S1152x2048 .bf16) :
    View.canon [(⟨Rect.unit ![768, 0] ![256, 128] inb_S1024x128_S256x128_768_0, gate (View.ld x0 (Rect.unit ![768, 0] ![256, 2048] inb_S1024x2048_S256x2048_768_0)) x1 w x2⟩ : View.Piece (Elt Ideal) S1024x128 .f32),
        ⟨Rect.unit ![512, 0] ![256, 128] inb_S1024x128_S256x128_512_0, gate (View.ld x0 (Rect.unit ![512, 0] ![256, 2048] inb_S1024x2048_S256x2048_512_0)) x1 w x2⟩,
        ⟨Rect.unit ![256, 0] ![256, 128] inb_S1024x128_S256x128_256_0, gate (View.ld x0 (Rect.unit ![256, 0] ![256, 2048] inb_S1024x2048_S256x2048_256_0)) x1 w x2⟩,
        ⟨Rect.unit ![0, 0] ![256, 128] inb_S1024x128_S256x128_0_0, gate (View.ld x0 (Rect.unit ![0, 0] ![256, 2048] inb_S1024x2048_S256x2048_0_0)) x1 w x2⟩] = gtB x0 x1 x2 w := by
  funext y
  canon_tiles x h
  · have hx : (x 0).val < 256 := (x 0).isLt
    have e : y = ix2 (⟨768 + (x 0).val, by omega⟩ : Fin 1024) (x 1) := (eq_ix2 y).trans ((ix2_inj ..).2 ⟨Fin.ext (by show (y 0).val = 768 + (x 0).val; omega), Fin.ext (by show (y 1).val = (x 1).val; omega)⟩)
    have ex : x = ix2 (x 0) (x 1) := eq_ix2 x
    rw [e]
    refine (congrArg _ ex).trans ?_
    exact (gate_apply _ _ _ _ _ _).trans (congrArg (fun z => Ideal.div 1 (1 + Ideal.exp (-z))) (pj_768 x0 x1 x2 w (x 0) _))
  · have hx : (x 0).val < 256 := (x 0).isLt
    have e : y = ix2 (⟨512 + (x 0).val, by omega⟩ : Fin 1024) (x 1) := (eq_ix2 y).trans ((ix2_inj ..).2 ⟨Fin.ext (by show (y 0).val = 512 + (x 0).val; omega), Fin.ext (by show (y 1).val = (x 1).val; omega)⟩)
    have ex : x = ix2 (x 0) (x 1) := eq_ix2 x
    rw [e]
    refine (congrArg _ ex).trans ?_
    exact (gate_apply _ _ _ _ _ _).trans (congrArg (fun z => Ideal.div 1 (1 + Ideal.exp (-z))) (pj_512 x0 x1 x2 w (x 0) _))
  · have hx : (x 0).val < 256 := (x 0).isLt
    have e : y = ix2 (⟨256 + (x 0).val, by omega⟩ : Fin 1024) (x 1) := (eq_ix2 y).trans ((ix2_inj ..).2 ⟨Fin.ext (by show (y 0).val = 256 + (x 0).val; omega), Fin.ext (by show (y 1).val = (x 1).val; omega)⟩)
    have ex : x = ix2 (x 0) (x 1) := eq_ix2 x
    rw [e]
    refine (congrArg _ ex).trans ?_
    exact (gate_apply _ _ _ _ _ _).trans (congrArg (fun z => Ideal.div 1 (1 + Ideal.exp (-z))) (pj_256 x0 x1 x2 w (x 0) _))
  · have hx : (x 0).val < 256 := (x 0).isLt
    have e : y = ix2 (⟨0 + (x 0).val, by omega⟩ : Fin 1024) (x 1) := (eq_ix2 y).trans ((ix2_inj ..).2 ⟨Fin.ext (by show (y 0).val = 0 + (x 0).val; omega), Fin.ext (by show (y 1).val = (x 1).val; omega)⟩)
    have ex : x = ix2 (x 0) (x 1) := eq_ix2 x
    rw [e]
    refine (congrArg _ ex).trans ?_
    exact (gate_apply _ _ _ _ _ _).trans (congrArg (fun z => Ideal.div 1 (1 + Ideal.exp (-z))) (pj_0 x0 x1 x2 w (x 0) _))

theorem pay1_apply (r : Fin 512) (k : Fin 2048) :
    k0_pay1 (F := Ideal) (View.ld x3 (Rect.unit ![0, 0] ![512, 2048] inb_S1024x2048_S512x2048_0_0)) (ix2 r k) = x3 (ix2 (⟨r.val, by omega⟩ : Fin 1024) k) := by
  pointwise [k0_pay1]

theorem pay2_apply (r : Fin 512) (k : Fin 2048) :
    k0_pay2 (F := Ideal) (View.ld x3 (Rect.unit ![512, 0] ![512, 2048] inb_S1024x2048_S512x2048_512_0)) (ix2 r k) = x3 (ix2 (⟨512 + r.val, by omega⟩ : Fin 1024) k) := by
  pointwise [k0_pay2]

theorem pay3_apply (r : Fin 128) (k : Fin 2048) : k0_pay3 (F := Ideal) x4 (ix2 r k) = x4 (ix2 r k) := by
  pointwise [k0_pay3]

theorem canon_under :
    View.canon [(⟨Rect.unit ![1024, 0] ![128, 2048] inb_S1152x2048_S128x2048_1024_0, k0_pay3 x4⟩ : View.Piece (Elt Ideal) S1152x2048 .bf16),
      ⟨Rect.unit ![512, 0] ![512, 2048] inb_S1152x2048_S512x2048_512_0, k0_pay2 (View.ld x3 (Rect.unit ![512, 0] ![512, 2048] inb_S1024x2048_S512x2048_512_0))⟩,
      ⟨Rect.unit ![0, 0] ![512, 2048] inb_S1152x2048_S512x2048_0_0, k0_pay1 (View.ld x3 (Rect.unit ![0, 0] ![512, 2048] inb_S1024x2048_S512x2048_0_0))⟩] = under x3 x4 := by
  funext y
  canon_tiles x h using (View.cover_of_tiledBy _ ![128, 2048] (by sl_kernel_rfl) y)
  · have hx : (x 0).val < 128 := (x 0).isLt
    have e : y = ix2 (⟨1024 + (x 0).val, by omega⟩ : Fin 1152) (x 1) := (eq_ix2 y).trans ((ix2_inj ..).2 ⟨Fin.ext (by show (y 0).val = 1024 + (x 0).val; omega), Fin.ext (by show (y 1).val = (x 1).val; omega)⟩)
    rw [e]
    refine (congrArg _ (eq_ix2 x)).trans ((pay3_apply x4 (x 0) (x 1)).trans ?_)
    unfold under
    rw [dif_neg (by show ¬1024 + (x 0).val < 1024; omega)]
    refine congrArg x4 ((ix2_inj ..).2 ⟨Fin.ext (by show (x 0).val = 1024 + (x 0).val - 1024; omega), rfl⟩)
  · have hx : (x 0).val < 512 := (x 0).isLt
    have e : y = ix2 (⟨512 + (x 0).val, by omega⟩ : Fin 1152) (x 1) := (eq_ix2 y).trans ((ix2_inj ..).2 ⟨Fin.ext (by show (y 0).val = 512 + (x 0).val; omega), Fin.ext (by show (y 1).val = (x 1).val; omega)⟩)
    rw [e]
    refine (congrArg _ (eq_ix2 x)).trans ((pay2_apply x3 (x 0) (x 1)).trans ?_)
    unfold under
    rw [dif_pos (by show 512 + (x 0).val < 1024; omega)]
    rfl
  · have hx : (x 0).val < 512 := (x 0).isLt
    have e : y = ix2 (⟨(x 0).val, by omega⟩ : Fin 1152) (x 1) := (eq_ix2 y).trans ((ix2_inj ..).2 ⟨Fin.ext (by show (y 0).val = (x 0).val; omega), Fin.ext (by show (y 1).val = (x 1).val; omega)⟩)
    rw [e]
    refine (congrArg _ (eq_ix2 x)).trans ((pay1_apply x3 (x 0) (x 1)).trans ?_)
    unfold under
    rw [dif_pos (by show (x 0).val < 1024; omega)]
    rfl

/-- A load of the whole carried buffer, after stores whose pieces are `L`. -/
theorem readCov_rows {sp : Space} (v : View sig .tc sp S1152x2048 .bf16) (L : List (View.Piece (Elt Ideal) S1152x2048 .bf16)) :
    v.readCov L (Rect.unit (s := S1152x2048) ![0, 0] ![1152, 2048] inb_S1152x2048_S1152x2048_0_0).toLoadRect = View.canon L := by
  rw [View.readCov_eq_canon']
  exact View.ld_unit_lit (Val := Elt Ideal) inb_S1152x2048_S1152x2048_0_0 (View.canon L) (by decide)

variable (c : Dev nD) (i : grid0.Coords) (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S1x1152 .f32) (harg3 : arg3.IsWhole) (arg4 : Memref sig .tc .vmem S1024x2048 .f32) (harg4 : arg4.IsWhole) (arg5 : Memref sig .tc .vmem S128x2048 .f32) (harg5 : arg5.IsWhole) (arg6 : Memref sig .tc .vmem S1024x2048 .bf16) (harg6 : arg6.IsWhole) (arg7 : Memref sig .tc .vmem S1024x1024 .f32) (harg7 : arg7.IsWhole) (arg8 : Memref sig .tc .vmem S1024x128 .f32) (harg8 : arg8.IsWhole) (arg9 : Memref sig .tc .vmem S1152x2048 .bf16) (harg9 : arg9.IsWhole)

theorem sout_A (hc0 : cond0_0 i) : sout0_A_0 (F := Ideal) c i arg1 harg1 arg2 harg2 arg3 harg3 arg4 harg4 arg5 harg5 arg6 harg6 arg7 harg7 arg8 harg8 arg9 harg9 hc0 x0 x1 x2 x3 x4 = under x3 x4 := by
  frame_out
  exact canon_under x3 x4
theorem out_A5 (hc0 : cond0_0 i) : out0_A_5 (F := Ideal) c i arg1 harg1 arg2 harg2 arg3 harg3 arg4 harg4 arg5 harg5 arg6 harg6 arg7 harg7 arg8 harg8 arg9 harg9 hc0 x0 x1 x2 x3 x4 = hnB x0 x1 := by
  frame_out
  exact canon_hn x0 x1
theorem out_A6 (hc0 : cond0_0 i) : out0_A_6 (F := Ideal) c i arg1 harg1 arg2 harg2 arg3 harg3 arg4 harg4 arg5 harg5 arg6 harg6 arg7 harg7 arg8 harg8 arg9 harg9 hc0 x0 x1 x2 x3 x4 = kvB x0 x1 x2 (under x3 x4) := by
  frame_out
  rw [readCov_rows, canon_under]
  exact canon_kv x0 x1 x2 (under x3 x4)
theorem out_A7 (hc0 : cond0_0 i) : out0_A_7 (F := Ideal) c i arg1 harg1 arg2 harg2 arg3 harg3 arg4 harg4 arg5 harg5 arg6 harg6 arg7 harg7 arg8 harg8 arg9 harg9 hc0 x0 x1 x2 x3 x4 = gtB x0 x1 x2 (under x3 x4) := by
  frame_out
  rw [readCov_rows, canon_under]
  exact canon_gt x0 x1 x2 (under x3 x4)
theorem out_B5 (hc0 : ¬cond0_0 i) : out0_B_5 (F := Ideal) c i arg1 harg1 arg2 harg2 arg3 harg3 arg4 harg4 arg5 harg5 arg6 harg6 arg7 harg7 arg8 harg8 arg9 harg9 hc0 x0 x1 x2 x3 x4 xs0 = hnB x0 x1 := by
  frame_out
  exact canon_hn x0 x1
theorem out_B6 (hc0 : ¬cond0_0 i) : out0_B_6 (F := Ideal) c i arg1 harg1 arg2 harg2 arg3 harg3 arg4 harg4 arg5 harg5 arg6 harg6 arg7 harg7 arg8 harg8 arg9 harg9 hc0 x0 x1 x2 x3 x4 xs0 = kvB x0 x1 x2 xs0 := by
  frame_out
  exact canon_kv x0 x1 x2 xs0
theorem out_B7 (hc0 : ¬cond0_0 i) : out0_B_7 (F := Ideal) c i arg1 harg1 arg2 harg2 arg3 harg3 arg4 harg4 arg5 harg5 arg6 harg6 arg7 harg7 arg8 harg8 arg9 harg9 hc0 x0 x1 x2 x3 x4 xs0 = gtB x0 x1 x2 xs0 := by
  frame_out
  exact canon_gt x0 x1 x2 xs0
end Cert.Kernel3Ideal.Norm

end
-- ==== Proof.NormArr.lean ====
/-
  The norm and key-value projection: what the kernel's three arrays hold at an element.
-/
module

public import proofs.«01_k».proof.Proof.NormBody
public import Idealize.ShloMosaic.Lib.Claim

@[expose] public section

set_option maxRecDepth 16384

noncomputable section

namespace Cert.Norm
open Idealize.ShloMosaic

variable (x : (⟨3, ![4, 2048, 2048]⟩ : Shape).Idx → EReal) (g : (⟨2, ![1, 2048]⟩ : Shape).Idx → EReal)
variable (w : (⟨3, ![1, 2048, 19504]⟩ : Shape).Idx → EReal) (b : (⟨2, ![1, 19504]⟩ : Shape).Idx → EReal)

/-- The normed activations. -/
def hn (n : Fin 4) (s k : Fin 2048) : EReal := Cert.Out.norm (fun j => x (ix3 n s j)) (fun j => g (ix2 0 j)) k

/-- The input projection of the normed activations. -/
def pj (n : Fin 4) (s : Fin 2048) (col : Fin 19504) : EReal := (∑ h : Fin 2048, hn x g n s h * w (ix3 0 h col)) + b (ix2 0 col)

end Cert.Norm

namespace Cert.Kernel3Ideal.Norm

open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ)

abbrev xA (c : Dev nD) : FVec Ideal S4x2048x2048 .f32 := m ((c : Thread nD τ).loc main_arg0)
abbrev gA (c : Dev nD) : FVec Ideal S1x2048 .f32 := m ((c : Thread nD τ).loc main_arg1)
abbrev wA (c : Dev nD) : FVec Ideal S1x2048x19504 .f32 := m ((c : Thread nD τ).loc main_arg2)
abbrev bA (c : Dev nD) : FVec Ideal S1x19504 .f32 := m ((c : Thread nD τ).loc main_arg3)

theorem idx_all : ∀ t : Fin grid0.N, win0_0.index t = ![t.val, 0] ∧ win0_1.index t = ![0, 0] ∧ win0_2.index t = ![0, 0]
    ∧ (win0_3.index t 0 = 2048 ∧ win0_3.index t 1 = 0) ∧ (win0_4.index t 0 = 5120 ∧ win0_4.index t 1 = 0) := by
  decide +kernel

theorem read_x (c : Dev nD) (n : Fin 4) (s k : Fin 2048) :
    (V m c main_v2 : S8192x2048.Idx → EReal) (ix2 ⟨n.val * 2048 + s.val, by omega⟩ k) = xA m c (ix3 n s k) := by
  entry_read
  pointwise

theorem read_g (c : Dev nD) (k : Fin 2048) : (V m c main_v8 : S1x2048.Idx → EReal) (ix2 0 k) = gA m c (ix2 0 k) := by
  entry_read
  pointwise

theorem read_w (c : Dev nD) (p : Fin 19504) (k : Fin 2048) : (V m c main_v4 : S19504x2048.Idx → EReal) (ix2 p k) = wA m c (ix3 0 k p) := by
  entry_read
  pointwise

theorem read_b0 (c : Dev nD) (k : Fin 1024) :
    (V m c main_v9 : S1x1152.Idx → EReal) (ix2 0 ⟨0 + k.val, by omega⟩) = bA m c (ix2 0 ⟨2048 + k.val, by omega⟩) := by
  have e : (⟨0 + k.val, by omega⟩ : Fin 1152) = ⟨k.val, by omega⟩ := Fin.ext (Nat.zero_add _)
  rw [e]
  entry_read
  pointwise

theorem read_b1 (c : Dev nD) (k : Fin 128) :
    (V m c main_v9 : S1x1152.Idx → EReal) (ix2 0 ⟨1024 + k.val, by omega⟩) = bA m c (ix2 0 ⟨5120 + k.val, by omega⟩) := by
  entry_read
  pointwise

theorem blk0 (c : Dev nD) (t : Fin grid0.N) (r : Fin 1024) (k : Fin 2048) (hr : t.val * 1024 + r.val < 8192) :
    iblk m c 0 t (ix2 r k) = (V m c main_v2 : S8192x2048.Idx → EReal) (ix2 (⟨t.val * 1024 + r.val, hr⟩ : Fin 8192) k) := by
  blk_ext [iblk, idx_all t]

theorem blk1 (c : Dev nD) (t : Fin grid0.N) (k : Fin 2048) :
    iblk m c 1 t (ix2 0 k) = (V m c main_v8 : S1x2048.Idx → EReal) (ix2 0 k) := by
  blk_ext [iblk, idx_all t]

theorem blk2 (c : Dev nD) (t : Fin grid0.N) (k : Fin 1152) :
    iblk m c 2 t (ix2 0 k) = (V m c main_v9 : S1x1152.Idx → EReal) (ix2 0 k) := by
  blk_ext [iblk, idx_all t]

theorem blk3 (c : Dev nD) (t : Fin grid0.N) (r : Fin 1024) (k : Fin 2048) :
    iblk m c 3 t (ix2 r k) = wA m c (ix3 0 k ⟨2048 + r.val, by omega⟩) := by
  refine Eq.trans ?_ (read_w m c ⟨2048 + r.val, by omega⟩ k)
  show V m c main_v4 ((win0_3.blk t).view.emb (ix2 r k)) = _
  refine congrArg (V m c main_v4) (funext fun a => Fin.ext ?_)
  match a with
  | ⟨0, _⟩ =>
    show win0_3.index t 0 + 1 * r.val = 2048 + r.val
    rw [(idx_all t).2.2.2.1.1, Nat.one_mul]
  | ⟨1, _⟩ =>
    show win0_3.index t 1 + 1 * k.val = k.val
    rw [(idx_all t).2.2.2.1.2, Nat.one_mul, Nat.zero_add]

theorem blk4 (c : Dev nD) (t : Fin grid0.N) (r : Fin 128) (k : Fin 2048) :
    iblk m c 4 t (ix2 r k) = wA m c (ix3 0 k ⟨5120 + r.val, by omega⟩) := by
  refine Eq.trans ?_ (read_w m c ⟨5120 + r.val, by omega⟩ k)
  show V m c main_v4 ((win0_4.blk t).view.emb (ix2 r k)) = _
  refine congrArg (V m c main_v4) (funext fun a => Fin.ext ?_)
  match a with
  | ⟨0, _⟩ =>
    show win0_4.index t 0 + 1 * r.val = 5120 + r.val
    rw [(idx_all t).2.2.2.2.1, Nat.one_mul]
  | ⟨1, _⟩ =>
    show win0_4.index t 1 + 1 * k.val = k.val
    rw [(idx_all t).2.2.2.2.2, Nat.one_mul, Nat.zero_add]

theorem same3 (c : Dev nD) (t t' : Fin grid0.N) : iblk m c 3 t = iblk m c 3 t' := by
  refine funext fun (y : S1024x2048.Idx) => ?_
  obtain ⟨r, k, rfl⟩ : ∃ (r : Fin 1024) (k : Fin 2048), y = ix2 r k := ⟨y 0, y 1, eq_ix2 y⟩
  rw [blk3 m c t r k, blk3 m c t' r k]

theorem same4 (c : Dev nD) (t t' : Fin grid0.N) : iblk m c 4 t = iblk m c 4 t' := by
  refine funext fun (y : S128x2048.Idx) => ?_
  obtain ⟨r, k, rfl⟩ : ∃ (r : Fin 128) (k : Fin 2048), y = ix2 r k := ⟨y 0, y 1, eq_ix2 y⟩
  rw [blk4 m c t r k, blk4 m c t' r k]

/-- The weights a point's blocks hold. -/
def wts (c : Dev nD) (t : Fin cfg0.N) : Vec Ideal S1152x2048 .bf16 := under (iblk m c 3 t) (iblk m c 4 t)

/-- After every point the carried scratch holds the weights. -/
theorem scratch_eq (c : Dev nD) : ∀ (n : ℕ) (hn : n < cfg0.N), (outsAt0 m c n hn).2.2.2 = wts m c ⟨n, hn⟩ := by
  intro n
  induction n with
  | zero =>
    intro hn
    rw [outsAt0_A m c ⟨0, hn⟩ rfl]
    dsimp only
    rw [sout_A]
    rfl
  | succ n ih =>
    intro hn
    by_cases h : (n + 1) % 8 = 0
    · rw [outsAt0_A m c ⟨n + 1, hn⟩ h]
      dsimp only
      rw [sout_A]
      rfl
    · rw [outsAt0_B m c ⟨n + 1, hn⟩ h]
      dsimp only
      unfold sout0_B_0
      refine (ih (Nat.lt_of_succ_lt hn)).trans ?_
      unfold wts
      rw [same3 m c _ ⟨n + 1, hn⟩, same4 m c _ ⟨n + 1, hn⟩]

theorem outs_5 (c : Dev nD) (t : Fin cfg0.N) : (outsAt0 m c t.val t.isLt).1 = hnB (iblk m c 0 t) (iblk m c 1 t) := by
  by_cases h : t.val % 8 = 0
  · rw [outsAt0_A m c t h]
    dsimp only
    rw [out_A5]
  · rw [outsAt0_B m c t h]
    dsimp only
    rw [out_B5]

theorem outs_6 (c : Dev nD) (t : Fin cfg0.N) : (outsAt0 m c t.val t.isLt).2.1 = kvB (iblk m c 0 t) (iblk m c 1 t) (iblk m c 2 t) (wts m c t) := by
  by_cases h : t.val % 8 = 0
  · rw [outsAt0_A m c t h]
    dsimp only
    rw [out_A6]
    rfl
  · rw [outsAt0_B m c t h]
    dsimp only
    rw [out_B6, scratch_eq]
    unfold wts
    rw [same3 m c _ t, same4 m c _ t]

theorem outs_7 (c : Dev nD) (t : Fin cfg0.N) : (outsAt0 m c t.val t.isLt).2.2.1 = gtB (iblk m c 0 t) (iblk m c 1 t) (iblk m c 2 t) (wts m c t) := by
  by_cases h : t.val % 8 = 0
  · rw [outsAt0_A m c t h]
    dsimp only
    rw [out_A7]
    rfl
  · rw [outsAt0_B m c t h]
    dsimp only
    rw [out_B7, scratch_eq]
    unfold wts
    rw [same3 m c _ t, same4 m c _ t]

theorem hn_eq (c : Dev nD) (t : Fin cfg0.N) (r : Fin 1024) (n : Fin 4) (s k : Fin 2048) (h : t.val * 1024 + r.val = n.val * 2048 + s.val) :
    hn (iblk m c 0 t) (iblk m c 1 t) r k = Cert.Norm.hn (xA m c) (gA m c) n s k := by
  unfold hn Cert.Norm.hn
  have hr : t.val * 1024 + r.val < 8192 := by omega
  have ep : (⟨t.val * 1024 + r.val, hr⟩ : Fin 8192) = ⟨n.val * 2048 + s.val, by omega⟩ := Fin.ext h
  refine congrArg₂ (Cert.Out.norm · · k) (funext fun j => (blk0 m c t r j hr).trans ?_) (funext fun j => (blk1 m c t j).trans (read_g m c j))
  rw [ep]
  exact read_x m c n s j

theorem pj_kv (c : Dev nD) (t : Fin cfg0.N) (r : Fin 1024) (n : Fin 4) (s : Fin 2048) (k : Fin 1024) (h : t.val * 1024 + r.val = n.val * 2048 + s.val) :
    pj (iblk m c 0 t) (iblk m c 1 t) (iblk m c 2 t) (wts m c t) r ⟨0 + k.val, by omega⟩
      = Cert.Norm.pj (xA m c) (gA m c) (wA m c) (bA m c) n s ⟨2048 + k.val, by omega⟩ := by
  unfold pj Cert.Norm.pj
  refine Ideal.add_congr (Finset.sum_congr rfl fun j _ => Ideal.mul_congr (hn_eq m c t r n s j h) ?_) ((blk2 m c t _).trans (read_b0 m c k))
  refine Eq.trans ?_ (blk3 m c t k j)
  unfold wts under
  rw [dif_pos (by show 0 + k.val < 1024; omega)]
  exact congrArg (iblk m c 3 t) ((ix2_inj ..).2 ⟨Fin.ext (Nat.zero_add _), rfl⟩)

theorem pj_gate (c : Dev nD) (t : Fin cfg0.N) (r : Fin 1024) (n : Fin 4) (s : Fin 2048) (k : Fin 128) (h : t.val * 1024 + r.val = n.val * 2048 + s.val) :
    pj (iblk m c 0 t) (iblk m c 1 t) (iblk m c 2 t) (wts m c t) r ⟨1024 + k.val, by omega⟩
      = Cert.Norm.pj (xA m c) (gA m c) (wA m c) (bA m c) n s ⟨5120 + k.val, by omega⟩ := by
  unfold pj Cert.Norm.pj
  refine Ideal.add_congr (Finset.sum_congr rfl fun j _ => Ideal.mul_congr (hn_eq m c t r n s j h) ?_) ((blk2 m c t _).trans (read_b1 m c k))
  refine Eq.trans ?_ (blk4 m c t k j)
  unfold wts under
  rw [dif_neg (by show ¬1024 + k.val < 1024; omega)]
  exact congrArg (iblk m c 4 t) ((ix2_inj ..).2 ⟨Fin.ext (by show 1024 + k.val - 1024 = k.val; omega), rfl⟩)

/-- The kernel's normed activations at an element. -/
theorem G5_apply (c : Dev nD) (n : Fin 4) (s : Fin 2048) (k : Fin 2048) :
    (G5 m c : S8192x2048.Idx → EReal) (ix2 ⟨n.val * 2048 + s.val, by omega⟩ k) = Cert.Norm.hn (xA m c) (gA m c) n s k := by
  unfold G5
  have hv : pt5Of (ix2 (⟨n.val * 2048 + s.val, by omega⟩ : Fin 8192) k : S8192x2048.Idx) = (n.val * 2048 + s.val) / 1024 := by
    show 1 * ((n.val * 2048 + s.val) / 1024 - 0) + 1 * (k.val / 2048 - 0) = (n.val * 2048 + s.val) / 1024
    omega
  have hlt : pt5Of (ix2 (⟨n.val * 2048 + s.val, by omega⟩ : Fin 8192) k : S8192x2048.Idx) < cfg0.N := by
    rw [hv]
    show _ < grid0.N
    rw [Gen.N_0]
    omega
  rw [dif_pos hlt]
  have hp : ∀ (p : ℕ) (hp : p < cfg0.N) (l : S1024x2048.Idx) (_ : p = (n.val * 2048 + s.val) / 1024)
      (_ : l = ix2 (⟨(n.val * 2048 + s.val) % 1024, Nat.mod_lt _ (by decide)⟩ : Fin 1024) k),
      (Pipeline.accAt (fun n h => stAt0 m c n h junk0) (stAt0 m c) 0 p (by omega)).1 l = Cert.Norm.hn (xA m c) (gA m c) n s k := by
    intro p hp l ep el
    rw [← outsAt0_sweep m c p hp, el]
    have hrow : p * 1024 + (n.val * 2048 + s.val) % 1024 = n.val * 2048 + s.val := by omega
    exact (congrFun (outs_5 m c ⟨p, hp⟩) _).trans (hn_eq m c ⟨p, hp⟩ ⟨_, _⟩ n s k hrow)
  refine hp _ hlt _ hv (funext fun a => ?_)
  match a with
  | ⟨0, _⟩ => rfl
  | ⟨1, _⟩ => exact Fin.ext (by show k.val % 2048 = k.val; omega)

/-- The kernel's keys and values at an element. -/
theorem G6_apply (c : Dev nD) (n : Fin 4) (s : Fin 2048) (k : Fin 1024) :
    (G6 m c : S8192x1024.Idx → EReal) (ix2 ⟨n.val * 2048 + s.val, by omega⟩ k) = Cert.Norm.pj (xA m c) (gA m c) (wA m c) (bA m c) n s ⟨2048 + k.val, by omega⟩ := by
  unfold G6
  have hv : pt6Of (ix2 (⟨n.val * 2048 + s.val, by omega⟩ : Fin 8192) k : S8192x1024.Idx) = (n.val * 2048 + s.val) / 1024 := by
    show 1 * ((n.val * 2048 + s.val) / 1024 - 0) + 1 * (k.val / 1024 - 0) = (n.val * 2048 + s.val) / 1024
    omega
  have hlt : pt6Of (ix2 (⟨n.val * 2048 + s.val, by omega⟩ : Fin 8192) k : S8192x1024.Idx) < cfg0.N := by
    rw [hv]
    show _ < grid0.N
    rw [Gen.N_0]
    omega
  rw [dif_pos hlt]
  have hp : ∀ (p : ℕ) (hp : p < cfg0.N) (l : S1024x1024.Idx) (_ : p = (n.val * 2048 + s.val) / 1024)
      (_ : l = ix2 (⟨(n.val * 2048 + s.val) % 1024, Nat.mod_lt _ (by decide)⟩ : Fin 1024) k),
      (Pipeline.accAt (fun n h => stAt0 m c n h junk0) (stAt0 m c) 0 p (by omega)).2.1 l = Cert.Norm.pj (xA m c) (gA m c) (wA m c) (bA m c) n s ⟨2048 + k.val, by omega⟩ := by
    intro p hp l ep el
    rw [← outsAt0_sweep m c p hp, el]
    have hrow : p * 1024 + (n.val * 2048 + s.val) % 1024 = n.val * 2048 + s.val := by omega
    exact (congrFun (outs_6 m c ⟨p, hp⟩) _).trans (pj_kv m c ⟨p, hp⟩ ⟨_, _⟩ n s k hrow)
  refine hp _ hlt _ hv (funext fun a => ?_)
  match a with
  | ⟨0, _⟩ => rfl
  | ⟨1, _⟩ => exact Fin.ext (by show k.val % 1024 = k.val; omega)

/-- The kernel's gates at an element. -/
theorem G7_apply (c : Dev nD) (n : Fin 4) (s : Fin 2048) (k : Fin 128) :
    (G7 m c : S8192x128.Idx → EReal) (ix2 ⟨n.val * 2048 + s.val, by omega⟩ k) = Ideal.div 1 (1 + Ideal.exp (-Cert.Norm.pj (xA m c) (gA m c) (wA m c) (bA m c) n s ⟨5120 + k.val, by omega⟩)) := by
  unfold G7
  have hv : pt7Of (ix2 (⟨n.val * 2048 + s.val, by omega⟩ : Fin 8192) k : S8192x128.Idx) = (n.val * 2048 + s.val) / 1024 := by
    show 1 * ((n.val * 2048 + s.val) / 1024 - 0) + 1 * (k.val / 128 - 0) = (n.val * 2048 + s.val) / 1024
    omega
  have hlt : pt7Of (ix2 (⟨n.val * 2048 + s.val, by omega⟩ : Fin 8192) k : S8192x128.Idx) < cfg0.N := by
    rw [hv]
    show _ < grid0.N
    rw [Gen.N_0]
    omega
  rw [dif_pos hlt]
  have hp : ∀ (p : ℕ) (hp : p < cfg0.N) (l : S1024x128.Idx) (_ : p = (n.val * 2048 + s.val) / 1024)
      (_ : l = ix2 (⟨(n.val * 2048 + s.val) % 1024, Nat.mod_lt _ (by decide)⟩ : Fin 1024) k),
      (Pipeline.accAt (fun n h => stAt0 m c n h junk0) (stAt0 m c) 0 p (by omega)).2.2.1 l = Ideal.div 1 (1 + Ideal.exp (-Cert.Norm.pj (xA m c) (gA m c) (wA m c) (bA m c) n s ⟨5120 + k.val, by omega⟩)) := by
    intro p hp l ep el
    rw [← outsAt0_sweep m c p hp, el]
    have hrow : p * 1024 + (n.val * 2048 + s.val) % 1024 = n.val * 2048 + s.val := by omega
    exact (congrFun (outs_7 m c ⟨p, hp⟩) _).trans (congrArg (fun z => Ideal.div 1 (1 + Ideal.exp (-z))) (pj_gate m c ⟨p, hp⟩ ⟨_, _⟩ n s k hrow))
  refine hp _ hlt _ hv (funext fun a => ?_)
  match a with
  | ⟨0, _⟩ => rfl
  | ⟨1, _⟩ => exact Fin.ext (by show k.val % 128 = k.val; omega)

end Cert.Kernel3Ideal.Norm

end
-- ==== Proof.NormClaim.lean ====
/-
  The norm and key-value projection: kernel and reference end with the same three arrays.
-/
module

public import proofs.«01_k».proof.Defs
public import proofs.«01_k».proof.Proof.Gen.Kernel3
public import proofs.«01_k».proof.Proof.Gen.Reference3Ideal
public import proofs.«01_k».proof.Proof.Gen.Reference3Ideal.Run
public import proofs.«01_k».proof.Proof.NormArr
public import Idealize.ShloMosaic.Lib.Claim

@[expose] public section

set_option maxRecDepth 16384

noncomputable section

namespace Cert.Reference3Ideal.Norm
open Cert.Reference3Ideal Cert.Reference3Ideal.Gen Idealize.ShloMosaic Idealize.ShloMosaic.TcCoe Idealize.SL.Sem

variable (x : FVec Ideal S4x2048x2048 .f32) (g : FVec Ideal S1x2048 .f32) (w : FVec Ideal S1x2048x19504 .f32) (b : FVec Ideal S1x19504 .f32)

/-- The reference's normed activations. -/
def normed : FVec Ideal S4x2048x2048 .f32 :=
  mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ g shapeCasts_S1x2048_S2048)))

/-- The reference's projection. -/
def proj : FVec Ideal S4x2048x19504 .f32 :=
  addf (Host.dotGeneral dot_S4x2048x2048_S2048x19504_S4x2048x19504_2_0_01_1_n_n none (normed x g) (shapeCast _ w shapeCasts_S1x2048x19504_S2048x19504)) (broadcastInDim S4x2048x19504 ![0, 1, 2] bcast_S1x1x19504_S4x2048x19504_0_1_2 (broadcastInDim S1x1x19504 ![2] bcast_S19504_S1x1x19504_2 (shapeCast _ b shapeCasts_S1x19504_S19504)))

theorem normed_apply (n : Fin 4) (s k : Fin 2048) : normed x g (ix3 n s k) = Cert.Norm.hn x g n s k := by
  pointwise [normed, Cert.Norm.hn, Cert.Out.norm]

theorem proj_apply (n : Fin 4) (s : Fin 2048) (col : Fin 19504) : proj x g w b (ix3 n s col) = Cert.Norm.pj x g w b n s col := by
  pointwise [proj, normed_apply, Cert.Norm.pj]

def res5 : FVec Ideal S8192x2048 .bf16 :=
  truncf .bf16 (shapeCast _ (normed x g) shapeCasts_S4x2048x2048_S8192x2048) bitsLt_bf16_f32

def res6 : FVec Ideal S8192x1024 .f32 :=
  shapeCast _ (extractStridedSlice S4x2048x1024 ![0, 0, 2048] (proj x g w b) slices_S4x2048x19504_S4x2048x1024_0_0_2048) shapeCasts_S4x2048x1024_S8192x1024

def res7 : FVec Ideal S8192x128 .f32 :=
  shapeCast _ (Host.divf (broadcastInDim S4x2048x128 ![] bcast_S_S4x2048x128 (constant S_ .f32 0x3F800000#32)) (addf (broadcastInDim S4x2048x128 ![] bcast_S_S4x2048x128 (constant S_ .f32 0x3F800000#32)) (Host.exp (Host.negf (extractStridedSlice S4x2048x128 ![0, 0, 5120] (proj x g w b) slices_S4x2048x19504_S4x2048x128_0_0_5120))))) shapeCasts_S4x2048x128_S8192x128

theorem res5_apply (n : Fin 4) (s k : Fin 2048) : res5 x g (ix2 ⟨n.val * 2048 + s.val, by omega⟩ k) = Cert.Norm.hn x g n s k := by
  pointwise [res5, normed_apply]

theorem res6_apply (n : Fin 4) (s : Fin 2048) (k : Fin 1024) :
    res6 x g w b (ix2 ⟨n.val * 2048 + s.val, by omega⟩ k) = Cert.Norm.pj x g w b n s ⟨2048 + k.val, by omega⟩ := by
  pointwise [res6, proj_apply]

theorem res7_apply (n : Fin 4) (s : Fin 2048) (k : Fin 128) :
    res7 x g w b (ix2 ⟨n.val * 2048 + s.val, by omega⟩ k) = Ideal.div 1 (1 + Ideal.exp (-Cert.Norm.pj x g w b n s ⟨5120 + k.val, by omega⟩)) := by
  pointwise [res7, proj_apply]

end Cert.Reference3Ideal.Norm

namespace Cert.Norm
open Idealize.ShloMosaic Idealize.ShloMosaic.TcCoe Idealize.SL.Sem

/-- Two arrays of 8192 rows agree when they agree at every position of every sequence. -/
theorem rows_ext {N : ℕ} (f f' : (⟨2, ![8192, N]⟩ : Shape).Idx → EReal)
    (h : ∀ (n : Fin 4) (s : Fin 2048) (k : Fin N), f (ix2 ⟨n.val * 2048 + s.val, by omega⟩ k) = f' (ix2 ⟨n.val * 2048 + s.val, by omega⟩ k)) : f = f' := by
  refine funext fun i => ?_
  obtain ⟨p, d, rfl⟩ : ∃ (p : Fin 8192) (d : Fin N), i = ix2 p d := ⟨i 0, i 1, (ix2_eta i).symm⟩
  have hp : p = (⟨(⟨p.val / 2048, by omega⟩ : Fin 4).val * 2048 + (⟨p.val % 2048, Nat.mod_lt _ (by decide)⟩ : Fin 2048).val, by show p.val / 2048 * 2048 + p.val % 2048 < 8192; omega⟩ : Fin 8192) :=
    Fin.ext (by show p.val = p.val / 2048 * 2048 + p.val % 2048; omega)
  rw [hp]
  exact h _ _ _

theorem algebraic : Cert.algebraic_Kernel3Ideal_Reference3Ideal := by
  pair_intro
  · run_from Cert.Kernel3Ideal.Value.run m g
  · run_from Cert.Reference3Ideal.Value.run m' g'
    · exact rows_ext _ _ fun n s k => (Cert.Reference3Ideal.Norm.res5_apply _ _ n s k).trans (Cert.Kernel3Ideal.Norm.G5_apply m c n s k).symm
    · exact rows_ext _ _ fun n s k => (Cert.Reference3Ideal.Norm.res6_apply _ _ _ _ n s k).trans (Cert.Kernel3Ideal.Norm.G6_apply m c n s k).symm
    · exact rows_ext _ _ fun n s k => (Cert.Reference3Ideal.Norm.res7_apply _ _ _ _ n s k).trans (Cert.Kernel3Ideal.Norm.G7_apply m c n s k).symm

theorem frame_reference : Cert.quiescent_Reference3Ideal := fun m g _ =>
  θ_run_mono (Cert.Reference3Ideal.Value.run m g) fun r h => ⟨fun c => (h c).2.2.2, sem_eq_zero_of_no_sems (by decide) r.2⟩

end Cert.Norm

end
-- ==== Proof.ZgRing.lean ====
/-
  The three-slot ring of row tiles that the first large projection reads its activations through.
-/
module

public import proofs.«01_k».proof.Proof.Gen.Kernel4Ideal.Frame
public import proofs.«01_k».proof.Proof.Gen.Kernel4Ideal.Skeleton
public import Idealize.ShloMosaic.Lib.Pipeline.ValueKit

@[expose] public section

set_option maxRecDepth 16384

noncomputable section

namespace Cert.Kernel4Ideal.Zg

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

instance : NeZero grid0.N := ⟨by rw [N_0]; decide⟩

/-! ### When the branches are taken -/

/-- A new column of weights is narrowed. -/
abbrev newCol (i : grid0.Coords) : Prop := (Scalar.cmpi .ne (Scalar.extui (Scalar.cmpi .eq (BitVec.ofNat 32 (i 1).val) 0#32)) 0#32) = 1#1
/-- The first two tiles are asked for. -/
abbrev starts (i : grid0.Coords) : Prop := k0_cond2 i = 1#1
/-- The tile two steps on is asked for. -/
abbrev asks (i : grid0.Coords) : Prop := k0_cond3 i = 1#1

theorem newCol_iff : ∀ t : Fin grid0.N, newCol (grid0.coords t) ↔ t.val % 8 = 0 := by decide +kernel
theorem starts_iff : ∀ t : Fin grid0.N, starts (grid0.coords t) ↔ t.val = 0 := by decide +kernel
theorem asks_iff : ∀ t : Fin grid0.N, asks (grid0.coords t) ↔ t.val + 2 < 48 := by decide +kernel

/-! ### Slots, tiles and cells -/

/-- The narrowed weights' buffer, the ring's buffer and the activations. -/
abbrev wM : Memref sig .tc .vmem S1024x2048 .bf16 := Memref.whole cc0_scratch0
abbrev ringM : Memref sig .tc .vmem S3x1024x2048 .bf16 := Memref.whole cc0_scratch1
abbrev actM : Memref sig .tc .hbm S8192x2048 .bf16 := Memref.whole main_arg0
/-- What a core holds of the activations. -/
abbrev Act (c : Dev nD) : Type := Buf (Elt F) ((actM).view.loc (c : Thread nD τ))

theorem slot_fits (s : Fin 3) : ∀ a, (![s.val, 0, 0] : Fin 3 → Nat) a + S1x1024x2048.size a ≤ S3x1024x2048.size a := by
  intro a; have h3 := s.isLt; fin_cases a <;> simp <;> omega
theorem tile_fits (b : Fin 48) : ∀ a, (![1024 * (b.val % 8), 0] : Fin 2 → Nat) a + S1024x2048.size a ≤ S8192x2048.size a := by
  intro a; fin_cases a <;> simp <;> omega
theorem cell_fits (s : Fin 3) : ∀ a, (![s.val] : Fin 1 → Nat) a + S1.size a ≤ S3.size a := by
  intro a; have h3 := s.isLt; fin_cases a <;> simp <;> omega

def slotM (s : Fin 3) : Memref sig .tc .vmem S1024x2048 .bf16 :=
  (ringM.slice (Rect.unit (s := S3x1024x2048) ![s.val, 0, 0] S1x1024x2048.size (slot_fits s)) (fun _ => rfl)).squeeze S1024x2048 squeezes_S1x1024x2048_S1024x2048
def tileM (b : Fin 48) : Memref sig .tc .hbm S1024x2048 .bf16 :=
  actM.slice (Rect.unit (s := S8192x2048) ![1024 * (b.val % 8), 0] S1024x2048.size (tile_fits b)) (fun _ => rfl)
def cellM (s : Fin 3) : DmaSems sig S_ := (cc0_scratch2.slice (Rect.unit (s := S3) ![s.val] S1.size (cell_fits s))).squeeze S_ squeezes_S1_S_
abbrev cellL (s : Fin 3) : SemLoc sig := SemLoc.dma (cellM s).sem
theorem cellL0 : cellL 0 = SemLoc.dma 6 := by decide
theorem cellL1 : cellL 1 = SemLoc.dma 7 := by decide
theorem cellL2 : cellL 2 = SemLoc.dma 8 := by decide

section Parts
variable (c : Dev nD) (X : Act (F := F) c)

/-- The three slots each read the activations through a share of their own. -/
abbrev shareOf (s : Fin 3) : PosShare TreeShare := if s.val = 0 then fullShare.left else if s.val = 1 then fullShare.right.left else fullShare.right.right
/-- The contents of a slot. -/
abbrev SlotBuf (s : Fin 3) : Type := Buf (Elt F) ((slotM s).view.loc (c : Thread nD τ))
abbrev slotPt (s : Fin 3) (f : SlotBuf (F := F) c s) : sProp 𝕄 := (slotM s).view.loc (c : Thread nD τ) ↦[(slotM s).view.set]{fullShare} f
abbrev cellPt (s : Fin 3) : sProp 𝕄 := semVal ((c : Thread nD τ), cellL s) 0
abbrev tilePt (s : Fin 3) (b : Fin 48) : sProp 𝕄 := (tileM b).view.loc (c : Thread nD τ) ↦[(tileM b).view.set]{shareOf s} X
def othersPt (s : Fin 3) (b : Fin 48) : sProp 𝕄 := ((c : Thread nD τ).loc main_arg0) ↦[Finset.univ \ (tileM b).view.set]{shareOf s} X
abbrev actPt (s : Fin 3) : sProp 𝕄 := ((c : Thread nD τ).loc main_arg0) ↦[Finset.univ]{shareOf s} X
/-- Tile `b` of the activations. -/
def tileOf (b : Fin 48) : Vec F S1024x2048 .bf16 := ReadAs.same.apply ((tileM b).view.read (Elt F) X)
/-- Slot `s` when tile `b` has arrived over `f`. -/
abbrev arrived (s : Fin 3) (b : Fin 48) (f : SlotBuf (F := F) c s) : SlotBuf (F := F) c s :=
  (slotM s).view.writes (Elt F) f [⟨Rect.whole S1024x2048, ReadAs.same.apply ((tileM b).view.read (Elt F) X)⟩]
abbrev copying (s : Fin 3) (b : Fin 48) (f : SlotBuf (F := F) c s) : sProp 𝕄 :=
  Transfers.Flight countersEmb (c : Thread nD τ) (cellL s) default ((slotM s).view.amount (cellL s)) iprop(slotPt c s (arrived c X s b f) ∗ tilePt c X s b)
abbrev slotFam (s : Fin 3) (f : SlotBuf (F := F) c s) : sProp 𝕄 := iprop(slotPt c s f ∗ actPt c X s)
abbrev flyFam (s : Fin 3) (b : Fin 48) (f : SlotBuf (F := F) c s) : sProp 𝕄 := iprop(copying c X s b f ∗ othersPt c X s b)
abbrev noneHeld (b : Fin 48) : sProp 𝕄 := iprop(emp)
/-- The ring before step `k`. -/
def ringAt (k : ℕ) : sProp 𝕄 :=
  if k = 0 then Ring.At₀ (cellPt c) (slotFam c X) noneHeld else Ring.At 2 (cellPt c) (slotFam c X) noneHeld (flyFam c X) k

theorem act_cut (s : Fin 3) (b : Fin 48) : actPt (F := F) c X s ⊣⊢ iprop(tilePt c X s b ∗ othersPt c X s b) := by
  unfold othersPt; exact pointsTo_split_subset (Finset.subset_univ _)

/-- The whole of the activations is the three shares. -/
theorem act_shares : (actM.view.loc (c : Thread nD τ) ↦{fullShare} X : sProp 𝕄) ⊣⊢ iprop(actPt c X 0 ∗ actPt c X 1 ∗ actPt c X 2) := by
  constructor
  · iintro H
    ihave G := (pointsTo_share (PosShare.mem_left_op_right fullShare)).1 $$ H
    icases G with ⟨G0, G⟩
    ihave G' := (pointsTo_share (PosShare.mem_left_op_right fullShare.right)).1 $$ G
    icases G' with ⟨G1, G2⟩
    isplitl [G0]; · iexact G0
    isplitl [G1]; · iexact G1
    iexact G2
  · iintro ⟨G0, G1, G2⟩
    iapply (pointsTo_share (PosShare.mem_left_op_right fullShare)).2
    isplitl [G0]; · iexact G0
    iapply (pointsTo_share (PosShare.mem_left_op_right fullShare.right)).2
    isplitl [G1]; · iexact G1
    iexact G2
end Parts

/-! ### The slots make up the ring's buffer -/

abbrev slotBox (s : Fin 3) : Finset S3x1024x2048.Idx := (Rect.unit (s := S3x1024x2048) ![s.val, 0, 0] S1x1024x2048.size (slot_fits s)).set
theorem slot_set (s : Fin 3) : (slotM s).view.set = slotBox s := by
  simp only [slotM, Memref.view_squeeze, View.set_reshape]; exact View.set_slice_whole _ _
theorem slots_apart (s s' : Fin 3) (h : s ≠ s') : Disjoint (slotBox s) (slotBox s') :=
  Ring.lead_disjoint (s := S3x1024x2048) (0 : Fin 3) 1 (fun s : Fin 3 => (![s.val, 0, 0] : Fin 3 → Nat)) S1x1024x2048.size slot_fits (fun s => by simp) rfl s s' h
theorem slots_all : Finset.univ.biUnion slotBox = Finset.univ := by
  refine Ring.lead_cover (s := S3x1024x2048) (0 : Fin 3) 1 (fun s : Fin 3 => (![s.val, 0, 0] : Fin 3 → Nat)) S1x1024x2048.size slot_fits (fun s => by simp)
    (fun s a ha => ?_) rfl (fun a ha => ?_) rfl <;> (fin_cases a <;> first | exact absurd rfl ha | rfl)

theorem slotPt_box (c : Dev nD) (s : Fin 3) (f) : slotPt (F := F) c s f = (((c : Thread nD τ).loc cc0_scratch1) ↦[slotBox s]{fullShare} f : sProp 𝕄) := by
  unfold slotPt; rw [slot_set]; rfl
abbrev slots3 (c : Dev nD) : sProp 𝕄 := iprop((∃ f, slotPt (F := F) c 0 f) ∗ (∃ f, slotPt (F := F) c 1 f) ∗ ∃ f, slotPt (F := F) c 2 f)
set_option maxHeartbeats 1000000 in
theorem ring_open (c : Dev nD) : iprop(∃ d, owns (c : Thread nD τ) ringM fullShare d) ⊢ slots3 (F := F) c := by
  simp only [ringM, owns_whole]
  exact Ring.slots3_split (U := Pipeline.UD sig nD τ) (ℓ := (c : Thread nD τ).loc cc0_scratch1) (q := fullShare) slotBox slots_apart slots_all
    (slotPt c 0) (slotPt c 1) (slotPt c 2) (slotPt_box c 0) (slotPt_box c 1) (slotPt_box c 2)
set_option maxHeartbeats 1000000 in
theorem ring_close (c : Dev nD) : slots3 (F := F) c ⊢ iprop(∃ d, owns (c : Thread nD τ) ringM fullShare d) := by
  simp only [ringM, owns_whole]
  exact Ring.slots3_join (U := Pipeline.UD sig nD τ) (ℓ := (c : Thread nD τ).loc cc0_scratch1) (q := fullShare) slotBox slots_apart slots_all
    (slotPt c 0) (slotPt c 1) (slotPt c 2) (slotPt_box c 0) (slotPt_box c 1) (slotPt_box c 2)

/-- The parts a ring is made of. -/
abbrev ringParts (c : Dev nD) (X : Act (F := F) c) : sProp 𝕄 :=
  iprop((∃ d, owns (c : Thread nD τ) ringM fullShare d) ∗ (semVal ((c : Thread nD τ), SemLoc.dma 6) 0 ∗ semVal ((c : Thread nD τ), SemLoc.dma 7) 0 ∗ semVal ((c : Thread nD τ), SemLoc.dma 8) 0)
    ∗ (actM.view.loc (c : Thread nD τ) ↦{fullShare} X))
theorem cellPt0 (c : Dev nD) : cellPt (F := F) c 0 = semVal ((c : Thread nD τ), SemLoc.dma 6) 0 := congrArg (fun x => (semVal ((c : Thread nD τ), x) 0 : sProp 𝕄)) cellL0
theorem cellPt1 (c : Dev nD) : cellPt (F := F) c 1 = semVal ((c : Thread nD τ), SemLoc.dma 7) 0 := congrArg (fun x => (semVal ((c : Thread nD τ), x) 0 : sProp 𝕄)) cellL1
theorem cellPt2 (c : Dev nD) : cellPt (F := F) c 2 = semVal ((c : Thread nD τ), SemLoc.dma 8) 0 := congrArg (fun x => (semVal ((c : Thread nD τ), x) 0 : sProp 𝕄)) cellL2

theorem ring_in (c : Dev nD) (X : Act (F := F) c) : ringParts c X ⊢ ringAt c X 0 := by
  unfold ringAt; rw [if_pos rfl]; unfold Ring.At₀ ringParts
  rw [Ring.bigSep_fin3]
  simp only [Ring.free, cellPt0, cellPt1, cellPt2]
  iintro ⟨HS, ⟨C0, C1, C2⟩, HX⟩
  iapply Ring.with_homes₀
  ihave HS := (ring_open (F := F) c) $$ HS
  icases HS with ⟨⟨%d0, S0⟩, ⟨%d1, S1⟩, ⟨%d2, S2⟩⟩
  ihave HX := (act_shares (F := F) c X).1 $$ HX
  icases HX with ⟨X0, X1, X2⟩
  isplitl [C0 S0 X0]
  · isplitl [C0]; · iexact C0
    iexists d0; isplitl [S0]; · iexact S0
    iexact X0
  isplitl [C1 S1 X1]
  · isplitl [C1]; · iexact C1
    iexists d1; isplitl [S1]; · iexact S1
    iexact X1
  isplitl [C2]; · iexact C2
  iexists d2; isplitl [S2]; · iexact S2
  iexact X2

theorem ring_out (c : Dev nD) (X : Act (F := F) c) : ringAt c X 48 ⊢ ringParts c X := by
  unfold ringAt ringParts; rw [if_neg (by decide)]
  iintro H
  ihave H := (Ring.free3_of_At_last _ _ _ _) $$ H
  simp only [Ring.free, cellPt0, cellPt1, cellPt2]
  icases H with ⟨-, ⟨C0, ⟨%f0, S0, X0⟩⟩, ⟨C1, ⟨%f1, S1, X1⟩⟩, ⟨C2, ⟨%f2, S2, X2⟩⟩⟩
  isplitl [S0 S1 S2]
  · iapply (ring_close (F := F) c); isplitl [S0]; · iexists f0; iexact S0
    isplitl [S1]; · iexists f1; iexact S1
    iexists f2; iexact S2
  isplitl [C0 C1 C2]
  · isplitl [C0]; · iexact C0
    isplitl [C1]; · iexact C1
    iexact C2
  iapply (act_shares (F := F) c X).2; isplitl [X0]; · iexact X0
  isplitl [X1]; · iexact X1
  iexact X2

/-! ### The names the kernel's operands go by at a point -/

section Names
omit [FloatOps F]
theorem o_next : ∀ t : Fin grid0.N, k0_off2 (grid0.coords t) = ![(Ring.sl 3 (t.val + 2)).val, 0, 0] := by decide +kernel
theorem o_next_cell : ∀ t : Fin grid0.N, k0_off1 (grid0.coords t) = ![(Ring.sl 3 (t.val + 2)).val] := by decide +kernel
theorem o_next_tile : ∀ t : Fin grid0.N, k0_off3 (grid0.coords t) = ![1024 * ((Ring.bk 48 (t.val + 2)).val % 8), 0] := by decide +kernel
theorem o_this : ∀ t : Fin grid0.N, k0_off5 (grid0.coords t) = ![(Ring.sl 3 t.val).val, 0, 0] := by decide +kernel
theorem o_this_cell : ∀ t : Fin grid0.N, k0_off4 (grid0.coords t) = ![(Ring.sl 3 t.val).val] := by decide +kernel
theorem o_load : ∀ t : Fin grid0.N, k0_off7 (grid0.coords t) = ![(Ring.sl 3 t.val).val, 0, 0] := by decide +kernel
theorem o_0 : ∀ t : Fin grid0.N, starts (grid0.coords t) → (![0, 0, 0] : Fin 3 → Nat) = ![(Ring.sl 3 t.val).val, 0, 0] := by decide +kernel
theorem o_0_cell : ∀ t : Fin grid0.N, starts (grid0.coords t) → (![0] : Fin 1 → Nat) = ![(Ring.sl 3 t.val).val] := by decide +kernel
theorem o_0_tile : ∀ t : Fin grid0.N, starts (grid0.coords t) → (![0, 0] : Fin 2 → Nat) = ![1024 * ((Ring.bk 48 t.val).val % 8), 0] := by decide +kernel
theorem o_1 : ∀ t : Fin grid0.N, starts (grid0.coords t) → (![1, 0, 0] : Fin 3 → Nat) = ![(Ring.sl 3 (t.val + 1)).val, 0, 0] := by decide +kernel
theorem o_1_cell : ∀ t : Fin grid0.N, starts (grid0.coords t) → (![1] : Fin 1 → Nat) = ![(Ring.sl 3 (t.val + 1)).val] := by decide +kernel
theorem o_1_tile : ∀ t : Fin grid0.N, starts (grid0.coords t) → (![1024, 0] : Fin 2 → Nat) = ![1024 * ((Ring.bk 48 (t.val + 1)).val % 8), 0] := by decide +kernel

theorem slot_name {o : Fin 3 → Nat} {s : Fin 3} (e : o = ![s.val, 0, 0]) (h) :
    (ringM.slice (Rect.unit (s := S3x1024x2048) o S1x1024x2048.size h) (fun _ => rfl)).squeeze S1024x2048 squeezes_S1x1024x2048_S1024x2048 = slotM s := by
  subst e; rfl
theorem cell_name {o : Fin 1 → Nat} {s : Fin 3} (e : o = ![s.val]) (h) :
    (cc0_scratch2.slice (Rect.unit (s := S3) o S1.size h)).squeeze S_ squeezes_S1_S_ = cellM s := by
  subst e; rfl
theorem tile_name {o : Fin 2 → Nat} {b : Fin 48} (e : o = ![1024 * (b.val % 8), 0]) (h) :
    actM.slice (Rect.unit (s := S8192x2048) o S1024x2048.size h) (fun _ => rfl) = tileM b := by
  subst e; rfl

variable (t : Fin grid0.N)
@[sl_canon] theorem n_0 (h : starts (grid0.coords t)) :
    (ringM.slice (Rect.unit (s := S3x1024x2048) ![0, 0, 0] S1x1024x2048.size inb_S3x1024x2048_S1x1024x2048_0_0_0) (fun _ => rfl)).squeeze S1024x2048 squeezes_S1x1024x2048_S1024x2048 = slotM (Ring.sl 3 t.val) := slot_name (o_0 t h) _
@[sl_canon] theorem n_0_cell (h : starts (grid0.coords t)) :
    (cc0_scratch2.slice (Rect.unit (s := S3) ![0] S1.size inb_S3_S1_0)).squeeze S_ squeezes_S1_S_ = cellM (Ring.sl 3 t.val) := cell_name (o_0_cell t h) _
@[sl_canon] theorem n_0_tile (h : starts (grid0.coords t)) :
    actM.slice (Rect.unit (s := S8192x2048) ![0, 0] S1024x2048.size inb_S8192x2048_S1024x2048_0_0) (fun _ => rfl) = tileM (Ring.bk 48 t.val) := tile_name (o_0_tile t h) _
@[sl_canon] theorem n_1 (h : starts (grid0.coords t)) :
    (ringM.slice (Rect.unit (s := S3x1024x2048) ![1, 0, 0] S1x1024x2048.size inb_S3x1024x2048_S1x1024x2048_1_0_0) (fun _ => rfl)).squeeze S1024x2048 squeezes_S1x1024x2048_S1024x2048 = slotM (Ring.sl 3 (t.val + 1)) := slot_name (o_1 t h) _
@[sl_canon] theorem n_1_cell (h : starts (grid0.coords t)) :
    (cc0_scratch2.slice (Rect.unit (s := S3) ![1] S1.size inb_S3_S1_1)).squeeze S_ squeezes_S1_S_ = cellM (Ring.sl 3 (t.val + 1)) := cell_name (o_1_cell t h) _
@[sl_canon] theorem n_1_tile (h : starts (grid0.coords t)) :
    actM.slice (Rect.unit (s := S8192x2048) ![1024, 0] S1024x2048.size inb_S8192x2048_S1024x2048_1024_0) (fun _ => rfl) = tileM (Ring.bk 48 (t.val + 1)) := tile_name (o_1_tile t h) _
@[sl_canon] theorem n_next (h : asks (grid0.coords t)) :
    (ringM.slice (Rect.unit (s := S3x1024x2048) (k0_off2 (grid0.coords t)) S1x1024x2048.size (k0_off2_inb (grid0.coords t) h)) (fun _ => rfl)).squeeze S1024x2048 squeezes_S1x1024x2048_S1024x2048 = slotM (Ring.sl 3 (t.val + 2)) := slot_name (o_next t) _
@[sl_canon] theorem n_next_cell (h : asks (grid0.coords t)) :
    (cc0_scratch2.slice (Rect.unit (s := S3) (k0_off1 (grid0.coords t)) S1.size (k0_off1_inb (grid0.coords t) h))).squeeze S_ squeezes_S1_S_ = cellM (Ring.sl 3 (t.val + 2)) := cell_name (o_next_cell t) _
@[sl_canon] theorem n_next_tile (h : asks (grid0.coords t)) :
    actM.slice (Rect.unit (s := S8192x2048) (k0_off3 (grid0.coords t)) S1024x2048.size (k0_off3_inb (grid0.coords t) h)) (fun _ => rfl) = tileM (Ring.bk 48 (t.val + 2)) := tile_name (o_next_tile t) _
@[sl_canon] theorem n_this :
    (ringM.slice (Rect.unit (s := S3x1024x2048) (k0_off5 (grid0.coords t)) S1x1024x2048.size (k0_off5_inb (grid0.coords t))) (fun _ => rfl)).squeeze S1024x2048 squeezes_S1x1024x2048_S1024x2048 = slotM (Ring.sl 3 t.val) := slot_name (o_this t) _
@[sl_canon] theorem n_this_cell :
    (cc0_scratch2.slice (Rect.unit (s := S3) (k0_off4 (grid0.coords t)) S1.size (k0_off4_inb (grid0.coords t)))).squeeze S_ squeezes_S1_S_ = cellM (Ring.sl 3 t.val) := cell_name (o_this_cell t) _
instance (priority := high) loadBox (t : Fin grid0.N) : ClosedOff (k0_off7 (grid0.coords t)) := ⟨![(Ring.sl 3 t.val).val, 0, 0], o_load t⟩
end Names

end Cert.Kernel4Ideal.Zg

end
-- ==== Proof.ZgRun.lean ====
/-
  One grid point of the projection that reads its activations through the ring: what it stores.
-/
module

public import proofs.«01_k».proof.Proof.ZgRing
public import Idealize.ShloMosaic.Lib.VecWindow

@[expose] public section

set_option maxRecDepth 16384

noncomputable section

namespace Cert.Kernel4Ideal.Zg

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A tile as the ring's slot shows it. -/
def shown (v : Vec F S1024x2048 .bf16) : Vec F S1x1024x2048 .bf16 := shapeCast S1x1024x2048 v (by decide)

theorem shapeCast_shown (v : Vec F S1024x2048 .bf16) : shapeCast S1024x2048 (shown v) shapeCasts_S1x1024x2048_S1024x2048 = v := by
  funext y
  show v (Shape.reshapeEquiv _ (Shape.reshapeEquiv _ y)) = v y
  rw [Shape.reshapeEquiv_reshapeEquiv, Shape.reshapeEquiv_self]

theorem shown_shapeCast (v : Vec F S1x1024x2048 .bf16) : shown (shapeCast S1024x2048 v shapeCasts_S1x1024x2048_S1024x2048) = v := by
  funext y
  show v (Shape.reshapeEquiv _ (Shape.reshapeEquiv _ y)) = v y
  rw [Shape.reshapeEquiv_reshapeEquiv, Shape.reshapeEquiv_self]

theorem read_arrived (c : Dev nD) (X : Act (F := F) c) (s : Fin 3) (b : Fin 48) (f : SlotBuf (F := F) c s) :
    (slotM s).view.read (Elt F) (arrived c X s b f) = tileOf c X b := by
  funext y
  have h := View.read_writes_cons_emb (Val := Elt F) (slotM s).view f (Rect.whole S1024x2048) (tileOf c X b) [] y
  exact (congrArg ((slotM s).view.read (Elt F) (arrived c X s b f)) (funext fun a => Fin.ext (by show (y a).val = 0 + 1 * (y a).val; omega))).trans h

/-- The load of the slot in use shows the tile that arrived there. -/
theorem load_this (c : Dev nD) (X : Act (F := F) c) (s : Fin 3) (b : Fin 48) (f : SlotBuf (F := F) c s) (o : Fin 3 → Nat) (e : o = ![s.val, 0, 0]) (h) :
    ringM.view.readAt (Elt F) (Rect.unit (s := S3x1024x2048) o S1x1024x2048.size h).toLoadRect (arrived c X s b f) = shown (tileOf c X b) := by
  subst e
  rw [← read_arrived c X s b f]
  exact (shown_shapeCast _).symm

/-- The weights narrowed. -/
def narrow (w : Vec F S1024x2048 .f32) : Vec F S1024x2048 .bf16 := truncf (F := F) .bf16 w bitsLt_bf16_f32

theorem pay2_apply (v : Vec F S512x2048 .f32) (y : S512x2048.Idx) : k0_pay2 v y = FloatOps.truncf (F := F) .bf16 bitsLt_bf16_f32 (v y) := by
  show FloatOps.truncf (F := F) .bf16 bitsLt_bf16_f32 (v (Shape.reshapeEquiv _ (Shape.reshapeEquiv _ y))) = _
  rw [Shape.reshapeEquiv_reshapeEquiv, Shape.reshapeEquiv_self]
theorem pay3_apply (v : Vec F S512x2048 .f32) (y : S512x2048.Idx) : k0_pay3 v y = FloatOps.truncf (F := F) .bf16 bitsLt_bf16_f32 (v y) := by
  show FloatOps.truncf (F := F) .bf16 bitsLt_bf16_f32 (v (Shape.reshapeEquiv _ (Shape.reshapeEquiv _ y))) = _
  rw [Shape.reshapeEquiv_reshapeEquiv, Shape.reshapeEquiv_self]

/-- The two halves stored one after the other are the narrowed weights. -/
theorem canon_narrow (w : Vec F S1024x2048 .f32) :
    View.canon [(⟨Rect.unit (s := S1024x2048) ![512, 0] S512x2048.size inb_S1024x2048_S512x2048_512_0, k0_pay3 (View.ld w (Rect.unit (s := S1024x2048) ![512, 0] S512x2048.size inb_S1024x2048_S512x2048_512_0))⟩ : View.Piece (Elt F) S1024x2048 .bf16),
      ⟨Rect.unit (s := S1024x2048) ![0, 0] S512x2048.size inb_S1024x2048_S512x2048_0_0, k0_pay2 (View.ld w (Rect.unit (s := S1024x2048) ![0, 0] S512x2048.size inb_S1024x2048_S512x2048_0_0))⟩] = narrow w := by
  funext y
  canon_tiles x h
  · have hx : (Rect.unit (s := S1024x2048) ![512, 0] S512x2048.size inb_S1024x2048_S512x2048_512_0).idx x = y := by
      funext a; apply Fin.ext; fin_cases a
      · show 512 + 1 * (x 0).val = (y 0).val; omega
      · show 0 + 1 * (x 1).val = (y 1).val; omega
    exact (pay3_apply (F := F) _ _).trans (congrArg (fun i => FloatOps.truncf (F := F) .bf16 bitsLt_bf16_f32 (w i)) hx)
  · have hx : (Rect.unit (s := S1024x2048) ![0, 0] S512x2048.size inb_S1024x2048_S512x2048_0_0).idx x = y := by
      funext a; apply Fin.ext; fin_cases a
      · show 0 + 1 * (x 0).val = (y 0).val; omega
      · show 0 + 1 * (x 1).val = (y 1).val; omega
    exact (pay2_apply (F := F) _ _).trans (congrArg (fun i => FloatOps.truncf (F := F) .bf16 bitsLt_bf16_f32 (w i)) hx)
/-- The same with the halves loaded from the window. -/
theorem canon_narrow_loaded (wtM : Memref sig .tc .vmem S1024x2048 .f32) (hw : wtM.IsWhole) (w : Vec F S1024x2048 .f32) :
    View.canon [(⟨Rect.unit (s := S1024x2048) ![512, 0] S512x2048.size inb_S1024x2048_S512x2048_512_0, k0_pay3 (wtM.view.readAt (Elt F) (Rect.unit (s := S1024x2048) ![512, 0] S512x2048.size inb_S1024x2048_S512x2048_512_0).toLoadRect (hw.unread w))⟩ : View.Piece (Elt F) S1024x2048 .bf16),
      ⟨Rect.unit (s := S1024x2048) ![0, 0] S512x2048.size inb_S1024x2048_S512x2048_0_0, k0_pay2 (wtM.view.readAt (Elt F) (Rect.unit (s := S1024x2048) ![0, 0] S512x2048.size inb_S1024x2048_S512x2048_0_0).toLoadRect (hw.unread w))⟩] = narrow w := by
  have h := canon_narrow (wtM.view.read (Elt F) (hw.unread w))
  exact h.trans (congrArg narrow (hw.read_unread w))
theorem read_narrow {sp : Space} (v : View sig .tc sp S1024x2048 .bf16) (f : v.ty.Contents (Elt F)) (wtM : Memref sig .tc .vmem S1024x2048 .f32) (hw : wtM.IsWhole) (w : Vec F S1024x2048 .f32) :
    v.read (Elt F) (v.writes (Elt F) f [(⟨Rect.unit (s := S1024x2048) ![512, 0] S512x2048.size inb_S1024x2048_S512x2048_512_0, k0_pay3 (wtM.view.readAt (Elt F) (Rect.unit (s := S1024x2048) ![512, 0] S512x2048.size inb_S1024x2048_S512x2048_512_0).toLoadRect (hw.unread w))⟩ : View.Piece (Elt F) S1024x2048 .bf16),
      ⟨Rect.unit (s := S1024x2048) ![0, 0] S512x2048.size inb_S1024x2048_S512x2048_0_0, k0_pay2 (wtM.view.readAt (Elt F) (Rect.unit (s := S1024x2048) ![0, 0] S512x2048.size inb_S1024x2048_S512x2048_0_0).toLoadRect (hw.unread w))⟩]) = narrow w :=
  (View.read_writes_eq_canon v f _ (View.cover_of_tiledBy _ ![512, 2048] (by sl_kernel_rfl))).trans (canon_narrow_loaded wtM hw w)

set_option maxHeartbeats 1000000 in
theorem run_start (c : Dev nD) (t : Fin cfg0.N) (bM : Memref sig .tc .vmem S1x1024 .f32) (hb : bM.IsWhole) (wtM : Memref sig .tc .vmem S1024x2048 .f32) (hw : wtM.IsWhole)
    (oM : Memref sig .tc .vmem S1024x1024 .f32) (ho : oM.IsWhole) (sM : Memref sig .tc .vmem S1024x2048 .bf16) (hs : sM.IsWhole)
    (hc : newCol (grid0.coords t)) (hst : starts (grid0.coords t)) (ha : asks (grid0.coords t))
    (b : Vec F S1x1024 .f32) (w : Vec F S1024x2048 .f32) (X : Act (F := F) c) (W : Waits sig Unit) (K : PUnit → sProp 𝕄) :
    iprop(owns (c : Thread nD τ) bM fullShare b ∗ owns (c : Thread nD τ) wtM fullShare w ∗ (∃ d, owns (c : Thread nD τ) oM fullShare d) ∗ (∃ d, owns (c : Thread nD τ) sM fullShare d)
        ∗ Ring.free (cellPt c) (slotFam c X) (Ring.sl 3 (t.val)) ∗ Ring.free (cellPt c) (slotFam c X) (Ring.sl 3 (t.val + 1)) ∗ Ring.free (cellPt c) (slotFam c X) (Ring.sl 3 (t.val + 2)) ∗ owes (c : Thread nD τ) 0 W
        ∗ (iprop(owns (c : Thread nD τ) bM fullShare b ∗ owns (c : Thread nD τ) wtM fullShare w
            ∗ owns (c : Thread nD τ) oM fullShare (k0_pay1 (shown (tileOf c X (Ring.bk 48 t.val))) (narrow w) b) ∗ owns (c : Thread nD τ) sM fullShare (narrow w)
            ∗ Ring.inflight (flyFam c X) (Ring.sl 3 (t.val + 1)) (Ring.bk 48 (t.val + 1)) ∗ Ring.inflight (flyFam c X) (Ring.sl 3 (t.val + 2)) (Ring.bk 48 (t.val + 2)) ∗ Ring.free (cellPt c) (slotFam c X) (Ring.sl 3 (t.val)) ∗ (∃ W', owes (c : Thread nD τ) 0 W')) -∗ K ⟨⟩))
      ⊢ wp frame (wpE (defs₀ (F := F)) Variants.none c none) Set.univ
          (cc0_proj_zg (grid0.coords t) (Memref.whole main_arg0) (Memref.isWhole_whole _) bM hb wtM hw oM ho sM hs ringM (Memref.isWhole_whole _) cc0_scratch2) K := by
  haveI : Fact (newCol (grid0.coords t)) := ⟨hc⟩
  haveI : Fact (starts (grid0.coords t)) := ⟨hst⟩
  haveI : Fact (asks (grid0.coords t)) := ⟨ha⟩
  have kn_0 := n_0 t hst
  have kn_0_cell := n_0_cell t hst
  have kn_0_tile := n_0_tile t hst
  have kn_1 := n_1 t hst
  have kn_1_cell := n_1_cell t hst
  have kn_1_tile := n_1_tile t hst
  rw [cc0_proj_zg_eq_skeleton]; unfold cc0_proj_zg_skel
  rw [k0_part1_eq_skeleton]
  unfold owns Ring.free Ring.inflight
  iintro ⟨⟨%f0, %hf0, H0⟩, ⟨%f1, %hf1, H1⟩, ⟨%d2, %f2, -, H2⟩, ⟨%d3, %f3, -, H3⟩, ⟨C0, ⟨%g0, S0, A0⟩⟩, ⟨C1, ⟨%g1, S1, A1⟩⟩, ⟨C2, ⟨%g2, S2, A2⟩⟩, HW, HK⟩
  ihave A0 := (act_cut c X (Ring.sl 3 (t.val)) (Ring.bk 48 (t.val))).1 $$ A0
  icases A0 with ⟨T0, N0⟩
  ihave A1 := (act_cut c X (Ring.sl 3 (t.val + 1)) (Ring.bk 48 (t.val + 1))).1 $$ A1
  icases A1 with ⟨T1, N1⟩
  ihave A2 := (act_cut c X (Ring.sl 3 (t.val + 2)) (Ring.bk 48 (t.val + 2))).1 $$ A2
  icases A2 with ⟨T2, N2⟩
  obtain rfl := hb.eq_unread hf0; obtain rfl := hw.eq_unread hf1
  sl_exec (disch := first | sl_exact hc | sl_exact hst | sl_exact ha)
  sl_step
  iapply HK
  isplitl [H0]
  · iexists _; isplitr
    · ipureintro; exact hb.read_unread _
    · iexact H0
  isplitl [H1]
  · iexists _; isplitr
    · ipureintro; exact hw.read_unread _
    · iexact H1
  isplitl [H2]
  · iexists _; isplitr
    swap
    · iexact H2
    · ipureintro
      refine (View.read_writes_full oM.view f2 inb_S1024x1024_S1024x1024_0_0 _ []).trans ?_
      have e1 : run_start.sl.v50 c t X = shown (tileOf c X (Ring.bk 48 t.val)) := load_this c X _ _ _ _ (o_load t) _
      have e2 : run_start.sl.v52 c wtM hw sM w = narrow w := by
        unfold run_start.sl.v52
        rw [View.readCov_eq_canon']
        exact (View.ld_unit_lit (Val := Elt F) inb_S1024x2048_S1024x2048_0_0 (View.canon _) (by decide)).trans (canon_narrow_loaded wtM hw w)
      have e3 := (View.readAt_full bM.view (hb.unread b) inb_S1x1024_S1x1024_0_0).trans (hb.read_unread b)
      exact congr (congr (congrArg k0_pay1 e1) e2) e3
  isplitl [H3]
  · iexists _; isplitr
    swap
    · iexact H3
    · ipureintro
      exact read_narrow sM.view f3 wtM hw w
  isplitl [C1 N1]
  · iexists _; isplitl [C1]
    · iexact C1
    · iexact N1
  isplitl [C2 N2]
  · iexists _; isplitl [C2]
    · iexact C2
    · iexact N2
  isplitl [C0 S0 T0 N0]
  · isplitl [C0]
    · iexact C0
    · iexists _
      isplitl [S0]
      · iexact S0
      · iapply (act_cut c X (Ring.sl 3 t.val) (Ring.bk 48 t.val)).2
        isplitl [T0]
        · iexact T0
        · iexact N0
  iexists _; iexact HW

set_option maxHeartbeats 1000000 in
theorem run_turn (c : Dev nD) (t : Fin cfg0.N) (bM : Memref sig .tc .vmem S1x1024 .f32) (hb : bM.IsWhole) (wtM : Memref sig .tc .vmem S1024x2048 .f32) (hw : wtM.IsWhole)
    (oM : Memref sig .tc .vmem S1024x1024 .f32) (ho : oM.IsWhole) (sM : Memref sig .tc .vmem S1024x2048 .bf16) (hs : sM.IsWhole)
    (hc : newCol (grid0.coords t)) (hst : ¬starts (grid0.coords t)) (ha : asks (grid0.coords t))
    (b : Vec F S1x1024 .f32) (w : Vec F S1024x2048 .f32) (X : Act (F := F) c) (W : Waits sig Unit) (K : PUnit → sProp 𝕄) :
    iprop(owns (c : Thread nD τ) bM fullShare b ∗ owns (c : Thread nD τ) wtM fullShare w ∗ (∃ d, owns (c : Thread nD τ) oM fullShare d) ∗ (∃ d, owns (c : Thread nD τ) sM fullShare d)
        ∗ Ring.inflight (flyFam c X) (Ring.sl 3 (t.val)) (Ring.bk 48 (t.val)) ∗ Ring.inflight (flyFam c X) (Ring.sl 3 (t.val + 1)) (Ring.bk 48 (t.val + 1)) ∗ Ring.free (cellPt c) (slotFam c X) (Ring.sl 3 (t.val + 2)) ∗ owes (c : Thread nD τ) 0 W
        ∗ (iprop(owns (c : Thread nD τ) bM fullShare b ∗ owns (c : Thread nD τ) wtM fullShare w
            ∗ owns (c : Thread nD τ) oM fullShare (k0_pay1 (shown (tileOf c X (Ring.bk 48 t.val))) (narrow w) b) ∗ owns (c : Thread nD τ) sM fullShare (narrow w)
            ∗ Ring.inflight (flyFam c X) (Ring.sl 3 (t.val + 1)) (Ring.bk 48 (t.val + 1)) ∗ Ring.inflight (flyFam c X) (Ring.sl 3 (t.val + 2)) (Ring.bk 48 (t.val + 2)) ∗ Ring.free (cellPt c) (slotFam c X) (Ring.sl 3 (t.val)) ∗ (∃ W', owes (c : Thread nD τ) 0 W')) -∗ K ⟨⟩))
      ⊢ wp frame (wpE (defs₀ (F := F)) Variants.none c none) Set.univ
          (cc0_proj_zg (grid0.coords t) (Memref.whole main_arg0) (Memref.isWhole_whole _) bM hb wtM hw oM ho sM hs ringM (Memref.isWhole_whole _) cc0_scratch2) K := by
  haveI : Fact (newCol (grid0.coords t)) := ⟨hc⟩
  haveI : Fact (¬starts (grid0.coords t)) := ⟨hst⟩
  haveI : Fact (asks (grid0.coords t)) := ⟨ha⟩
  rw [cc0_proj_zg_eq_skeleton]; unfold cc0_proj_zg_skel
  rw [k0_part1_eq_skeleton]
  unfold owns Ring.free Ring.inflight
  iintro ⟨⟨%f0, %hf0, H0⟩, ⟨%f1, %hf1, H1⟩, ⟨%d2, %f2, -, H2⟩, ⟨%d3, %f3, -, H3⟩, ⟨%g0, C0, N0⟩, ⟨%g1, C1, N1⟩, ⟨C2, ⟨%g2, S2, A2⟩⟩, HW, HK⟩
  ihave A2 := (act_cut c X (Ring.sl 3 (t.val + 2)) (Ring.bk 48 (t.val + 2))).1 $$ A2
  icases A2 with ⟨T2, N2⟩
  obtain rfl := hb.eq_unread hf0; obtain rfl := hw.eq_unread hf1
  sl_exec (disch := first | sl_exact hc | sl_exact hst | sl_exact ha)
  sl_step
  iapply HK
  isplitl [H0]
  · iexists _; isplitr
    · ipureintro; exact hb.read_unread _
    · iexact H0
  isplitl [H1]
  · iexists _; isplitr
    · ipureintro; exact hw.read_unread _
    · iexact H1
  isplitl [H2]
  · iexists _; isplitr
    swap
    · iexact H2
    · ipureintro
      refine (View.read_writes_full oM.view f2 inb_S1024x1024_S1024x1024_0_0 _ []).trans ?_
      have e1 : run_turn.sl.v50 c t X = shown (tileOf c X (Ring.bk 48 t.val)) := load_this c X _ _ _ _ (o_load t) _
      have e2 : run_turn.sl.v52 c wtM hw sM w = narrow w := by
        unfold run_turn.sl.v52
        rw [View.readCov_eq_canon']
        exact (View.ld_unit_lit (Val := Elt F) inb_S1024x2048_S1024x2048_0_0 (View.canon _) (by decide)).trans (canon_narrow_loaded wtM hw w)
      have e3 := (View.readAt_full bM.view (hb.unread b) inb_S1x1024_S1x1024_0_0).trans (hb.read_unread b)
      exact congr (congr (congrArg k0_pay1 e1) e2) e3
  isplitl [H3]
  · iexists _; isplitr
    swap
    · iexact H3
    · ipureintro
      exact read_narrow sM.view f3 wtM hw w
  isplitl [C1 N1]
  · iexists _; isplitl [C1]
    · iexact C1
    · iexact N1
  isplitl [C2 N2]
  · iexists _; isplitl [C2]
    · iexact C2
    · iexact N2
  isplitl [C0 C0_dst C0_src N0]
  · isplitl [C0]
    · iexact C0
    · iexists _
      isplitl [C0_dst]
      · iexact C0_dst
      · iapply (act_cut c X (Ring.sl 3 t.val) (Ring.bk 48 t.val)).2
        isplitl [C0_src]
        · iexact C0_src
        · iexact N0
  iexists _; iexact HW

set_option maxHeartbeats 1000000 in
theorem run_kept (c : Dev nD) (t : Fin cfg0.N) (bM : Memref sig .tc .vmem S1x1024 .f32) (hb : bM.IsWhole) (wtM : Memref sig .tc .vmem S1024x2048 .f32) (hw : wtM.IsWhole)
    (oM : Memref sig .tc .vmem S1024x1024 .f32) (ho : oM.IsWhole) (sM : Memref sig .tc .vmem S1024x2048 .bf16) (hs : sM.IsWhole)
    (hc : ¬newCol (grid0.coords t)) (hst : ¬starts (grid0.coords t)) (ha : asks (grid0.coords t))
    (b : Vec F S1x1024 .f32) (w : Vec F S1024x2048 .f32) (n : Vec F S1024x2048 .bf16) (X : Act (F := F) c) (W : Waits sig Unit) (K : PUnit → sProp 𝕄) :
    iprop(owns (c : Thread nD τ) bM fullShare b ∗ owns (c : Thread nD τ) wtM fullShare w ∗ (∃ d, owns (c : Thread nD τ) oM fullShare d) ∗ owns (c : Thread nD τ) sM fullShare n
        ∗ Ring.inflight (flyFam c X) (Ring.sl 3 (t.val)) (Ring.bk 48 (t.val)) ∗ Ring.inflight (flyFam c X) (Ring.sl 3 (t.val + 1)) (Ring.bk 48 (t.val + 1)) ∗ Ring.free (cellPt c) (slotFam c X) (Ring.sl 3 (t.val + 2)) ∗ owes (c : Thread nD τ) 0 W
        ∗ (iprop(owns (c : Thread nD τ) bM fullShare b ∗ owns (c : Thread nD τ) wtM fullShare w
            ∗ owns (c : Thread nD τ) oM fullShare (k0_pay1 (shown (tileOf c X (Ring.bk 48 t.val))) n b) ∗ owns (c : Thread nD τ) sM fullShare n
            ∗ Ring.inflight (flyFam c X) (Ring.sl 3 (t.val + 1)) (Ring.bk 48 (t.val + 1)) ∗ Ring.inflight (flyFam c X) (Ring.sl 3 (t.val + 2)) (Ring.bk 48 (t.val + 2)) ∗ Ring.free (cellPt c) (slotFam c X) (Ring.sl 3 (t.val)) ∗ (∃ W', owes (c : Thread nD τ) 0 W')) -∗ K ⟨⟩))
      ⊢ wp frame (wpE (defs₀ (F := F)) Variants.none c none) Set.univ
          (cc0_proj_zg (grid0.coords t) (Memref.whole main_arg0) (Memref.isWhole_whole _) bM hb wtM hw oM ho sM hs ringM (Memref.isWhole_whole _) cc0_scratch2) K := by
  haveI : Fact (¬newCol (grid0.coords t)) := ⟨hc⟩
  haveI : Fact (¬starts (grid0.coords t)) := ⟨hst⟩
  haveI : Fact (asks (grid0.coords t)) := ⟨ha⟩
  rw [cc0_proj_zg_eq_skeleton]; unfold cc0_proj_zg_skel
  rw [k0_part1_eq_skeleton]
  unfold owns Ring.free Ring.inflight
  iintro ⟨⟨%f0, %hf0, H0⟩, ⟨%f1, %hf1, H1⟩, ⟨%d2, %f2, -, H2⟩, ⟨%f3, %hf3, H3⟩, ⟨%g0, C0, N0⟩, ⟨%g1, C1, N1⟩, ⟨C2, ⟨%g2, S2, A2⟩⟩, HW, HK⟩
  ihave A2 := (act_cut c X (Ring.sl 3 (t.val + 2)) (Ring.bk 48 (t.val + 2))).1 $$ A2
  icases A2 with ⟨T2, N2⟩
  obtain rfl := hb.eq_unread hf0; obtain rfl := hw.eq_unread hf1; obtain rfl := hs.eq_unread hf3
  sl_exec (disch := first | sl_exact hc | sl_exact hst | sl_exact ha)
  sl_step
  iapply HK
  isplitl [H0]
  · iexists _; isplitr
    · ipureintro; exact hb.read_unread _
    · iexact H0
  isplitl [H1]
  · iexists _; isplitr
    · ipureintro; exact hw.read_unread _
    · iexact H1
  isplitl [H2]
  · iexists _; isplitr
    swap
    · iexact H2
    · ipureintro
      refine (View.read_writes_full oM.view f2 inb_S1024x1024_S1024x1024_0_0 _ []).trans ?_
      have e1 : run_kept.sl.v50 c t X = shown (tileOf c X (Ring.bk 48 t.val)) := load_this c X _ _ _ _ (o_load t) _
      have e2 := (View.readAt_full sM.view (hs.unread n) inb_S1024x2048_S1024x2048_0_0).trans (hs.read_unread n)
      have e3 := (View.readAt_full bM.view (hb.unread b) inb_S1x1024_S1x1024_0_0).trans (hb.read_unread b)
      exact congr (congr (congrArg k0_pay1 e1) e2) e3
  isplitl [H3]
  · iexists _; isplitr
    swap
    · iexact H3
    · ipureintro
      exact hs.read_unread _
  isplitl [C1 N1]
  · iexists _; isplitl [C1]
    · iexact C1
    · iexact N1
  isplitl [C2 N2]
  · iexists _; isplitl [C2]
    · iexact C2
    · iexact N2
  isplitl [C0 C0_dst C0_src N0]
  · isplitl [C0]
    · iexact C0
    · iexists _
      isplitl [C0_dst]
      · iexact C0_dst
      · iapply (act_cut c X (Ring.sl 3 t.val) (Ring.bk 48 t.val)).2
        isplitl [C0_src]
        · iexact C0_src
        · iexact N0
  iexists _; iexact HW

set_option maxHeartbeats 1000000 in
theorem run_last (c : Dev nD) (t : Fin cfg0.N) (bM : Memref sig .tc .vmem S1x1024 .f32) (hb : bM.IsWhole) (wtM : Memref sig .tc .vmem S1024x2048 .f32) (hw : wtM.IsWhole)
    (oM : Memref sig .tc .vmem S1024x1024 .f32) (ho : oM.IsWhole) (sM : Memref sig .tc .vmem S1024x2048 .bf16) (hs : sM.IsWhole)
    (hc : ¬newCol (grid0.coords t)) (hst : ¬starts (grid0.coords t)) (ha : ¬asks (grid0.coords t))
    (b : Vec F S1x1024 .f32) (w : Vec F S1024x2048 .f32) (n : Vec F S1024x2048 .bf16) (X : Act (F := F) c) (W : Waits sig Unit) (K : PUnit → sProp 𝕄) :
    iprop(owns (c : Thread nD τ) bM fullShare b ∗ owns (c : Thread nD τ) wtM fullShare w ∗ (∃ d, owns (c : Thread nD τ) oM fullShare d) ∗ owns (c : Thread nD τ) sM fullShare n
        ∗ Ring.inflight (flyFam c X) (Ring.sl 3 (t.val)) (Ring.bk 48 (t.val)) ∗ owes (c : Thread nD τ) 0 W
        ∗ (iprop(owns (c : Thread nD τ) bM fullShare b ∗ owns (c : Thread nD τ) wtM fullShare w
            ∗ owns (c : Thread nD τ) oM fullShare (k0_pay1 (shown (tileOf c X (Ring.bk 48 t.val))) n b) ∗ owns (c : Thread nD τ) sM fullShare n
            ∗ Ring.free (cellPt c) (slotFam c X) (Ring.sl 3 (t.val)) ∗ (∃ W', owes (c : Thread nD τ) 0 W')) -∗ K ⟨⟩))
      ⊢ wp frame (wpE (defs₀ (F := F)) Variants.none c none) Set.univ
          (cc0_proj_zg (grid0.coords t) (Memref.whole main_arg0) (Memref.isWhole_whole _) bM hb wtM hw oM ho sM hs ringM (Memref.isWhole_whole _) cc0_scratch2) K := by
  haveI : Fact (¬newCol (grid0.coords t)) := ⟨hc⟩
  haveI : Fact (¬starts (grid0.coords t)) := ⟨hst⟩
  haveI : Fact (¬asks (grid0.coords t)) := ⟨ha⟩
  rw [cc0_proj_zg_eq_skeleton]; unfold cc0_proj_zg_skel
  rw [k0_part1_eq_skeleton]
  unfold owns Ring.free Ring.inflight
  iintro ⟨⟨%f0, %hf0, H0⟩, ⟨%f1, %hf1, H1⟩, ⟨%d2, %f2, -, H2⟩, ⟨%f3, %hf3, H3⟩, ⟨%g0, C0, N0⟩, HW, HK⟩
  obtain rfl := hb.eq_unread hf0; obtain rfl := hw.eq_unread hf1; obtain rfl := hs.eq_unread hf3
  sl_exec (disch := first | sl_exact hc | sl_exact hst | sl_exact ha)
  sl_step
  iapply HK
  isplitl [H0]
  · iexists _; isplitr
    · ipureintro; exact hb.read_unread _
    · iexact H0
  isplitl [H1]
  · iexists _; isplitr
    · ipureintro; exact hw.read_unread _
    · iexact H1
  isplitl [H2]
  · iexists _; isplitr
    swap
    · iexact H2
    · ipureintro
      refine (View.read_writes_full oM.view f2 inb_S1024x1024_S1024x1024_0_0 _ []).trans ?_
      have e1 : run_last.sl.v50 c t X = shown (tileOf c X (Ring.bk 48 t.val)) := load_this c X _ _ _ _ (o_load t) _
      have e2 := (View.readAt_full sM.view (hs.unread n) inb_S1024x2048_S1024x2048_0_0).trans (hs.read_unread n)
      have e3 := (View.readAt_full bM.view (hb.unread b) inb_S1x1024_S1x1024_0_0).trans (hb.read_unread b)
      exact congr (congr (congrArg k0_pay1 e1) e2) e3
  isplitl [H3]
  · iexists _; isplitr
    swap
    · iexact H3
    · ipureintro
      exact hs.read_unread _
  isplitl [C0 C0_dst C0_src N0]
  · isplitl [C0]
    · iexact C0
    · iexists _
      isplitl [C0_dst]
      · iexact C0_dst
      · iapply (act_cut c X (Ring.sl 3 t.val) (Ring.bk 48 t.val)).2
        isplitl [C0_src]
        · iexact C0_src
        · iexact N0
  iexists _; iexact HW

end Cert.Kernel4Ideal.Zg

end
-- ==== Proof.ZgFrame.lean ====
/-
  The projection that reads its activations through the ring, over its whole grid: what the carried
  weights hold between points, what each point leaves, and the run.
-/
module

public import proofs.«01_k».proof.Proof.ZgRun
public import Idealize.ShloMosaic.Lib.Claim

@[expose] public section

set_option maxRecDepth 16384

noncomputable section

namespace Cert.Kernel4Ideal.Zg

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### Where the windows stand -/

/-- The first row of the weights that column `j` of the result takes. -/
def colAt (j : ℕ) : ℕ := if j < 2 then 5168 + 1024 * j else 13360 + 1024 * j

theorem colAt_lt (j : ℕ) (h : j < 6) : colAt j + 1024 ≤ 19504 := by unfold colAt; split <;> omega

theorem idx_all : ∀ t : Fin grid0.N, win0_0.index t = ![0, t.val / 8] ∧ win0_1.index t = ![colAt (t.val / 8), 0] ∧ win0_2.index t = ![t.val % 8, t.val / 8] := by
  decide +kernel

/-- Column `j`'s rows of the weights. -/
def wAt (c : Dev nD) (j : ℕ) : Vec F S1024x2048 .f32 :=
  fun y => (V m c main_v2 : S19504x2048.Idx → F .f32) (ix2 ⟨(colAt j + (y 0).val) % 19504, Nat.mod_lt _ (by decide)⟩ (y 1))

theorem blk_w (c : Dev nD) (t : Fin cfg0.N) : iblk m c 1 t = wAt m c (t.val / 8) := by
  have ht : t.val < 48 := lt_of_lt_of_eq t.isLt (show cfg0.N = 48 from N_0)
  funext y
  obtain ⟨r, k, rfl⟩ : ∃ (r : Fin 1024) (k : Fin 2048), y = ix2 r k := ⟨y 0, y 1, eq_ix2 y⟩
  have h1 := colAt_lt (t.val / 8) (by omega)
  refine (?_ : _ = (V m c main_v2 : S19504x2048.Idx → F .f32) (ix2 ⟨colAt (t.val / 8) + r.val, by have := r.isLt; omega⟩ k)).trans ?_
  · have e := (idx_all t).2.1
    refine congrArg (V m c main_v2 : S19504x2048.Idx → F .f32) (funext fun a => Fin.ext ?_)
    fin_cases a
    · show win0_1.index t 0 + 1 * r.val = colAt (t.val / 8) + r.val
      rw [e]; show colAt (t.val / 8) + 1 * r.val = _; omega
    · show win0_1.index t 1 + 1 * k.val = k.val
      rw [e]; show 0 + 1 * k.val = _; omega
  · exact congrArg _ ((ix2_inj ..).2 ⟨Fin.ext (by show colAt (t.val / 8) + r.val = (colAt (t.val / 8) + r.val) % 19504; have := r.isLt; omega), rfl⟩)

/-! ### The proof data -/

/-- What point `t` leaves in its block of the result. -/
def left (c : Dev nD) (t : Fin cfg0.N) : Vec F S1024x1024 .f32 :=
  k0_pay1 (shown (tileOf c (V m c main_arg0) (Ring.bk 48 t.val))) (narrow (wAt m c (t.val / 8))) (iblk m c 0 t)

/-- Before point `k`: inside a column the carried buffer holds that column's narrowed weights. -/
def Inv (c : Dev nD) (k : ℕ) : sProp 𝕄 :=
  iprop((∃ d, ⌜k % 8 ≠ 0 → d = narrow (wAt m c (k / 8))⌝ ∗ owns (c : Thread nD τ) wM fullShare d) ∗ (∃ r, prngReg c r) ∗ ringAt c (V m c main_arg0) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => left m c t
  Φ t := Inv m c t.val
  q _ := fullShare
  owed _ := 0

theorem A_eq (c : Dev nD) (w : Fin cfg0.W) : (dats m 0 c).A w = V m c (Pipeline.arrRef spec0 w) := by
  dsimp only [dats]
theorem Inv_castSucc (c : Dev nD) (t : Fin cfg0.N) : (dats m 0 c).Φ t.castSucc = Inv m c t.val := by
  dsimp only [dats]; simp only [Fin.coe_castSucc]
theorem Inv_succ (c : Dev nD) (t : Fin cfg0.N) : (dats m 0 c).Φ t.succ = Inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = left m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)

/-! ### One point -/

abbrev st_0 (t : Fin cfg0.N) : Memref sig .tc .vmem S1x1024 .f32 := win0_0.stage (cfg0.slots t 0)
abbrev st_1 (t : Fin cfg0.N) : Memref sig .tc .vmem S1024x2048 .f32 := win0_1.stage (cfg0.slots t 1)
abbrev st_2 (t : Fin cfg0.N) : Memref sig .tc .vmem S1024x1024 .f32 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t))

/-- What the carried weights are before a point and after it. -/
theorem carried (c : Dev nD) (t : Fin cfg0.N) : (t.val + 1) % 8 ≠ 0 → narrow (wAt m c (t.val / 8)) = narrow (wAt m c ((t.val + 1) / 8)) := by
  intro h; rw [show (t.val + 1) / 8 = t.val / 8 by omega]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [after_0, after_1, after_2, Inv_castSucc m c t, Inv_succ m c t]
  unfold Dat.owesAt Pipeline.owesWithin
  rw [show (dats m 0 c).owed t.castSucc = 0 from rfl, show (dats m 0 c).owed t.succ = 0 from rfl]
  unfold Inv ringAt left
  have hN : t.val < 48 := lt_of_lt_of_eq t.isLt (show cfg0.N = 48 from N_0)
  have hcar := carried m c t
  have hw := blk_w m c t
  rw [hw]
  by_cases h1 : t.val = 0
  · have h0 : t.val % 8 = 0 := by omega
    have h2 : t.val + 2 < 48 := by omega
    rw [if_pos h1, if_neg (show ¬t.val + 1 = 0 by omega)]
    rw [Ring.At₀_eq3' _ _ _ t.val h1 (by decide : 3 ≤ 48), Ring.At3_one' _ _ _ _ t.val h1 (by decide : 3 ≤ 48)]
    iintro ⟨⟨⟨%d3, -, HS⟩, Hg, ⟨-, Q0, Q1, Q2⟩⟩, ⟨%W, -, HW⟩, ⟨%d0, H0⟩, ⟨%d1, H1⟩, ⟨%d2, H2⟩⟩
    iapply (run_start c t _ _ _ _ _ _ _ _ ((newCol_iff t).mpr h0) ((starts_iff t).mpr h1) ((asks_iff t).mpr h2) (iblk m c 0 t) (wAt m c (t.val / 8)) (V m c main_arg0) W _)
    isplitl [H0]; · iexact H0
    isplitl [H1]; · iexact H1
    isplitl [H2]; · iexists _; iexact H2
    isplitl [HS]; · iexists _; iexact HS
    isplitl [Q0]; · iexact Q0
    isplitl [Q1]; · iexact Q1
    isplitl [Q2]; · iexact Q2
    isplitl [HW]; · iexact HW
    iintro ⟨H0, H1, H2, HS, Qa, Qb, Qc, ⟨%W', HW'⟩⟩
    isplitl [HS Hg Qa Qb Qc]
    · isplitl [HS]
      · iexists _; isplitr
        · ipureintro; exact hcar
        · iexact HS
      isplitl [Hg]; · iexact Hg
      iapply (Ring.with_homes (Idealize.SL.BI.Entails.refl _))
      isplitl [Qa]; · iexact Qa
      isplitl [Qb]; · iexact Qb
      iexact Qc
    isplitl [HW']
    · iexists W'; isplitr
      · ipureintro; exact fun _ _ => Or.inl trivial
      · iexact HW'
    isplitl [H0]; · iexact H0
    isplitl [H1]; · iexact H1
    iexact H2
  by_cases h0 : t.val % 8 = 0
  · have h2 : t.val + 2 < 48 := by omega
    rw [if_neg h1, if_neg (show ¬t.val + 1 = 0 by omega)]
    rw [Ring.At3_here _ _ _ _ t.val h2, Ring.At3_next _ _ _ _ t.val h2, Ring.slotAt3_next0 _ _ _ t.val (by omega), Ring.slotAt3_next1 _ _ _ t.val h2]
    iintro ⟨⟨⟨%d3, -, HS⟩, Hg, ⟨-, Q0, Q1, Q2⟩⟩, ⟨%W, -, HW⟩, ⟨%d0, H0⟩, ⟨%d1, H1⟩, ⟨%d2, H2⟩⟩
    iapply (run_turn c t _ _ _ _ _ _ _ _ ((newCol_iff t).mpr h0) (fun h => h1 ((starts_iff t).mp h)) ((asks_iff t).mpr h2) (iblk m c 0 t) (wAt m c (t.val / 8)) (V m c main_arg0) W _)
    isplitl [H0]; · iexact H0
    isplitl [H1]; · iexact H1
    isplitl [H2]; · iexists _; iexact H2
    isplitl [HS]; · iexists _; iexact HS
    isplitl [Q0]; · iexact Q0
    isplitl [Q1]; · iexact Q1
    isplitl [Q2]; · iexact Q2
    isplitl [HW]; · iexact HW
    iintro ⟨H0, H1, H2, HS, Qa, Qb, Qc, ⟨%W', HW'⟩⟩
    isplitl [HS Hg Qa Qb Qc]
    · isplitl [HS]
      · iexists _; isplitr
        · ipureintro; exact hcar
        · iexact HS
      isplitl [Hg]; · iexact Hg
      iapply (Ring.with_homes (Idealize.SL.BI.Entails.refl _))
      isplitl [Qa]; · iexact Qa
      isplitl [Qb]; · iexact Qb
      iexact Qc
    isplitl [HW']
    · iexists W'; isplitr
      · ipureintro; exact fun _ _ => Or.inl trivial
      · iexact HW'
    isplitl [H0]; · iexact H0
    isplitl [H1]; · iexact H1
    iexact H2
  by_cases h2 : t.val + 2 < 48
  · rw [if_neg h1, if_neg (show ¬t.val + 1 = 0 by omega)]
    rw [Ring.At3_here _ _ _ _ t.val h2, Ring.At3_next _ _ _ _ t.val h2, Ring.slotAt3_next0 _ _ _ t.val (by omega), Ring.slotAt3_next1 _ _ _ t.val h2]
    iintro ⟨⟨⟨%d3, %hd3, HS⟩, Hg, ⟨-, Q0, Q1, Q2⟩⟩, ⟨%W, -, HW⟩, ⟨%d0, H0⟩, ⟨%d1, H1⟩, ⟨%d2, H2⟩⟩
    obtain rfl := hd3 h0
    iapply (run_kept c t _ _ _ _ _ _ _ _ (fun h => h0 ((newCol_iff t).mp h)) (fun h => h1 ((starts_iff t).mp h)) ((asks_iff t).mpr h2) (iblk m c 0 t) (wAt m c (t.val / 8)) (narrow (wAt m c (t.val / 8))) (V m c main_arg0) W _)
    isplitl [H0]; · iexact H0
    isplitl [H1]; · iexact H1
    isplitl [H2]; · iexists _; iexact H2
    isplitl [HS]; · iexact HS
    isplitl [Q0]; · iexact Q0
    isplitl [Q1]; · iexact Q1
    isplitl [Q2]; · iexact Q2
    isplitl [HW]; · iexact HW
    iintro ⟨H0, H1, H2, HS, Qa, Qb, Qc, ⟨%W', HW'⟩⟩
    isplitl [HS Hg Qa Qb Qc]
    · isplitl [HS]
      · iexists _; isplitr
        · ipureintro; exact hcar
        · iexact HS
      isplitl [Hg]; · iexact Hg
      iapply (Ring.with_homes (Idealize.SL.BI.Entails.refl _))
      isplitl [Qa]; · iexact Qa
      isplitl [Qb]; · iexact Qb
      iexact Qc
    isplitl [HW']
    · iexists W'; isplitr
      · ipureintro; exact fun _ _ => Or.inl trivial
      · iexact HW'
    isplitl [H0]; · iexact H0
    isplitl [H1]; · iexact H1
    iexact H2
  · rw [if_neg h1, if_neg (show ¬t.val + 1 = 0 by omega)]
    rw [Ring.At3_here_tail _ _ _ _ t.val (by omega), Ring.At3_next_tail _ _ _ _ t.val (by omega) (by omega), Ring.slotAt3_tail_role _ _ _ t.val]
    iintro ⟨⟨⟨%d3, %hd3, HS⟩, Hg, ⟨-, Q0, Q1, Q2⟩⟩, ⟨%W, -, HW⟩, ⟨%d0, H0⟩, ⟨%d1, H1⟩, ⟨%d2, H2⟩⟩
    obtain rfl := hd3 h0
    iapply (run_last c t _ _ _ _ _ _ _ _ (fun h => h0 ((newCol_iff t).mp h)) (fun h => h1 ((starts_iff t).mp h)) (fun h => h2 ((asks_iff t).mp h)) (iblk m c 0 t) (wAt m c (t.val / 8)) (narrow (wAt m c (t.val / 8))) (V m c main_arg0) W _)
    isplitl [H0]; · iexact H0
    isplitl [H1]; · iexact H1
    isplitl [H2]; · iexists _; iexact H2
    isplitl [HS]; · iexact HS
    isplitl [Q0]; · iexact Q0
    isplitl [HW]; · iexact HW
    iintro ⟨H0, H1, H2, HS, Qc, ⟨%W', HW'⟩⟩
    isplitl [HS Hg Q1 Q2 Qc]
    · isplitl [HS]
      · iexists _; isplitr
        · ipureintro; exact hcar
        · iexact HS
      isplitl [Hg]; · iexact Hg
      iapply (Ring.with_homes (Idealize.SL.BI.Entails.refl _))
      isplitl [Q1]; · iexact Q1
      isplitl [Q2]; · iexact Q2
      iexact Qc
    isplitl [HW']
    · iexists W'; isplitr
      · ipureintro; exact fun _ _ => Or.inl trivial
      · iexact HW'
    isplitl [H0]; · iexact H0
    isplitl [H1]; · iexact H1
    iexact H2

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ### The run -/

abbrev cells : Fin 3 → SemLoc sig := fun j => (![SemLoc.dma 6, SemLoc.dma 7, SemLoc.dma 8] : Fin 3 → SemLoc sig) j
theorem cells_own : Pipeline.OwnSemFacts spec0 cells := by decide
theorem cells_zero (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 6) 0 ∗ semVal ((c : Thread nD τ), SemLoc.dma 7) 0 ∗ semVal ((c : Thread nD τ), SemLoc.dma 8) 0) := by
  rw [Pipeline.ownSems0_eq_of_list c cells [0, 1, 2] (by decide) (by decide)]; rfl
def moved : Finset (Ref sig .tc) := {main_arg0}
theorem moved_sub : moved ⊆ Pipeline.restRefs sig spec0 := by decide
theorem moved_pts (c : Dev nD) :
    (bigSep moved (fun b => ((c : Thread nD τ).loc b) ↦{fullShare} V m c b) : sProp 𝕄) = (actM.view.loc (c : Thread nD τ) ↦{fullShare} V m c main_arg0) := by
  rw [BI.bigSep_eq_bigSepL_of_eq [main_arg0] (by decide) (by decide)]; rfl
theorem given (c : Dev nD) : (Pipeline.ΦD cells spec0 moved (V m) c : sProp 𝕄)
    = iprop(iprop((∃ d, owns (c : Thread nD τ) wM fullShare d) ∗ (∃ d, owns (c : Thread nD τ) ringM fullShare d)) ∗ (∃ r, prngReg c r)
      ∗ iprop(semVal ((c : Thread nD τ), SemLoc.dma 6) 0 ∗ semVal ((c : Thread nD τ), SemLoc.dma 7) 0 ∗ semVal ((c : Thread nD τ), SemLoc.dma 8) 0) ∗ (actM.view.loc (c : Thread nD τ) ↦{fullShare} V m c main_arg0)) := by
  rw [Pipeline.ΦD_eq, scopedRest0_eq, cells_zero, moved_pts]; simp only [wM, ringM, owns_whole]; try rfl

theorem inv_first (c : Dev nD) : Pipeline.ΦD cells spec0 moved (V m) c ⊢ (dats m 0 c).Φ 0 := by
  rw [given, show (dats m 0 c).Φ 0 = Inv m c 0 from rfl]
  unfold Inv
  iintro ⟨⟨⟨%d, HS⟩, HR⟩, Hg, Hq, Hh⟩
  isplitl [HS]
  · iexists d; isplitr
    · ipureintro; exact fun h => absurd rfl h
    · iexact HS
  isplitl [Hg]; · iexact Hg
  iapply (ring_in (F := F) c (V m c main_arg0))
  isplitl [HR]; · iexact HR
  isplitl [Hq]; · iexact Hq
  iexact Hh
theorem inv_last (c : Dev nD) : (dats m 0 c).Φ (Fin.last cfg0.N) ⊢ Pipeline.ΦD cells spec0 moved (V m) c := by
  rw [given, show (dats m 0 c).Φ (Fin.last cfg0.N) = Inv m c grid0.N from rfl]
  unfold Inv
  rw [show grid0.N = 48 by rw [N_0]]
  iintro ⟨⟨%d, -, HS⟩, Hg, HR⟩
  ihave HX := (ring_out (F := F) c (V m c main_arg0)) $$ HR
  icases HX with ⟨HR, Hq, Hh⟩
  isplitl [HS HR]
  · isplitl [HS]; · iexists d; iexact HS
    iexact HR
  isplitl [Hg]; · iexact Hg
  isplitl [Hq]; · iexact Hq
  iexact Hh

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
set_option maxHeartbeats 800000 in
theorem run_quiet : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cells defs₀ Variants.none cells_own moved moved_sub m ρ main
    (hbody := fun c => (body_obligation m c).loose) (hshare := fun c => (dats m 0 c).share_full fun _ => rfl)
    (howed := fun _ _ => rfl) (V := V m) (hmain := hmainD m Variants.none) (hA := A_eq m) (hin := inv_first m) (hout := inv_last m)

/-- The arguments end unchanged, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_quiet m ρ)

end Cert.Kernel4Ideal.Zg

end
-- ==== Proof.ZgClaim.lean ====
/-
  The first large projection: kernel and reference end with the same array.
-/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.NormClaim
public import proofs.«01_k».proof.Proof.ZgFrame
public import proofs.«01_k».proof.Proof.ZgBitsFrame
public import Idealize.ShloMosaic.Lib.Claim
public import Idealize.ShloMosaic.Lib.Pipeline.Value
public import Idealize.ShloMosaic.Lib.Pipeline.ValueKit
public import Idealize.ShloMosaic.Lib.Pointwise

@[expose] public section

set_option maxRecDepth 16384

noncomputable section

namespace Cert.Zg
open Idealize.ShloMosaic

/-- Position `p` of the result is this column of the whole input projection. -/
def col (p : Fin 6144) : Fin 19504 := if h : p.val < 2048 then ⟨5168 + p.val, by omega⟩ else ⟨13360 + p.val, by have := p.isLt; omega⟩

/-- The input projection at a row and a column. -/
def pj (x : (⟨2, ![8192, 2048]⟩ : Shape).Idx → EReal) (w : (⟨3, ![1, 2048, 19504]⟩ : Shape).Idx → EReal) (b : (⟨2, ![1, 19504]⟩ : Shape).Idx → EReal)
    (p : Fin 8192) (q : Fin 19504) : EReal :=
  (∑ h : Fin 2048, x (ix2 p h) * w (ix3 0 h q)) + b (ix2 0 q)

end Cert.Zg

namespace Cert.Kernel4Ideal.Zg
open Cert.Kernel4Ideal Cert.Kernel4Ideal.Gen Idealize.ShloMosaic Idealize.ShloMosaic.TcCoe Idealize.SL.Sem
open Idealize.ShloMosaic.Pipeline (Dat)
variable (m : (ℓ : Loc nD τ sig) → Buf (Elt Ideal) ℓ)

theorem pay_apply (x : Vec Ideal S1x1024x2048 .bf16) (w : Vec Ideal S1024x2048 .bf16) (b : Vec Ideal S1x1024 .f32) (r k : Fin 1024) :
    k0_pay1 x w b (ix2 r k) = (∑ h : Fin 2048, x (ix3 0 r h) * w (ix2 k h)) + b (ix2 0 k) := by
  pointwise [k0_pay1]

theorem shown_apply (v : Vec Ideal S1024x2048 .bf16) (r : Fin 1024) (h : Fin 2048) : shown v (ix3 0 r h) = v (ix2 r h) := by
  pointwise [shown]

theorem tile_apply (c : Dev nD) (X : Act (F := Ideal) c) (b : Fin 48) (r : Fin 1024) (h : Fin 2048) (hp : 1024 * (b.val % 8) + r.val < 8192) :
    tileOf c X b (ix2 r h) = (X : S8192x2048.Idx → EReal) (ix2 ⟨1024 * (b.val % 8) + r.val, hp⟩ h) := by
  refine congrArg (X : S8192x2048.Idx → EReal) (funext fun a => Fin.ext ?_)
  fin_cases a
  · show 1024 * (b.val % 8) + 1 * r.val = _; rw [Nat.one_mul]; rfl
  · show 0 + 1 * h.val = _; rw [Nat.one_mul, Nat.zero_add]; rfl

theorem read_w (c : Dev nD) (p : Fin 19504) (k : Fin 2048) :
    (V m c main_v2 : S19504x2048.Idx → EReal) (ix2 p k) = (m ((c : Thread nD τ).loc main_arg1) : S1x2048x19504.Idx → EReal) (ix3 0 k p) := by
  entry_read
  pointwise

theorem read_b (c : Dev nD) (p : Fin 6144) :
    (V m c main_v6 : S1x6144.Idx → EReal) (ix2 0 p) = (m ((c : Thread nD τ).loc main_arg2) : S1x19504.Idx → EReal) (ix2 0 (Cert.Zg.col p)) := by
  entry_read
  pointwise
  unfold Cert.Zg.col
  split
  · rfl
  · exact congrArg _ ((ix2_inj ..).2 ⟨rfl, Fin.ext (by show 15408 + (p.val - 2048) = 13360 + p.val; omega)⟩)

theorem blk_b (c : Dev nD) (t : Fin grid0.N) (k : Fin 1024) (hp : t.val / 8 * 1024 + k.val < 6144) :
    iblk m c 0 t (ix2 0 k) = (V m c main_v6 : S1x6144.Idx → EReal) (ix2 0 ⟨t.val / 8 * 1024 + k.val, hp⟩) := by
  blk_ext [iblk, idx_all t]

theorem flushed_2 (c : Dev nD) (t : Fin cfg0.N) : (dats m 0 c).flushed 2 t = (cfg0.win 2).cut (grid0.coords t) (left m c t) := by
  show (cfg0.win 2).cut (grid0.coords t) ((dats m 0 c).after 2 t) = _
  rw [after_2]
theorem idx_inj : ∀ t t' : Fin cfg0.N, win0_2.index t = win0_2.index t' → t = t' :=
  (by decide +kernel : ∀ t t' : Fin grid0.N, win0_2.index t = win0_2.index t' → t = t')
theorem blocks (c : Dev nD) (t : Fin cfg0.N) (hf : (cfg0.win 2).flush t = true) :
    ((cfg0.win 2).blk t).view.read (Elt Ideal) ((dats m 0 c).arrAt 2 cfg0.N) = (dats m 0 c).flushed 2 t :=
  (dats m 0 c).read_blk_arrAt_eq_flushed 2 (fun t t' _ _ hne => (cfg0.win 2).disjoint_blk fun h => hne (idx_inj t t' h)) cfg0.N t t.isLt hf

theorem emb_eq (t : Fin cfg0.N) (r k : Fin 1024) (hr : t.val % 8 * 1024 + r.val < 8192) (hk : t.val / 8 * 1024 + k.val < 6144) :
    ((cfg0.win 2).blk t).view.emb (ix2 r k) = (ix2 (⟨t.val % 8 * 1024 + r.val, hr⟩ : Fin 8192) (⟨t.val / 8 * 1024 + k.val, hk⟩ : Fin 6144) : S8192x6144.Idx) := by
  refine funext fun a => Fin.ext ?_
  have e := (idx_all t).2.2
  fin_cases a
  · show win0_2.index t 0 * 1024 + 1 * r.val = t.val % 8 * 1024 + r.val
    rw [e]; show t.val % 8 * 1024 + 1 * r.val = _; omega
  · show win0_2.index t 1 * 1024 + 1 * k.val = t.val / 8 * 1024 + k.val
    rw [e]; show t.val / 8 * 1024 + 1 * k.val = _; omega

theorem flush_all : ∀ t : Fin cfg0.N, (cfg0.win 2).flush t = true :=
  (by decide +kernel : ∀ t : Fin grid0.N, win0_2.flush t = true)

theorem left_apply (c : Dev nD) (t : Fin cfg0.N) (r k : Fin 1024) (hr : t.val % 8 * 1024 + r.val < 8192) (hk : t.val / 8 * 1024 + k.val < 6144) :
    left m c t (ix2 r k) = Cert.Zg.pj (m ((c : Thread nD τ).loc main_arg0)) (m ((c : Thread nD τ).loc main_arg1)) (m ((c : Thread nD τ).loc main_arg2))
      ⟨t.val % 8 * 1024 + r.val, hr⟩ (Cert.Zg.col ⟨t.val / 8 * 1024 + k.val, hk⟩) := by
  have ht : t.val < 48 := lt_of_lt_of_eq t.isLt (show cfg0.N = 48 from N_0)
  have hb : (Ring.bk 48 t.val).val = t.val := Ring.bk_val ht
  unfold left
  refine (pay_apply _ _ _ r k).trans ?_
  unfold Cert.Zg.pj
  refine Ideal.add_congr (Finset.sum_congr rfl fun h _ => Ideal.mul_congr ?_ ?_) ((blk_b m c t k hk).trans (read_b m c _))
  · refine (shown_apply _ r h).trans ((tile_apply c _ _ r h (by rw [hb]; omega)).trans ?_)
    rw [V_main_arg0]
    exact congrArg _ ((ix2_inj ..).2 ⟨Fin.ext (by show 1024 * ((Ring.bk 48 t.val).val % 8) + r.val = t.val % 8 * 1024 + r.val; rw [hb]; omega), rfl⟩)
  · show (V m c main_v2 : S19504x2048.Idx → EReal) (ix2 ⟨(colAt (t.val / 8) + k.val) % 19504, _⟩ h) = _
    refine (read_w m c _ h).trans (congrArg _ ?_)
    have e : (⟨(colAt (t.val / 8) + k.val) % 19504, Nat.mod_lt _ (by decide)⟩ : Fin 19504) = Cert.Zg.col ⟨t.val / 8 * 1024 + k.val, hk⟩ := by
      unfold Cert.Zg.col colAt
      have hk' := k.isLt
      by_cases h2 : t.val / 8 < 2
      · rw [if_pos h2, dif_pos (show t.val / 8 * 1024 + k.val < 2048 by omega)]
        exact Fin.ext (by show (5168 + 1024 * (t.val / 8) + k.val) % 19504 = 5168 + (t.val / 8 * 1024 + k.val); omega)
      · rw [if_neg h2, dif_neg (show ¬ t.val / 8 * 1024 + k.val < 2048 by omega)]
        exact Fin.ext (by show (13360 + 1024 * (t.val / 8) + k.val) % 19504 = 13360 + (t.val / 8 * 1024 + k.val); omega)
    rw [e]

theorem final_apply (c : Dev nD) (p : Fin 8192) (q : Fin 6144) :
    ((dats m 0 c).arrAt 2 cfg0.N : S8192x6144.Idx → EReal) (ix2 p q)
      = Cert.Zg.pj (m ((c : Thread nD τ).loc main_arg0)) (m ((c : Thread nD τ).loc main_arg1)) (m ((c : Thread nD τ).loc main_arg2)) p (Cert.Zg.col q) := by
  have hp := p.isLt
  have hq := q.isLt
  have hlt : q.val / 1024 * 8 + p.val / 1024 < cfg0.N := by
    show _ < grid0.N
    rw [N_0]
    omega
  obtain ⟨t, ht⟩ : ∃ t : Fin cfg0.N, t.val = q.val / 1024 * 8 + p.val / 1024 := ⟨⟨_, hlt⟩, rfl⟩
  obtain ⟨r, hr⟩ : ∃ r : Fin 1024, r.val = p.val % 1024 := ⟨⟨_, Nat.mod_lt _ (by decide)⟩, rfl⟩
  obtain ⟨k, hk⟩ : ∃ k : Fin 1024, k.val = q.val % 1024 := ⟨⟨_, Nat.mod_lt _ (by decide)⟩, rfl⟩
  have h1 : t.val % 8 * 1024 + r.val < 8192 := by omega
  have h2 : t.val / 8 * 1024 + k.val < 6144 := by omega
  have ep : (⟨t.val % 8 * 1024 + r.val, h1⟩ : Fin 8192) = p := Fin.ext (by show t.val % 8 * 1024 + r.val = p.val; omega)
  have eq : (⟨t.val / 8 * 1024 + k.val, h2⟩ : Fin 6144) = q := Fin.ext (by show t.val / 8 * 1024 + k.val = q.val; omega)
  have e := congrFun (blocks m c t (flush_all t)) (ix2 r k)
  rw [flushed_2] at e
  have e' : ((dats m 0 c).arrAt 2 cfg0.N : S8192x6144.Idx → EReal) (((cfg0.win 2).blk t).view.emb (ix2 r k)) = left m c t (ix2 r k) := e
  rw [emb_eq t r k h1 h2, left_apply m c t r k h1 h2, ep, eq] at e'
  exact e'

variable (ρ : Dev nD → PrngReg)

/-- A launch ends with the result array in place and the arguments as they were. -/
theorem value_run : θ_run defs (onTc (τ := τ) (main (F := Ideal))) ⟨m, fun _ => 0, ρ⟩ fun r => ∀ c : Dev nD,
      r.2.mem ((c : Thread nD τ).loc main_v7) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 2,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_quiet m ρ)

end Cert.Kernel4Ideal.Zg

namespace Cert.Reference4Ideal.Zg
open Cert.Reference4Ideal Cert.Reference4Ideal.Gen Idealize.ShloMosaic
variable (x : FVec Ideal S8192x2048 .bf16) (w : FVec Ideal S1x2048x19504 .f32) (b : FVec Ideal S1x19504 .f32)

/-- The whole input projection of the reference. -/
def proj : FVec Ideal S4x2048x19504 .f32 :=
  addf (Host.dotGeneral dot_S4x2048x2048_S2048x19504_S4x2048x19504_2_0_01_1_n_n none (extf .f32 (shapeCast _ x shapeCasts_S8192x2048_S4x2048x2048) bitsLt_bf16_f32) (shapeCast _ w shapeCasts_S1x2048x19504_S2048x19504)) (broadcastInDim S4x2048x19504 ![0, 1, 2] bcast_S1x1x19504_S4x2048x19504_0_1_2 (broadcastInDim S1x1x19504 ![2] bcast_S19504_S1x1x19504_2 (shapeCast _ b shapeCasts_S1x19504_S19504)))

theorem proj_apply (n : Fin 4) (s : Fin 2048) (q : Fin 19504) :
    proj x w b (ix3 n s q) = Cert.Zg.pj x w b ⟨n.val * 2048 + s.val, by omega⟩ q := by
  pointwise [proj, Cert.Zg.pj]

/-- The two groups of columns side by side. -/
def res : FVec Ideal S8192x6144 .f32 :=
  shapeCast _ (concatenate S4x2048x6144 2 [⟨S4x2048x2048, extractStridedSlice S4x2048x2048 ![0, 0, 5168] (proj x w b) slices_S4x2048x19504_S4x2048x2048_0_0_5168⟩, ⟨S4x2048x4096, extractStridedSlice S4x2048x4096 ![0, 0, 15408] (proj x w b) slices_S4x2048x19504_S4x2048x4096_0_0_15408⟩] concatenates_S4x2048x2048_S4x2048x4096_S4x2048x6144_d2) shapeCasts_S4x2048x6144_S8192x6144

theorem res_apply (n : Fin 4) (s : Fin 2048) (q : Fin 6144) :
    res x w b (ix2 ⟨n.val * 2048 + s.val, by omega⟩ q) = Cert.Zg.pj x w b ⟨n.val * 2048 + s.val, by omega⟩ (Cert.Zg.col q) := by
  have e : ∀ j : Fin 19504, proj x w b (ix3 n s j) = Cert.Zg.pj x w b ⟨n.val * 2048 + s.val, by omega⟩ j := proj_apply x w b n s
  pointwise [res, e]
  unfold Cert.Zg.col
  split
  · rfl
  · exact congrArg _ (Fin.ext (by show 15408 + (q.val - 2048) = 13360 + q.val; omega))

end Cert.Reference4Ideal.Zg

namespace Cert.Zg
open Idealize.ShloMosaic Idealize.ShloMosaic.TcCoe Idealize.SL.Sem

theorem algebraic : Cert.algebraic_Kernel4Ideal_Reference4Ideal := by
  pair_intro
  · run_from Cert.Kernel4Ideal.Zg.value_run m g
  · run_from Cert.Reference4Ideal.Value.run m' g'
    · exact Cert.Norm.rows_ext _ _ fun n s k => (Cert.Reference4Ideal.Zg.res_apply _ _ _ n s k).trans
        ((congrArg (fun v => pj _ _ v _ _) (hagree c).2.2).trans (Cert.Kernel4Ideal.Zg.final_apply m c _ k).symm)

theorem frame_reference : Cert.quiescent_Reference4Ideal := fun m g _ =>
  θ_run_mono (Cert.Reference4Ideal.Value.run m g) fun r h => ⟨fun c => (h c).2, sem_eq_zero_of_no_sems (by decide) r.2⟩

end Cert.Zg

end
-- ==== Proof.QkvRing.lean ====
/-
  The two-slot ring of row tiles that the query, key and value projection reads its activations through.
-/
module

public import proofs.«01_k».proof.Proof.Gen.Kernel5Ideal.Frame
public import proofs.«01_k».proof.Proof.Gen.Kernel5Ideal.Skeleton
public import Idealize.ShloMosaic.Lib.Pipeline.ValueKit

@[expose] public section

set_option maxRecDepth 16384

noncomputable section

namespace Cert.Kernel5Ideal.Qkv

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

instance : NeZero grid0.N := ⟨by rw [N_0]; decide⟩

/-! ### When the branches are taken -/

/-- A new column of weights is narrowed. -/
abbrev newCol (i : grid0.Coords) : Prop := (Scalar.cmpi .ne (Scalar.extui (Scalar.cmpi .eq (BitVec.ofNat 32 (i 1).val) 0#32)) 0#32) = 1#1
/-- The first tile is asked for. -/
abbrev starts (i : grid0.Coords) : Prop := k0_cond2 i = 1#1
/-- The next tile is asked for. -/
abbrev asks (i : grid0.Coords) : Prop := k0_cond3 i = 1#1

theorem newCol_iff : ∀ t : Fin grid0.N, newCol (grid0.coords t) ↔ t.val % 4 = 0 := by decide +kernel
theorem starts_iff : ∀ t : Fin grid0.N, starts (grid0.coords t) ↔ t.val = 0 := by decide +kernel
theorem asks_iff : ∀ t : Fin grid0.N, asks (grid0.coords t) ↔ t.val + 1 < 16 := by decide +kernel

/-! ### Slots, tiles and cells -/

/-- The narrowed weights' buffer, the ring's buffer and the activations. -/
abbrev wM : Memref sig .tc .vmem S1024x2048 .bf16 := Memref.whole cc0_scratch0
abbrev ringM : Memref sig .tc .vmem S2x2048x2048 .bf16 := Memref.whole cc0_scratch1
abbrev actM : Memref sig .tc .hbm S8192x2048 .bf16 := Memref.whole main_arg0
/-- What a core holds of the activations. -/
abbrev Act (c : Dev nD) : Type := Buf (Elt F) ((actM).view.loc (c : Thread nD τ))

theorem slot_fits (s : Fin 2) : ∀ a, (![s.val, 0, 0] : Fin 3 → Nat) a + S1x2048x2048.size a ≤ S2x2048x2048.size a := by
  intro a; have h3 := s.isLt; fin_cases a <;> simp <;> omega
theorem tile_fits (b : Fin 16) : ∀ a, (![2048 * (b.val % 4), 0] : Fin 2 → Nat) a + S2048x2048.size a ≤ S8192x2048.size a := by
  intro a; fin_cases a <;> simp <;> omega
theorem cell_fits (s : Fin 2) : ∀ a, (![s.val] : Fin 1 → Nat) a + S1.size a ≤ S2.size a := by
  intro a; have h3 := s.isLt; fin_cases a <;> simp <;> omega

def slotM (s : Fin 2) : Memref sig .tc .vmem S2048x2048 .bf16 :=
  (ringM.slice (Rect.unit (s := S2x2048x2048) ![s.val, 0, 0] S1x2048x2048.size (slot_fits s)) (fun _ => rfl)).squeeze S2048x2048 squeezes_S1x2048x2048_S2048x2048
def tileM (b : Fin 16) : Memref sig .tc .hbm S2048x2048 .bf16 :=
  actM.slice (Rect.unit (s := S8192x2048) ![2048 * (b.val % 4), 0] S2048x2048.size (tile_fits b)) (fun _ => rfl)
def cellM (s : Fin 2) : DmaSems sig S_ := (cc0_scratch2.slice (Rect.unit (s := S2) ![s.val] S1.size (cell_fits s))).squeeze S_ squeezes_S1_S_
abbrev cellL (s : Fin 2) : SemLoc sig := SemLoc.dma (cellM s).sem
theorem cellL0 : cellL 0 = SemLoc.dma 6 := by decide
theorem cellL1 : cellL 1 = SemLoc.dma 7 := by decide

section Parts
variable (c : Dev nD) (X : Act (F := F) c)

/-- The two slots each read the activations through a share of their own. -/
abbrev shareOf (s : Fin 2) : PosShare TreeShare := if s.val = 0 then fullShare.left else fullShare.right
/-- The contents of a slot. -/
abbrev SlotBuf (s : Fin 2) : Type := Buf (Elt F) ((slotM s).view.loc (c : Thread nD τ))
abbrev slotPt (s : Fin 2) (f : SlotBuf (F := F) c s) : sProp 𝕄 := (slotM s).view.loc (c : Thread nD τ) ↦[(slotM s).view.set]{fullShare} f
abbrev cellPt (s : Fin 2) : sProp 𝕄 := semVal ((c : Thread nD τ), cellL s) 0
abbrev tilePt (s : Fin 2) (b : Fin 16) : sProp 𝕄 := (tileM b).view.loc (c : Thread nD τ) ↦[(tileM b).view.set]{shareOf s} X
def othersPt (s : Fin 2) (b : Fin 16) : sProp 𝕄 := ((c : Thread nD τ).loc main_arg0) ↦[Finset.univ \ (tileM b).view.set]{shareOf s} X
abbrev actPt (s : Fin 2) : sProp 𝕄 := ((c : Thread nD τ).loc main_arg0) ↦[Finset.univ]{shareOf s} X
/-- Tile `b` of the activations. -/
def tileOf (b : Fin 16) : Vec F S2048x2048 .bf16 := ReadAs.same.apply ((tileM b).view.read (Elt F) X)
/-- Slot `s` when tile `b` has arrived over `f`. -/
abbrev arrived (s : Fin 2) (b : Fin 16) (f : SlotBuf (F := F) c s) : SlotBuf (F := F) c s :=
  (slotM s).view.writes (Elt F) f [⟨Rect.whole S2048x2048, ReadAs.same.apply ((tileM b).view.read (Elt F) X)⟩]
abbrev copying (s : Fin 2) (b : Fin 16) (f : SlotBuf (F := F) c s) : sProp 𝕄 :=
  Transfers.Flight countersEmb (c : Thread nD τ) (cellL s) default ((slotM s).view.amount (cellL s)) iprop(slotPt c s (arrived c X s b f) ∗ tilePt c X s b)
abbrev slotFam (s : Fin 2) (f : SlotBuf (F := F) c s) : sProp 𝕄 := iprop(slotPt c s f ∗ actPt c X s)
abbrev flyFam (s : Fin 2) (b : Fin 16) (f : SlotBuf (F := F) c s) : sProp 𝕄 := iprop(copying c X s b f ∗ othersPt c X s b)
/-- The ring before point `k`: the tile of point `k` is on its way, except before the first and after the last; the other slot is free. -/
def ringAt (k : ℕ) : sProp 𝕄 :=
  iprop((if k = 0 ∨ 16 ≤ k then Ring.free (cellPt c) (slotFam c X) (Ring.sl 2 k) else Ring.inflight (flyFam c X) (Ring.sl 2 k) (Ring.bk 16 k))
    ∗ Ring.free (cellPt c) (slotFam c X) (Ring.sl 2 (k + 1)))

theorem act_cut (s : Fin 2) (b : Fin 16) : actPt (F := F) c X s ⊣⊢ iprop(tilePt c X s b ∗ othersPt c X s b) := by
  unfold othersPt; exact pointsTo_split_subset (Finset.subset_univ _)

/-- The whole of the activations is the two shares. -/
theorem act_shares : (actM.view.loc (c : Thread nD τ) ↦{fullShare} X : sProp 𝕄) ⊣⊢ iprop(actPt c X 0 ∗ actPt c X 1) :=
  pointsTo_share (PosShare.mem_left_op_right fullShare)
end Parts

/-! ### The slots make up the ring's buffer -/

abbrev slotBox (s : Fin 2) : Finset S2x2048x2048.Idx := (Rect.unit (s := S2x2048x2048) ![s.val, 0, 0] S1x2048x2048.size (slot_fits s)).set
theorem slot_set (s : Fin 2) : (slotM s).view.set = slotBox s := by
  simp only [slotM, Memref.view_squeeze, View.set_reshape]; exact View.set_slice_whole _ _
theorem slots_apart (s s' : Fin 2) (h : s ≠ s') : Disjoint (slotBox s) (slotBox s') :=
  Ring.lead_disjoint (s := S2x2048x2048) (0 : Fin 3) 1 (fun s : Fin 2 => (![s.val, 0, 0] : Fin 3 → Nat)) S1x2048x2048.size slot_fits (fun s => by simp) rfl s s' h
theorem slots_all : Finset.univ.biUnion slotBox = Finset.univ := by
  refine Ring.lead_cover (s := S2x2048x2048) (0 : Fin 3) 1 (fun s : Fin 2 => (![s.val, 0, 0] : Fin 3 → Nat)) S1x2048x2048.size slot_fits (fun s => by simp)
    (fun s a ha => ?_) rfl (fun a ha => ?_) rfl <;> (fin_cases a <;> first | exact absurd rfl ha | rfl)

theorem slotPt_box (c : Dev nD) (s : Fin 2) (f) : slotPt (F := F) c s f = (((c : Thread nD τ).loc cc0_scratch1) ↦[slotBox s]{fullShare} f : sProp 𝕄) := by
  unfold slotPt; rw [slot_set]; rfl
abbrev slots2 (c : Dev nD) : sProp 𝕄 := iprop((∃ f, slotPt (F := F) c 0 f) ∗ ∃ f, slotPt (F := F) c 1 f)
set_option maxHeartbeats 1000000 in
theorem ring_open (c : Dev nD) : iprop(∃ d, owns (c : Thread nD τ) ringM fullShare d) ⊢ slots2 (F := F) c := by
  simp only [ringM, owns_whole]
  exact Ring.slots2_split (U := Pipeline.UD sig nD τ) (ℓ := (c : Thread nD τ).loc cc0_scratch1) (q := fullShare) slotBox slots_apart slots_all
    (slotPt c 0) (slotPt c 1) (slotPt_box c 0) (slotPt_box c 1)
set_option maxHeartbeats 1000000 in
theorem ring_close (c : Dev nD) : slots2 (F := F) c ⊢ iprop(∃ d, owns (c : Thread nD τ) ringM fullShare d) := by
  simp only [ringM, owns_whole]
  exact Ring.slots2_join (U := Pipeline.UD sig nD τ) (ℓ := (c : Thread nD τ).loc cc0_scratch1) (q := fullShare) slotBox slots_apart slots_all
    (slotPt c 0) (slotPt c 1) (slotPt_box c 0) (slotPt_box c 1)

/-- The parts a ring is made of. -/
abbrev ringParts (c : Dev nD) (X : Act (F := F) c) : sProp 𝕄 :=
  iprop((∃ d, owns (c : Thread nD τ) ringM fullShare d) ∗ (semVal ((c : Thread nD τ), SemLoc.dma 6) 0 ∗ semVal ((c : Thread nD τ), SemLoc.dma 7) 0)
    ∗ (actM.view.loc (c : Thread nD τ) ↦{fullShare} X))
theorem cellPt0 (c : Dev nD) : cellPt (F := F) c 0 = semVal ((c : Thread nD τ), SemLoc.dma 6) 0 := congrArg (fun x => (semVal ((c : Thread nD τ), x) 0 : sProp 𝕄)) cellL0
theorem cellPt1 (c : Dev nD) : cellPt (F := F) c 1 = semVal ((c : Thread nD τ), SemLoc.dma 7) 0 := congrArg (fun x => (semVal ((c : Thread nD τ), x) 0 : sProp 𝕄)) cellL1

theorem ring_in (c : Dev nD) (X : Act (F := F) c) : ringParts c X ⊢ ringAt c X 0 := by
  unfold ringAt ringParts; rw [if_pos (by decide), show Ring.sl 2 0 = 0 by decide, show Ring.sl 2 (0 + 1) = 1 by decide]
  simp only [Ring.free, cellPt0, cellPt1]
  iintro ⟨HS, ⟨C0, C1⟩, HX⟩
  ihave HS := (ring_open (F := F) c) $$ HS
  icases HS with ⟨⟨%d0, S0⟩, ⟨%d1, S1⟩⟩
  ihave HX := (act_shares (F := F) c X).1 $$ HX
  icases HX with ⟨X0, X1⟩
  isplitl [C0 S0 X0]
  · isplitl [C0]; · iexact C0
    iexists d0; isplitl [S0]; · iexact S0
    iexact X0
  isplitl [C1]; · iexact C1
  iexists d1; isplitl [S1]; · iexact S1
  iexact X1

theorem ring_out (c : Dev nD) (X : Act (F := F) c) : ringAt c X 16 ⊢ ringParts c X := by
  unfold ringAt ringParts; rw [if_pos (by decide), show Ring.sl 2 16 = 0 by decide, show Ring.sl 2 (16 + 1) = 1 by decide]
  simp only [Ring.free, cellPt0, cellPt1]
  iintro ⟨⟨C0, ⟨%f0, S0, X0⟩⟩, ⟨C1, ⟨%f1, S1, X1⟩⟩⟩
  isplitl [S0 S1]
  · iapply (ring_close (F := F) c); isplitl [S0]; · iexists f0; iexact S0
    iexists f1; iexact S1
  isplitl [C0 C1]
  · isplitl [C0]; · iexact C0
    iexact C1
  iapply (act_shares (F := F) c X).2; isplitl [X0]; · iexact X0
  iexact X1

/-! ### The names the kernel's operands go by at a point -/

section Names
omit [FloatOps F]
theorem o_next : ∀ t : Fin grid0.N, k0_off2 (grid0.coords t) = ![(Ring.sl 2 (t.val + 1)).val, 0, 0] := by decide +kernel
theorem o_next_cell : ∀ t : Fin grid0.N, k0_off1 (grid0.coords t) = ![(Ring.sl 2 (t.val + 1)).val] := by decide +kernel
theorem o_next_tile : ∀ t : Fin grid0.N, k0_off3 (grid0.coords t) = ![2048 * ((Ring.bk 16 (t.val + 1)).val % 4), 0] := by decide +kernel
theorem o_this : ∀ t : Fin grid0.N, k0_off5 (grid0.coords t) = ![(Ring.sl 2 t.val).val, 0, 0] := by decide +kernel
theorem o_this_cell : ∀ t : Fin grid0.N, k0_off4 (grid0.coords t) = ![(Ring.sl 2 t.val).val] := by decide +kernel
theorem o_load : ∀ t : Fin grid0.N, k0_off7 (grid0.coords t) = ![(Ring.sl 2 t.val).val, 0, 0] := by decide +kernel
theorem o_0 : ∀ t : Fin grid0.N, starts (grid0.coords t) → (![0, 0, 0] : Fin 3 → Nat) = ![(Ring.sl 2 t.val).val, 0, 0] := by decide +kernel
theorem o_0_cell : ∀ t : Fin grid0.N, starts (grid0.coords t) → (![0] : Fin 1 → Nat) = ![(Ring.sl 2 t.val).val] := by decide +kernel
theorem o_0_tile : ∀ t : Fin grid0.N, starts (grid0.coords t) → (![0, 0] : Fin 2 → Nat) = ![2048 * ((Ring.bk 16 t.val).val % 4), 0] := by decide +kernel

theorem slot_name {o : Fin 3 → Nat} {s : Fin 2} (e : o = ![s.val, 0, 0]) (h) :
    (ringM.slice (Rect.unit (s := S2x2048x2048) o S1x2048x2048.size h) (fun _ => rfl)).squeeze S2048x2048 squeezes_S1x2048x2048_S2048x2048 = slotM s := by
  subst e; rfl
theorem cell_name {o : Fin 1 → Nat} {s : Fin 2} (e : o = ![s.val]) (h) :
    (cc0_scratch2.slice (Rect.unit (s := S2) o S1.size h)).squeeze S_ squeezes_S1_S_ = cellM s := by
  subst e; rfl
theorem tile_name {o : Fin 2 → Nat} {b : Fin 16} (e : o = ![2048 * (b.val % 4), 0]) (h) :
    actM.slice (Rect.unit (s := S8192x2048) o S2048x2048.size h) (fun _ => rfl) = tileM b := by
  subst e; rfl

variable (t : Fin grid0.N)
@[sl_canon] theorem n_0 (h : starts (grid0.coords t)) :
    (ringM.slice (Rect.unit (s := S2x2048x2048) ![0, 0, 0] S1x2048x2048.size inb_S2x2048x2048_S1x2048x2048_0_0_0) (fun _ => rfl)).squeeze S2048x2048 squeezes_S1x2048x2048_S2048x2048 = slotM (Ring.sl 2 t.val) := slot_name (o_0 t h) _
@[sl_canon] theorem n_0_cell (h : starts (grid0.coords t)) :
    (cc0_scratch2.slice (Rect.unit (s := S2) ![0] S1.size inb_S2_S1_0)).squeeze S_ squeezes_S1_S_ = cellM (Ring.sl 2 t.val) := cell_name (o_0_cell t h) _
@[sl_canon] theorem n_0_tile (h : starts (grid0.coords t)) :
    actM.slice (Rect.unit (s := S8192x2048) ![0, 0] S2048x2048.size inb_S8192x2048_S2048x2048_0_0) (fun _ => rfl) = tileM (Ring.bk 16 t.val) := tile_name (o_0_tile t h) _
@[sl_canon] theorem n_next (h : asks (grid0.coords t)) :
    (ringM.slice (Rect.unit (s := S2x2048x2048) (k0_off2 (grid0.coords t)) S1x2048x2048.size (k0_off2_inb (grid0.coords t) h)) (fun _ => rfl)).squeeze S2048x2048 squeezes_S1x2048x2048_S2048x2048 = slotM (Ring.sl 2 (t.val + 1)) := slot_name (o_next t) _
@[sl_canon] theorem n_next_cell (h : asks (grid0.coords t)) :
    (cc0_scratch2.slice (Rect.unit (s := S2) (k0_off1 (grid0.coords t)) S1.size (k0_off1_inb (grid0.coords t) h))).squeeze S_ squeezes_S1_S_ = cellM (Ring.sl 2 (t.val + 1)) := cell_name (o_next_cell t) _
@[sl_canon] theorem n_next_tile (h : asks (grid0.coords t)) :
    actM.slice (Rect.unit (s := S8192x2048) (k0_off3 (grid0.coords t)) S2048x2048.size (k0_off3_inb (grid0.coords t) h)) (fun _ => rfl) = tileM (Ring.bk 16 (t.val + 1)) := tile_name (o_next_tile t) _
@[sl_canon] theorem n_this :
    (ringM.slice (Rect.unit (s := S2x2048x2048) (k0_off5 (grid0.coords t)) S1x2048x2048.size (k0_off5_inb (grid0.coords t))) (fun _ => rfl)).squeeze S2048x2048 squeezes_S1x2048x2048_S2048x2048 = slotM (Ring.sl 2 t.val) := slot_name (o_this t) _
@[sl_canon] theorem n_this_cell :
    (cc0_scratch2.slice (Rect.unit (s := S2) (k0_off4 (grid0.coords t)) S1.size (k0_off4_inb (grid0.coords t)))).squeeze S_ squeezes_S1_S_ = cellM (Ring.sl 2 t.val) := cell_name (o_this_cell t) _
instance (priority := high) loadBox (t : Fin grid0.N) : ClosedOff (k0_off7 (grid0.coords t)) := ⟨![(Ring.sl 2 t.val).val, 0, 0], o_load t⟩
end Names

end Cert.Kernel5Ideal.Qkv

end
-- ==== Proof.QkvRun.lean ====
/-
  One grid point of the projection that reads its activations through the ring: what it stores.
-/
module

public import proofs.«01_k».proof.Proof.QkvRing
public import Idealize.ShloMosaic.Lib.VecWindow

@[expose] public section

set_option maxRecDepth 16384

noncomputable section

namespace Cert.Kernel5Ideal.Qkv

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A tile as the ring's slot shows it. -/
def shown (v : Vec F S2048x2048 .bf16) : Vec F S1x2048x2048 .bf16 := shapeCast S1x2048x2048 v (by decide)

theorem shapeCast_shown (v : Vec F S2048x2048 .bf16) : shapeCast S2048x2048 (shown v) shapeCasts_S1x2048x2048_S2048x2048 = v := by
  funext y
  show v (Shape.reshapeEquiv _ (Shape.reshapeEquiv _ y)) = v y
  rw [Shape.reshapeEquiv_reshapeEquiv, Shape.reshapeEquiv_self]

theorem shown_shapeCast (v : Vec F S1x2048x2048 .bf16) : shown (shapeCast S2048x2048 v shapeCasts_S1x2048x2048_S2048x2048) = v := by
  funext y
  show v (Shape.reshapeEquiv _ (Shape.reshapeEquiv _ y)) = v y
  rw [Shape.reshapeEquiv_reshapeEquiv, Shape.reshapeEquiv_self]

theorem read_arrived (c : Dev nD) (X : Act (F := F) c) (s : Fin 2) (b : Fin 16) (f : SlotBuf (F := F) c s) :
    (slotM s).view.read (Elt F) (arrived c X s b f) = tileOf c X b := by
  funext y
  have h := View.read_writes_cons_emb (Val := Elt F) (slotM s).view f (Rect.whole S2048x2048) (tileOf c X b) [] y
  exact (congrArg ((slotM s).view.read (Elt F) (arrived c X s b f)) (funext fun a => Fin.ext (by show (y a).val = 0 + 1 * (y a).val; omega))).trans h

/-- The load of the slot in use shows the tile that arrived there. -/
theorem load_this (c : Dev nD) (X : Act (F := F) c) (s : Fin 2) (b : Fin 16) (f : SlotBuf (F := F) c s) (o : Fin 3 → Nat) (e : o = ![s.val, 0, 0]) (h) :
    ringM.view.readAt (Elt F) (Rect.unit (s := S2x2048x2048) o S1x2048x2048.size h).toLoadRect (arrived c X s b f) = shown (tileOf c X b) := by
  subst e
  rw [← read_arrived c X s b f]
  exact (shown_shapeCast _).symm

/-- The weights narrowed. -/
def narrow (w : Vec F S1024x2048 .f32) : Vec F S1024x2048 .bf16 := truncf (F := F) .bf16 w bitsLt_bf16_f32

theorem pay2_apply (v : Vec F S512x2048 .f32) (y : S512x2048.Idx) : k0_pay2 v y = FloatOps.truncf (F := F) .bf16 bitsLt_bf16_f32 (v y) := by
  show FloatOps.truncf (F := F) .bf16 bitsLt_bf16_f32 (v (Shape.reshapeEquiv _ (Shape.reshapeEquiv _ y))) = _
  rw [Shape.reshapeEquiv_reshapeEquiv, Shape.reshapeEquiv_self]
theorem pay3_apply (v : Vec F S512x2048 .f32) (y : S512x2048.Idx) : k0_pay3 v y = FloatOps.truncf (F := F) .bf16 bitsLt_bf16_f32 (v y) := by
  show FloatOps.truncf (F := F) .bf16 bitsLt_bf16_f32 (v (Shape.reshapeEquiv _ (Shape.reshapeEquiv _ y))) = _
  rw [Shape.reshapeEquiv_reshapeEquiv, Shape.reshapeEquiv_self]

/-- The two halves stored one after the other are the narrowed weights. -/
theorem canon_narrow (w : Vec F S1024x2048 .f32) :
    View.canon [(⟨Rect.unit (s := S1024x2048) ![512, 0] S512x2048.size inb_S1024x2048_S512x2048_512_0, k0_pay3 (View.ld w (Rect.unit (s := S1024x2048) ![512, 0] S512x2048.size inb_S1024x2048_S512x2048_512_0))⟩ : View.Piece (Elt F) S1024x2048 .bf16),
      ⟨Rect.unit (s := S1024x2048) ![0, 0] S512x2048.size inb_S1024x2048_S512x2048_0_0, k0_pay2 (View.ld w (Rect.unit (s := S1024x2048) ![0, 0] S512x2048.size inb_S1024x2048_S512x2048_0_0))⟩] = narrow w := by
  funext y
  canon_tiles x h
  · have hx : (Rect.unit (s := S1024x2048) ![512, 0] S512x2048.size inb_S1024x2048_S512x2048_512_0).idx x = y := by
      funext a; apply Fin.ext; fin_cases a
      · show 512 + 1 * (x 0).val = (y 0).val; omega
      · show 0 + 1 * (x 1).val = (y 1).val; omega
    exact (pay3_apply (F := F) _ _).trans (congrArg (fun i => FloatOps.truncf (F := F) .bf16 bitsLt_bf16_f32 (w i)) hx)
  · have hx : (Rect.unit (s := S1024x2048) ![0, 0] S512x2048.size inb_S1024x2048_S512x2048_0_0).idx x = y := by
      funext a; apply Fin.ext; fin_cases a
      · show 0 + 1 * (x 0).val = (y 0).val; omega
      · show 0 + 1 * (x 1).val = (y 1).val; omega
    exact (pay2_apply (F := F) _ _).trans (congrArg (fun i => FloatOps.truncf (F := F) .bf16 bitsLt_bf16_f32 (w i)) hx)
/-- The same with the halves loaded from the window. -/
theorem canon_narrow_loaded (wtM : Memref sig .tc .vmem S1024x2048 .f32) (hw : wtM.IsWhole) (w : Vec F S1024x2048 .f32) :
    View.canon [(⟨Rect.unit (s := S1024x2048) ![512, 0] S512x2048.size inb_S1024x2048_S512x2048_512_0, k0_pay3 (wtM.view.readAt (Elt F) (Rect.unit (s := S1024x2048) ![512, 0] S512x2048.size inb_S1024x2048_S512x2048_512_0).toLoadRect (hw.unread w))⟩ : View.Piece (Elt F) S1024x2048 .bf16),
      ⟨Rect.unit (s := S1024x2048) ![0, 0] S512x2048.size inb_S1024x2048_S512x2048_0_0, k0_pay2 (wtM.view.readAt (Elt F) (Rect.unit (s := S1024x2048) ![0, 0] S512x2048.size inb_S1024x2048_S512x2048_0_0).toLoadRect (hw.unread w))⟩] = narrow w := by
  have h := canon_narrow (wtM.view.read (Elt F) (hw.unread w))
  exact h.trans (congrArg narrow (hw.read_unread w))
theorem read_narrow {sp : Space} (v : View sig .tc sp S1024x2048 .bf16) (f : v.ty.Contents (Elt F)) (wtM : Memref sig .tc .vmem S1024x2048 .f32) (hw : wtM.IsWhole) (w : Vec F S1024x2048 .f32) :
    v.read (Elt F) (v.writes (Elt F) f [(⟨Rect.unit (s := S1024x2048) ![512, 0] S512x2048.size inb_S1024x2048_S512x2048_512_0, k0_pay3 (wtM.view.readAt (Elt F) (Rect.unit (s := S1024x2048) ![512, 0] S512x2048.size inb_S1024x2048_S512x2048_512_0).toLoadRect (hw.unread w))⟩ : View.Piece (Elt F) S1024x2048 .bf16),
      ⟨Rect.unit (s := S1024x2048) ![0, 0] S512x2048.size inb_S1024x2048_S512x2048_0_0, k0_pay2 (wtM.view.readAt (Elt F) (Rect.unit (s := S1024x2048) ![0, 0] S512x2048.size inb_S1024x2048_S512x2048_0_0).toLoadRect (hw.unread w))⟩]) = narrow w :=
  (View.read_writes_eq_canon v f _ (View.cover_of_tiledBy _ ![512, 2048] (by sl_kernel_rfl))).trans (canon_narrow_loaded wtM hw w)

/-- What a point makes of a tile, a column's weights and its bias; the first two columns are scaled. -/
def block (t : Fin grid0.N) : Vec F S1x2048x2048 .bf16 → Vec F S1024x2048 .bf16 → Vec F S1x1024 .f32 → Vec F S2048x1024 .bf16 :=
  k0_pay1 (BitVec.ofNat 32 ((grid0.coords t) 0).val)

set_option maxHeartbeats 1000000 in
theorem run_start (c : Dev nD) (t : Fin cfg0.N) (bM : Memref sig .tc .vmem S1x1024 .f32) (hb : bM.IsWhole) (wtM : Memref sig .tc .vmem S1024x2048 .f32) (hw : wtM.IsWhole)
    (oM : Memref sig .tc .vmem S2048x1024 .bf16) (ho : oM.IsWhole) (sM : Memref sig .tc .vmem S1024x2048 .bf16) (hs : sM.IsWhole)
    (hc : newCol (grid0.coords t)) (hst : starts (grid0.coords t)) (ha : asks (grid0.coords t))
    (b : Vec F S1x1024 .f32) (w : Vec F S1024x2048 .f32) (X : Act (F := F) c) (W : Waits sig Unit) (K : PUnit → sProp 𝕄) :
    iprop(owns (c : Thread nD τ) bM fullShare b ∗ owns (c : Thread nD τ) wtM fullShare w ∗ (∃ d, owns (c : Thread nD τ) oM fullShare d) ∗ (∃ d, owns (c : Thread nD τ) sM fullShare d)
        ∗ Ring.free (cellPt c) (slotFam c X) (Ring.sl 2 (t.val)) ∗ Ring.free (cellPt c) (slotFam c X) (Ring.sl 2 (t.val + 1)) ∗ owes (c : Thread nD τ) 0 W
        ∗ (iprop(owns (c : Thread nD τ) bM fullShare b ∗ owns (c : Thread nD τ) wtM fullShare w
            ∗ owns (c : Thread nD τ) oM fullShare (block t (shown (tileOf c X (Ring.bk 16 t.val))) (narrow w) b) ∗ owns (c : Thread nD τ) sM fullShare (narrow w)
            ∗ Ring.inflight (flyFam c X) (Ring.sl 2 (t.val + 1)) (Ring.bk 16 (t.val + 1)) ∗ Ring.free (cellPt c) (slotFam c X) (Ring.sl 2 (t.val)) ∗ (∃ W', owes (c : Thread nD τ) 0 W')) -∗ K ⟨⟩))
      ⊢ wp frame (wpE (defs₀ (F := F)) Variants.none c none) Set.univ
          (cc0_proj_qkv (grid0.coords t) (Memref.whole main_arg0) (Memref.isWhole_whole _) bM hb wtM hw oM ho sM hs ringM (Memref.isWhole_whole _) cc0_scratch2) K := by
  haveI : Fact (newCol (grid0.coords t)) := ⟨hc⟩
  haveI : Fact (starts (grid0.coords t)) := ⟨hst⟩
  haveI : Fact (asks (grid0.coords t)) := ⟨ha⟩
  have kn_0 := n_0 t hst
  have kn_0_cell := n_0_cell t hst
  have kn_0_tile := n_0_tile t hst
  rw [cc0_proj_qkv_eq_skeleton]; unfold cc0_proj_qkv_skel
  rw [k0_part1_eq_skeleton]
  unfold owns Ring.free Ring.inflight
  iintro ⟨⟨%f0, %hf0, H0⟩, ⟨%f1, %hf1, H1⟩, ⟨%d2, %f2, -, H2⟩, ⟨%d3, %f3, -, H3⟩, ⟨C0, ⟨%g0, S0, A0⟩⟩, ⟨C1, ⟨%g1, S1, A1⟩⟩, HW, HK⟩
  ihave A0 := (act_cut c X (Ring.sl 2 (t.val)) (Ring.bk 16 (t.val))).1 $$ A0
  icases A0 with ⟨T0, N0⟩
  ihave A1 := (act_cut c X (Ring.sl 2 (t.val + 1)) (Ring.bk 16 (t.val + 1))).1 $$ A1
  icases A1 with ⟨T1, N1⟩
  obtain rfl := hb.eq_unread hf0; obtain rfl := hw.eq_unread hf1
  sl_exec (disch := first | sl_exact hc | sl_exact hst | sl_exact ha)
  sl_step
  iapply HK
  isplitl [H0]
  · iexists _; isplitr
    · ipureintro; exact hb.read_unread _
    · iexact H0
  isplitl [H1]
  · iexists _; isplitr
    · ipureintro; exact hw.read_unread _
    · iexact H1
  isplitl [H2]
  · iexists _; isplitr
    swap
    · iexact H2
    · ipureintro
      refine (View.read_writes_full oM.view f2 inb_S2048x1024_S2048x1024_0_0 _ []).trans ?_
      have e1 : run_start.sl.v50 c t X = shown (tileOf c X (Ring.bk 16 t.val)) := load_this c X _ _ _ _ (o_load t) _
      have e2 : run_start.sl.v52 c wtM hw sM w = narrow w := by
        unfold run_start.sl.v52
        rw [View.readCov_eq_canon']
        exact (View.ld_unit_lit (Val := Elt F) inb_S1024x2048_S1024x2048_0_0 (View.canon _) (by decide)).trans (canon_narrow_loaded wtM hw w)
      have e3 := (View.readAt_full bM.view (hb.unread b) inb_S1x1024_S1x1024_0_0).trans (hb.read_unread b)
      exact congr (congr (congrArg (block t) e1) e2) e3
  isplitl [H3]
  · iexists _; isplitr
    swap
    · iexact H3
    · ipureintro
      exact read_narrow sM.view f3 wtM hw w
  isplitl [C1 N1]
  · iexists _; isplitl [C1]
    · iexact C1
    · iexact N1
  isplitl [C0 S0 T0 N0]
  · isplitl [C0]
    · iexact C0
    · iexists _
      isplitl [S0]
      · iexact S0
      · iapply (act_cut c X (Ring.sl 2 t.val) (Ring.bk 16 t.val)).2
        isplitl [T0]
        · iexact T0
        · iexact N0
  iexists _; iexact HW

set_option maxHeartbeats 1000000 in
theorem run_turn (c : Dev nD) (t : Fin cfg0.N) (bM : Memref sig .tc .vmem S1x1024 .f32) (hb : bM.IsWhole) (wtM : Memref sig .tc .vmem S1024x2048 .f32) (hw : wtM.IsWhole)
    (oM : Memref sig .tc .vmem S2048x1024 .bf16) (ho : oM.IsWhole) (sM : Memref sig .tc .vmem S1024x2048 .bf16) (hs : sM.IsWhole)
    (hc : newCol (grid0.coords t)) (hst : ¬starts (grid0.coords t)) (ha : asks (grid0.coords t))
    (b : Vec F S1x1024 .f32) (w : Vec F S1024x2048 .f32) (X : Act (F := F) c) (W : Waits sig Unit) (K : PUnit → sProp 𝕄) :
    iprop(owns (c : Thread nD τ) bM fullShare b ∗ owns (c : Thread nD τ) wtM fullShare w ∗ (∃ d, owns (c : Thread nD τ) oM fullShare d) ∗ (∃ d, owns (c : Thread nD τ) sM fullShare d)
        ∗ Ring.inflight (flyFam c X) (Ring.sl 2 (t.val)) (Ring.bk 16 (t.val)) ∗ Ring.free (cellPt c) (slotFam c X) (Ring.sl 2 (t.val + 1)) ∗ owes (c : Thread nD τ) 0 W
        ∗ (iprop(owns (c : Thread nD τ) bM fullShare b ∗ owns (c : Thread nD τ) wtM fullShare w
            ∗ owns (c : Thread nD τ) oM fullShare (block t (shown (tileOf c X (Ring.bk 16 t.val))) (narrow w) b) ∗ owns (c : Thread nD τ) sM fullShare (narrow w)
            ∗ Ring.inflight (flyFam c X) (Ring.sl 2 (t.val + 1)) (Ring.bk 16 (t.val + 1)) ∗ Ring.free (cellPt c) (slotFam c X) (Ring.sl 2 (t.val)) ∗ (∃ W', owes (c : Thread nD τ) 0 W')) -∗ K ⟨⟩))
      ⊢ wp frame (wpE (defs₀ (F := F)) Variants.none c none) Set.univ
          (cc0_proj_qkv (grid0.coords t) (Memref.whole main_arg0) (Memref.isWhole_whole _) bM hb wtM hw oM ho sM hs ringM (Memref.isWhole_whole _) cc0_scratch2) K := by
  haveI : Fact (newCol (grid0.coords t)) := ⟨hc⟩
  haveI : Fact (¬starts (grid0.coords t)) := ⟨hst⟩
  haveI : Fact (asks (grid0.coords t)) := ⟨ha⟩
  rw [cc0_proj_qkv_eq_skeleton]; unfold cc0_proj_qkv_skel
  rw [k0_part1_eq_skeleton]
  unfold owns Ring.free Ring.inflight
  iintro ⟨⟨%f0, %hf0, H0⟩, ⟨%f1, %hf1, H1⟩, ⟨%d2, %f2, -, H2⟩, ⟨%d3, %f3, -, H3⟩, ⟨%g0, C0, N0⟩, ⟨C1, ⟨%g1, S1, A1⟩⟩, HW, HK⟩
  ihave A1 := (act_cut c X (Ring.sl 2 (t.val + 1)) (Ring.bk 16 (t.val + 1))).1 $$ A1
  icases A1 with ⟨T1, N1⟩
  obtain rfl := hb.eq_unread hf0; obtain rfl := hw.eq_unread hf1
  sl_exec (disch := first | sl_exact hc | sl_exact hst | sl_exact ha)
  sl_step
  iapply HK
  isplitl [H0]
  · iexists _; isplitr
    · ipureintro; exact hb.read_unread _
    · iexact H0
  isplitl [H1]
  · iexists _; isplitr
    · ipureintro; exact hw.read_unread _
    · iexact H1
  isplitl [H2]
  · iexists _; isplitr
    swap
    · iexact H2
    · ipureintro
      refine (View.read_writes_full oM.view f2 inb_S2048x1024_S2048x1024_0_0 _ []).trans ?_
      have e1 : run_turn.sl.v50 c t X = shown (tileOf c X (Ring.bk 16 t.val)) := load_this c X _ _ _ _ (o_load t) _
      have e2 : run_turn.sl.v52 c wtM hw sM w = narrow w := by
        unfold run_turn.sl.v52
        rw [View.readCov_eq_canon']
        exact (View.ld_unit_lit (Val := Elt F) inb_S1024x2048_S1024x2048_0_0 (View.canon _) (by decide)).trans (canon_narrow_loaded wtM hw w)
      have e3 := (View.readAt_full bM.view (hb.unread b) inb_S1x1024_S1x1024_0_0).trans (hb.read_unread b)
      exact congr (congr (congrArg (block t) e1) e2) e3
  isplitl [H3]
  · iexists _; isplitr
    swap
    · iexact H3
    · ipureintro
      exact read_narrow sM.view f3 wtM hw w
  isplitl [C1 N1]
  · iexists _; isplitl [C1]
    · iexact C1
    · iexact N1
  isplitl [C0 C0_dst C0_src N0]
  · isplitl [C0]
    · iexact C0
    · iexists _
      isplitl [C0_dst]
      · iexact C0_dst
      · iapply (act_cut c X (Ring.sl 2 t.val) (Ring.bk 16 t.val)).2
        isplitl [C0_src]
        · iexact C0_src
        · iexact N0
  iexists _; iexact HW

set_option maxHeartbeats 1000000 in
theorem run_kept (c : Dev nD) (t : Fin cfg0.N) (bM : Memref sig .tc .vmem S1x1024 .f32) (hb : bM.IsWhole) (wtM : Memref sig .tc .vmem S1024x2048 .f32) (hw : wtM.IsWhole)
    (oM : Memref sig .tc .vmem S2048x1024 .bf16) (ho : oM.IsWhole) (sM : Memref sig .tc .vmem S1024x2048 .bf16) (hs : sM.IsWhole)
    (hc : ¬newCol (grid0.coords t)) (hst : ¬starts (grid0.coords t)) (ha : asks (grid0.coords t))
    (b : Vec F S1x1024 .f32) (w : Vec F S1024x2048 .f32) (n : Vec F S1024x2048 .bf16) (X : Act (F := F) c) (W : Waits sig Unit) (K : PUnit → sProp 𝕄) :
    iprop(owns (c : Thread nD τ) bM fullShare b ∗ owns (c : Thread nD τ) wtM fullShare w ∗ (∃ d, owns (c : Thread nD τ) oM fullShare d) ∗ owns (c : Thread nD τ) sM fullShare n
        ∗ Ring.inflight (flyFam c X) (Ring.sl 2 (t.val)) (Ring.bk 16 (t.val)) ∗ Ring.free (cellPt c) (slotFam c X) (Ring.sl 2 (t.val + 1)) ∗ owes (c : Thread nD τ) 0 W
        ∗ (iprop(owns (c : Thread nD τ) bM fullShare b ∗ owns (c : Thread nD τ) wtM fullShare w
            ∗ owns (c : Thread nD τ) oM fullShare (block t (shown (tileOf c X (Ring.bk 16 t.val))) n b) ∗ owns (c : Thread nD τ) sM fullShare n
            ∗ Ring.inflight (flyFam c X) (Ring.sl 2 (t.val + 1)) (Ring.bk 16 (t.val + 1)) ∗ Ring.free (cellPt c) (slotFam c X) (Ring.sl 2 (t.val)) ∗ (∃ W', owes (c : Thread nD τ) 0 W')) -∗ K ⟨⟩))
      ⊢ wp frame (wpE (defs₀ (F := F)) Variants.none c none) Set.univ
          (cc0_proj_qkv (grid0.coords t) (Memref.whole main_arg0) (Memref.isWhole_whole _) bM hb wtM hw oM ho sM hs ringM (Memref.isWhole_whole _) cc0_scratch2) K := by
  haveI : Fact (¬newCol (grid0.coords t)) := ⟨hc⟩
  haveI : Fact (¬starts (grid0.coords t)) := ⟨hst⟩
  haveI : Fact (asks (grid0.coords t)) := ⟨ha⟩
  rw [cc0_proj_qkv_eq_skeleton]; unfold cc0_proj_qkv_skel
  rw [k0_part1_eq_skeleton]
  unfold owns Ring.free Ring.inflight
  iintro ⟨⟨%f0, %hf0, H0⟩, ⟨%f1, %hf1, H1⟩, ⟨%d2, %f2, -, H2⟩, ⟨%f3, %hf3, H3⟩, ⟨%g0, C0, N0⟩, ⟨C1, ⟨%g1, S1, A1⟩⟩, HW, HK⟩
  ihave A1 := (act_cut c X (Ring.sl 2 (t.val + 1)) (Ring.bk 16 (t.val + 1))).1 $$ A1
  icases A1 with ⟨T1, N1⟩
  obtain rfl := hb.eq_unread hf0; obtain rfl := hw.eq_unread hf1; obtain rfl := hs.eq_unread hf3
  sl_exec (disch := first | sl_exact hc | sl_exact hst | sl_exact ha)
  sl_step
  iapply HK
  isplitl [H0]
  · iexists _; isplitr
    · ipureintro; exact hb.read_unread _
    · iexact H0
  isplitl [H1]
  · iexists _; isplitr
    · ipureintro; exact hw.read_unread _
    · iexact H1
  isplitl [H2]
  · iexists _; isplitr
    swap
    · iexact H2
    · ipureintro
      refine (View.read_writes_full oM.view f2 inb_S2048x1024_S2048x1024_0_0 _ []).trans ?_
      have e1 : run_kept.sl.v50 c t X = shown (tileOf c X (Ring.bk 16 t.val)) := load_this c X _ _ _ _ (o_load t) _
      have e2 := (View.readAt_full sM.view (hs.unread n) inb_S1024x2048_S1024x2048_0_0).trans (hs.read_unread n)
      have e3 := (View.readAt_full bM.view (hb.unread b) inb_S1x1024_S1x1024_0_0).trans (hb.read_unread b)
      exact congr (congr (congrArg (block t) e1) e2) e3
  isplitl [H3]
  · iexists _; isplitr
    swap
    · iexact H3
    · ipureintro
      exact hs.read_unread _
  isplitl [C1 N1]
  · iexists _; isplitl [C1]
    · iexact C1
    · iexact N1
  isplitl [C0 C0_dst C0_src N0]
  · isplitl [C0]
    · iexact C0
    · iexists _
      isplitl [C0_dst]
      · iexact C0_dst
      · iapply (act_cut c X (Ring.sl 2 t.val) (Ring.bk 16 t.val)).2
        isplitl [C0_src]
        · iexact C0_src
        · iexact N0
  iexists _; iexact HW

set_option maxHeartbeats 1000000 in
theorem run_last (c : Dev nD) (t : Fin cfg0.N) (bM : Memref sig .tc .vmem S1x1024 .f32) (hb : bM.IsWhole) (wtM : Memref sig .tc .vmem S1024x2048 .f32) (hw : wtM.IsWhole)
    (oM : Memref sig .tc .vmem S2048x1024 .bf16) (ho : oM.IsWhole) (sM : Memref sig .tc .vmem S1024x2048 .bf16) (hs : sM.IsWhole)
    (hc : ¬newCol (grid0.coords t)) (hst : ¬starts (grid0.coords t)) (ha : ¬asks (grid0.coords t))
    (b : Vec F S1x1024 .f32) (w : Vec F S1024x2048 .f32) (n : Vec F S1024x2048 .bf16) (X : Act (F := F) c) (W : Waits sig Unit) (K : PUnit → sProp 𝕄) :
    iprop(owns (c : Thread nD τ) bM fullShare b ∗ owns (c : Thread nD τ) wtM fullShare w ∗ (∃ d, owns (c : Thread nD τ) oM fullShare d) ∗ owns (c : Thread nD τ) sM fullShare n
        ∗ Ring.inflight (flyFam c X) (Ring.sl 2 (t.val)) (Ring.bk 16 (t.val)) ∗ owes (c : Thread nD τ) 0 W
        ∗ (iprop(owns (c : Thread nD τ) bM fullShare b ∗ owns (c : Thread nD τ) wtM fullShare w
            ∗ owns (c : Thread nD τ) oM fullShare (block t (shown (tileOf c X (Ring.bk 16 t.val))) n b) ∗ owns (c : Thread nD τ) sM fullShare n
            ∗ Ring.free (cellPt c) (slotFam c X) (Ring.sl 2 (t.val)) ∗ (∃ W', owes (c : Thread nD τ) 0 W')) -∗ K ⟨⟩))
      ⊢ wp frame (wpE (defs₀ (F := F)) Variants.none c none) Set.univ
          (cc0_proj_qkv (grid0.coords t) (Memref.whole main_arg0) (Memref.isWhole_whole _) bM hb wtM hw oM ho sM hs ringM (Memref.isWhole_whole _) cc0_scratch2) K := by
  haveI : Fact (¬newCol (grid0.coords t)) := ⟨hc⟩
  haveI : Fact (¬starts (grid0.coords t)) := ⟨hst⟩
  haveI : Fact (¬asks (grid0.coords t)) := ⟨ha⟩
  rw [cc0_proj_qkv_eq_skeleton]; unfold cc0_proj_qkv_skel
  rw [k0_part1_eq_skeleton]
  unfold owns Ring.free Ring.inflight
  iintro ⟨⟨%f0, %hf0, H0⟩, ⟨%f1, %hf1, H1⟩, ⟨%d2, %f2, -, H2⟩, ⟨%f3, %hf3, H3⟩, ⟨%g0, C0, N0⟩, HW, HK⟩
  obtain rfl := hb.eq_unread hf0; obtain rfl := hw.eq_unread hf1; obtain rfl := hs.eq_unread hf3
  sl_exec (disch := first | sl_exact hc | sl_exact hst | sl_exact ha)
  sl_step
  iapply HK
  isplitl [H0]
  · iexists _; isplitr
    · ipureintro; exact hb.read_unread _
    · iexact H0
  isplitl [H1]
  · iexists _; isplitr
    · ipureintro; exact hw.read_unread _
    · iexact H1
  isplitl [H2]
  · iexists _; isplitr
    swap
    · iexact H2
    · ipureintro
      refine (View.read_writes_full oM.view f2 inb_S2048x1024_S2048x1024_0_0 _ []).trans ?_
      have e1 : run_last.sl.v50 c t X = shown (tileOf c X (Ring.bk 16 t.val)) := load_this c X _ _ _ _ (o_load t) _
      have e2 := (View.readAt_full sM.view (hs.unread n) inb_S1024x2048_S1024x2048_0_0).trans (hs.read_unread n)
      have e3 := (View.readAt_full bM.view (hb.unread b) inb_S1x1024_S1x1024_0_0).trans (hb.read_unread b)
      exact congr (congr (congrArg (block t) e1) e2) e3
  isplitl [H3]
  · iexists _; isplitr
    swap
    · iexact H3
    · ipureintro
      exact hs.read_unread _
  isplitl [C0 C0_dst C0_src N0]
  · isplitl [C0]
    · iexact C0
    · iexists _
      isplitl [C0_dst]
      · iexact C0_dst
      · iapply (act_cut c X (Ring.sl 2 t.val) (Ring.bk 16 t.val)).2
        isplitl [C0_src]
        · iexact C0_src
        · iexact N0
  iexists _; iexact HW

end Cert.Kernel5Ideal.Qkv

end
-- ==== Proof.QkvFrame.lean ====
/-
  The projection that reads its activations through the ring, over its whole grid: what the carried
  weights hold between points, what each point leaves, and the run.
-/
module

public import proofs.«01_k».proof.Proof.QkvRun
public import Idealize.ShloMosaic.Lib.Claim

@[expose] public section

set_option maxRecDepth 16384

noncomputable section

namespace Cert.Kernel5Ideal.Qkv

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### Where the windows stand -/

/-- The first row of the weights that column `j` of the result takes. -/
def colAt (j : ℕ) : ℕ := if j < 2 then 1024 * j else 1024 + 1024 * j

theorem colAt_lt (j : ℕ) (h : j < 4) : colAt j + 1024 ≤ 19504 := by unfold colAt; split <;> omega

theorem idx_all : ∀ t : Fin grid0.N, win0_0.index t = ![0, t.val / 4] ∧ win0_1.index t = ![colAt (t.val / 4), 0] ∧ win0_2.index t = ![t.val % 4, t.val / 4] := by
  decide +kernel

/-- Column `j`'s rows of the weights. -/
def wAt (c : Dev nD) (j : ℕ) : Vec F S1024x2048 .f32 :=
  fun y => (V m c main_v2 : S19504x2048.Idx → F .f32) (ix2 ⟨(colAt j + (y 0).val) % 19504, Nat.mod_lt _ (by decide)⟩ (y 1))

theorem blk_w (c : Dev nD) (t : Fin cfg0.N) : iblk m c 1 t = wAt m c (t.val / 4) := by
  have ht : t.val < 16 := lt_of_lt_of_eq t.isLt (show cfg0.N = 16 from N_0)
  funext y
  obtain ⟨r, k, rfl⟩ : ∃ (r : Fin 1024) (k : Fin 2048), y = ix2 r k := ⟨y 0, y 1, eq_ix2 y⟩
  have h1 := colAt_lt (t.val / 4) (by omega)
  refine (?_ : _ = (V m c main_v2 : S19504x2048.Idx → F .f32) (ix2 ⟨colAt (t.val / 4) + r.val, by have := r.isLt; omega⟩ k)).trans ?_
  · have e := (idx_all t).2.1
    refine congrArg (V m c main_v2 : S19504x2048.Idx → F .f32) (funext fun a => Fin.ext ?_)
    fin_cases a
    · show win0_1.index t 0 + 1 * r.val = colAt (t.val / 4) + r.val
      rw [e]; show colAt (t.val / 4) + 1 * r.val = _; omega
    · show win0_1.index t 1 + 1 * k.val = k.val
      rw [e]; show 0 + 1 * k.val = _; omega
  · exact congrArg _ ((ix2_inj ..).2 ⟨Fin.ext (by show colAt (t.val / 4) + r.val = (colAt (t.val / 4) + r.val) % 19504; have := r.isLt; omega), rfl⟩)

/-! ### The proof data -/

/-- What point `t` leaves in its block of the result. -/
def left (c : Dev nD) (t : Fin cfg0.N) : Vec F S2048x1024 .bf16 :=
  block t (shown (tileOf c (V m c main_arg0) (Ring.bk 16 t.val))) (narrow (wAt m c (t.val / 4))) (iblk m c 0 t)

/-- Before point `k`: inside a column the carried buffer holds that column's narrowed weights. -/
def Inv (c : Dev nD) (k : ℕ) : sProp 𝕄 :=
  iprop((∃ d, ⌜k % 4 ≠ 0 → d = narrow (wAt m c (k / 4))⌝ ∗ owns (c : Thread nD τ) wM fullShare d) ∗ (∃ r, prngReg c r) ∗ ringAt c (V m c main_arg0) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => left m c t
  Φ t := Inv m c t.val
  q _ := fullShare
  owed _ := 0

theorem A_eq (c : Dev nD) (w : Fin cfg0.W) : (dats m 0 c).A w = V m c (Pipeline.arrRef spec0 w) := by
  dsimp only [dats]
theorem Inv_castSucc (c : Dev nD) (t : Fin cfg0.N) : (dats m 0 c).Φ t.castSucc = Inv m c t.val := by
  dsimp only [dats]; simp only [Fin.coe_castSucc]
theorem Inv_succ (c : Dev nD) (t : Fin cfg0.N) : (dats m 0 c).Φ t.succ = Inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = left m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)

/-! ### One point -/

abbrev st_0 (t : Fin cfg0.N) : Memref sig .tc .vmem S1x1024 .f32 := win0_0.stage (cfg0.slots t 0)
abbrev st_1 (t : Fin cfg0.N) : Memref sig .tc .vmem S1024x2048 .f32 := win0_1.stage (cfg0.slots t 1)
abbrev st_2 (t : Fin cfg0.N) : Memref sig .tc .vmem S2048x1024 .bf16 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t))

/-- What the carried weights are before a point and after it. -/
theorem carried (c : Dev nD) (t : Fin cfg0.N) : (t.val + 1) % 4 ≠ 0 → narrow (wAt m c (t.val / 4)) = narrow (wAt m c ((t.val + 1) / 4)) := by
  intro h; rw [show (t.val + 1) / 4 = t.val / 4 by omega]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [after_0, after_1, after_2, Inv_castSucc m c t, Inv_succ m c t]
  unfold Dat.owesAt Pipeline.owesWithin
  rw [show (dats m 0 c).owed t.castSucc = 0 from rfl, show (dats m 0 c).owed t.succ = 0 from rfl]
  unfold Inv ringAt left
  have hN : t.val < 16 := lt_of_lt_of_eq t.isLt (show cfg0.N = 16 from N_0)
  have hcar := carried m c t
  have hw := blk_w m c t
  rw [hw]
  rw [Ring.sl_add 2 t.val]
  by_cases h1 : t.val = 0
  · have h0 : t.val % 4 = 0 := by omega
    have h2 : t.val + 1 < 16 := by omega
    rw [if_pos (show t.val = 0 ∨ 16 ≤ t.val from Or.inl h1), if_neg (show ¬(t.val + 1 = 0 ∨ 16 ≤ t.val + 1) by omega)]
    iintro ⟨⟨⟨%d3, -, HS⟩, Hg, ⟨Q0, Q1⟩⟩, ⟨%W, -, HW⟩, ⟨%d0, H0⟩, ⟨%d1, H1⟩, ⟨%d2, H2⟩⟩
    iapply (run_start c t _ _ _ _ _ _ _ _ ((newCol_iff t).mpr h0) ((starts_iff t).mpr h1) ((asks_iff t).mpr h2) (iblk m c 0 t) (wAt m c (t.val / 4)) (V m c main_arg0) W _)
    isplitl [H0]; · iexact H0
    isplitl [H1]; · iexact H1
    isplitl [H2]; · iexists _; iexact H2
    isplitl [HS]; · iexists _; iexact HS
    isplitl [Q0]; · iexact Q0
    isplitl [Q1]; · iexact Q1
    isplitl [HW]; · iexact HW
    iintro ⟨H0, H1, H2, HS, Qa, Qb, ⟨%W', HW'⟩⟩
    isplitl [HS Hg Qa Qb]
    · isplitl [HS]
      · iexists _; isplitr
        · ipureintro; exact hcar
        · iexact HS
      isplitl [Hg]; · iexact Hg
      isplitl [Qa]; · iexact Qa
      iexact Qb
    isplitl [HW']
    · iexists W'; isplitr
      · ipureintro; exact fun _ _ => Or.inl trivial
      · iexact HW'
    isplitl [H0]; · iexact H0
    isplitl [H1]; · iexact H1
    iexact H2
  by_cases h0 : t.val % 4 = 0
  · have h2 : t.val + 1 < 16 := by omega
    rw [if_neg (show ¬(t.val = 0 ∨ 16 ≤ t.val) by omega), if_neg (show ¬(t.val + 1 = 0 ∨ 16 ≤ t.val + 1) by omega)]
    iintro ⟨⟨⟨%d3, -, HS⟩, Hg, ⟨Q0, Q1⟩⟩, ⟨%W, -, HW⟩, ⟨%d0, H0⟩, ⟨%d1, H1⟩, ⟨%d2, H2⟩⟩
    iapply (run_turn c t _ _ _ _ _ _ _ _ ((newCol_iff t).mpr h0) (fun h => h1 ((starts_iff t).mp h)) ((asks_iff t).mpr h2) (iblk m c 0 t) (wAt m c (t.val / 4)) (V m c main_arg0) W _)
    isplitl [H0]; · iexact H0
    isplitl [H1]; · iexact H1
    isplitl [H2]; · iexists _; iexact H2
    isplitl [HS]; · iexists _; iexact HS
    isplitl [Q0]; · iexact Q0
    isplitl [Q1]; · iexact Q1
    isplitl [HW]; · iexact HW
    iintro ⟨H0, H1, H2, HS, Qa, Qb, ⟨%W', HW'⟩⟩
    isplitl [HS Hg Qa Qb]
    · isplitl [HS]
      · iexists _; isplitr
        · ipureintro; exact hcar
        · iexact HS
      isplitl [Hg]; · iexact Hg
      isplitl [Qa]; · iexact Qa
      iexact Qb
    isplitl [HW']
    · iexists W'; isplitr
      · ipureintro; exact fun _ _ => Or.inl trivial
      · iexact HW'
    isplitl [H0]; · iexact H0
    isplitl [H1]; · iexact H1
    iexact H2
  by_cases h2 : t.val + 1 < 16
  · rw [if_neg (show ¬(t.val = 0 ∨ 16 ≤ t.val) by omega), if_neg (show ¬(t.val + 1 = 0 ∨ 16 ≤ t.val + 1) by omega)]
    iintro ⟨⟨⟨%d3, %hd3, HS⟩, Hg, ⟨Q0, Q1⟩⟩, ⟨%W, -, HW⟩, ⟨%d0, H0⟩, ⟨%d1, H1⟩, ⟨%d2, H2⟩⟩
    obtain rfl := hd3 h0
    iapply (run_kept c t _ _ _ _ _ _ _ _ (fun h => h0 ((newCol_iff t).mp h)) (fun h => h1 ((starts_iff t).mp h)) ((asks_iff t).mpr h2) (iblk m c 0 t) (wAt m c (t.val / 4)) (narrow (wAt m c (t.val / 4))) (V m c main_arg0) W _)
    isplitl [H0]; · iexact H0
    isplitl [H1]; · iexact H1
    isplitl [H2]; · iexists _; iexact H2
    isplitl [HS]; · iexact HS
    isplitl [Q0]; · iexact Q0
    isplitl [Q1]; · iexact Q1
    isplitl [HW]; · iexact HW
    iintro ⟨H0, H1, H2, HS, Qa, Qb, ⟨%W', HW'⟩⟩
    isplitl [HS Hg Qa Qb]
    · isplitl [HS]
      · iexists _; isplitr
        · ipureintro; exact hcar
        · iexact HS
      isplitl [Hg]; · iexact Hg
      isplitl [Qa]; · iexact Qa
      iexact Qb
    isplitl [HW']
    · iexists W'; isplitr
      · ipureintro; exact fun _ _ => Or.inl trivial
      · iexact HW'
    isplitl [H0]; · iexact H0
    isplitl [H1]; · iexact H1
    iexact H2
  · rw [if_neg (show ¬(t.val = 0 ∨ 16 ≤ t.val) by omega), if_pos (show t.val + 1 = 0 ∨ 16 ≤ t.val + 1 by omega)]
    iintro ⟨⟨⟨%d3, %hd3, HS⟩, Hg, ⟨Q0, Q1⟩⟩, ⟨%W, -, HW⟩, ⟨%d0, H0⟩, ⟨%d1, H1⟩, ⟨%d2, H2⟩⟩
    obtain rfl := hd3 h0
    iapply (run_last c t _ _ _ _ _ _ _ _ (fun h => h0 ((newCol_iff t).mp h)) (fun h => h1 ((starts_iff t).mp h)) (fun h => h2 ((asks_iff t).mp h)) (iblk m c 0 t) (wAt m c (t.val / 4)) (narrow (wAt m c (t.val / 4))) (V m c main_arg0) W _)
    isplitl [H0]; · iexact H0
    isplitl [H1]; · iexact H1
    isplitl [H2]; · iexists _; iexact H2
    isplitl [HS]; · iexact HS
    isplitl [Q0]; · iexact Q0
    isplitl [HW]; · iexact HW
    iintro ⟨H0, H1, H2, HS, Qb, ⟨%W', HW'⟩⟩
    isplitl [HS Hg Q1 Qb]
    · isplitl [HS]
      · iexists _; isplitr
        · ipureintro; exact hcar
        · iexact HS
      isplitl [Hg]; · iexact Hg
      isplitl [Q1]; · iexact Q1
      iexact Qb
    isplitl [HW']
    · iexists W'; isplitr
      · ipureintro; exact fun _ _ => Or.inl trivial
      · iexact HW'
    isplitl [H0]; · iexact H0
    isplitl [H1]; · iexact H1
    iexact H2

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ### The run -/

abbrev cells : Fin 2 → SemLoc sig := fun j => (![SemLoc.dma 6, SemLoc.dma 7] : Fin 2 → SemLoc sig) j
theorem cells_own : Pipeline.OwnSemFacts spec0 cells := by decide
theorem cells_zero (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 6) 0 ∗ semVal ((c : Thread nD τ), SemLoc.dma 7) 0) := by
  rw [Pipeline.ownSems0_eq_of_list c cells [0, 1] (by decide) (by decide)]; rfl
def moved : Finset (Ref sig .tc) := {main_arg0}
theorem moved_sub : moved ⊆ Pipeline.restRefs sig spec0 := by decide
theorem moved_pts (c : Dev nD) :
    (bigSep moved (fun b => ((c : Thread nD τ).loc b) ↦{fullShare} V m c b) : sProp 𝕄) = (actM.view.loc (c : Thread nD τ) ↦{fullShare} V m c main_arg0) := by
  rw [BI.bigSep_eq_bigSepL_of_eq [main_arg0] (by decide) (by decide)]; rfl
theorem given (c : Dev nD) : (Pipeline.ΦD cells spec0 moved (V m) c : sProp 𝕄)
    = iprop(iprop((∃ d, owns (c : Thread nD τ) wM fullShare d) ∗ (∃ d, owns (c : Thread nD τ) ringM fullShare d)) ∗ (∃ r, prngReg c r)
      ∗ iprop(semVal ((c : Thread nD τ), SemLoc.dma 6) 0 ∗ semVal ((c : Thread nD τ), SemLoc.dma 7) 0) ∗ (actM.view.loc (c : Thread nD τ) ↦{fullShare} V m c main_arg0)) := by
  rw [Pipeline.ΦD_eq, scopedRest0_eq, cells_zero, moved_pts]; simp only [wM, ringM, owns_whole]; try rfl

theorem inv_first (c : Dev nD) : Pipeline.ΦD cells spec0 moved (V m) c ⊢ (dats m 0 c).Φ 0 := by
  rw [given, show (dats m 0 c).Φ 0 = Inv m c 0 from rfl]
  unfold Inv
  iintro ⟨⟨⟨%d, HS⟩, HR⟩, Hg, Hq, Hh⟩
  isplitl [HS]
  · iexists d; isplitr
    · ipureintro; exact fun h => absurd rfl h
    · iexact HS
  isplitl [Hg]; · iexact Hg
  iapply (ring_in (F := F) c (V m c main_arg0))
  isplitl [HR]; · iexact HR
  isplitl [Hq]; · iexact Hq
  iexact Hh
theorem inv_last (c : Dev nD) : (dats m 0 c).Φ (Fin.last cfg0.N) ⊢ Pipeline.ΦD cells spec0 moved (V m) c := by
  rw [given, show (dats m 0 c).Φ (Fin.last cfg0.N) = Inv m c grid0.N from rfl]
  unfold Inv
  rw [show grid0.N = 16 by rw [N_0]]
  iintro ⟨⟨%d, -, HS⟩, Hg, HR⟩
  ihave HX := (ring_out (F := F) c (V m c main_arg0)) $$ HR
  icases HX with ⟨HR, Hq, Hh⟩
  isplitl [HS HR]
  · isplitl [HS]; · iexists d; iexact HS
    iexact HR
  isplitl [Hg]; · iexact Hg
  isplitl [Hq]; · iexact Hq
  iexact Hh

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
set_option maxHeartbeats 800000 in
theorem run_quiet : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cells defs₀ Variants.none cells_own moved moved_sub m ρ main
    (hbody := fun c => (body_obligation m c).loose) (hshare := fun c => (dats m 0 c).share_full fun _ => rfl)
    (howed := fun _ _ => rfl) (V := V m) (hmain := hmainD m Variants.none) (hA := A_eq m) (hin := inv_first m) (hout := inv_last m)

/-- The arguments end unchanged, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_quiet m ρ)

end Cert.Kernel5Ideal.Qkv

end
-- ==== Proof.QkvClaim.lean ====
/-
  The query, key and value projection: kernel and reference end with the same array.
-/
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.NormClaim
public import proofs.«01_k».proof.Proof.QkvFrame
public import proofs.«01_k».proof.Proof.QkvBitsFrame
public import Idealize.ShloMosaic.Lib.Claim
public import Idealize.ShloMosaic.Lib.Pipeline.Value
public import Idealize.ShloMosaic.Lib.Pipeline.ValueKit
public import Idealize.ShloMosaic.Lib.Pointwise

@[expose] public section

set_option maxRecDepth 16384

noncomputable section

namespace Cert.Qkv
open Idealize.ShloMosaic

/-- Position `p` of the result comes from this column of the whole input projection. -/
def col (p : Fin 4096) : Fin 19504 := if h : p.val < 2048 then ⟨p.val, by omega⟩ else ⟨1024 + p.val, by have := p.isLt; omega⟩

/-- The query columns are scaled; the others are not. -/
def fac (p : Fin 4096) : EReal := if p.val < 2048 then Ideal.ofBits FTy.f32 0x3E0293EE#32 else 1

/-- The input projection at a row and a column. -/
def pj (x : (⟨2, ![8192, 2048]⟩ : Shape).Idx → EReal) (w : (⟨3, ![1, 2048, 19504]⟩ : Shape).Idx → EReal) (b : (⟨2, ![1, 19504]⟩ : Shape).Idx → EReal)
    (p : Fin 8192) (q : Fin 19504) : EReal :=
  (∑ h : Fin 2048, x (ix2 p h) * w (ix3 0 h q)) + b (ix2 0 q)

end Cert.Qkv

namespace Cert.Kernel5Ideal.Qkv
open Cert.Kernel5Ideal Cert.Kernel5Ideal.Gen Idealize.ShloMosaic Idealize.ShloMosaic.TcCoe Idealize.SL.Sem
open Idealize.ShloMosaic.Pipeline (Dat)
variable (m : (ℓ : Loc nD τ sig) → Buf (Elt Ideal) ℓ)

theorem pay_apply (a : BitVec 32) (x : Vec Ideal S1x2048x2048 .bf16) (w : Vec Ideal S1024x2048 .bf16) (b : Vec Ideal S1x1024 .f32) (r : Fin 2048) (k : Fin 1024) :
    k0_pay1 a x w b (ix2 r k) = ((∑ h : Fin 2048, x (ix3 0 r h) * w (ix2 k h)) + b (ix2 0 k)) * Scalar.select (Scalar.cmpi .slt a 2#32) (Ideal.ofBits FTy.f32 0x3E0293EE#32) 1 := by
  pointwise [k0_pay1]

theorem scaled : ∀ t : Fin grid0.N, Scalar.cmpi .slt (BitVec.ofNat 32 ((grid0.coords t) 0).val) 2#32 = if t.val / 4 < 2 then 1#1 else 0#1 := by
  decide +kernel

theorem fac_eq (t : Fin cfg0.N) (k : Fin 1024) (hk : t.val / 4 * 1024 + k.val < 4096) :
    Scalar.select (Scalar.cmpi .slt (BitVec.ofNat 32 ((grid0.coords t) 0).val) 2#32) (Ideal.ofBits FTy.f32 0x3E0293EE#32) 1 = Cert.Qkv.fac ⟨t.val / 4 * 1024 + k.val, hk⟩ := by
  have hk' := k.isLt
  rw [scaled t]
  unfold Cert.Qkv.fac
  by_cases h : t.val / 4 < 2
  · rw [if_pos h, if_pos (show t.val / 4 * 1024 + k.val < 2048 by omega)]; rfl
  · rw [if_neg h, if_neg (show ¬ t.val / 4 * 1024 + k.val < 2048 by omega)]; rfl

theorem shown_apply (v : Vec Ideal S2048x2048 .bf16) (r : Fin 2048) (h : Fin 2048) : shown v (ix3 0 r h) = v (ix2 r h) := by
  pointwise [shown]

theorem tile_apply (c : Dev nD) (X : Act (F := Ideal) c) (b : Fin 16) (r : Fin 2048) (h : Fin 2048) (hp : 2048 * (b.val % 4) + r.val < 8192) :
    tileOf c X b (ix2 r h) = (X : S8192x2048.Idx → EReal) (ix2 ⟨2048 * (b.val % 4) + r.val, hp⟩ h) := by
  refine congrArg (X : S8192x2048.Idx → EReal) (funext fun a => Fin.ext ?_)
  fin_cases a
  · show 2048 * (b.val % 4) + 1 * r.val = _; rw [Nat.one_mul]; rfl
  · show 0 + 1 * h.val = _; rw [Nat.one_mul, Nat.zero_add]; rfl

theorem read_w (c : Dev nD) (p : Fin 19504) (k : Fin 2048) :
    (V m c main_v2 : S19504x2048.Idx → EReal) (ix2 p k) = (m ((c : Thread nD τ).loc main_arg1) : S1x2048x19504.Idx → EReal) (ix3 0 k p) := by
  entry_read
  pointwise

theorem read_b (c : Dev nD) (p : Fin 4096) :
    (V m c main_v6 : S1x4096.Idx → EReal) (ix2 0 p) = (m ((c : Thread nD τ).loc main_arg2) : S1x19504.Idx → EReal) (ix2 0 (Cert.Qkv.col p)) := by
  entry_read
  pointwise
  unfold Cert.Qkv.col
  split
  · rfl
  · exact congrArg _ ((ix2_inj ..).2 ⟨rfl, Fin.ext (by show 3072 + (p.val - 2048) = 1024 + p.val; omega)⟩)

theorem blk_b (c : Dev nD) (t : Fin grid0.N) (k : Fin 1024) (hp : t.val / 4 * 1024 + k.val < 4096) :
    iblk m c 0 t (ix2 0 k) = (V m c main_v6 : S1x4096.Idx → EReal) (ix2 0 ⟨t.val / 4 * 1024 + k.val, hp⟩) := by
  blk_ext [iblk, idx_all t]

theorem flushed_2 (c : Dev nD) (t : Fin cfg0.N) : (dats m 0 c).flushed 2 t = (cfg0.win 2).cut (grid0.coords t) (left m c t) := by
  show (cfg0.win 2).cut (grid0.coords t) ((dats m 0 c).after 2 t) = _
  rw [after_2]
theorem idx_inj : ∀ t t' : Fin cfg0.N, win0_2.index t = win0_2.index t' → t = t' :=
  (by decide +kernel : ∀ t t' : Fin grid0.N, win0_2.index t = win0_2.index t' → t = t')
theorem blocks (c : Dev nD) (t : Fin cfg0.N) (hf : (cfg0.win 2).flush t = true) :
    ((cfg0.win 2).blk t).view.read (Elt Ideal) ((dats m 0 c).arrAt 2 cfg0.N) = (dats m 0 c).flushed 2 t :=
  (dats m 0 c).read_blk_arrAt_eq_flushed 2 (fun t t' _ _ hne => (cfg0.win 2).disjoint_blk fun h => hne (idx_inj t t' h)) cfg0.N t t.isLt hf

theorem emb_eq (t : Fin cfg0.N) (r : Fin 2048) (k : Fin 1024) (hr : t.val % 4 * 2048 + r.val < 8192) (hk : t.val / 4 * 1024 + k.val < 4096) :
    ((cfg0.win 2).blk t).view.emb (ix2 r k) = (ix2 (⟨t.val % 4 * 2048 + r.val, hr⟩ : Fin 8192) (⟨t.val / 4 * 1024 + k.val, hk⟩ : Fin 4096) : S8192x4096.Idx) := by
  refine funext fun a => Fin.ext ?_
  have e := (idx_all t).2.2
  fin_cases a
  · show win0_2.index t 0 * 2048 + 1 * r.val = t.val % 4 * 2048 + r.val
    rw [e]; show t.val % 4 * 2048 + 1 * r.val = _; omega
  · show win0_2.index t 1 * 1024 + 1 * k.val = t.val / 4 * 1024 + k.val
    rw [e]; show t.val / 4 * 1024 + 1 * k.val = _; omega

theorem flush_all : ∀ t : Fin cfg0.N, (cfg0.win 2).flush t = true :=
  (by decide +kernel : ∀ t : Fin grid0.N, win0_2.flush t = true)

theorem left_apply (c : Dev nD) (t : Fin cfg0.N) (r : Fin 2048) (k : Fin 1024) (hr : t.val % 4 * 2048 + r.val < 8192) (hk : t.val / 4 * 1024 + k.val < 4096) :
    left m c t (ix2 r k) = Cert.Qkv.pj (m ((c : Thread nD τ).loc main_arg0)) (m ((c : Thread nD τ).loc main_arg1)) (m ((c : Thread nD τ).loc main_arg2))
      ⟨t.val % 4 * 2048 + r.val, hr⟩ (Cert.Qkv.col ⟨t.val / 4 * 1024 + k.val, hk⟩) * Cert.Qkv.fac ⟨t.val / 4 * 1024 + k.val, hk⟩ := by
  have ht : t.val < 16 := lt_of_lt_of_eq t.isLt (show cfg0.N = 16 from N_0)
  have hb : (Ring.bk 16 t.val).val = t.val := Ring.bk_val ht
  unfold left block
  refine (pay_apply _ _ _ _ r k).trans ?_
  unfold Cert.Qkv.pj
  refine Ideal.mul_congr ?_ (fac_eq t k hk)
  refine Ideal.add_congr (Finset.sum_congr rfl fun h _ => Ideal.mul_congr ?_ ?_) ((blk_b m c t k hk).trans (read_b m c _))
  · refine (shown_apply _ r h).trans ((tile_apply c _ _ r h (by rw [hb]; omega)).trans ?_)
    rw [V_main_arg0]
    exact congrArg _ ((ix2_inj ..).2 ⟨Fin.ext (by show 2048 * ((Ring.bk 16 t.val).val % 4) + r.val = t.val % 4 * 2048 + r.val; rw [hb]; omega), rfl⟩)
  · show (V m c main_v2 : S19504x2048.Idx → EReal) (ix2 ⟨(colAt (t.val / 4) + k.val) % 19504, _⟩ h) = _
    refine (read_w m c _ h).trans (congrArg _ ?_)
    have e : (⟨(colAt (t.val / 4) + k.val) % 19504, Nat.mod_lt _ (by decide)⟩ : Fin 19504) = Cert.Qkv.col ⟨t.val / 4 * 1024 + k.val, hk⟩ := by
      unfold Cert.Qkv.col colAt
      have hk' := k.isLt
      by_cases h2 : t.val / 4 < 2
      · rw [if_pos h2, dif_pos (show t.val / 4 * 1024 + k.val < 2048 by omega)]
        exact Fin.ext (by show (1024 * (t.val / 4) + k.val) % 19504 = t.val / 4 * 1024 + k.val; omega)
      · rw [if_neg h2, dif_neg (show ¬ t.val / 4 * 1024 + k.val < 2048 by omega)]
        exact Fin.ext (by show (1024 + 1024 * (t.val / 4) + k.val) % 19504 = 1024 + (t.val / 4 * 1024 + k.val); omega)
    rw [e]

theorem final_apply (c : Dev nD) (p : Fin 8192) (q : Fin 4096) :
    ((dats m 0 c).arrAt 2 cfg0.N : S8192x4096.Idx → EReal) (ix2 p q)
      = Cert.Qkv.pj (m ((c : Thread nD τ).loc main_arg0)) (m ((c : Thread nD τ).loc main_arg1)) (m ((c : Thread nD τ).loc main_arg2)) p (Cert.Qkv.col q) * Cert.Qkv.fac q := by
  have hp := p.isLt
  have hq := q.isLt
  have hlt : q.val / 1024 * 4 + p.val / 2048 < cfg0.N := by
    show _ < grid0.N
    rw [N_0]
    omega
  obtain ⟨t, ht⟩ : ∃ t : Fin cfg0.N, t.val = q.val / 1024 * 4 + p.val / 2048 := ⟨⟨_, hlt⟩, rfl⟩
  obtain ⟨r, hr⟩ : ∃ r : Fin 2048, r.val = p.val % 2048 := ⟨⟨_, Nat.mod_lt _ (by decide)⟩, rfl⟩
  obtain ⟨k, hk⟩ : ∃ k : Fin 1024, k.val = q.val % 1024 := ⟨⟨_, Nat.mod_lt _ (by decide)⟩, rfl⟩
  have h1 : t.val % 4 * 2048 + r.val < 8192 := by omega
  have h2 : t.val / 4 * 1024 + k.val < 4096 := by omega
  have ep : (⟨t.val % 4 * 2048 + r.val, h1⟩ : Fin 8192) = p := Fin.ext (by show t.val % 4 * 2048 + r.val = p.val; omega)
  have eq : (⟨t.val / 4 * 1024 + k.val, h2⟩ : Fin 4096) = q := Fin.ext (by show t.val / 4 * 1024 + k.val = q.val; omega)
  have e := congrFun (blocks m c t (flush_all t)) (ix2 r k)
  rw [flushed_2] at e
  have e' : ((dats m 0 c).arrAt 2 cfg0.N : S8192x4096.Idx → EReal) (((cfg0.win 2).blk t).view.emb (ix2 r k)) = left m c t (ix2 r k) := e
  rw [emb_eq t r k h1 h2, left_apply m c t r k h1 h2, ep, eq] at e'
  exact e'

variable (ρ : Dev nD → PrngReg)

/-- A launch ends with the result array in place and the arguments as they were. -/
theorem value_run : θ_run defs (onTc (τ := τ) (main (F := Ideal))) ⟨m, fun _ => 0, ρ⟩ fun r => ∀ c : Dev nD,
      r.2.mem ((c : Thread nD τ).loc main_v7) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 2,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_quiet m ρ)

end Cert.Kernel5Ideal.Qkv

namespace Cert.Reference5Ideal.Qkv
open Cert.Reference5Ideal Cert.Reference5Ideal.Gen Idealize.ShloMosaic
variable (x : FVec Ideal S8192x2048 .bf16) (w : FVec Ideal S1x2048x19504 .f32) (b : FVec Ideal S1x19504 .f32)

/-- The whole input projection of the reference. -/
def proj : FVec Ideal S4x2048x19504 .f32 :=
  addf (Host.dotGeneral dot_S4x2048x2048_S2048x19504_S4x2048x19504_2_0_01_1_n_n none (extf .f32 (shapeCast _ x shapeCasts_S8192x2048_S4x2048x2048) bitsLt_bf16_f32) (shapeCast _ w shapeCasts_S1x2048x19504_S2048x19504)) (broadcastInDim S4x2048x19504 ![0, 1, 2] bcast_S1x1x19504_S4x2048x19504_0_1_2 (broadcastInDim S1x1x19504 ![2] bcast_S19504_S1x1x19504_2 (shapeCast _ b shapeCasts_S1x19504_S19504)))

theorem proj_apply (n : Fin 4) (s : Fin 2048) (q : Fin 19504) :
    proj x w b (ix3 n s q) = Cert.Qkv.pj x w b ⟨n.val * 2048 + s.val, by omega⟩ q := by
  pointwise [proj, Cert.Qkv.pj]

variable (P : FVec Ideal S4x2048x19504 .f32)

/-- The queries, scaled, beside the keys and values of the two branches. -/
def side : FVec Ideal S4x2048x4096 .f32 :=
  concatenate S4x2048x4096 2 [⟨S4x2048x2048, mulf (extractStridedSlice S4x2048x2048 ![0, 0, 0] P slices_S4x2048x19504_S4x2048x2048_0_0_0) (broadcastInDim S4x2048x2048 ![] bcast_S_S4x2048x2048 (constant S_ .f32 0x3E0293EE#32))⟩,
    ⟨S4x2048x512, extractStridedSlice S4x2048x512 ![0, 0, 3072] P slices_S4x2048x19504_S4x2048x512_0_0_3072⟩, ⟨S4x2048x512, extractStridedSlice S4x2048x512 ![0, 0, 3584] P slices_S4x2048x19504_S4x2048x512_0_0_3584⟩,
    ⟨S4x2048x512, extractStridedSlice S4x2048x512 ![0, 0, 4096] P slices_S4x2048x19504_S4x2048x512_0_0_4096⟩, ⟨S4x2048x512, extractStridedSlice S4x2048x512 ![0, 0, 4608] P slices_S4x2048x19504_S4x2048x512_0_0_4608⟩]
    concatenates_S4x2048x2048_S4x2048x512_S4x2048x512_S4x2048x512_S4x2048x512_S4x2048x4096_d2

theorem side_apply (n : Fin 4) (s : Fin 2048) (q : Fin 4096) : side P (ix3 n s q) = P (ix3 n s (Cert.Qkv.col q)) * Cert.Qkv.fac q := by
  have hq := q.isLt
  pointwise [side]
  unfold Cert.Qkv.col Cert.Qkv.fac
  by_cases h : q.val < 2048
  · rw [dif_pos h, dif_pos h, if_pos h]
  · rw [dif_neg h, dif_neg h, if_neg h, mul_one]
    split
    · exact congrArg (fun j => P (ix3 n s j)) (Fin.ext (by show 3072 + (q.val - 2048) = 1024 + q.val; omega))
    split
    · exact congrArg (fun j => P (ix3 n s j)) (Fin.ext (by show 3584 + (q.val - 2048 - 512) = 1024 + q.val; omega))
    split
    · exact congrArg (fun j => P (ix3 n s j)) (Fin.ext (by show 4096 + (q.val - 2048 - 512 - 512) = 1024 + q.val; omega))
    · exact congrArg (fun j => P (ix3 n s j)) (Fin.ext (by show 4608 + (q.val - 2048 - 512 - 512 - 512) = 1024 + q.val; omega))

/-- The result: the same over all rows, narrowed. -/
def res : FVec Ideal S8192x4096 .bf16 :=
  truncf .bf16 (shapeCast _ (side (proj x w b)) shapeCasts_S4x2048x4096_S8192x4096) bitsLt_bf16_f32

theorem res_apply (n : Fin 4) (s : Fin 2048) (q : Fin 4096) :
    res x w b (ix2 ⟨n.val * 2048 + s.val, by omega⟩ q) = Cert.Qkv.pj x w b ⟨n.val * 2048 + s.val, by omega⟩ (Cert.Qkv.col q) * Cert.Qkv.fac q := by
  have e : ∀ j : Fin 4096, side (proj x w b) (ix3 n s j) = Cert.Qkv.pj x w b ⟨n.val * 2048 + s.val, by omega⟩ (Cert.Qkv.col j) * Cert.Qkv.fac j :=
    fun j => (side_apply _ n s j).trans (congrArg (· * Cert.Qkv.fac j) (proj_apply x w b n s _))
  pointwise [res, e]

end Cert.Reference5Ideal.Qkv

namespace Cert.Qkv
open Idealize.ShloMosaic Idealize.ShloMosaic.TcCoe Idealize.SL.Sem

theorem algebraic : Cert.algebraic_Kernel5Ideal_Reference5Ideal := by
  pair_intro
  · run_from Cert.Kernel5Ideal.Qkv.value_run m g
  · run_from Cert.Reference5Ideal.Value.run m' g'
    · exact Cert.Norm.rows_ext _ _ fun n s k => (Cert.Reference5Ideal.Qkv.res_apply _ _ _ n s k).trans
        ((congrArg (fun v => pj _ _ v _ _ * fac _) (hagree c).2.2).trans (Cert.Kernel5Ideal.Qkv.final_apply m c _ k).symm)

theorem frame_reference : Cert.quiescent_Reference5Ideal := fun m g _ =>
  θ_run_mono (Cert.Reference5Ideal.Value.run m g) fun r h => ⟨fun c => (h c).2, sem_eq_zero_of_no_sems (by decide) r.2⟩

end Cert.Qkv

end
-- ==== Proof.MergeRing.lean ====
/-
  The four three-slot rings that the gated sum of two projections reads its row tiles and its gates through:
  one for each of the two activations and one for each of the two gates. They run in step.
-/
module

public import proofs.«01_k».proof.Proof.Gen.Kernel6Ideal.Frame
public import proofs.«01_k».proof.Proof.Gen.Kernel6Ideal.Skeleton
public import Idealize.ShloMosaic.Lib.Pipeline.ValueKit

@[expose] public section

set_option maxRecDepth 16384

noncomputable section

namespace Cert.Kernel6Ideal.Merge

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

instance : NeZero grid0.N := ⟨by rw [N_0]; decide⟩

/-! ### When the branches are taken, and the offsets at a point -/

/-- The first two tiles of each ring are asked for. -/
abbrev starts (i : grid0.Coords) : Prop := k0_cond1 i = 1#1
/-- The tiles two steps on are asked for. -/
abbrev asks (i : grid0.Coords) : Prop := k0_cond2 i = 1#1

theorem starts_iff : ∀ t : Fin grid0.N, starts (grid0.coords t) ↔ t.val = 0 := by decide +kernel
theorem asks_iff : ∀ t : Fin grid0.N, asks (grid0.coords t) ↔ t.val + 2 < 32 := by decide +kernel

section Offsets
omit [FloatOps F]
theorem o_next_cell : ∀ t : Fin grid0.N, k0_off1 (grid0.coords t) = ![(Ring.sl 3 (t.val + 2)).val] := by decide +kernel
theorem o_next_row : ∀ t : Fin grid0.N, k0_off2 (grid0.coords t) = ![(Ring.sl 3 (t.val + 2)).val, 0, 0] := by decide +kernel
theorem o_next_gate : ∀ t : Fin grid0.N, k0_off4 (grid0.coords t) = ![(Ring.sl 3 (t.val + 2)).val, 0, 0] := by decide +kernel
theorem o_next_tileR : ∀ t : Fin grid0.N, asks (grid0.coords t) → k0_off3 (grid0.coords t) = ![512 * ((Ring.bk 32 (t.val + 2)).val % 16), 0] := by decide +kernel
theorem o_next_tileG : ∀ t : Fin grid0.N, asks (grid0.coords t) → k0_off5 (grid0.coords t) 2048#32 = ![512 * ((Ring.bk 32 (t.val + 2)).val % 16), 2048 + 1024 * ((Ring.bk 32 (t.val + 2)).val / 16)] := by decide +kernel
theorem o_next_tileH : ∀ t : Fin grid0.N, asks (grid0.coords t) → k0_off5 (grid0.coords t) 4096#32 = ![512 * ((Ring.bk 32 (t.val + 2)).val % 16), 4096 + 1024 * ((Ring.bk 32 (t.val + 2)).val / 16)] := by decide +kernel
theorem o_this_cell : ∀ t : Fin grid0.N, k0_off6 (grid0.coords t) = ![(Ring.sl 3 t.val).val] := by decide +kernel
theorem o_this_row : ∀ t : Fin grid0.N, k0_off7 (grid0.coords t) = ![(Ring.sl 3 t.val).val, 0, 0] := by decide +kernel
theorem o_this_gate : ∀ t : Fin grid0.N, k0_off9 (grid0.coords t) = ![(Ring.sl 3 t.val).val, 0, 0] := by decide +kernel
theorem o_load_row : ∀ t : Fin grid0.N, k0_off11 (grid0.coords t) = ![(Ring.sl 3 t.val).val, 0, 0] := by decide +kernel
theorem o_load_gate : ∀ t : Fin grid0.N, k0_off12 (grid0.coords t) = ![(Ring.sl 3 t.val).val, 0, 0] := by decide +kernel
theorem o_0 : ∀ t : Fin grid0.N, starts (grid0.coords t) → (![0, 0, 0] : Fin 3 → Nat) = ![(Ring.sl 3 t.val).val, 0, 0] := by decide +kernel
theorem o_0_cell : ∀ t : Fin grid0.N, starts (grid0.coords t) → (![0] : Fin 1 → Nat) = ![(Ring.sl 3 t.val).val] := by decide +kernel
theorem o_0_tileR : ∀ t : Fin grid0.N, starts (grid0.coords t) → (![0, 0] : Fin 2 → Nat) = ![512 * ((Ring.bk 32 t.val).val % 16), 0] := by decide +kernel
theorem o_0_tileG : ∀ t : Fin grid0.N, starts (grid0.coords t) → (![0, 2048] : Fin 2 → Nat) = ![512 * ((Ring.bk 32 t.val).val % 16), 2048 + 1024 * ((Ring.bk 32 t.val).val / 16)] := by decide +kernel
theorem o_0_tileH : ∀ t : Fin grid0.N, starts (grid0.coords t) → (![0, 4096] : Fin 2 → Nat) = ![512 * ((Ring.bk 32 t.val).val % 16), 4096 + 1024 * ((Ring.bk 32 t.val).val / 16)] := by decide +kernel
theorem o_1 : ∀ t : Fin grid0.N, starts (grid0.coords t) → (![1, 0, 0] : Fin 3 → Nat) = ![(Ring.sl 3 (t.val + 1)).val, 0, 0] := by decide +kernel
theorem o_1_cell : ∀ t : Fin grid0.N, starts (grid0.coords t) → (![1] : Fin 1 → Nat) = ![(Ring.sl 3 (t.val + 1)).val] := by decide +kernel
theorem o_1_tileR : ∀ t : Fin grid0.N, starts (grid0.coords t) → (![512, 0] : Fin 2 → Nat) = ![512 * ((Ring.bk 32 (t.val + 1)).val % 16), 0] := by decide +kernel
theorem o_1_tileG : ∀ t : Fin grid0.N, starts (grid0.coords t) → (![512, 2048] : Fin 2 → Nat) = ![512 * ((Ring.bk 32 (t.val + 1)).val % 16), 2048 + 1024 * ((Ring.bk 32 (t.val + 1)).val / 16)] := by decide +kernel
theorem o_1_tileH : ∀ t : Fin grid0.N, starts (grid0.coords t) → (![512, 4096] : Fin 2 → Nat) = ![512 * ((Ring.bk 32 (t.val + 1)).val % 16), 4096 + 1024 * ((Ring.bk 32 (t.val + 1)).val / 16)] := by decide +kernel
instance (priority := high) loadRow (t : Fin grid0.N) : ClosedOff (k0_off11 (grid0.coords t)) := ⟨![(Ring.sl 3 t.val).val, 0, 0], o_load_row t⟩
instance (priority := high) loadGate (t : Fin grid0.N) : ClosedOff (k0_off12 (grid0.coords t)) := ⟨![(Ring.sl 3 t.val).val, 0, 0], o_load_gate t⟩
end Offsets

theorem cell_fits (s : Fin 3) : ∀ a, (![s.val] : Fin 1 → Nat) a + S1.size a ≤ S3.size a := by
  intro a; have h3 := s.isLt; fin_cases a <;> simp <;> omega

/-! ### What the rings have in common -/

/-- A ring before point `k`. It holds no block itself: every slot holds a share of the whole array. -/
def ringOf {D : Fin 3 → Type} (cell : Fin 3 → sProp 𝕄) (slot : (s : Fin 3) → D s → sProp 𝕄) (fly : (s : Fin 3) → Fin 32 → D s → sProp 𝕄) (k : ℕ) : sProp 𝕄 := if k = 0 then Ring.At₀ cell slot (fun _ : Fin 32 => iprop(emp)) else Ring.At 2 cell slot (fun _ => iprop(emp)) fly k
/-- The first step takes the three free slots and leaves two tiles under way. -/
theorem step_first {D : Fin 3 → Type} (cell : Fin 3 → sProp 𝕄) (slot : (s : Fin 3) → D s → sProp 𝕄) (fly : (s : Fin 3) → Fin 32 → D s → sProp 𝕄)
    (t : ℕ) (h1 : t = 0) :
    ringOf cell slot fly t ⊢ iprop((Ring.free cell slot (Ring.sl 3 t) ∗ Ring.free cell slot (Ring.sl 3 (t + 1)) ∗ Ring.free cell slot (Ring.sl 3 (t + 2)))
      ∗ (iprop(Ring.inflight fly (Ring.sl 3 (t + 1)) (Ring.bk 32 (t + 1)) ∗ Ring.inflight fly (Ring.sl 3 (t + 2)) (Ring.bk 32 (t + 2)) ∗ Ring.free cell slot (Ring.sl 3 t)) -∗ ringOf cell slot fly (t + 1))) := by
  unfold ringOf
  rw [if_pos h1, if_neg (show ¬t + 1 = 0 by omega), Ring.At₀_eq3' _ _ _ t h1 (by decide : 3 ≤ 32), Ring.At3_one' _ _ _ _ t h1 (by decide : 3 ≤ 32)]
  iintro ⟨-, Q⟩
  isplitl [Q]; · iexact Q
  iintro Q
  iapply (Ring.with_homes (Idealize.SL.BI.Entails.refl _)); iexact Q
/-- A step within takes the oldest tile and the free slot, and leaves two tiles under way. -/
theorem step_kept {D : Fin 3 → Type} (cell : Fin 3 → sProp 𝕄) (slot : (s : Fin 3) → D s → sProp 𝕄) (fly : (s : Fin 3) → Fin 32 → D s → sProp 𝕄)
    (t : ℕ) (h1 : ¬t = 0) (h2 : t + 2 < 32) :
    ringOf cell slot fly t ⊢ iprop((Ring.inflight fly (Ring.sl 3 t) (Ring.bk 32 t) ∗ Ring.free cell slot (Ring.sl 3 (t + 2)))
      ∗ (iprop(Ring.inflight fly (Ring.sl 3 (t + 2)) (Ring.bk 32 (t + 2)) ∗ Ring.free cell slot (Ring.sl 3 t)) -∗ ringOf cell slot fly (t + 1))) := by
  unfold ringOf
  rw [if_neg h1, if_neg (show ¬t + 1 = 0 by omega), Ring.At3_here _ _ _ _ t h2, Ring.At3_next _ _ _ _ t h2, Ring.slotAt3_next0 _ _ _ t (by omega), Ring.slotAt3_next1 _ _ _ t h2]
  iintro ⟨-, Q0, Q1, Q2⟩
  isplitl [Q0 Q2]
  · isplitl [Q0]; · iexact Q0
    iexact Q2
  iintro ⟨Qa, Qb⟩
  iapply (Ring.with_homes (Idealize.SL.BI.Entails.refl _))
  isplitl [Q1]; · iexact Q1
  isplitl [Qa]; · iexact Qa
  iexact Qb
/-- One of the last two steps only takes the oldest tile. -/
theorem step_last {D : Fin 3 → Type} (cell : Fin 3 → sProp 𝕄) (slot : (s : Fin 3) → D s → sProp 𝕄) (fly : (s : Fin 3) → Fin 32 → D s → sProp 𝕄)
    (t : ℕ) (h1 : ¬t = 0) (h2 : ¬t + 2 < 32) (ht : t < 32) :
    ringOf cell slot fly t ⊢ iprop(Ring.inflight fly (Ring.sl 3 t) (Ring.bk 32 t) ∗ (Ring.free cell slot (Ring.sl 3 t) -∗ ringOf cell slot fly (t + 1))) := by
  unfold ringOf
  rw [if_neg h1, if_neg (show ¬t + 1 = 0 by omega), Ring.At3_here_tail _ _ _ _ t ht, Ring.At3_next_tail _ _ _ _ t (by omega) ht, Ring.slotAt3_tail_role _ _ _ t]
  iintro ⟨-, Q0, Q1, Q2⟩
  isplitl [Q0]; · iexact Q0
  iintro Qc
  iapply (Ring.with_homes (Idealize.SL.BI.Entails.refl _))
  isplitl [Q1]; · iexact Q1
  isplitl [Q2]; · iexact Q2
  iexact Qc
/-- A share of an array cut in the three that the slots hold. -/
theorem shares3 {ℓ : Loc nD τ sig} (q : PosShare TreeShare) (X : Buf (Elt F) ℓ) :
    (ℓ ↦{q} X : sProp 𝕄) ⊣⊢ iprop((ℓ ↦[Finset.univ]{q.left} X) ∗ (ℓ ↦[Finset.univ]{q.right.left} X) ∗ ℓ ↦[Finset.univ]{q.right.right} X) := by
  constructor
  · iintro H
    ihave G := (pointsTo_share (PosShare.mem_left_op_right q)).1 $$ H
    icases G with ⟨G0, G⟩
    ihave G' := (pointsTo_share (PosShare.mem_left_op_right q.right)).1 $$ G
    icases G' with ⟨G1, G2⟩
    isplitl [G0]; · iexact G0
    isplitl [G1]; · iexact G1
    iexact G2
  · iintro ⟨G0, G1, G2⟩
    iapply (pointsTo_share (PosShare.mem_left_op_right q)).2
    isplitl [G0]; · iexact G0
    iapply (pointsTo_share (PosShare.mem_left_op_right q.right)).2
    isplitl [G1]; · iexact G1
    iexact G2

/-! ### The ring of the first activations -/

namespace SA

abbrev ringM : Memref sig .tc .vmem S3x512x2048 .bf16 := Memref.whole cc0_scratch0
abbrev actM : Memref sig .tc .hbm S8192x2048 .bf16 := Memref.whole main_arg0
abbrev Act (c : Dev nD) : Type := Buf (Elt F) ((actM).view.loc (c : Thread nD τ))
theorem slot_fits (s : Fin 3) : ∀ a, (![s.val, 0, 0] : Fin 3 → Nat) a + S1x512x2048.size a ≤ S3x512x2048.size a := by
  intro a; have h3 := s.isLt; fin_cases a <;> simp <;> omega
theorem tile_fits (b : Fin 32) : ∀ a, (![512 * (b.val % 16), 0] : Fin 2 → Nat) a + S512x2048.size a ≤ S8192x2048.size a := by
  intro a; have h := b.isLt; fin_cases a <;> simp <;> omega
def slotM (s : Fin 3) : Memref sig .tc .vmem S512x2048 .bf16 :=
  (ringM.slice (Rect.unit (s := S3x512x2048) ![s.val, 0, 0] S1x512x2048.size (slot_fits s)) (fun _ => rfl)).squeeze S512x2048 squeezes_S1x512x2048_S512x2048
def tileM (b : Fin 32) : Memref sig .tc .hbm S512x2048 .bf16 :=
  actM.slice (Rect.unit (s := S8192x2048) ![512 * (b.val % 16), 0] S512x2048.size (tile_fits b)) (fun _ => rfl)
def cellM (s : Fin 3) : DmaSems sig S_ := (((cc0_scratch4.slice (Rect.unit (s := S4x3) ![0, 0] S1x3.size inb_S4x3_S1x3_0_0)).squeeze S3 squeezes_S1x3_S3).slice (Rect.unit (s := S3) ![s.val] S1.size (cell_fits s))).squeeze S_ squeezes_S1_S_
abbrev cellL (s : Fin 3) : SemLoc sig := SemLoc.dma (cellM s).sem
theorem cellL0 : cellL 0 = SemLoc.dma 6 := by decide
theorem cellL1 : cellL 1 = SemLoc.dma 7 := by decide
theorem cellL2 : cellL 2 = SemLoc.dma 8 := by decide
section Parts
variable (c : Dev nD) (X : Act (F := F) c)
abbrev shareOf (s : Fin 3) : PosShare TreeShare := if s.val = 0 then (fullShare).left else if s.val = 1 then (fullShare).right.left else (fullShare).right.right
abbrev SlotBuf (s : Fin 3) : Type := Buf (Elt F) ((slotM s).view.loc (c : Thread nD τ))
abbrev slotPt (s : Fin 3) (f : SlotBuf (F := F) c s) : sProp 𝕄 := (slotM s).view.loc (c : Thread nD τ) ↦[(slotM s).view.set]{fullShare} f
abbrev cellPt (s : Fin 3) : sProp 𝕄 := semVal ((c : Thread nD τ), cellL s) 0
abbrev tilePt (s : Fin 3) (b : Fin 32) : sProp 𝕄 := (tileM b).view.loc (c : Thread nD τ) ↦[(tileM b).view.set]{shareOf s} X
def othersPt (s : Fin 3) (b : Fin 32) : sProp 𝕄 := ((c : Thread nD τ).loc main_arg0) ↦[Finset.univ \ (tileM b).view.set]{shareOf s} X
abbrev actPt (s : Fin 3) : sProp 𝕄 := ((c : Thread nD τ).loc main_arg0) ↦[Finset.univ]{shareOf s} X
def tileOf (b : Fin 32) : Vec F S512x2048 .bf16 := ReadAs.same.apply ((tileM b).view.read (Elt F) X)
abbrev arrived (s : Fin 3) (b : Fin 32) (f : SlotBuf (F := F) c s) : SlotBuf (F := F) c s :=
  (slotM s).view.writes (Elt F) f [⟨Rect.whole S512x2048, ReadAs.same.apply ((tileM b).view.read (Elt F) X)⟩]
abbrev copying (s : Fin 3) (b : Fin 32) (f : SlotBuf (F := F) c s) : sProp 𝕄 :=
  Transfers.Flight countersEmb (c : Thread nD τ) (cellL s) default ((slotM s).view.amount (cellL s)) iprop(slotPt c s (arrived c X s b f) ∗ tilePt c X s b)
abbrev slotFam (s : Fin 3) (f : SlotBuf (F := F) c s) : sProp 𝕄 := iprop(slotPt c s f ∗ actPt c X s)
abbrev flyFam (s : Fin 3) (b : Fin 32) (f : SlotBuf (F := F) c s) : sProp 𝕄 := iprop(copying c X s b f ∗ othersPt c X s b)
abbrev ringAt (k : ℕ) : sProp 𝕄 := ringOf (cellPt c) (slotFam c X) (flyFam c X) k
theorem act_cut (s : Fin 3) (b : Fin 32) : actPt (F := F) c X s ⊣⊢ iprop(tilePt c X s b ∗ othersPt c X s b) := by
  unfold othersPt; exact pointsTo_split_subset (Finset.subset_univ _)
theorem act_shares : (actM.view.loc (c : Thread nD τ) ↦{fullShare} X : sProp 𝕄) ⊣⊢ iprop(actPt c X 0 ∗ actPt c X 1 ∗ actPt c X 2) := shares3 _ _
end Parts
abbrev slotBox (s : Fin 3) : Finset S3x512x2048.Idx := (Rect.unit (s := S3x512x2048) ![s.val, 0, 0] S1x512x2048.size (slot_fits s)).set
theorem slot_set (s : Fin 3) : (slotM s).view.set = slotBox s := by
  simp only [slotM, Memref.view_squeeze, View.set_reshape]; exact View.set_slice_whole _ _
theorem slots_apart (s s' : Fin 3) (h : s ≠ s') : Disjoint (slotBox s) (slotBox s') :=
  Ring.lead_disjoint (s := S3x512x2048) (0 : Fin 3) 1 (fun s : Fin 3 => (![s.val, 0, 0] : Fin 3 → Nat)) S1x512x2048.size slot_fits (fun s => by simp) rfl s s' h
theorem slots_all : Finset.univ.biUnion slotBox = Finset.univ := by
  refine Ring.lead_cover (s := S3x512x2048) (0 : Fin 3) 1 (fun s : Fin 3 => (![s.val, 0, 0] : Fin 3 → Nat)) S1x512x2048.size slot_fits (fun s => by simp)
    (fun s a ha => ?_) rfl (fun a ha => ?_) rfl <;> (fin_cases a <;> first | exact absurd rfl ha | rfl)
theorem slotPt_box (c : Dev nD) (s : Fin 3) (f) : slotPt (F := F) c s f = (((c : Thread nD τ).loc cc0_scratch0) ↦[slotBox s]{fullShare} f : sProp 𝕄) := by
  unfold slotPt; rw [slot_set]; rfl
abbrev slots3 (c : Dev nD) : sProp 𝕄 := iprop((∃ f, slotPt (F := F) c 0 f) ∗ (∃ f, slotPt (F := F) c 1 f) ∗ ∃ f, slotPt (F := F) c 2 f)
set_option maxHeartbeats 1000000 in
theorem ring_open (c : Dev nD) : iprop(∃ d, owns (c : Thread nD τ) ringM fullShare d) ⊢ slots3 (F := F) c := by
  simp only [ringM, owns_whole]
  exact Ring.slots3_split (U := Pipeline.UD sig nD τ) (ℓ := (c : Thread nD τ).loc cc0_scratch0) (q := fullShare) slotBox slots_apart slots_all
    (slotPt c 0) (slotPt c 1) (slotPt c 2) (slotPt_box c 0) (slotPt_box c 1) (slotPt_box c 2)
set_option maxHeartbeats 1000000 in
theorem ring_close (c : Dev nD) : slots3 (F := F) c ⊢ iprop(∃ d, owns (c : Thread nD τ) ringM fullShare d) := by
  simp only [ringM, owns_whole]
  exact Ring.slots3_join (U := Pipeline.UD sig nD τ) (ℓ := (c : Thread nD τ).loc cc0_scratch0) (q := fullShare) slotBox slots_apart slots_all
    (slotPt c 0) (slotPt c 1) (slotPt c 2) (slotPt_box c 0) (slotPt_box c 1) (slotPt_box c 2)
abbrev ringParts (c : Dev nD) (X : Act (F := F) c) : sProp 𝕄 :=
  iprop((∃ d, owns (c : Thread nD τ) ringM fullShare d) ∗ (semVal ((c : Thread nD τ), SemLoc.dma 6) 0 ∗ semVal ((c : Thread nD τ), SemLoc.dma 7) 0 ∗ semVal ((c : Thread nD τ), SemLoc.dma 8) 0)
    ∗ (actM.view.loc (c : Thread nD τ) ↦{fullShare} X))
theorem cellPt0 (c : Dev nD) : cellPt (F := F) c 0 = semVal ((c : Thread nD τ), SemLoc.dma 6) 0 := congrArg (fun x => (semVal ((c : Thread nD τ), x) 0 : sProp 𝕄)) cellL0
theorem cellPt1 (c : Dev nD) : cellPt (F := F) c 1 = semVal ((c : Thread nD τ), SemLoc.dma 7) 0 := congrArg (fun x => (semVal ((c : Thread nD τ), x) 0 : sProp 𝕄)) cellL1
theorem cellPt2 (c : Dev nD) : cellPt (F := F) c 2 = semVal ((c : Thread nD τ), SemLoc.dma 8) 0 := congrArg (fun x => (semVal ((c : Thread nD τ), x) 0 : sProp 𝕄)) cellL2
theorem ring_in (c : Dev nD) (X : Act (F := F) c) : ringParts c X ⊢ ringAt c X 0 := by
  unfold ringAt ringOf; rw [if_pos rfl]; unfold Ring.At₀ ringParts
  rw [Ring.bigSep_fin3]
  simp only [Ring.free, cellPt0, cellPt1, cellPt2]
  iintro ⟨HS, ⟨C0, C1, C2⟩, HX⟩
  iapply Ring.with_homes₀
  ihave HS := (ring_open (F := F) c) $$ HS
  icases HS with ⟨⟨%d0, S0⟩, ⟨%d1, S1⟩, ⟨%d2, S2⟩⟩
  ihave HX := (act_shares (F := F) c X).1 $$ HX
  icases HX with ⟨X0, X1, X2⟩
  isplitl [C0 S0 X0]
  · isplitl [C0]; · iexact C0
    iexists d0; isplitl [S0]; · iexact S0
    iexact X0
  isplitl [C1 S1 X1]
  · isplitl [C1]; · iexact C1
    iexists d1; isplitl [S1]; · iexact S1
    iexact X1
  isplitl [C2]; · iexact C2
  iexists d2; isplitl [S2]; · iexact S2
  iexact X2
theorem ring_out (c : Dev nD) (X : Act (F := F) c) : ringAt c X 32 ⊢ ringParts c X := by
  unfold ringAt ringOf ringParts; rw [if_neg (by decide)]
  iintro H
  ihave H := (Ring.free3_of_At_last _ _ _ _) $$ H
  simp only [Ring.free, cellPt0, cellPt1, cellPt2]
  icases H with ⟨-, ⟨C0, ⟨%f0, S0, X0⟩⟩, ⟨C1, ⟨%f1, S1, X1⟩⟩, ⟨C2, ⟨%f2, S2, X2⟩⟩⟩
  isplitl [S0 S1 S2]
  · iapply (ring_close (F := F) c); isplitl [S0]; · iexists f0; iexact S0
    isplitl [S1]; · iexists f1; iexact S1
    iexists f2; iexact S2
  isplitl [C0 C1 C2]
  · isplitl [C0]; · iexact C0
    isplitl [C1]; · iexact C1
    iexact C2
  iapply (act_shares (F := F) c X).2; isplitl [X0]; · iexact X0
  isplitl [X1]; · iexact X1
  iexact X2
section Names
omit [FloatOps F]
theorem slot_name {o : Fin 3 → Nat} {s : Fin 3} (e : o = ![s.val, 0, 0]) (h) :
    (ringM.slice (Rect.unit (s := S3x512x2048) o S1x512x2048.size h) (fun _ => rfl)).squeeze S512x2048 squeezes_S1x512x2048_S512x2048 = slotM s := by
  subst e; rfl
theorem cell_name {o : Fin 1 → Nat} {s : Fin 3} (e : o = ![s.val]) (h) :
    (((cc0_scratch4.slice (Rect.unit (s := S4x3) ![0, 0] S1x3.size inb_S4x3_S1x3_0_0)).squeeze S3 squeezes_S1x3_S3).slice (Rect.unit (s := S3) o S1.size h)).squeeze S_ squeezes_S1_S_ = cellM s := by
  subst e; rfl
theorem tile_name {o : Fin 2 → Nat} {b : Fin 32} (e : o = ![512 * (b.val % 16), 0]) (h) :
    actM.slice (Rect.unit (s := S8192x2048) o S512x2048.size h) (fun _ => rfl) = tileM b := by
  subst e; rfl
variable (t : Fin grid0.N)
@[sl_canon] theorem n_0 (h : starts (grid0.coords t)) :
    (ringM.slice (Rect.unit (s := S3x512x2048) ![0, 0, 0] S1x512x2048.size inb_S3x512x2048_S1x512x2048_0_0_0) (fun _ => rfl)).squeeze S512x2048 squeezes_S1x512x2048_S512x2048 = slotM (Ring.sl 3 t.val) := slot_name (o_0 t h) _
@[sl_canon] theorem n_0_cell (h : starts (grid0.coords t)) :
    (((cc0_scratch4.slice (Rect.unit (s := S4x3) ![0, 0] S1x3.size inb_S4x3_S1x3_0_0)).squeeze S3 squeezes_S1x3_S3).slice (Rect.unit (s := S3) ![0] S1.size inb_S3_S1_0)).squeeze S_ squeezes_S1_S_ = cellM (Ring.sl 3 t.val) := cell_name (o_0_cell t h) _
@[sl_canon] theorem n_0_tile (h : starts (grid0.coords t)) :
    actM.slice (Rect.unit (s := S8192x2048) ![0, 0] S512x2048.size inb_S8192x2048_S512x2048_0_0) (fun _ => rfl) = tileM (Ring.bk 32 t.val) := tile_name (o_0_tileR t h) _
@[sl_canon] theorem n_1 (h : starts (grid0.coords t)) :
    (ringM.slice (Rect.unit (s := S3x512x2048) ![1, 0, 0] S1x512x2048.size inb_S3x512x2048_S1x512x2048_1_0_0) (fun _ => rfl)).squeeze S512x2048 squeezes_S1x512x2048_S512x2048 = slotM (Ring.sl 3 (t.val + 1)) := slot_name (o_1 t h) _
@[sl_canon] theorem n_1_cell (h : starts (grid0.coords t)) :
    (((cc0_scratch4.slice (Rect.unit (s := S4x3) ![0, 0] S1x3.size inb_S4x3_S1x3_0_0)).squeeze S3 squeezes_S1x3_S3).slice (Rect.unit (s := S3) ![1] S1.size inb_S3_S1_1)).squeeze S_ squeezes_S1_S_ = cellM (Ring.sl 3 (t.val + 1)) := cell_name (o_1_cell t h) _
@[sl_canon] theorem n_1_tile (h : starts (grid0.coords t)) :
    actM.slice (Rect.unit (s := S8192x2048) ![512, 0] S512x2048.size inb_S8192x2048_S512x2048_512_0) (fun _ => rfl) = tileM (Ring.bk 32 (t.val + 1)) := tile_name (o_1_tileR t h) _
@[sl_canon] theorem n_next (h : asks (grid0.coords t)) :
    (ringM.slice (Rect.unit (s := S3x512x2048) (k0_off2 (grid0.coords t)) S1x512x2048.size (k0_off2_inb (grid0.coords t) h)) (fun _ => rfl)).squeeze S512x2048 squeezes_S1x512x2048_S512x2048 = slotM (Ring.sl 3 (t.val + 2)) := slot_name (o_next_row t) _
@[sl_canon] theorem n_next_cell (h : asks (grid0.coords t)) :
    (((cc0_scratch4.slice (Rect.unit (s := S4x3) ![0, 0] S1x3.size inb_S4x3_S1x3_0_0)).squeeze S3 squeezes_S1x3_S3).slice (Rect.unit (s := S3) (k0_off1 (grid0.coords t)) S1.size (k0_off1_inb (grid0.coords t) h))).squeeze S_ squeezes_S1_S_ = cellM (Ring.sl 3 (t.val + 2)) := cell_name (o_next_cell t) _
@[sl_canon] theorem n_next_tile (h : asks (grid0.coords t)) :
    actM.slice (Rect.unit (s := S8192x2048) (k0_off3 (grid0.coords t)) S512x2048.size (k0_off3_inb (grid0.coords t) h)) (fun _ => rfl) = tileM (Ring.bk 32 (t.val + 2)) := tile_name (o_next_tileR t h) _
@[sl_canon] theorem n_this :
    (ringM.slice (Rect.unit (s := S3x512x2048) (k0_off7 (grid0.coords t)) S1x512x2048.size (k0_off7_inb (grid0.coords t))) (fun _ => rfl)).squeeze S512x2048 squeezes_S1x512x2048_S512x2048 = slotM (Ring.sl 3 t.val) := slot_name (o_this_row t) _
@[sl_canon] theorem n_this_cell :
    (((cc0_scratch4.slice (Rect.unit (s := S4x3) ![0, 0] S1x3.size inb_S4x3_S1x3_0_0)).squeeze S3 squeezes_S1x3_S3).slice (Rect.unit (s := S3) (k0_off6 (grid0.coords t)) S1.size (k0_off6_inb (grid0.coords t)))).squeeze S_ squeezes_S1_S_ = cellM (Ring.sl 3 t.val) := cell_name (o_this_cell t) _
end Names

/-- A tile as its slot shows it. -/
def shown (v : Vec F S512x2048 .bf16) : Vec F S1x512x2048 .bf16 := shapeCast S1x512x2048 v (by decide)
theorem shown_shapeCast (v : Vec F S1x512x2048 .bf16) : shown (shapeCast S512x2048 v shapeCasts_S1x512x2048_S512x2048) = v := by
  funext y
  show v (Shape.reshapeEquiv _ (Shape.reshapeEquiv _ y)) = v y
  rw [Shape.reshapeEquiv_reshapeEquiv, Shape.reshapeEquiv_self]
theorem read_arrived (c : Dev nD) (X : Act (F := F) c) (s : Fin 3) (b : Fin 32) (f : SlotBuf (F := F) c s) :
    (slotM s).view.read (Elt F) (arrived c X s b f) = tileOf c X b := by
  funext y
  have h := View.read_writes_cons_emb (Val := Elt F) (slotM s).view f (Rect.whole S512x2048) (tileOf c X b) [] y
  exact (congrArg ((slotM s).view.read (Elt F) (arrived c X s b f)) (funext fun a => Fin.ext (by show (y a).val = 0 + 1 * (y a).val; omega))).trans h
/-- The load of the slot in use shows the tile that arrived there. -/
theorem load_this (c : Dev nD) (X : Act (F := F) c) (s : Fin 3) (b : Fin 32) (f : SlotBuf (F := F) c s) (o : Fin 3 → Nat) (e : o = ![s.val, 0, 0]) (h) :
    ringM.view.readAt (Elt F) (Rect.unit (s := S3x512x2048) o S1x512x2048.size h).toLoadRect (arrived c X s b f) = shown (tileOf c X b) := by
  subst e
  rw [← read_arrived c X s b f]
  exact (shown_shapeCast _).symm
end SA

/-! ### The ring of the second activations -/

namespace SC

abbrev ringM : Memref sig .tc .vmem S3x512x2048 .bf16 := Memref.whole cc0_scratch1
abbrev actM : Memref sig .tc .hbm S8192x2048 .bf16 := Memref.whole main_arg1
abbrev Act (c : Dev nD) : Type := Buf (Elt F) ((actM).view.loc (c : Thread nD τ))
theorem slot_fits (s : Fin 3) : ∀ a, (![s.val, 0, 0] : Fin 3 → Nat) a + S1x512x2048.size a ≤ S3x512x2048.size a := by
  intro a; have h3 := s.isLt; fin_cases a <;> simp <;> omega
theorem tile_fits (b : Fin 32) : ∀ a, (![512 * (b.val % 16), 0] : Fin 2 → Nat) a + S512x2048.size a ≤ S8192x2048.size a := by
  intro a; have h := b.isLt; fin_cases a <;> simp <;> omega
def slotM (s : Fin 3) : Memref sig .tc .vmem S512x2048 .bf16 :=
  (ringM.slice (Rect.unit (s := S3x512x2048) ![s.val, 0, 0] S1x512x2048.size (slot_fits s)) (fun _ => rfl)).squeeze S512x2048 squeezes_S1x512x2048_S512x2048
def tileM (b : Fin 32) : Memref sig .tc .hbm S512x2048 .bf16 :=
  actM.slice (Rect.unit (s := S8192x2048) ![512 * (b.val % 16), 0] S512x2048.size (tile_fits b)) (fun _ => rfl)
def cellM (s : Fin 3) : DmaSems sig S_ := (((cc0_scratch4.slice (Rect.unit (s := S4x3) ![1, 0] S1x3.size inb_S4x3_S1x3_1_0)).squeeze S3 squeezes_S1x3_S3).slice (Rect.unit (s := S3) ![s.val] S1.size (cell_fits s))).squeeze S_ squeezes_S1_S_
abbrev cellL (s : Fin 3) : SemLoc sig := SemLoc.dma (cellM s).sem
theorem cellL0 : cellL 0 = SemLoc.dma 9 := by decide
theorem cellL1 : cellL 1 = SemLoc.dma 10 := by decide
theorem cellL2 : cellL 2 = SemLoc.dma 11 := by decide
section Parts
variable (c : Dev nD) (X : Act (F := F) c)
abbrev shareOf (s : Fin 3) : PosShare TreeShare := if s.val = 0 then (fullShare).left else if s.val = 1 then (fullShare).right.left else (fullShare).right.right
abbrev SlotBuf (s : Fin 3) : Type := Buf (Elt F) ((slotM s).view.loc (c : Thread nD τ))
abbrev slotPt (s : Fin 3) (f : SlotBuf (F := F) c s) : sProp 𝕄 := (slotM s).view.loc (c : Thread nD τ) ↦[(slotM s).view.set]{fullShare} f
abbrev cellPt (s : Fin 3) : sProp 𝕄 := semVal ((c : Thread nD τ), cellL s) 0
abbrev tilePt (s : Fin 3) (b : Fin 32) : sProp 𝕄 := (tileM b).view.loc (c : Thread nD τ) ↦[(tileM b).view.set]{shareOf s} X
def othersPt (s : Fin 3) (b : Fin 32) : sProp 𝕄 := ((c : Thread nD τ).loc main_arg1) ↦[Finset.univ \ (tileM b).view.set]{shareOf s} X
abbrev actPt (s : Fin 3) : sProp 𝕄 := ((c : Thread nD τ).loc main_arg1) ↦[Finset.univ]{shareOf s} X
def tileOf (b : Fin 32) : Vec F S512x2048 .bf16 := ReadAs.same.apply ((tileM b).view.read (Elt F) X)
abbrev arrived (s : Fin 3) (b : Fin 32) (f : SlotBuf (F := F) c s) : SlotBuf (F := F) c s :=
  (slotM s).view.writes (Elt F) f [⟨Rect.whole S512x2048, ReadAs.same.apply ((tileM b).view.read (Elt F) X)⟩]
abbrev copying (s : Fin 3) (b : Fin 32) (f : SlotBuf (F := F) c s) : sProp 𝕄 :=
  Transfers.Flight countersEmb (c : Thread nD τ) (cellL s) default ((slotM s).view.amount (cellL s)) iprop(slotPt c s (arrived c X s b f) ∗ tilePt c X s b)
abbrev slotFam (s : Fin 3) (f : SlotBuf (F := F) c s) : sProp 𝕄 := iprop(slotPt c s f ∗ actPt c X s)
abbrev flyFam (s : Fin 3) (b : Fin 32) (f : SlotBuf (F := F) c s) : sProp 𝕄 := iprop(copying c X s b f ∗ othersPt c X s b)
abbrev ringAt (k : ℕ) : sProp 𝕄 := ringOf (cellPt c) (slotFam c X) (flyFam c X) k
theorem act_cut (s : Fin 3) (b : Fin 32) : actPt (F := F) c X s ⊣⊢ iprop(tilePt c X s b ∗ othersPt c X s b) := by
  unfold othersPt; exact pointsTo_split_subset (Finset.subset_univ _)
theorem act_shares : (actM.view.loc (c : Thread nD τ) ↦{fullShare} X : sProp 𝕄) ⊣⊢ iprop(actPt c X 0 ∗ actPt c X 1 ∗ actPt c X 2) := shares3 _ _
end Parts
abbrev slotBox (s : Fin 3) : Finset S3x512x2048.Idx := (Rect.unit (s := S3x512x2048) ![s.val, 0, 0] S1x512x2048.size (slot_fits s)).set
theorem slot_set (s : Fin 3) : (slotM s).view.set = slotBox s := by
  simp only [slotM, Memref.view_squeeze, View.set_reshape]; exact View.set_slice_whole _ _
theorem slots_apart (s s' : Fin 3) (h : s ≠ s') : Disjoint (slotBox s) (slotBox s') :=
  Ring.lead_disjoint (s := S3x512x2048) (0 : Fin 3) 1 (fun s : Fin 3 => (![s.val, 0, 0] : Fin 3 → Nat)) S1x512x2048.size slot_fits (fun s => by simp) rfl s s' h
theorem slots_all : Finset.univ.biUnion slotBox = Finset.univ := by
  refine Ring.lead_cover (s := S3x512x2048) (0 : Fin 3) 1 (fun s : Fin 3 => (![s.val, 0, 0] : Fin 3 → Nat)) S1x512x2048.size slot_fits (fun s => by simp)
    (fun s a ha => ?_) rfl (fun a ha => ?_) rfl <;> (fin_cases a <;> first | exact absurd rfl ha | rfl)
theorem slotPt_box (c : Dev nD) (s : Fin 3) (f) : slotPt (F := F) c s f = (((c : Thread nD τ).loc cc0_scratch1) ↦[slotBox s]{fullShare} f : sProp 𝕄) := by
  unfold slotPt; rw [slot_set]; rfl
abbrev slots3 (c : Dev nD) : sProp 𝕄 := iprop((∃ f, slotPt (F := F) c 0 f) ∗ (∃ f, slotPt (F := F) c 1 f) ∗ ∃ f, slotPt (F := F) c 2 f)
set_option maxHeartbeats 1000000 in
theorem ring_open (c : Dev nD) : iprop(∃ d, owns (c : Thread nD τ) ringM fullShare d) ⊢ slots3 (F := F) c := by
  simp only [ringM, owns_whole]
  exact Ring.slots3_split (U := Pipeline.UD sig nD τ) (ℓ := (c : Thread nD τ).loc cc0_scratch1) (q := fullShare) slotBox slots_apart slots_all
    (slotPt c 0) (slotPt c 1) (slotPt c 2) (slotPt_box c 0) (slotPt_box c 1) (slotPt_box c 2)
set_option maxHeartbeats 1000000 in
theorem ring_close (c : Dev nD) : slots3 (F := F) c ⊢ iprop(∃ d, owns (c : Thread nD τ) ringM fullShare d) := by
  simp only [ringM, owns_whole]
  exact Ring.slots3_join (U := Pipeline.UD sig nD τ) (ℓ := (c : Thread nD τ).loc cc0_scratch1) (q := fullShare) slotBox slots_apart slots_all
    (slotPt c 0) (slotPt c 1) (slotPt c 2) (slotPt_box c 0) (slotPt_box c 1) (slotPt_box c 2)
abbrev ringParts (c : Dev nD) (X : Act (F := F) c) : sProp 𝕄 :=
  iprop((∃ d, owns (c : Thread nD τ) ringM fullShare d) ∗ (semVal ((c : Thread nD τ), SemLoc.dma 9) 0 ∗ semVal ((c : Thread nD τ), SemLoc.dma 10) 0 ∗ semVal ((c : Thread nD τ), SemLoc.dma 11) 0)
    ∗ (actM.view.loc (c : Thread nD τ) ↦{fullShare} X))
theorem cellPt0 (c : Dev nD) : cellPt (F := F) c 0 = semVal ((c : Thread nD τ), SemLoc.dma 9) 0 := congrArg (fun x => (semVal ((c : Thread nD τ), x) 0 : sProp 𝕄)) cellL0
theorem cellPt1 (c : Dev nD) : cellPt (F := F) c 1 = semVal ((c : Thread nD τ), SemLoc.dma 10) 0 := congrArg (fun x => (semVal ((c : Thread nD τ), x) 0 : sProp 𝕄)) cellL1
theorem cellPt2 (c : Dev nD) : cellPt (F := F) c 2 = semVal ((c : Thread nD τ), SemLoc.dma 11) 0 := congrArg (fun x => (semVal ((c : Thread nD τ), x) 0 : sProp 𝕄)) cellL2
theorem ring_in (c : Dev nD) (X : Act (F := F) c) : ringParts c X ⊢ ringAt c X 0 := by
  unfold ringAt ringOf; rw [if_pos rfl]; unfold Ring.At₀ ringParts
  rw [Ring.bigSep_fin3]
  simp only [Ring.free, cellPt0, cellPt1, cellPt2]
  iintro ⟨HS, ⟨C0, C1, C2⟩, HX⟩
  iapply Ring.with_homes₀
  ihave HS := (ring_open (F := F) c) $$ HS
  icases HS with ⟨⟨%d0, S0⟩, ⟨%d1, S1⟩, ⟨%d2, S2⟩⟩
  ihave HX := (act_shares (F := F) c X).1 $$ HX
  icases HX with ⟨X0, X1, X2⟩
  isplitl [C0 S0 X0]
  · isplitl [C0]; · iexact C0
    iexists d0; isplitl [S0]; · iexact S0
    iexact X0
  isplitl [C1 S1 X1]
  · isplitl [C1]; · iexact C1
    iexists d1; isplitl [S1]; · iexact S1
    iexact X1
  isplitl [C2]; · iexact C2
  iexists d2; isplitl [S2]; · iexact S2
  iexact X2
theorem ring_out (c : Dev nD) (X : Act (F := F) c) : ringAt c X 32 ⊢ ringParts c X := by
  unfold ringAt ringOf ringParts; rw [if_neg (by decide)]
  iintro H
  ihave H := (Ring.free3_of_At_last _ _ _ _) $$ H
  simp only [Ring.free, cellPt0, cellPt1, cellPt2]
  icases H with ⟨-, ⟨C0, ⟨%f0, S0, X0⟩⟩, ⟨C1, ⟨%f1, S1, X1⟩⟩, ⟨C2, ⟨%f2, S2, X2⟩⟩⟩
  isplitl [S0 S1 S2]
  · iapply (ring_close (F := F) c); isplitl [S0]; · iexists f0; iexact S0
    isplitl [S1]; · iexists f1; iexact S1
    iexists f2; iexact S2
  isplitl [C0 C1 C2]
  · isplitl [C0]; · iexact C0
    isplitl [C1]; · iexact C1
    iexact C2
  iapply (act_shares (F := F) c X).2; isplitl [X0]; · iexact X0
  isplitl [X1]; · iexact X1
  iexact X2
section Names
omit [FloatOps F]
theorem slot_name {o : Fin 3 → Nat} {s : Fin 3} (e : o = ![s.val, 0, 0]) (h) :
    (ringM.slice (Rect.unit (s := S3x512x2048) o S1x512x2048.size h) (fun _ => rfl)).squeeze S512x2048 squeezes_S1x512x2048_S512x2048 = slotM s := by
  subst e; rfl
theorem cell_name {o : Fin 1 → Nat} {s : Fin 3} (e : o = ![s.val]) (h) :
    (((cc0_scratch4.slice (Rect.unit (s := S4x3) ![1, 0] S1x3.size inb_S4x3_S1x3_1_0)).squeeze S3 squeezes_S1x3_S3).slice (Rect.unit (s := S3) o S1.size h)).squeeze S_ squeezes_S1_S_ = cellM s := by
  subst e; rfl
theorem tile_name {o : Fin 2 → Nat} {b : Fin 32} (e : o = ![512 * (b.val % 16), 0]) (h) :
    actM.slice (Rect.unit (s := S8192x2048) o S512x2048.size h) (fun _ => rfl) = tileM b := by
  subst e; rfl
variable (t : Fin grid0.N)
@[sl_canon] theorem n_0 (h : starts (grid0.coords t)) :
    (ringM.slice (Rect.unit (s := S3x512x2048) ![0, 0, 0] S1x512x2048.size inb_S3x512x2048_S1x512x2048_0_0_0) (fun _ => rfl)).squeeze S512x2048 squeezes_S1x512x2048_S512x2048 = slotM (Ring.sl 3 t.val) := slot_name (o_0 t h) _
@[sl_canon] theorem n_0_cell (h : starts (grid0.coords t)) :
    (((cc0_scratch4.slice (Rect.unit (s := S4x3) ![1, 0] S1x3.size inb_S4x3_S1x3_1_0)).squeeze S3 squeezes_S1x3_S3).slice (Rect.unit (s := S3) ![0] S1.size inb_S3_S1_0)).squeeze S_ squeezes_S1_S_ = cellM (Ring.sl 3 t.val) := cell_name (o_0_cell t h) _
@[sl_canon] theorem n_0_tile (h : starts (grid0.coords t)) :
    actM.slice (Rect.unit (s := S8192x2048) ![0, 0] S512x2048.size inb_S8192x2048_S512x2048_0_0) (fun _ => rfl) = tileM (Ring.bk 32 t.val) := tile_name (o_0_tileR t h) _
@[sl_canon] theorem n_1 (h : starts (grid0.coords t)) :
    (ringM.slice (Rect.unit (s := S3x512x2048) ![1, 0, 0] S1x512x2048.size inb_S3x512x2048_S1x512x2048_1_0_0) (fun _ => rfl)).squeeze S512x2048 squeezes_S1x512x2048_S512x2048 = slotM (Ring.sl 3 (t.val + 1)) := slot_name (o_1 t h) _
@[sl_canon] theorem n_1_cell (h : starts (grid0.coords t)) :
    (((cc0_scratch4.slice (Rect.unit (s := S4x3) ![1, 0] S1x3.size inb_S4x3_S1x3_1_0)).squeeze S3 squeezes_S1x3_S3).slice (Rect.unit (s := S3) ![1] S1.size inb_S3_S1_1)).squeeze S_ squeezes_S1_S_ = cellM (Ring.sl 3 (t.val + 1)) := cell_name (o_1_cell t h) _
@[sl_canon] theorem n_1_tile (h : starts (grid0.coords t)) :
    actM.slice (Rect.unit (s := S8192x2048) ![512, 0] S512x2048.size inb_S8192x2048_S512x2048_512_0) (fun _ => rfl) = tileM (Ring.bk 32 (t.val + 1)) := tile_name (o_1_tileR t h) _
@[sl_canon] theorem n_next (h : asks (grid0.coords t)) :
    (ringM.slice (Rect.unit (s := S3x512x2048) (k0_off2 (grid0.coords t)) S1x512x2048.size (k0_off2_inb (grid0.coords t) h)) (fun _ => rfl)).squeeze S512x2048 squeezes_S1x512x2048_S512x2048 = slotM (Ring.sl 3 (t.val + 2)) := slot_name (o_next_row t) _
@[sl_canon] theorem n_next_cell (h : asks (grid0.coords t)) :
    (((cc0_scratch4.slice (Rect.unit (s := S4x3) ![1, 0] S1x3.size inb_S4x3_S1x3_1_0)).squeeze S3 squeezes_S1x3_S3).slice (Rect.unit (s := S3) (k0_off1 (grid0.coords t)) S1.size (k0_off1_inb (grid0.coords t) h))).squeeze S_ squeezes_S1_S_ = cellM (Ring.sl 3 (t.val + 2)) := cell_name (o_next_cell t) _
@[sl_canon] theorem n_next_tile (h : asks (grid0.coords t)) :
    actM.slice (Rect.unit (s := S8192x2048) (k0_off3 (grid0.coords t)) S512x2048.size (k0_off3_inb (grid0.coords t) h)) (fun _ => rfl) = tileM (Ring.bk 32 (t.val + 2)) := tile_name (o_next_tileR t h) _
@[sl_canon] theorem n_this :
    (ringM.slice (Rect.unit (s := S3x512x2048) (k0_off7 (grid0.coords t)) S1x512x2048.size (k0_off7_inb (grid0.coords t))) (fun _ => rfl)).squeeze S512x2048 squeezes_S1x512x2048_S512x2048 = slotM (Ring.sl 3 t.val) := slot_name (o_this_row t) _
@[sl_canon] theorem n_this_cell :
    (((cc0_scratch4.slice (Rect.unit (s := S4x3) ![1, 0] S1x3.size inb_S4x3_S1x3_1_0)).squeeze S3 squeezes_S1x3_S3).slice (Rect.unit (s := S3) (k0_off6 (grid0.coords t)) S1.size (k0_off6_inb (grid0.coords t)))).squeeze S_ squeezes_S1_S_ = cellM (Ring.sl 3 t.val) := cell_name (o_this_cell t) _
end Names

/-- A tile as its slot shows it. -/
def shown (v : Vec F S512x2048 .bf16) : Vec F S1x512x2048 .bf16 := shapeCast S1x512x2048 v (by decide)
theorem shown_shapeCast (v : Vec F S1x512x2048 .bf16) : shown (shapeCast S512x2048 v shapeCasts_S1x512x2048_S512x2048) = v := by
  funext y
  show v (Shape.reshapeEquiv _ (Shape.reshapeEquiv _ y)) = v y
  rw [Shape.reshapeEquiv_reshapeEquiv, Shape.reshapeEquiv_self]
theorem read_arrived (c : Dev nD) (X : Act (F := F) c) (s : Fin 3) (b : Fin 32) (f : SlotBuf (F := F) c s) :
    (slotM s).view.read (Elt F) (arrived c X s b f) = tileOf c X b := by
  funext y
  have h := View.read_writes_cons_emb (Val := Elt F) (slotM s).view f (Rect.whole S512x2048) (tileOf c X b) [] y
  exact (congrArg ((slotM s).view.read (Elt F) (arrived c X s b f)) (funext fun a => Fin.ext (by show (y a).val = 0 + 1 * (y a).val; omega))).trans h
/-- The load of the slot in use shows the tile that arrived there. -/
theorem load_this (c : Dev nD) (X : Act (F := F) c) (s : Fin 3) (b : Fin 32) (f : SlotBuf (F := F) c s) (o : Fin 3 → Nat) (e : o = ![s.val, 0, 0]) (h) :
    ringM.view.readAt (Elt F) (Rect.unit (s := S3x512x2048) o S1x512x2048.size h).toLoadRect (arrived c X s b f) = shown (tileOf c X b) := by
  subst e
  rw [← read_arrived c X s b f]
  exact (shown_shapeCast _).symm
end SC

/-! ### The ring of the first gate -/

namespace SG

abbrev ringM : Memref sig .tc .vmem S3x512x1024 .f32 := Memref.whole cc0_scratch2
abbrev actM : Memref sig .tc .hbm S8192x6144 .f32 := Memref.whole main_arg4
abbrev Act (c : Dev nD) : Type := Buf (Elt F) ((actM).view.loc (c : Thread nD τ))
theorem slot_fits (s : Fin 3) : ∀ a, (![s.val, 0, 0] : Fin 3 → Nat) a + S1x512x1024.size a ≤ S3x512x1024.size a := by
  intro a; have h3 := s.isLt; fin_cases a <;> simp <;> omega
theorem tile_fits (b : Fin 32) : ∀ a, (![512 * (b.val % 16), 2048 + 1024 * (b.val / 16)] : Fin 2 → Nat) a + S512x1024.size a ≤ S8192x6144.size a := by
  intro a; have h := b.isLt; fin_cases a <;> simp <;> omega
def slotM (s : Fin 3) : Memref sig .tc .vmem S512x1024 .f32 :=
  (ringM.slice (Rect.unit (s := S3x512x1024) ![s.val, 0, 0] S1x512x1024.size (slot_fits s)) (fun _ => rfl)).squeeze S512x1024 squeezes_S1x512x1024_S512x1024
def tileM (b : Fin 32) : Memref sig .tc .hbm S512x1024 .f32 :=
  actM.slice (Rect.unit (s := S8192x6144) ![512 * (b.val % 16), 2048 + 1024 * (b.val / 16)] S512x1024.size (tile_fits b)) (fun _ => rfl)
def cellM (s : Fin 3) : DmaSems sig S_ := (((cc0_scratch4.slice (Rect.unit (s := S4x3) ![2, 0] S1x3.size inb_S4x3_S1x3_2_0)).squeeze S3 squeezes_S1x3_S3).slice (Rect.unit (s := S3) ![s.val] S1.size (cell_fits s))).squeeze S_ squeezes_S1_S_
abbrev cellL (s : Fin 3) : SemLoc sig := SemLoc.dma (cellM s).sem
theorem cellL0 : cellL 0 = SemLoc.dma 12 := by decide
theorem cellL1 : cellL 1 = SemLoc.dma 13 := by decide
theorem cellL2 : cellL 2 = SemLoc.dma 14 := by decide
section Parts
variable (c : Dev nD) (X : Act (F := F) c)
abbrev shareOf (s : Fin 3) : PosShare TreeShare := if s.val = 0 then (fullShare.left).left else if s.val = 1 then (fullShare.left).right.left else (fullShare.left).right.right
abbrev SlotBuf (s : Fin 3) : Type := Buf (Elt F) ((slotM s).view.loc (c : Thread nD τ))
abbrev slotPt (s : Fin 3) (f : SlotBuf (F := F) c s) : sProp 𝕄 := (slotM s).view.loc (c : Thread nD τ) ↦[(slotM s).view.set]{fullShare} f
abbrev cellPt (s : Fin 3) : sProp 𝕄 := semVal ((c : Thread nD τ), cellL s) 0
abbrev tilePt (s : Fin 3) (b : Fin 32) : sProp 𝕄 := (tileM b).view.loc (c : Thread nD τ) ↦[(tileM b).view.set]{shareOf s} X
def othersPt (s : Fin 3) (b : Fin 32) : sProp 𝕄 := ((c : Thread nD τ).loc main_arg4) ↦[Finset.univ \ (tileM b).view.set]{shareOf s} X
abbrev actPt (s : Fin 3) : sProp 𝕄 := ((c : Thread nD τ).loc main_arg4) ↦[Finset.univ]{shareOf s} X
def tileOf (b : Fin 32) : Vec F S512x1024 .f32 := ReadAs.same.apply ((tileM b).view.read (Elt F) X)
abbrev arrived (s : Fin 3) (b : Fin 32) (f : SlotBuf (F := F) c s) : SlotBuf (F := F) c s :=
  (slotM s).view.writes (Elt F) f [⟨Rect.whole S512x1024, ReadAs.same.apply ((tileM b).view.read (Elt F) X)⟩]
abbrev copying (s : Fin 3) (b : Fin 32) (f : SlotBuf (F := F) c s) : sProp 𝕄 :=
  Transfers.Flight countersEmb (c : Thread nD τ) (cellL s) default ((slotM s).view.amount (cellL s)) iprop(slotPt c s (arrived c X s b f) ∗ tilePt c X s b)
abbrev slotFam (s : Fin 3) (f : SlotBuf (F := F) c s) : sProp 𝕄 := iprop(slotPt c s f ∗ actPt c X s)
abbrev flyFam (s : Fin 3) (b : Fin 32) (f : SlotBuf (F := F) c s) : sProp 𝕄 := iprop(copying c X s b f ∗ othersPt c X s b)
abbrev ringAt (k : ℕ) : sProp 𝕄 := ringOf (cellPt c) (slotFam c X) (flyFam c X) k
theorem act_cut (s : Fin 3) (b : Fin 32) : actPt (F := F) c X s ⊣⊢ iprop(tilePt c X s b ∗ othersPt c X s b) := by
  unfold othersPt; exact pointsTo_split_subset (Finset.subset_univ _)
theorem act_shares : (actM.view.loc (c : Thread nD τ) ↦{fullShare.left} X : sProp 𝕄) ⊣⊢ iprop(actPt c X 0 ∗ actPt c X 1 ∗ actPt c X 2) := shares3 _ _
end Parts
abbrev slotBox (s : Fin 3) : Finset S3x512x1024.Idx := (Rect.unit (s := S3x512x1024) ![s.val, 0, 0] S1x512x1024.size (slot_fits s)).set
theorem slot_set (s : Fin 3) : (slotM s).view.set = slotBox s := by
  simp only [slotM, Memref.view_squeeze, View.set_reshape]; exact View.set_slice_whole _ _
theorem slots_apart (s s' : Fin 3) (h : s ≠ s') : Disjoint (slotBox s) (slotBox s') :=
  Ring.lead_disjoint (s := S3x512x1024) (0 : Fin 3) 1 (fun s : Fin 3 => (![s.val, 0, 0] : Fin 3 → Nat)) S1x512x1024.size slot_fits (fun s => by simp) rfl s s' h
theorem slots_all : Finset.univ.biUnion slotBox = Finset.univ := by
  refine Ring.lead_cover (s := S3x512x1024) (0 : Fin 3) 1 (fun s : Fin 3 => (![s.val, 0, 0] : Fin 3 → Nat)) S1x512x1024.size slot_fits (fun s => by simp)
    (fun s a ha => ?_) rfl (fun a ha => ?_) rfl <;> (fin_cases a <;> first | exact absurd rfl ha | rfl)
theorem slotPt_box (c : Dev nD) (s : Fin 3) (f) : slotPt (F := F) c s f = (((c : Thread nD τ).loc cc0_scratch2) ↦[slotBox s]{fullShare} f : sProp 𝕄) := by
  unfold slotPt; rw [slot_set]; rfl
abbrev slots3 (c : Dev nD) : sProp 𝕄 := iprop((∃ f, slotPt (F := F) c 0 f) ∗ (∃ f, slotPt (F := F) c 1 f) ∗ ∃ f, slotPt (F := F) c 2 f)
set_option maxHeartbeats 1000000 in
theorem ring_open (c : Dev nD) : iprop(∃ d, owns (c : Thread nD τ) ringM fullShare d) ⊢ slots3 (F := F) c := by
  simp only [ringM, owns_whole]
  exact Ring.slots3_split (U := Pipeline.UD sig nD τ) (ℓ := (c : Thread nD τ).loc cc0_scratch2) (q := fullShare) slotBox slots_apart slots_all
    (slotPt c 0) (slotPt c 1) (slotPt c 2) (slotPt_box c 0) (slotPt_box c 1) (slotPt_box c 2)
set_option maxHeartbeats 1000000 in
theorem ring_close (c : Dev nD) : slots3 (F := F) c ⊢ iprop(∃ d, owns (c : Thread nD τ) ringM fullShare d) := by
  simp only [ringM, owns_whole]
  exact Ring.slots3_join (U := Pipeline.UD sig nD τ) (ℓ := (c : Thread nD τ).loc cc0_scratch2) (q := fullShare) slotBox slots_apart slots_all
    (slotPt c 0) (slotPt c 1) (slotPt c 2) (slotPt_box c 0) (slotPt_box c 1) (slotPt_box c 2)
abbrev ringParts (c : Dev nD) (X : Act (F := F) c) : sProp 𝕄 :=
  iprop((∃ d, owns (c : Thread nD τ) ringM fullShare d) ∗ (semVal ((c : Thread nD τ), SemLoc.dma 12) 0 ∗ semVal ((c : Thread nD τ), SemLoc.dma 13) 0 ∗ semVal ((c : Thread nD τ), SemLoc.dma 14) 0)
    ∗ (actM.view.loc (c : Thread nD τ) ↦{fullShare.left} X))
theorem cellPt0 (c : Dev nD) : cellPt (F := F) c 0 = semVal ((c : Thread nD τ), SemLoc.dma 12) 0 := congrArg (fun x => (semVal ((c : Thread nD τ), x) 0 : sProp 𝕄)) cellL0
theorem cellPt1 (c : Dev nD) : cellPt (F := F) c 1 = semVal ((c : Thread nD τ), SemLoc.dma 13) 0 := congrArg (fun x => (semVal ((c : Thread nD τ), x) 0 : sProp 𝕄)) cellL1
theorem cellPt2 (c : Dev nD) : cellPt (F := F) c 2 = semVal ((c : Thread nD τ), SemLoc.dma 14) 0 := congrArg (fun x => (semVal ((c : Thread nD τ), x) 0 : sProp 𝕄)) cellL2
theorem ring_in (c : Dev nD) (X : Act (F := F) c) : ringParts c X ⊢ ringAt c X 0 := by
  unfold ringAt ringOf; rw [if_pos rfl]; unfold Ring.At₀ ringParts
  rw [Ring.bigSep_fin3]
  simp only [Ring.free, cellPt0, cellPt1, cellPt2]
  iintro ⟨HS, ⟨C0, C1, C2⟩, HX⟩
  iapply Ring.with_homes₀
  ihave HS := (ring_open (F := F) c) $$ HS
  icases HS with ⟨⟨%d0, S0⟩, ⟨%d1, S1⟩, ⟨%d2, S2⟩⟩
  ihave HX := (act_shares (F := F) c X).1 $$ HX
  icases HX with ⟨X0, X1, X2⟩
  isplitl [C0 S0 X0]
  · isplitl [C0]; · iexact C0
    iexists d0; isplitl [S0]; · iexact S0
    iexact X0
  isplitl [C1 S1 X1]
  · isplitl [C1]; · iexact C1
    iexists d1; isplitl [S1]; · iexact S1
    iexact X1
  isplitl [C2]; · iexact C2
  iexists d2; isplitl [S2]; · iexact S2
  iexact X2
theorem ring_out (c : Dev nD) (X : Act (F := F) c) : ringAt c X 32 ⊢ ringParts c X := by
  unfold ringAt ringOf ringParts; rw [if_neg (by decide)]
  iintro H
  ihave H := (Ring.free3_of_At_last _ _ _ _) $$ H
  simp only [Ring.free, cellPt0, cellPt1, cellPt2]
  icases H with ⟨-, ⟨C0, ⟨%f0, S0, X0⟩⟩, ⟨C1, ⟨%f1, S1, X1⟩⟩, ⟨C2, ⟨%f2, S2, X2⟩⟩⟩
  isplitl [S0 S1 S2]
  · iapply (ring_close (F := F) c); isplitl [S0]; · iexists f0; iexact S0
    isplitl [S1]; · iexists f1; iexact S1
    iexists f2; iexact S2
  isplitl [C0 C1 C2]
  · isplitl [C0]; · iexact C0
    isplitl [C1]; · iexact C1
    iexact C2
  iapply (act_shares (F := F) c X).2; isplitl [X0]; · iexact X0
  isplitl [X1]; · iexact X1
  iexact X2
section Names
omit [FloatOps F]
theorem slot_name {o : Fin 3 → Nat} {s : Fin 3} (e : o = ![s.val, 0, 0]) (h) :
    (ringM.slice (Rect.unit (s := S3x512x1024) o S1x512x1024.size h) (fun _ => rfl)).squeeze S512x1024 squeezes_S1x512x1024_S512x1024 = slotM s := by
  subst e; rfl
theorem cell_name {o : Fin 1 → Nat} {s : Fin 3} (e : o = ![s.val]) (h) :
    (((cc0_scratch4.slice (Rect.unit (s := S4x3) ![2, 0] S1x3.size inb_S4x3_S1x3_2_0)).squeeze S3 squeezes_S1x3_S3).slice (Rect.unit (s := S3) o S1.size h)).squeeze S_ squeezes_S1_S_ = cellM s := by
  subst e; rfl
theorem tile_name {o : Fin 2 → Nat} {b : Fin 32} (e : o = ![512 * (b.val % 16), 2048 + 1024 * (b.val / 16)]) (h) :
    actM.slice (Rect.unit (s := S8192x6144) o S512x1024.size h) (fun _ => rfl) = tileM b := by
  subst e; rfl
variable (t : Fin grid0.N)
@[sl_canon] theorem n_0 (h : starts (grid0.coords t)) :
    (ringM.slice (Rect.unit (s := S3x512x1024) ![0, 0, 0] S1x512x1024.size inb_S3x512x1024_S1x512x1024_0_0_0) (fun _ => rfl)).squeeze S512x1024 squeezes_S1x512x1024_S512x1024 = slotM (Ring.sl 3 t.val) := slot_name (o_0 t h) _
@[sl_canon] theorem n_0_cell (h : starts (grid0.coords t)) :
    (((cc0_scratch4.slice (Rect.unit (s := S4x3) ![2, 0] S1x3.size inb_S4x3_S1x3_2_0)).squeeze S3 squeezes_S1x3_S3).slice (Rect.unit (s := S3) ![0] S1.size inb_S3_S1_0)).squeeze S_ squeezes_S1_S_ = cellM (Ring.sl 3 t.val) := cell_name (o_0_cell t h) _
@[sl_canon] theorem n_0_tile (h : starts (grid0.coords t)) :
    actM.slice (Rect.unit (s := S8192x6144) ![0, 2048] S512x1024.size inb_S8192x6144_S512x1024_0_2048) (fun _ => rfl) = tileM (Ring.bk 32 t.val) := tile_name (o_0_tileG t h) _
@[sl_canon] theorem n_1 (h : starts (grid0.coords t)) :
    (ringM.slice (Rect.unit (s := S3x512x1024) ![1, 0, 0] S1x512x1024.size inb_S3x512x1024_S1x512x1024_1_0_0) (fun _ => rfl)).squeeze S512x1024 squeezes_S1x512x1024_S512x1024 = slotM (Ring.sl 3 (t.val + 1)) := slot_name (o_1 t h) _
@[sl_canon] theorem n_1_cell (h : starts (grid0.coords t)) :
    (((cc0_scratch4.slice (Rect.unit (s := S4x3) ![2, 0] S1x3.size inb_S4x3_S1x3_2_0)).squeeze S3 squeezes_S1x3_S3).slice (Rect.unit (s := S3) ![1] S1.size inb_S3_S1_1)).squeeze S_ squeezes_S1_S_ = cellM (Ring.sl 3 (t.val + 1)) := cell_name (o_1_cell t h) _
@[sl_canon] theorem n_1_tile (h : starts (grid0.coords t)) :
    actM.slice (Rect.unit (s := S8192x6144) ![512, 2048] S512x1024.size inb_S8192x6144_S512x1024_512_2048) (fun _ => rfl) = tileM (Ring.bk 32 (t.val + 1)) := tile_name (o_1_tileG t h) _
@[sl_canon] theorem n_next (h : asks (grid0.coords t)) :
    (ringM.slice (Rect.unit (s := S3x512x1024) (k0_off4 (grid0.coords t)) S1x512x1024.size (k0_off4_inb (grid0.coords t) h)) (fun _ => rfl)).squeeze S512x1024 squeezes_S1x512x1024_S512x1024 = slotM (Ring.sl 3 (t.val + 2)) := slot_name (o_next_gate t) _
@[sl_canon] theorem n_next_cell (h : asks (grid0.coords t)) :
    (((cc0_scratch4.slice (Rect.unit (s := S4x3) ![2, 0] S1x3.size inb_S4x3_S1x3_2_0)).squeeze S3 squeezes_S1x3_S3).slice (Rect.unit (s := S3) (k0_off1 (grid0.coords t)) S1.size (k0_off1_inb (grid0.coords t) h))).squeeze S_ squeezes_S1_S_ = cellM (Ring.sl 3 (t.val + 2)) := cell_name (o_next_cell t) _
@[sl_canon] theorem n_next_tile (h : asks (grid0.coords t)) :
    actM.slice (Rect.unit (s := S8192x6144) (k0_off5 (grid0.coords t) 2048#32) S512x1024.size (k0_off5_inb (grid0.coords t) h 0)) (fun _ => rfl) = tileM (Ring.bk 32 (t.val + 2)) := tile_name (o_next_tileG t h) _
@[sl_canon] theorem n_this :
    (ringM.slice (Rect.unit (s := S3x512x1024) (k0_off9 (grid0.coords t)) S1x512x1024.size (k0_off9_inb (grid0.coords t))) (fun _ => rfl)).squeeze S512x1024 squeezes_S1x512x1024_S512x1024 = slotM (Ring.sl 3 t.val) := slot_name (o_this_gate t) _
@[sl_canon] theorem n_this_cell :
    (((cc0_scratch4.slice (Rect.unit (s := S4x3) ![2, 0] S1x3.size inb_S4x3_S1x3_2_0)).squeeze S3 squeezes_S1x3_S3).slice (Rect.unit (s := S3) (k0_off6 (grid0.coords t)) S1.size (k0_off6_inb (grid0.coords t)))).squeeze S_ squeezes_S1_S_ = cellM (Ring.sl 3 t.val) := cell_name (o_this_cell t) _
end Names

/-- A tile as its slot shows it. -/
def shown (v : Vec F S512x1024 .f32) : Vec F S1x512x1024 .f32 := shapeCast S1x512x1024 v (by decide)
theorem shown_shapeCast (v : Vec F S1x512x1024 .f32) : shown (shapeCast S512x1024 v shapeCasts_S1x512x1024_S512x1024) = v := by
  funext y
  show v (Shape.reshapeEquiv _ (Shape.reshapeEquiv _ y)) = v y
  rw [Shape.reshapeEquiv_reshapeEquiv, Shape.reshapeEquiv_self]
theorem read_arrived (c : Dev nD) (X : Act (F := F) c) (s : Fin 3) (b : Fin 32) (f : SlotBuf (F := F) c s) :
    (slotM s).view.read (Elt F) (arrived c X s b f) = tileOf c X b := by
  funext y
  have h := View.read_writes_cons_emb (Val := Elt F) (slotM s).view f (Rect.whole S512x1024) (tileOf c X b) [] y
  exact (congrArg ((slotM s).view.read (Elt F) (arrived c X s b f)) (funext fun a => Fin.ext (by show (y a).val = 0 + 1 * (y a).val; omega))).trans h
/-- The load of the slot in use shows the tile that arrived there. -/
theorem load_this (c : Dev nD) (X : Act (F := F) c) (s : Fin 3) (b : Fin 32) (f : SlotBuf (F := F) c s) (o : Fin 3 → Nat) (e : o = ![s.val, 0, 0]) (h) :
    ringM.view.readAt (Elt F) (Rect.unit (s := S3x512x1024) o S1x512x1024.size h).toLoadRect (arrived c X s b f) = shown (tileOf c X b) := by
  subst e
  rw [← read_arrived c X s b f]
  exact (shown_shapeCast _).symm
end SG

/-! ### The ring of the second gate -/

namespace SH

abbrev ringM : Memref sig .tc .vmem S3x512x1024 .f32 := Memref.whole cc0_scratch3
abbrev actM : Memref sig .tc .hbm S8192x6144 .f32 := Memref.whole main_arg4
abbrev Act (c : Dev nD) : Type := Buf (Elt F) ((actM).view.loc (c : Thread nD τ))
theorem slot_fits (s : Fin 3) : ∀ a, (![s.val, 0, 0] : Fin 3 → Nat) a + S1x512x1024.size a ≤ S3x512x1024.size a := by
  intro a; have h3 := s.isLt; fin_cases a <;> simp <;> omega
theorem tile_fits (b : Fin 32) : ∀ a, (![512 * (b.val % 16), 4096 + 1024 * (b.val / 16)] : Fin 2 → Nat) a + S512x1024.size a ≤ S8192x6144.size a := by
  intro a; have h := b.isLt; fin_cases a <;> simp <;> omega
def slotM (s : Fin 3) : Memref sig .tc .vmem S512x1024 .f32 :=
  (ringM.slice (Rect.unit (s := S3x512x1024) ![s.val, 0, 0] S1x512x1024.size (slot_fits s)) (fun _ => rfl)).squeeze S512x1024 squeezes_S1x512x1024_S512x1024
def tileM (b : Fin 32) : Memref sig .tc .hbm S512x1024 .f32 :=
  actM.slice (Rect.unit (s := S8192x6144) ![512 * (b.val % 16), 4096 + 1024 * (b.val / 16)] S512x1024.size (tile_fits b)) (fun _ => rfl)
def cellM (s : Fin 3) : DmaSems sig S_ := (((cc0_scratch4.slice (Rect.unit (s := S4x3) ![3, 0] S1x3.size inb_S4x3_S1x3_3_0)).squeeze S3 squeezes_S1x3_S3).slice (Rect.unit (s := S3) ![s.val] S1.size (cell_fits s))).squeeze S_ squeezes_S1_S_
abbrev cellL (s : Fin 3) : SemLoc sig := SemLoc.dma (cellM s).sem
theorem cellL0 : cellL 0 = SemLoc.dma 15 := by decide
theorem cellL1 : cellL 1 = SemLoc.dma 16 := by decide
theorem cellL2 : cellL 2 = SemLoc.dma 17 := by decide
section Parts
variable (c : Dev nD) (X : Act (F := F) c)
abbrev shareOf (s : Fin 3) : PosShare TreeShare := if s.val = 0 then (fullShare.right).left else if s.val = 1 then (fullShare.right).right.left else (fullShare.right).right.right
abbrev SlotBuf (s : Fin 3) : Type := Buf (Elt F) ((slotM s).view.loc (c : Thread nD τ))
abbrev slotPt (s : Fin 3) (f : SlotBuf (F := F) c s) : sProp 𝕄 := (slotM s).view.loc (c : Thread nD τ) ↦[(slotM s).view.set]{fullShare} f
abbrev cellPt (s : Fin 3) : sProp 𝕄 := semVal ((c : Thread nD τ), cellL s) 0
abbrev tilePt (s : Fin 3) (b : Fin 32) : sProp 𝕄 := (tileM b).view.loc (c : Thread nD τ) ↦[(tileM b).view.set]{shareOf s} X
def othersPt (s : Fin 3) (b : Fin 32) : sProp 𝕄 := ((c : Thread nD τ).loc main_arg4) ↦[Finset.univ \ (tileM b).view.set]{shareOf s} X
abbrev actPt (s : Fin 3) : sProp 𝕄 := ((c : Thread nD τ).loc main_arg4) ↦[Finset.univ]{shareOf s} X
def tileOf (b : Fin 32) : Vec F S512x1024 .f32 := ReadAs.same.apply ((tileM b).view.read (Elt F) X)
abbrev arrived (s : Fin 3) (b : Fin 32) (f : SlotBuf (F := F) c s) : SlotBuf (F := F) c s :=
  (slotM s).view.writes (Elt F) f [⟨Rect.whole S512x1024, ReadAs.same.apply ((tileM b).view.read (Elt F) X)⟩]
abbrev copying (s : Fin 3) (b : Fin 32) (f : SlotBuf (F := F) c s) : sProp 𝕄 :=
  Transfers.Flight countersEmb (c : Thread nD τ) (cellL s) default ((slotM s).view.amount (cellL s)) iprop(slotPt c s (arrived c X s b f) ∗ tilePt c X s b)
abbrev slotFam (s : Fin 3) (f : SlotBuf (F := F) c s) : sProp 𝕄 := iprop(slotPt c s f ∗ actPt c X s)
abbrev flyFam (s : Fin 3) (b : Fin 32) (f : SlotBuf (F := F) c s) : sProp 𝕄 := iprop(copying c X s b f ∗ othersPt c X s b)
abbrev ringAt (k : ℕ) : sProp 𝕄 := ringOf (cellPt c) (slotFam c X) (flyFam c X) k
theorem act_cut (s : Fin 3) (b : Fin 32) : actPt (F := F) c X s ⊣⊢ iprop(tilePt c X s b ∗ othersPt c X s b) := by
  unfold othersPt; exact pointsTo_split_subset (Finset.subset_univ _)
theorem act_shares : (actM.view.loc (c : Thread nD τ) ↦{fullShare.right} X : sProp 𝕄) ⊣⊢ iprop(actPt c X 0 ∗ actPt c X 1 ∗ actPt c X 2) := shares3 _ _
end Parts
abbrev slotBox (s : Fin 3) : Finset S3x512x1024.Idx := (Rect.unit (s := S3x512x1024) ![s.val, 0, 0] S1x512x1024.size (slot_fits s)).set
theorem slot_set (s : Fin 3) : (slotM s).view.set = slotBox s := by
  simp only [slotM, Memref.view_squeeze, View.set_reshape]; exact View.set_slice_whole _ _
theorem slots_apart (s s' : Fin 3) (h : s ≠ s') : Disjoint (slotBox s) (slotBox s') :=
  Ring.lead_disjoint (s := S3x512x1024) (0 : Fin 3) 1 (fun s : Fin 3 => (![s.val, 0, 0] : Fin 3 → Nat)) S1x512x1024.size slot_fits (fun s => by simp) rfl s s' h
theorem slots_all : Finset.univ.biUnion slotBox = Finset.univ := by
  refine Ring.lead_cover (s := S3x512x1024) (0 : Fin 3) 1 (fun s : Fin 3 => (![s.val, 0, 0] : Fin 3 → Nat)) S1x512x1024.size slot_fits (fun s => by simp)
    (fun s a ha => ?_) rfl (fun a ha => ?_) rfl <;> (fin_cases a <;> first | exact absurd rfl ha | rfl)
theorem slotPt_box (c : Dev nD) (s : Fin 3) (f) : slotPt (F := F) c s f = (((c : Thread nD τ).loc cc0_scratch3) ↦[slotBox s]{fullShare} f : sProp 𝕄) := by
  unfold slotPt; rw [slot_set]; rfl
abbrev slots3 (c : Dev nD) : sProp 𝕄 := iprop((∃ f, slotPt (F := F) c 0 f) ∗ (∃ f, slotPt (F := F) c 1 f) ∗ ∃ f, slotPt (F := F) c 2 f)
set_option maxHeartbeats 1000000 in
theorem ring_open (c : Dev nD) : iprop(∃ d, owns (c : Thread nD τ) ringM fullShare d) ⊢ slots3 (F := F) c := by
  simp only [ringM, owns_whole]
  exact Ring.slots3_split (U := Pipeline.UD sig nD τ) (ℓ := (c : Thread nD τ).loc cc0_scratch3) (q := fullShare) slotBox slots_apart slots_all
    (slotPt c 0) (slotPt c 1) (slotPt c 2) (slotPt_box c 0) (slotPt_box c 1) (slotPt_box c 2)
set_option maxHeartbeats 1000000 in
theorem ring_close (c : Dev nD) : slots3 (F := F) c ⊢ iprop(∃ d, owns (c : Thread nD τ) ringM fullShare d) := by
  simp only [ringM, owns_whole]
  exact Ring.slots3_join (U := Pipeline.UD sig nD τ) (ℓ := (c : Thread nD τ).loc cc0_scratch3) (q := fullShare) slotBox slots_apart slots_all
    (slotPt c 0) (slotPt c 1) (slotPt c 2) (slotPt_box c 0) (slotPt_box c 1) (slotPt_box c 2)
abbrev ringParts (c : Dev nD) (X : Act (F := F) c) : sProp 𝕄 :=
  iprop((∃ d, owns (c : Thread nD τ) ringM fullShare d) ∗ (semVal ((c : Thread nD τ), SemLoc.dma 15) 0 ∗ semVal ((c : Thread nD τ), SemLoc.dma 16) 0 ∗ semVal ((c : Thread nD τ), SemLoc.dma 17) 0)
    ∗ (actM.view.loc (c : Thread nD τ) ↦{fullShare.right} X))
theorem cellPt0 (c : Dev nD) : cellPt (F := F) c 0 = semVal ((c : Thread nD τ), SemLoc.dma 15) 0 := congrArg (fun x => (semVal ((c : Thread nD τ), x) 0 : sProp 𝕄)) cellL0
theorem cellPt1 (c : Dev nD) : cellPt (F := F) c 1 = semVal ((c : Thread nD τ), SemLoc.dma 16) 0 := congrArg (fun x => (semVal ((c : Thread nD τ), x) 0 : sProp 𝕄)) cellL1
theorem cellPt2 (c : Dev nD) : cellPt (F := F) c 2 = semVal ((c : Thread nD τ), SemLoc.dma 17) 0 := congrArg (fun x => (semVal ((c : Thread nD τ), x) 0 : sProp 𝕄)) cellL2
theorem ring_in (c : Dev nD) (X : Act (F := F) c) : ringParts c X ⊢ ringAt c X 0 := by
  unfold ringAt ringOf; rw [if_pos rfl]; unfold Ring.At₀ ringParts
  rw [Ring.bigSep_fin3]
  simp only [Ring.free, cellPt0, cellPt1, cellPt2]
  iintro ⟨HS, ⟨C0, C1, C2⟩, HX⟩
  iapply Ring.with_homes₀
  ihave HS := (ring_open (F := F) c) $$ HS
  icases HS with ⟨⟨%d0, S0⟩, ⟨%d1, S1⟩, ⟨%d2, S2⟩⟩
  ihave HX := (act_shares (F := F) c X).1 $$ HX
  icases HX with ⟨X0, X1, X2⟩
  isplitl [C0 S0 X0]
  · isplitl [C0]; · iexact C0
    iexists d0; isplitl [S0]; · iexact S0
    iexact X0
  isplitl [C1 S1 X1]
  · isplitl [C1]; · iexact C1
    iexists d1; isplitl [S1]; · iexact S1
    iexact X1
  isplitl [C2]; · iexact C2
  iexists d2; isplitl [S2]; · iexact S2
  iexact X2
theorem ring_out (c : Dev nD) (X : Act (F := F) c) : ringAt c X 32 ⊢ ringParts c X := by
  unfold ringAt ringOf ringParts; rw [if_neg (by decide)]
  iintro H
  ihave H := (Ring.free3_of_At_last _ _ _ _) $$ H
  simp only [Ring.free, cellPt0, cellPt1, cellPt2]
  icases H with ⟨-, ⟨C0, ⟨%f0, S0, X0⟩⟩, ⟨C1, ⟨%f1, S1, X1⟩⟩, ⟨C2, ⟨%f2, S2, X2⟩⟩⟩
  isplitl [S0 S1 S2]
  · iapply (ring_close (F := F) c); isplitl [S0]; · iexists f0; iexact S0
    isplitl [S1]; · iexists f1; iexact S1
    iexists f2; iexact S2
  isplitl [C0 C1 C2]
  · isplitl [C0]; · iexact C0
    isplitl [C1]; · iexact C1
    iexact C2
  iapply (act_shares (F := F) c X).2; isplitl [X0]; · iexact X0
  isplitl [X1]; · iexact X1
  iexact X2
section Names
omit [FloatOps F]
theorem slot_name {o : Fin 3 → Nat} {s : Fin 3} (e : o = ![s.val, 0, 0]) (h) :
    (ringM.slice (Rect.unit (s := S3x512x1024) o S1x512x1024.size h) (fun _ => rfl)).squeeze S512x1024 squeezes_S1x512x1024_S512x1024 = slotM s := by
  subst e; rfl
theorem cell_name {o : Fin 1 → Nat} {s : Fin 3} (e : o = ![s.val]) (h) :
    (((cc0_scratch4.slice (Rect.unit (s := S4x3) ![3, 0] S1x3.size inb_S4x3_S1x3_3_0)).squeeze S3 squeezes_S1x3_S3).slice (Rect.unit (s := S3) o S1.size h)).squeeze S_ squeezes_S1_S_ = cellM s := by
  subst e; rfl
theorem tile_name {o : Fin 2 → Nat} {b : Fin 32} (e : o = ![512 * (b.val % 16), 4096 + 1024 * (b.val / 16)]) (h) :
    actM.slice (Rect.unit (s := S8192x6144) o S512x1024.size h) (fun _ => rfl) = tileM b := by
  subst e; rfl
variable (t : Fin grid0.N)
@[sl_canon] theorem n_0 (h : starts (grid0.coords t)) :
    (ringM.slice (Rect.unit (s := S3x512x1024) ![0, 0, 0] S1x512x1024.size inb_S3x512x1024_S1x512x1024_0_0_0) (fun _ => rfl)).squeeze S512x1024 squeezes_S1x512x1024_S512x1024 = slotM (Ring.sl 3 t.val) := slot_name (o_0 t h) _
@[sl_canon] theorem n_0_cell (h : starts (grid0.coords t)) :
    (((cc0_scratch4.slice (Rect.unit (s := S4x3) ![3, 0] S1x3.size inb_S4x3_S1x3_3_0)).squeeze S3 squeezes_S1x3_S3).slice (Rect.unit (s := S3) ![0] S1.size inb_S3_S1_0)).squeeze S_ squeezes_S1_S_ = cellM (Ring.sl 3 t.val) := cell_name (o_0_cell t h) _
@[sl_canon] theorem n_0_tile (h : starts (grid0.coords t)) :
    actM.slice (Rect.unit (s := S8192x6144) ![0, 4096] S512x1024.size inb_S8192x6144_S512x1024_0_4096) (fun _ => rfl) = tileM (Ring.bk 32 t.val) := tile_name (o_0_tileH t h) _
@[sl_canon] theorem n_1 (h : starts (grid0.coords t)) :
    (ringM.slice (Rect.unit (s := S3x512x1024) ![1, 0, 0] S1x512x1024.size inb_S3x512x1024_S1x512x1024_1_0_0) (fun _ => rfl)).squeeze S512x1024 squeezes_S1x512x1024_S512x1024 = slotM (Ring.sl 3 (t.val + 1)) := slot_name (o_1 t h) _
@[sl_canon] theorem n_1_cell (h : starts (grid0.coords t)) :
    (((cc0_scratch4.slice (Rect.unit (s := S4x3) ![3, 0] S1x3.size inb_S4x3_S1x3_3_0)).squeeze S3 squeezes_S1x3_S3).slice (Rect.unit (s := S3) ![1] S1.size inb_S3_S1_1)).squeeze S_ squeezes_S1_S_ = cellM (Ring.sl 3 (t.val + 1)) := cell_name (o_1_cell t h) _
@[sl_canon] theorem n_1_tile (h : starts (grid0.coords t)) :
    actM.slice (Rect.unit (s := S8192x6144) ![512, 4096] S512x1024.size inb_S8192x6144_S512x1024_512_4096) (fun _ => rfl) = tileM (Ring.bk 32 (t.val + 1)) := tile_name (o_1_tileH t h) _
@[sl_canon] theorem n_next (h : asks (grid0.coords t)) :
    (ringM.slice (Rect.unit (s := S3x512x1024) (k0_off4 (grid0.coords t)) S1x512x1024.size (k0_off4_inb (grid0.coords t) h)) (fun _ => rfl)).squeeze S512x1024 squeezes_S1x512x1024_S512x1024 = slotM (Ring.sl 3 (t.val + 2)) := slot_name (o_next_gate t) _
@[sl_canon] theorem n_next_cell (h : asks (grid0.coords t)) :
    (((cc0_scratch4.slice (Rect.unit (s := S4x3) ![3, 0] S1x3.size inb_S4x3_S1x3_3_0)).squeeze S3 squeezes_S1x3_S3).slice (Rect.unit (s := S3) (k0_off1 (grid0.coords t)) S1.size (k0_off1_inb (grid0.coords t) h))).squeeze S_ squeezes_S1_S_ = cellM (Ring.sl 3 (t.val + 2)) := cell_name (o_next_cell t) _
@[sl_canon] theorem n_next_tile (h : asks (grid0.coords t)) :
    actM.slice (Rect.unit (s := S8192x6144) (k0_off5 (grid0.coords t) 4096#32) S512x1024.size (k0_off5_inb (grid0.coords t) h 1)) (fun _ => rfl) = tileM (Ring.bk 32 (t.val + 2)) := tile_name (o_next_tileH t h) _
@[sl_canon] theorem n_this :
    (ringM.slice (Rect.unit (s := S3x512x1024) (k0_off9 (grid0.coords t)) S1x512x1024.size (k0_off9_inb (grid0.coords t))) (fun _ => rfl)).squeeze S512x1024 squeezes_S1x512x1024_S512x1024 = slotM (Ring.sl 3 t.val) := slot_name (o_this_gate t) _
@[sl_canon] theorem n_this_cell :
    (((cc0_scratch4.slice (Rect.unit (s := S4x3) ![3, 0] S1x3.size inb_S4x3_S1x3_3_0)).squeeze S3 squeezes_S1x3_S3).slice (Rect.unit (s := S3) (k0_off6 (grid0.coords t)) S1.size (k0_off6_inb (grid0.coords t)))).squeeze S_ squeezes_S1_S_ = cellM (Ring.sl 3 t.val) := cell_name (o_this_cell t) _
end Names

/-- A tile as its slot shows it. -/
def shown (v : Vec F S512x1024 .f32) : Vec F S1x512x1024 .f32 := shapeCast S1x512x1024 v (by decide)
theorem shown_shapeCast (v : Vec F S1x512x1024 .f32) : shown (shapeCast S512x1024 v shapeCasts_S1x512x1024_S512x1024) = v := by
  funext y
  show v (Shape.reshapeEquiv _ (Shape.reshapeEquiv _ y)) = v y
  rw [Shape.reshapeEquiv_reshapeEquiv, Shape.reshapeEquiv_self]
theorem read_arrived (c : Dev nD) (X : Act (F := F) c) (s : Fin 3) (b : Fin 32) (f : SlotBuf (F := F) c s) :
    (slotM s).view.read (Elt F) (arrived c X s b f) = tileOf c X b := by
  funext y
  have h := View.read_writes_cons_emb (Val := Elt F) (slotM s).view f (Rect.whole S512x1024) (tileOf c X b) [] y
  exact (congrArg ((slotM s).view.read (Elt F) (arrived c X s b f)) (funext fun a => Fin.ext (by show (y a).val = 0 + 1 * (y a).val; omega))).trans h
/-- The load of the slot in use shows the tile that arrived there. -/
theorem load_this (c : Dev nD) (X : Act (F := F) c) (s : Fin 3) (b : Fin 32) (f : SlotBuf (F := F) c s) (o : Fin 3 → Nat) (e : o = ![s.val, 0, 0]) (h) :
    ringM.view.readAt (Elt F) (Rect.unit (s := S3x512x1024) o S1x512x1024.size h).toLoadRect (arrived c X s b f) = shown (tileOf c X b) := by
  subst e
  rw [← read_arrived c X s b f]
  exact (shown_shapeCast _).symm
end SH

attribute [irreducible] SA.cellM SC.cellM SG.cellM SH.cellM

end Cert.Kernel6Ideal.Merge

end
-- ==== Proof.MergeRun.lean ====
/-
  One grid point of the gated sum of two projections: what it stores.
-/
module

public import proofs.«01_k».proof.Proof.MergeRing
public import Idealize.ShloMosaic.Lib.VecWindow

@[expose] public section

set_option maxRecDepth 16384

noncomputable section

namespace Cert.Kernel6Ideal.Merge

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What a point stores, of the four tiles and the two blocks of weights. -/
def gated (c : Dev nD) (t : Fin cfg0.N) (XA : SA.Act (F := F) c) (XC : SC.Act (F := F) c) (Z : SG.Act (F := F) c) (wa wc : Vec F S2048x1024 .bf16) : Vec F S512x1024 .bf16 :=
  k0_pay1 (k0_pay2 (SA.shown (SA.tileOf c XA (Ring.bk 32 t.val)))) (k0_pay3 (SC.shown (SC.tileOf c XC (Ring.bk 32 t.val)))) (k0_pay4 (SG.shown (SG.tileOf c Z (Ring.bk 32 t.val)))) (k0_pay5 (SH.shown (SH.tileOf c Z (Ring.bk 32 t.val)))) wa wc

set_option maxHeartbeats 4000000 in
theorem run_start (c : Dev nD) (t : Fin cfg0.N) (waM : Memref sig .tc .vmem S2048x1024 .bf16) (hwa : waM.IsWhole) (wcM : Memref sig .tc .vmem S2048x1024 .bf16) (hwc : wcM.IsWhole)
    (oM : Memref sig .tc .vmem S512x1024 .bf16) (ho : oM.IsWhole) (hst : starts (grid0.coords t)) (ha : asks (grid0.coords t))
    (wa wc : Vec F S2048x1024 .bf16) (XA : SA.Act (F := F) c) (XC : SC.Act (F := F) c) (Z : SG.Act (F := F) c) (W : Waits sig Unit) (K : PUnit → sProp 𝕄) :
    iprop(owns (c : Thread nD τ) waM fullShare wa ∗ owns (c : Thread nD τ) wcM fullShare wc ∗ (∃ d, owns (c : Thread nD τ) oM fullShare d)
      ∗ (Ring.free (SA.cellPt c) (SA.slotFam c XA) (Ring.sl 3 (t.val)) ∗ Ring.free (SA.cellPt c) (SA.slotFam c XA) (Ring.sl 3 (t.val + 1)) ∗ Ring.free (SA.cellPt c) (SA.slotFam c XA) (Ring.sl 3 (t.val + 2)))
      ∗ (Ring.free (SC.cellPt c) (SC.slotFam c XC) (Ring.sl 3 (t.val)) ∗ Ring.free (SC.cellPt c) (SC.slotFam c XC) (Ring.sl 3 (t.val + 1)) ∗ Ring.free (SC.cellPt c) (SC.slotFam c XC) (Ring.sl 3 (t.val + 2)))
      ∗ (Ring.free (SG.cellPt c) (SG.slotFam c Z) (Ring.sl 3 (t.val)) ∗ Ring.free (SG.cellPt c) (SG.slotFam c Z) (Ring.sl 3 (t.val + 1)) ∗ Ring.free (SG.cellPt c) (SG.slotFam c Z) (Ring.sl 3 (t.val + 2)))
      ∗ (Ring.free (SH.cellPt c) (SH.slotFam c Z) (Ring.sl 3 (t.val)) ∗ Ring.free (SH.cellPt c) (SH.slotFam c Z) (Ring.sl 3 (t.val + 1)) ∗ Ring.free (SH.cellPt c) (SH.slotFam c Z) (Ring.sl 3 (t.val + 2)))
      ∗ owes (c : Thread nD τ) 0 W
      ∗ (iprop(owns (c : Thread nD τ) waM fullShare wa ∗ owns (c : Thread nD τ) wcM fullShare wc ∗ owns (c : Thread nD τ) oM fullShare (gated c t XA XC Z wa wc)
          ∗ (Ring.inflight (SA.flyFam c XA) (Ring.sl 3 (t.val + 1)) (Ring.bk 32 (t.val + 1)) ∗ Ring.inflight (SA.flyFam c XA) (Ring.sl 3 (t.val + 2)) (Ring.bk 32 (t.val + 2)) ∗ Ring.free (SA.cellPt c) (SA.slotFam c XA) (Ring.sl 3 (t.val)))
          ∗ (Ring.inflight (SC.flyFam c XC) (Ring.sl 3 (t.val + 1)) (Ring.bk 32 (t.val + 1)) ∗ Ring.inflight (SC.flyFam c XC) (Ring.sl 3 (t.val + 2)) (Ring.bk 32 (t.val + 2)) ∗ Ring.free (SC.cellPt c) (SC.slotFam c XC) (Ring.sl 3 (t.val)))
          ∗ (Ring.inflight (SG.flyFam c Z) (Ring.sl 3 (t.val + 1)) (Ring.bk 32 (t.val + 1)) ∗ Ring.inflight (SG.flyFam c Z) (Ring.sl 3 (t.val + 2)) (Ring.bk 32 (t.val + 2)) ∗ Ring.free (SG.cellPt c) (SG.slotFam c Z) (Ring.sl 3 (t.val)))
          ∗ (Ring.inflight (SH.flyFam c Z) (Ring.sl 3 (t.val + 1)) (Ring.bk 32 (t.val + 1)) ∗ Ring.inflight (SH.flyFam c Z) (Ring.sl 3 (t.val + 2)) (Ring.bk 32 (t.val + 2)) ∗ Ring.free (SH.cellPt c) (SH.slotFam c Z) (Ring.sl 3 (t.val)))
          ∗ (∃ W', owes (c : Thread nD τ) 0 W')) -∗ K ⟨⟩))
      ⊢ wp frame (wpE (defs₀ (F := F)) Variants.none c none) Set.univ
          (cc0_merge (grid0.coords t) (Memref.whole main_arg0) (Memref.isWhole_whole _) (Memref.whole main_arg1) (Memref.isWhole_whole _) (Memref.whole main_arg4) (Memref.isWhole_whole _) waM hwa wcM hwc oM ho
            SA.ringM (Memref.isWhole_whole _) SC.ringM (Memref.isWhole_whole _) SG.ringM (Memref.isWhole_whole _) SH.ringM (Memref.isWhole_whole _) cc0_scratch4) K := by
  haveI : Fact (starts (grid0.coords t)) := ⟨hst⟩
  haveI : Fact (asks (grid0.coords t)) := ⟨ha⟩
  have kSAn_0 := SA.n_0 t hst; have kSAn_0_cell := SA.n_0_cell t hst; have kSAn_0_tile := SA.n_0_tile t hst; have kSAn_1 := SA.n_1 t hst; have kSAn_1_cell := SA.n_1_cell t hst; have kSAn_1_tile := SA.n_1_tile t hst
  have kSCn_0 := SC.n_0 t hst; have kSCn_0_cell := SC.n_0_cell t hst; have kSCn_0_tile := SC.n_0_tile t hst; have kSCn_1 := SC.n_1 t hst; have kSCn_1_cell := SC.n_1_cell t hst; have kSCn_1_tile := SC.n_1_tile t hst
  have kSGn_0 := SG.n_0 t hst; have kSGn_0_cell := SG.n_0_cell t hst; have kSGn_0_tile := SG.n_0_tile t hst; have kSGn_1 := SG.n_1 t hst; have kSGn_1_cell := SG.n_1_cell t hst; have kSGn_1_tile := SG.n_1_tile t hst
  have kSHn_0 := SH.n_0 t hst; have kSHn_0_cell := SH.n_0_cell t hst; have kSHn_0_tile := SH.n_0_tile t hst; have kSHn_1 := SH.n_1 t hst; have kSHn_1_cell := SH.n_1_cell t hst; have kSHn_1_tile := SH.n_1_tile t hst
  rw [cc0_merge_eq_skeleton]; unfold cc0_merge_skel
  rw [k0_part7_eq_skeleton, k0_part8_eq_skeleton, k0_part9_eq_skeleton, k0_part10_eq_skeleton, k0_part11_eq_skeleton, k0_part12_eq_skeleton]
  unfold k0_part7_skel k0_part8_skel k0_part9_skel k0_part10_skel k0_part11_skel k0_part12_skel
  rw [k0_part1_eq_skeleton, k0_part2_eq_skeleton]
  unfold k0_part1_skel k0_part2_skel
  rw [k0_part3_eq_skeleton, k0_part4_eq_skeleton, k0_part5_eq_skeleton, k0_part6_eq_skeleton]
  unfold k0_part3_skel k0_part4_skel k0_part5_skel k0_part6_skel
  unfold owns Ring.free Ring.inflight
  iintro ⟨⟨%f0, %hf0, H0⟩, ⟨%f1, %hf1, H1⟩, ⟨%d2, %f2, -, H2⟩, ⟨⟨CA0, ⟨%gA0, SA0, AA0⟩⟩, ⟨CA1, ⟨%gA1, SA1, AA1⟩⟩, ⟨CA2, ⟨%gA2, SA2, AA2⟩⟩⟩, ⟨⟨CC0, ⟨%gC0, SC0, AC0⟩⟩, ⟨CC1, ⟨%gC1, SC1, AC1⟩⟩, ⟨CC2, ⟨%gC2, SC2, AC2⟩⟩⟩, ⟨⟨CG0, ⟨%gG0, SG0, AG0⟩⟩, ⟨CG1, ⟨%gG1, SG1, AG1⟩⟩, ⟨CG2, ⟨%gG2, SG2, AG2⟩⟩⟩, ⟨⟨CH0, ⟨%gH0, SH0, AH0⟩⟩, ⟨CH1, ⟨%gH1, SH1, AH1⟩⟩, ⟨CH2, ⟨%gH2, SH2, AH2⟩⟩⟩, HW, HK⟩
  ihave AA0 := (SA.act_cut c XA (Ring.sl 3 (t.val)) (Ring.bk 32 (t.val))).1 $$ AA0
  icases AA0 with ⟨TA0, NA0⟩
  ihave AA1 := (SA.act_cut c XA (Ring.sl 3 (t.val + 1)) (Ring.bk 32 (t.val + 1))).1 $$ AA1
  icases AA1 with ⟨TA1, NA1⟩
  ihave AA2 := (SA.act_cut c XA (Ring.sl 3 (t.val + 2)) (Ring.bk 32 (t.val + 2))).1 $$ AA2
  icases AA2 with ⟨TA2, NA2⟩
  ihave AC0 := (SC.act_cut c XC (Ring.sl 3 (t.val)) (Ring.bk 32 (t.val))).1 $$ AC0
  icases AC0 with ⟨TC0, NC0⟩
  ihave AC1 := (SC.act_cut c XC (Ring.sl 3 (t.val + 1)) (Ring.bk 32 (t.val + 1))).1 $$ AC1
  icases AC1 with ⟨TC1, NC1⟩
  ihave AC2 := (SC.act_cut c XC (Ring.sl 3 (t.val + 2)) (Ring.bk 32 (t.val + 2))).1 $$ AC2
  icases AC2 with ⟨TC2, NC2⟩
  ihave AG0 := (SG.act_cut c Z (Ring.sl 3 (t.val)) (Ring.bk 32 (t.val))).1 $$ AG0
  icases AG0 with ⟨TG0, NG0⟩
  ihave AG1 := (SG.act_cut c Z (Ring.sl 3 (t.val + 1)) (Ring.bk 32 (t.val + 1))).1 $$ AG1
  icases AG1 with ⟨TG1, NG1⟩
  ihave AG2 := (SG.act_cut c Z (Ring.sl 3 (t.val + 2)) (Ring.bk 32 (t.val + 2))).1 $$ AG2
  icases AG2 with ⟨TG2, NG2⟩
  ihave AH0 := (SH.act_cut c Z (Ring.sl 3 (t.val)) (Ring.bk 32 (t.val))).1 $$ AH0
  icases AH0 with ⟨TH0, NH0⟩
  ihave AH1 := (SH.act_cut c Z (Ring.sl 3 (t.val + 1)) (Ring.bk 32 (t.val + 1))).1 $$ AH1
  icases AH1 with ⟨TH1, NH1⟩
  ihave AH2 := (SH.act_cut c Z (Ring.sl 3 (t.val + 2)) (Ring.bk 32 (t.val + 2))).1 $$ AH2
  icases AH2 with ⟨TH2, NH2⟩
  obtain rfl := hwa.eq_unread hf0; obtain rfl := hwc.eq_unread hf1
  sl_exec (disch := first | sl_exact hst | sl_exact ha)
  sl_step
  iapply HK
  isplitl [H0]
  · iexists _; isplitr
    · ipureintro; exact hwa.read_unread _
    · iexact H0
  isplitl [H1]
  · iexists _; isplitr
    · ipureintro; exact hwc.read_unread _
    · iexact H1
  isplitl [H2]
  · iexists _; isplitr
    swap
    · iexact H2
    · ipureintro
      refine (View.read_writes_full oM.view f2 inb_S512x1024_S512x1024_0_0 _ []).trans ?_
      unfold gated
      have eA : run_start.sl.v176 c t XA = SA.shown (SA.tileOf c XA (Ring.bk 32 t.val)) := SA.load_this c XA _ _ _ _ (o_load_row t) _
      have eC : run_start.sl.v189 c t XC = SC.shown (SC.tileOf c XC (Ring.bk 32 t.val)) := SC.load_this c XC _ _ _ _ (o_load_row t) _
      have eG : run_start.sl.v202 c t Z = SG.shown (SG.tileOf c Z (Ring.bk 32 t.val)) := SG.load_this c Z _ _ _ _ (o_load_gate t) _
      have eH : run_start.sl.v215 c t Z = SH.shown (SH.tileOf c Z (Ring.bk 32 t.val)) := SH.load_this c Z _ _ _ _ (o_load_gate t) _
      have ea := (View.readAt_full waM.view (hwa.unread wa) inb_S2048x1024_S2048x1024_0_0).trans (hwa.read_unread wa)
      have ec := (View.readAt_full wcM.view (hwc.unread wc) inb_S2048x1024_S2048x1024_0_0).trans (hwc.read_unread wc)
      rw [eA, eC, eG, eH]
      exact congr (congrArg (k0_pay1 _ _ _ _) ea) ec
  isplitl [CA1 NA1 CA2 NA2 CA0 SA0 TA0 NA0]
  · isplitl [CA1 NA1]
    · iexists _; isplitl [CA1]
      · iexact CA1
      · iexact NA1
    isplitl [CA2 NA2]
    · iexists _; isplitl [CA2]
      · iexact CA2
      · iexact NA2
    isplitl [CA0]; · iexact CA0
    iexists _
    isplitl [SA0]; · iexact SA0
    iapply (SA.act_cut c XA (Ring.sl 3 t.val) (Ring.bk 32 t.val)).2
    isplitl [TA0]; · iexact TA0
    iexact NA0
  isplitl [CC1 NC1 CC2 NC2 CC0 SC0 TC0 NC0]
  · isplitl [CC1 NC1]
    · iexists _; isplitl [CC1]
      · iexact CC1
      · iexact NC1
    isplitl [CC2 NC2]
    · iexists _; isplitl [CC2]
      · iexact CC2
      · iexact NC2
    isplitl [CC0]; · iexact CC0
    iexists _
    isplitl [SC0]; · iexact SC0
    iapply (SC.act_cut c XC (Ring.sl 3 t.val) (Ring.bk 32 t.val)).2
    isplitl [TC0]; · iexact TC0
    iexact NC0
  isplitl [CG1 NG1 CG2 NG2 CG0 SG0 TG0 NG0]
  · isplitl [CG1 NG1]
    · iexists _; isplitl [CG1]
      · iexact CG1
      · iexact NG1
    isplitl [CG2 NG2]
    · iexists _; isplitl [CG2]
      · iexact CG2
      · iexact NG2
    isplitl [CG0]; · iexact CG0
    iexists _
    isplitl [SG0]; · iexact SG0
    iapply (SG.act_cut c Z (Ring.sl 3 t.val) (Ring.bk 32 t.val)).2
    isplitl [TG0]; · iexact TG0
    iexact NG0
  isplitl [CH1 NH1 CH2 NH2 CH0 SH0 TH0 NH0]
  · isplitl [CH1 NH1]
    · iexists _; isplitl [CH1]
      · iexact CH1
      · iexact NH1
    isplitl [CH2 NH2]
    · iexists _; isplitl [CH2]
      · iexact CH2
      · iexact NH2
    isplitl [CH0]; · iexact CH0
    iexists _
    isplitl [SH0]; · iexact SH0
    iapply (SH.act_cut c Z (Ring.sl 3 t.val) (Ring.bk 32 t.val)).2
    isplitl [TH0]; · iexact TH0
    iexact NH0
  iexists _; iexact HW

set_option maxHeartbeats 4000000 in
theorem run_kept (c : Dev nD) (t : Fin cfg0.N) (waM : Memref sig .tc .vmem S2048x1024 .bf16) (hwa : waM.IsWhole) (wcM : Memref sig .tc .vmem S2048x1024 .bf16) (hwc : wcM.IsWhole)
    (oM : Memref sig .tc .vmem S512x1024 .bf16) (ho : oM.IsWhole) (hst : ¬starts (grid0.coords t)) (ha : asks (grid0.coords t))
    (wa wc : Vec F S2048x1024 .bf16) (XA : SA.Act (F := F) c) (XC : SC.Act (F := F) c) (Z : SG.Act (F := F) c) (W : Waits sig Unit) (K : PUnit → sProp 𝕄) :
    iprop(owns (c : Thread nD τ) waM fullShare wa ∗ owns (c : Thread nD τ) wcM fullShare wc ∗ (∃ d, owns (c : Thread nD τ) oM fullShare d)
      ∗ (Ring.inflight (SA.flyFam c XA) (Ring.sl 3 (t.val)) (Ring.bk 32 (t.val)) ∗ Ring.free (SA.cellPt c) (SA.slotFam c XA) (Ring.sl 3 (t.val + 2)))
      ∗ (Ring.inflight (SC.flyFam c XC) (Ring.sl 3 (t.val)) (Ring.bk 32 (t.val)) ∗ Ring.free (SC.cellPt c) (SC.slotFam c XC) (Ring.sl 3 (t.val + 2)))
      ∗ (Ring.inflight (SG.flyFam c Z) (Ring.sl 3 (t.val)) (Ring.bk 32 (t.val)) ∗ Ring.free (SG.cellPt c) (SG.slotFam c Z) (Ring.sl 3 (t.val + 2)))
      ∗ (Ring.inflight (SH.flyFam c Z) (Ring.sl 3 (t.val)) (Ring.bk 32 (t.val)) ∗ Ring.free (SH.cellPt c) (SH.slotFam c Z) (Ring.sl 3 (t.val + 2)))
      ∗ owes (c : Thread nD τ) 0 W
      ∗ (iprop(owns (c : Thread nD τ) waM fullShare wa ∗ owns (c : Thread nD τ) wcM fullShare wc ∗ owns (c : Thread nD τ) oM fullShare (gated c t XA XC Z wa wc)
          ∗ (Ring.inflight (SA.flyFam c XA) (Ring.sl 3 (t.val + 2)) (Ring.bk 32 (t.val + 2)) ∗ Ring.free (SA.cellPt c) (SA.slotFam c XA) (Ring.sl 3 (t.val)))
          ∗ (Ring.inflight (SC.flyFam c XC) (Ring.sl 3 (t.val + 2)) (Ring.bk 32 (t.val + 2)) ∗ Ring.free (SC.cellPt c) (SC.slotFam c XC) (Ring.sl 3 (t.val)))
          ∗ (Ring.inflight (SG.flyFam c Z) (Ring.sl 3 (t.val + 2)) (Ring.bk 32 (t.val + 2)) ∗ Ring.free (SG.cellPt c) (SG.slotFam c Z) (Ring.sl 3 (t.val)))
          ∗ (Ring.inflight (SH.flyFam c Z) (Ring.sl 3 (t.val + 2)) (Ring.bk 32 (t.val + 2)) ∗ Ring.free (SH.cellPt c) (SH.slotFam c Z) (Ring.sl 3 (t.val)))
          ∗ (∃ W', owes (c : Thread nD τ) 0 W')) -∗ K ⟨⟩))
      ⊢ wp frame (wpE (defs₀ (F := F)) Variants.none c none) Set.univ
          (cc0_merge (grid0.coords t) (Memref.whole main_arg0) (Memref.isWhole_whole _) (Memref.whole main_arg1) (Memref.isWhole_whole _) (Memref.whole main_arg4) (Memref.isWhole_whole _) waM hwa wcM hwc oM ho
            SA.ringM (Memref.isWhole_whole _) SC.ringM (Memref.isWhole_whole _) SG.ringM (Memref.isWhole_whole _) SH.ringM (Memref.isWhole_whole _) cc0_scratch4) K := by
  haveI : Fact (¬starts (grid0.coords t)) := ⟨hst⟩
  haveI : Fact (asks (grid0.coords t)) := ⟨ha⟩
  rw [cc0_merge_eq_skeleton]; unfold cc0_merge_skel
  rw [k0_part7_eq_skeleton, k0_part8_eq_skeleton, k0_part9_eq_skeleton, k0_part10_eq_skeleton, k0_part11_eq_skeleton, k0_part12_eq_skeleton]
  unfold k0_part7_skel k0_part8_skel k0_part9_skel k0_part10_skel k0_part11_skel k0_part12_skel
  rw [k0_part3_eq_skeleton, k0_part4_eq_skeleton, k0_part5_eq_skeleton, k0_part6_eq_skeleton]
  unfold k0_part3_skel k0_part4_skel k0_part5_skel k0_part6_skel
  unfold owns Ring.free Ring.inflight
  iintro ⟨⟨%f0, %hf0, H0⟩, ⟨%f1, %hf1, H1⟩, ⟨%d2, %f2, -, H2⟩, ⟨⟨%gA0, CA0, NA0⟩, ⟨CA2, ⟨%gA2, SA2, AA2⟩⟩⟩, ⟨⟨%gC0, CC0, NC0⟩, ⟨CC2, ⟨%gC2, SC2, AC2⟩⟩⟩, ⟨⟨%gG0, CG0, NG0⟩, ⟨CG2, ⟨%gG2, SG2, AG2⟩⟩⟩, ⟨⟨%gH0, CH0, NH0⟩, ⟨CH2, ⟨%gH2, SH2, AH2⟩⟩⟩, HW, HK⟩
  ihave AA2 := (SA.act_cut c XA (Ring.sl 3 (t.val + 2)) (Ring.bk 32 (t.val + 2))).1 $$ AA2
  icases AA2 with ⟨TA2, NA2⟩
  ihave AC2 := (SC.act_cut c XC (Ring.sl 3 (t.val + 2)) (Ring.bk 32 (t.val + 2))).1 $$ AC2
  icases AC2 with ⟨TC2, NC2⟩
  ihave AG2 := (SG.act_cut c Z (Ring.sl 3 (t.val + 2)) (Ring.bk 32 (t.val + 2))).1 $$ AG2
  icases AG2 with ⟨TG2, NG2⟩
  ihave AH2 := (SH.act_cut c Z (Ring.sl 3 (t.val + 2)) (Ring.bk 32 (t.val + 2))).1 $$ AH2
  icases AH2 with ⟨TH2, NH2⟩
  obtain rfl := hwa.eq_unread hf0; obtain rfl := hwc.eq_unread hf1
  sl_exec (disch := first | sl_exact hst | sl_exact ha)
  sl_step
  iapply HK
  isplitl [H0]
  · iexists _; isplitr
    · ipureintro; exact hwa.read_unread _
    · iexact H0
  isplitl [H1]
  · iexists _; isplitr
    · ipureintro; exact hwc.read_unread _
    · iexact H1
  isplitl [H2]
  · iexists _; isplitr
    swap
    · iexact H2
    · ipureintro
      refine (View.read_writes_full oM.view f2 inb_S512x1024_S512x1024_0_0 _ []).trans ?_
      unfold gated
      have eA : run_kept.sl.v176 c t XA = SA.shown (SA.tileOf c XA (Ring.bk 32 t.val)) := SA.load_this c XA _ _ _ _ (o_load_row t) _
      have eC : run_kept.sl.v189 c t XC = SC.shown (SC.tileOf c XC (Ring.bk 32 t.val)) := SC.load_this c XC _ _ _ _ (o_load_row t) _
      have eG : run_kept.sl.v202 c t Z = SG.shown (SG.tileOf c Z (Ring.bk 32 t.val)) := SG.load_this c Z _ _ _ _ (o_load_gate t) _
      have eH : run_kept.sl.v215 c t Z = SH.shown (SH.tileOf c Z (Ring.bk 32 t.val)) := SH.load_this c Z _ _ _ _ (o_load_gate t) _
      have ea := (View.readAt_full waM.view (hwa.unread wa) inb_S2048x1024_S2048x1024_0_0).trans (hwa.read_unread wa)
      have ec := (View.readAt_full wcM.view (hwc.unread wc) inb_S2048x1024_S2048x1024_0_0).trans (hwc.read_unread wc)
      rw [eA, eC, eG, eH]
      exact congr (congrArg (k0_pay1 _ _ _ _) ea) ec
  isplitl [CA2 NA2 CA0 CA0_dst CA0_src NA0]
  · isplitl [CA2 NA2]
    · iexists _; isplitl [CA2]
      · iexact CA2
      · iexact NA2
    isplitl [CA0]; · iexact CA0
    iexists _
    isplitl [CA0_dst]; · iexact CA0_dst
    iapply (SA.act_cut c XA (Ring.sl 3 t.val) (Ring.bk 32 t.val)).2
    isplitl [CA0_src]; · iexact CA0_src
    iexact NA0
  isplitl [CC2 NC2 CC0 CC0_dst CC0_src NC0]
  · isplitl [CC2 NC2]
    · iexists _; isplitl [CC2]
      · iexact CC2
      · iexact NC2
    isplitl [CC0]; · iexact CC0
    iexists _
    isplitl [CC0_dst]; · iexact CC0_dst
    iapply (SC.act_cut c XC (Ring.sl 3 t.val) (Ring.bk 32 t.val)).2
    isplitl [CC0_src]; · iexact CC0_src
    iexact NC0
  isplitl [CG2 NG2 CG0 CG0_dst CG0_src NG0]
  · isplitl [CG2 NG2]
    · iexists _; isplitl [CG2]
      · iexact CG2
      · iexact NG2
    isplitl [CG0]; · iexact CG0
    iexists _
    isplitl [CG0_dst]; · iexact CG0_dst
    iapply (SG.act_cut c Z (Ring.sl 3 t.val) (Ring.bk 32 t.val)).2
    isplitl [CG0_src]; · iexact CG0_src
    iexact NG0
  isplitl [CH2 NH2 CH0 CH0_dst CH0_src NH0]
  · isplitl [CH2 NH2]
    · iexists _; isplitl [CH2]
      · iexact CH2
      · iexact NH2
    isplitl [CH0]; · iexact CH0
    iexists _
    isplitl [CH0_dst]; · iexact CH0_dst
    iapply (SH.act_cut c Z (Ring.sl 3 t.val) (Ring.bk 32 t.val)).2
    isplitl [CH0_src]; · iexact CH0_src
    iexact NH0
  iexists _; iexact HW

set_option maxHeartbeats 4000000 in
theorem run_last (c : Dev nD) (t : Fin cfg0.N) (waM : Memref sig .tc .vmem S2048x1024 .bf16) (hwa : waM.IsWhole) (wcM : Memref sig .tc .vmem S2048x1024 .bf16) (hwc : wcM.IsWhole)
    (oM : Memref sig .tc .vmem S512x1024 .bf16) (ho : oM.IsWhole) (hst : ¬starts (grid0.coords t)) (ha : ¬asks (grid0.coords t))
    (wa wc : Vec F S2048x1024 .bf16) (XA : SA.Act (F := F) c) (XC : SC.Act (F := F) c) (Z : SG.Act (F := F) c) (W : Waits sig Unit) (K : PUnit → sProp 𝕄) :
    iprop(owns (c : Thread nD τ) waM fullShare wa ∗ owns (c : Thread nD τ) wcM fullShare wc ∗ (∃ d, owns (c : Thread nD τ) oM fullShare d)
      ∗ (Ring.inflight (SA.flyFam c XA) (Ring.sl 3 (t.val)) (Ring.bk 32 (t.val)))
      ∗ (Ring.inflight (SC.flyFam c XC) (Ring.sl 3 (t.val)) (Ring.bk 32 (t.val)))
      ∗ (Ring.inflight (SG.flyFam c Z) (Ring.sl 3 (t.val)) (Ring.bk 32 (t.val)))
      ∗ (Ring.inflight (SH.flyFam c Z) (Ring.sl 3 (t.val)) (Ring.bk 32 (t.val)))
      ∗ owes (c : Thread nD τ) 0 W
      ∗ (iprop(owns (c : Thread nD τ) waM fullShare wa ∗ owns (c : Thread nD τ) wcM fullShare wc ∗ owns (c : Thread nD τ) oM fullShare (gated c t XA XC Z wa wc)
          ∗ (Ring.free (SA.cellPt c) (SA.slotFam c XA) (Ring.sl 3 (t.val)))
          ∗ (Ring.free (SC.cellPt c) (SC.slotFam c XC) (Ring.sl 3 (t.val)))
          ∗ (Ring.free (SG.cellPt c) (SG.slotFam c Z) (Ring.sl 3 (t.val)))
          ∗ (Ring.free (SH.cellPt c) (SH.slotFam c Z) (Ring.sl 3 (t.val)))
          ∗ (∃ W', owes (c : Thread nD τ) 0 W')) -∗ K ⟨⟩))
      ⊢ wp frame (wpE (defs₀ (F := F)) Variants.none c none) Set.univ
          (cc0_merge (grid0.coords t) (Memref.whole main_arg0) (Memref.isWhole_whole _) (Memref.whole main_arg1) (Memref.isWhole_whole _) (Memref.whole main_arg4) (Memref.isWhole_whole _) waM hwa wcM hwc oM ho
            SA.ringM (Memref.isWhole_whole _) SC.ringM (Memref.isWhole_whole _) SG.ringM (Memref.isWhole_whole _) SH.ringM (Memref.isWhole_whole _) cc0_scratch4) K := by
  haveI : Fact (¬starts (grid0.coords t)) := ⟨hst⟩
  haveI : Fact (¬asks (grid0.coords t)) := ⟨ha⟩
  rw [cc0_merge_eq_skeleton]; unfold cc0_merge_skel
  rw [k0_part7_eq_skeleton, k0_part8_eq_skeleton, k0_part9_eq_skeleton, k0_part10_eq_skeleton, k0_part11_eq_skeleton, k0_part12_eq_skeleton]
  unfold k0_part7_skel k0_part8_skel k0_part9_skel k0_part10_skel k0_part11_skel k0_part12_skel
  unfold owns Ring.free Ring.inflight
  iintro ⟨⟨%f0, %hf0, H0⟩, ⟨%f1, %hf1, H1⟩, ⟨%d2, %f2, -, H2⟩, ⟨%gA0, CA0, NA0⟩, ⟨%gC0, CC0, NC0⟩, ⟨%gG0, CG0, NG0⟩, ⟨%gH0, CH0, NH0⟩, HW, HK⟩
  obtain rfl := hwa.eq_unread hf0; obtain rfl := hwc.eq_unread hf1
  sl_exec (disch := first | sl_exact hst | sl_exact ha)
  sl_step
  iapply HK
  isplitl [H0]
  · iexists _; isplitr
    · ipureintro; exact hwa.read_unread _
    · iexact H0
  isplitl [H1]
  · iexists _; isplitr
    · ipureintro; exact hwc.read_unread _
    · iexact H1
  isplitl [H2]
  · iexists _; isplitr
    swap
    · iexact H2
    · ipureintro
      refine (View.read_writes_full oM.view f2 inb_S512x1024_S512x1024_0_0 _ []).trans ?_
      unfold gated
      have eA : run_last.sl.v176 c t XA = SA.shown (SA.tileOf c XA (Ring.bk 32 t.val)) := SA.load_this c XA _ _ _ _ (o_load_row t) _
      have eC : run_last.sl.v189 c t XC = SC.shown (SC.tileOf c XC (Ring.bk 32 t.val)) := SC.load_this c XC _ _ _ _ (o_load_row t) _
      have eG : run_last.sl.v202 c t Z = SG.shown (SG.tileOf c Z (Ring.bk 32 t.val)) := SG.load_this c Z _ _ _ _ (o_load_gate t) _
      have eH : run_last.sl.v215 c t Z = SH.shown (SH.tileOf c Z (Ring.bk 32 t.val)) := SH.load_this c Z _ _ _ _ (o_load_gate t) _
      have ea := (View.readAt_full waM.view (hwa.unread wa) inb_S2048x1024_S2048x1024_0_0).trans (hwa.read_unread wa)
      have ec := (View.readAt_full wcM.view (hwc.unread wc) inb_S2048x1024_S2048x1024_0_0).trans (hwc.read_unread wc)
      rw [eA, eC, eG, eH]
      exact congr (congrArg (k0_pay1 _ _ _ _) ea) ec
  isplitl [CA0 CA0_dst CA0_src NA0]
  · isplitl [CA0]; · iexact CA0
    iexists _
    isplitl [CA0_dst]; · iexact CA0_dst
    iapply (SA.act_cut c XA (Ring.sl 3 t.val) (Ring.bk 32 t.val)).2
    isplitl [CA0_src]; · iexact CA0_src
    iexact NA0
  isplitl [CC0 CC0_dst CC0_src NC0]
  · isplitl [CC0]; · iexact CC0
    iexists _
    isplitl [CC0_dst]; · iexact CC0_dst
    iapply (SC.act_cut c XC (Ring.sl 3 t.val) (Ring.bk 32 t.val)).2
    isplitl [CC0_src]; · iexact CC0_src
    iexact NC0
  isplitl [CG0 CG0_dst CG0_src NG0]
  · isplitl [CG0]; · iexact CG0
    iexists _
    isplitl [CG0_dst]; · iexact CG0_dst
    iapply (SG.act_cut c Z (Ring.sl 3 t.val) (Ring.bk 32 t.val)).2
    isplitl [CG0_src]; · iexact CG0_src
    iexact NG0
  isplitl [CH0 CH0_dst CH0_src NH0]
  · isplitl [CH0]; · iexact CH0
    iexists _
    isplitl [CH0_dst]; · iexact CH0_dst
    iapply (SH.act_cut c Z (Ring.sl 3 t.val) (Ring.bk 32 t.val)).2
    isplitl [CH0_src]; · iexact CH0_src
    iexact NH0
  iexists _; iexact HW

end Cert.Kernel6Ideal.Merge

end
-- ==== Proof.MergeFrame.lean ====
/-
  The gated sum of two projections over its whole grid: what the rings hold between points, what each
  point leaves, and the run.
-/
module

public import proofs.«01_k».proof.Proof.MergeRun
public import Idealize.ShloMosaic.Lib.Claim

@[expose] public section

set_option maxRecDepth 16384

noncomputable section

namespace Cert.Kernel6Ideal.Merge

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ### Where the windows stand -/

theorem idx_all : ∀ t : Fin grid0.N, win0_0.index t = ![0, t.val / 16] ∧ win0_1.index t = ![0, t.val / 16] ∧ win0_2.index t = ![t.val % 16, t.val / 16] := by
  decide +kernel

/-! ### The proof data -/

/-- What point `t` leaves in its block of the result. -/
def left (c : Dev nD) (t : Fin cfg0.N) : Vec F S512x1024 .bf16 :=
  gated c t (V m c main_arg0) (V m c main_arg1) (V m c main_arg4) (iblk m c 0 t) (iblk m c 1 t)

/-- Before point `k`: the four rings. -/
def Inv (c : Dev nD) (k : ℕ) : sProp 𝕄 :=
  iprop((∃ r, prngReg c r) ∗ SA.ringAt c (V m c main_arg0) k ∗ SC.ringAt c (V m c main_arg1) k ∗ SG.ringAt c (V m c main_arg4) k ∗ SH.ringAt c (V m c main_arg4) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => left m c t
  Φ t := Inv m c t.val
  q _ := fullShare
  owed _ := 0

theorem A_eq (c : Dev nD) (w : Fin cfg0.W) : (dats m 0 c).A w = V m c (Pipeline.arrRef spec0 w) := by
  dsimp only [dats]
theorem Inv_castSucc (c : Dev nD) (t : Fin cfg0.N) : (dats m 0 c).Φ t.castSucc = Inv m c t.val := by
  dsimp only [dats]; simp only [Fin.coe_castSucc]
theorem Inv_succ (c : Dev nD) (t : Fin cfg0.N) : (dats m 0 c).Φ t.succ = Inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = left m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)

/-! ### One point -/

abbrev st_0 (t : Fin cfg0.N) : Memref sig .tc .vmem S2048x1024 .bf16 := win0_0.stage (cfg0.slots t 0)
abbrev st_1 (t : Fin cfg0.N) : Memref sig .tc .vmem S2048x1024 .bf16 := win0_1.stage (cfg0.slots t 1)
abbrev st_2 (t : Fin cfg0.N) : Memref sig .tc .vmem S512x1024 .bf16 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [after_0, after_1, after_2, Inv_castSucc m c t, Inv_succ m c t]
  unfold Dat.owesAt Pipeline.owesWithin
  rw [show (dats m 0 c).owed t.castSucc = 0 from rfl, show (dats m 0 c).owed t.succ = 0 from rfl]
  unfold Inv left
  have hN : t.val < 32 := lt_of_lt_of_eq t.isLt (show cfg0.N = 32 from N_0)
  iintro ⟨⟨Hg, QA, QC, QG, QH⟩, ⟨%W, -, HW⟩, ⟨%d0, H0⟩, ⟨%d1, H1⟩, ⟨%d2, H2⟩⟩
  by_cases h1 : t.val = 0
  · ihave QA := (step_first _ _ _ t.val h1) $$ QA
    icases QA with ⟨QA, KA⟩
    ihave QC := (step_first _ _ _ t.val h1) $$ QC
    icases QC with ⟨QC, KC⟩
    ihave QG := (step_first _ _ _ t.val h1) $$ QG
    icases QG with ⟨QG, KG⟩
    ihave QH := (step_first _ _ _ t.val h1) $$ QH
    icases QH with ⟨QH, KH⟩
    iapply (run_start c t _ _ _ _ _ _ ((starts_iff t).mpr h1) ((asks_iff t).mpr (by omega)) (iblk m c 0 t) (iblk m c 1 t) (V m c main_arg0) (V m c main_arg1) (V m c main_arg4) W _)
    isplitl [H0]; · iexact H0
    isplitl [H1]; · iexact H1
    isplitl [H2]; · iexists _; iexact H2
    isplitl [QA]; · iexact QA
    isplitl [QC]; · iexact QC
    isplitl [QG]; · iexact QG
    isplitl [QH]; · iexact QH
    isplitl [HW]; · iexact HW
    iintro ⟨H0, H1, H2, QA, QC, QG, QH, ⟨%W', HW'⟩⟩
    isplitl [Hg QA QC QG QH KA KC KG KH]
    · isplitl [Hg]; · iexact Hg
      isplitl [QA KA]; · iapply KA; iexact QA
      isplitl [QC KC]; · iapply KC; iexact QC
      isplitl [QG KG]; · iapply KG; iexact QG
      iapply KH; iexact QH
    isplitl [HW']
    · iexists W'; isplitr
      · ipureintro; exact fun _ _ => Or.inl trivial
      · iexact HW'
    isplitl [H0]; · iexact H0
    isplitl [H1]; · iexact H1
    iexact H2
  by_cases h2 : t.val + 2 < 32
  · ihave QA := (step_kept _ _ _ t.val h1 h2) $$ QA
    icases QA with ⟨QA, KA⟩
    ihave QC := (step_kept _ _ _ t.val h1 h2) $$ QC
    icases QC with ⟨QC, KC⟩
    ihave QG := (step_kept _ _ _ t.val h1 h2) $$ QG
    icases QG with ⟨QG, KG⟩
    ihave QH := (step_kept _ _ _ t.val h1 h2) $$ QH
    icases QH with ⟨QH, KH⟩
    iapply (run_kept c t _ _ _ _ _ _ (fun h => h1 ((starts_iff t).mp h)) ((asks_iff t).mpr h2) (iblk m c 0 t) (iblk m c 1 t) (V m c main_arg0) (V m c main_arg1) (V m c main_arg4) W _)
    isplitl [H0]; · iexact H0
    isplitl [H1]; · iexact H1
    isplitl [H2]; · iexists _; iexact H2
    isplitl [QA]; · iexact QA
    isplitl [QC]; · iexact QC
    isplitl [QG]; · iexact QG
    isplitl [QH]; · iexact QH
    isplitl [HW]; · iexact HW
    iintro ⟨H0, H1, H2, QA, QC, QG, QH, ⟨%W', HW'⟩⟩
    isplitl [Hg QA QC QG QH KA KC KG KH]
    · isplitl [Hg]; · iexact Hg
      isplitl [QA KA]; · iapply KA; iexact QA
      isplitl [QC KC]; · iapply KC; iexact QC
      isplitl [QG KG]; · iapply KG; iexact QG
      iapply KH; iexact QH
    isplitl [HW']
    · iexists W'; isplitr
      · ipureintro; exact fun _ _ => Or.inl trivial
      · iexact HW'
    isplitl [H0]; · iexact H0
    isplitl [H1]; · iexact H1
    iexact H2
  · ihave QA := (step_last _ _ _ t.val h1 h2 hN) $$ QA
    icases QA with ⟨QA, KA⟩
    ihave QC := (step_last _ _ _ t.val h1 h2 hN) $$ QC
    icases QC with ⟨QC, KC⟩
    ihave QG := (step_last _ _ _ t.val h1 h2 hN) $$ QG
    icases QG with ⟨QG, KG⟩
    ihave QH := (step_last _ _ _ t.val h1 h2 hN) $$ QH
    icases QH with ⟨QH, KH⟩
    iapply (run_last c t _ _ _ _ _ _ (fun h => h1 ((starts_iff t).mp h)) (fun h => h2 ((asks_iff t).mp h)) (iblk m c 0 t) (iblk m c 1 t) (V m c main_arg0) (V m c main_arg1) (V m c main_arg4) W _)
    isplitl [H0]; · iexact H0
    isplitl [H1]; · iexact H1
    isplitl [H2]; · iexists _; iexact H2
    isplitl [QA]; · iexact QA
    isplitl [QC]; · iexact QC
    isplitl [QG]; · iexact QG
    isplitl [QH]; · iexact QH
    isplitl [HW]; · iexact HW
    iintro ⟨H0, H1, H2, QA, QC, QG, QH, ⟨%W', HW'⟩⟩
    isplitl [Hg QA QC QG QH KA KC KG KH]
    · isplitl [Hg]; · iexact Hg
      isplitl [QA KA]; · iapply KA; iexact QA
      isplitl [QC KC]; · iapply KC; iexact QC
      isplitl [QG KG]; · iapply KG; iexact QG
      iapply KH; iexact QH
    isplitl [HW']
    · iexists W'; isplitr
      · ipureintro; exact fun _ _ => Or.inl trivial
      · iexact HW'
    isplitl [H0]; · iexact H0
    isplitl [H1]; · iexact H1
    iexact H2

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ### The run -/

abbrev cells : Fin 12 → SemLoc sig := fun j => (![SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17] : Fin 12 → SemLoc sig) j
theorem cells_own : Pipeline.OwnSemFacts spec0 cells := by decide
theorem cells_zero (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c cells [0, 1, 2, 3, 4, 5, 6, 7, 8, 9, 10, 11] (by decide) (by decide)]; rfl
def moved : Finset (Ref sig .tc) := {main_arg0, main_arg1, main_arg4}
theorem moved_sub : moved ⊆ Pipeline.restRefs sig spec0 := by decide
theorem moved_pts (c : Dev nD) :
    (bigSep moved (fun b => ((c : Thread nD τ).loc b) ↦{fullShare} V m c b) : sProp 𝕄)
      = iprop((SA.actM.view.loc (c : Thread nD τ) ↦{fullShare} V m c main_arg0) ∗ (SC.actM.view.loc (c : Thread nD τ) ↦{fullShare} V m c main_arg1) ∗ (SG.actM.view.loc (c : Thread nD τ) ↦{fullShare} V m c main_arg4)) := by
  rw [BI.bigSep_eq_bigSepL_of_eq [main_arg0, main_arg1, main_arg4] (by decide) (by decide)]; rfl
theorem given (c : Dev nD) : (Pipeline.ΦD cells spec0 moved (V m) c : sProp 𝕄)
    = iprop(iprop((∃ d, owns (c : Thread nD τ) SA.ringM fullShare d) ∗ (∃ d, owns (c : Thread nD τ) SC.ringM fullShare d) ∗ (∃ d, owns (c : Thread nD τ) SG.ringM fullShare d) ∗ (∃ d, owns (c : Thread nD τ) SH.ringM fullShare d)) ∗ (∃ r, prngReg c r)
      ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)
      ∗ iprop((SA.actM.view.loc (c : Thread nD τ) ↦{fullShare} V m c main_arg0) ∗ (SC.actM.view.loc (c : Thread nD τ) ↦{fullShare} V m c main_arg1) ∗ (SG.actM.view.loc (c : Thread nD τ) ↦{fullShare} V m c main_arg4))) := by
  rw [Pipeline.ΦD_eq, scopedRest0_eq, cells_zero, moved_pts]; simp only [SA.ringM, SC.ringM, SG.ringM, SH.ringM, owns_whole]; try rfl

theorem inv_first (c : Dev nD) : Pipeline.ΦD cells spec0 moved (V m) c ⊢ (dats m 0 c).Φ 0 := by
  rw [given, show (dats m 0 c).Φ 0 = Inv m c 0 from rfl]
  unfold Inv
  iintro ⟨⟨RA, RC, RG, RH⟩, Hg, ⟨c6, c7, c8, c9, c10, c11, c12, c13, c14, c15, c16, c17⟩, XA, XC, XZ⟩
  ihave XZ := (pointsTo_share (PosShare.mem_left_op_right fullShare)).1 $$ XZ
  icases XZ with ⟨XG, XH⟩
  isplitl [Hg]; · iexact Hg
  isplitl [RA c6 c7 c8 XA]
  · iapply (SA.ring_in (F := F) c (V m c main_arg0))
    isplitl [RA]; · iexact RA
    isplitl [c6 c7 c8]
    · isplitl [c6]; · iexact c6
      isplitl [c7]; · iexact c7
      iexact c8
    iexact XA
  isplitl [RC c9 c10 c11 XC]
  · iapply (SC.ring_in (F := F) c (V m c main_arg1))
    isplitl [RC]; · iexact RC
    isplitl [c9 c10 c11]
    · isplitl [c9]; · iexact c9
      isplitl [c10]; · iexact c10
      iexact c11
    iexact XC
  isplitl [RG c12 c13 c14 XG]
  · iapply (SG.ring_in (F := F) c (V m c main_arg4))
    isplitl [RG]; · iexact RG
    isplitl [c12 c13 c14]
    · isplitl [c12]; · iexact c12
      isplitl [c13]; · iexact c13
      iexact c14
    iexact XG
  · iapply (SH.ring_in (F := F) c (V m c main_arg4))
    isplitl [RH]; · iexact RH
    isplitl [c15 c16 c17]
    · isplitl [c15]; · iexact c15
      isplitl [c16]; · iexact c16
      iexact c17
    iexact XH
theorem inv_last (c : Dev nD) : (dats m 0 c).Φ (Fin.last cfg0.N) ⊢ Pipeline.ΦD cells spec0 moved (V m) c := by
  rw [given, show (dats m 0 c).Φ (Fin.last cfg0.N) = Inv m c grid0.N from rfl]
  unfold Inv
  rw [show grid0.N = 32 by rw [N_0]]
  iintro ⟨Hg, RA, RC, RG, RH⟩
  ihave YA := (SA.ring_out (F := F) c (V m c main_arg0)) $$ RA
  icases YA with ⟨RA, ⟨c6, c7, c8⟩, XA⟩
  ihave YC := (SC.ring_out (F := F) c (V m c main_arg1)) $$ RC
  icases YC with ⟨RC, ⟨c9, c10, c11⟩, XC⟩
  ihave YG := (SG.ring_out (F := F) c (V m c main_arg4)) $$ RG
  icases YG with ⟨RG, ⟨c12, c13, c14⟩, XG⟩
  ihave YH := (SH.ring_out (F := F) c (V m c main_arg4)) $$ RH
  icases YH with ⟨RH, ⟨c15, c16, c17⟩, XH⟩
  isplitl [RA RC RG RH]
  · isplitl [RA]; · iexact RA
    isplitl [RC]; · iexact RC
    isplitl [RG]; · iexact RG
    iexact RH
  isplitl [Hg]; · iexact Hg
  isplitl [c6 c7 c8 c9 c10 c11 c12 c13 c14 c15 c16 c17]
  · isplitl [c6]; · iexact c6
    isplitl [c7]; · iexact c7
    isplitl [c8]; · iexact c8
    isplitl [c9]; · iexact c9
    isplitl [c10]; · iexact c10
    isplitl [c11]; · iexact c11
    isplitl [c12]; · iexact c12
    isplitl [c13]; · iexact c13
    isplitl [c14]; · iexact c14
    isplitl [c15]; · iexact c15
    isplitl [c16]; · iexact c16
    iexact c17
  isplitl [XA]; · iexact XA
  isplitl [XC]; · iexact XC
  iapply (pointsTo_share (PosShare.mem_left_op_right fullShare)).2
  isplitl [XG]; · iexact XG
  iexact XH

set_option backward.isDefEq.respectTransparency.types false in
set_option maxHeartbeats 800000 in
theorem run_quiet : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cells defs₀ Variants.none cells_own moved moved_sub m ρ main
    (hbody := fun c => (body_obligation m c).loose) (hshare := fun c => (dats m 0 c).share_full fun _ => rfl)
    (howed := fun _ _ => rfl) (V := V m) (hmain := Pipeline.hmain_region cfgs 0 defs₀ Variants.none m main fun c => (main_chain c).trans rfl) (hA := A_eq m) (hin := inv_first m) (hout := inv_last m)

/-- The arguments end unchanged, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 0).trans (((dats m 0 c).arrAt_in 0 rfl _).trans ((A_eq m c 0).trans (V_main_arg2 m c))),
      ((h.1 c).1 1).trans (((dats m 0 c).arrAt_in 1 rfl _).trans ((A_eq m c 1).trans (V_main_arg3 m c))),
      ((h.1 c).2 main_arg4 (Pipeline.mem_restRefs_of main_arg4 (by decide) (by decide))).trans (V_main_arg4 m c)⟩, h.2⟩) (run_quiet m ρ)

end Cert.Kernel6Ideal.Merge

end
-- ==== Proof.MergeClaim.lean ====
/-
  The gated sum of two projections: kernel and reference end with the same array.
-/
module

public import proofs.«01_k».proof.Defs
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.NormClaim
public import proofs.«01_k».proof.Proof.MergeFrame
public import proofs.«01_k».proof.Proof.MergeBitsFrame
public import Idealize.ShloMosaic.Lib.Claim
public import Idealize.ShloMosaic.Lib.Pipeline.Value
public import Idealize.ShloMosaic.Lib.Pipeline.ValueKit
public import Idealize.ShloMosaic.Lib.Pointwise

@[expose] public section

set_option maxRecDepth 16384

noncomputable section

namespace Cert.Merge
open Idealize.ShloMosaic

/-- One branch at a row and a column: the logistic function of its gate times its projection. -/
def part (x : (⟨2, ![8192, 2048]⟩ : Shape).Idx → EReal) (w : (⟨2, ![2048, 2048]⟩ : Shape).Idx → EReal) (z : (⟨2, ![8192, 6144]⟩ : Shape).Idx → EReal)
    (p : Fin 8192) (q : Fin 2048) (g : Fin 6144) : EReal :=
  Ideal.div 1 (1 + Ideal.exp (-z (ix2 p g))) * ∑ h : Fin 2048, x (ix2 p h) * w (ix2 h q)

/-- The gate columns of the two branches. -/
def first (q : Fin 2048) : Fin 6144 := ⟨2048 + q.val, by omega⟩
def second (q : Fin 2048) : Fin 6144 := ⟨4096 + q.val, by omega⟩

/-- The result at a row and a column. -/
def val (a c : (⟨2, ![8192, 2048]⟩ : Shape).Idx → EReal) (wa wc : (⟨2, ![2048, 2048]⟩ : Shape).Idx → EReal) (z : (⟨2, ![8192, 6144]⟩ : Shape).Idx → EReal)
    (p : Fin 8192) (q : Fin 2048) : EReal :=
  part a wa z p q (first q) + part c wc z p q (second q)

end Cert.Merge

namespace Cert.Kernel6Ideal.Merge
open Cert.Kernel6Ideal Cert.Kernel6Ideal.Gen Idealize.ShloMosaic Idealize.ShloMosaic.TcCoe Idealize.SL.Sem
open Idealize.ShloMosaic.Pipeline (Dat)
variable (m : (ℓ : Loc nD τ sig) → Buf (Elt Ideal) ℓ)

theorem pay_apply (a c : Vec Ideal S1x512x2048 .bf16) (g h : Vec Ideal S1x512x1024 .f32) (wa wc : Vec Ideal S2048x1024 .bf16) (r : Fin 512) (k : Fin 1024) :
    k0_pay1 (k0_pay2 a) (k0_pay3 c) (k0_pay4 g) (k0_pay5 h) wa wc (ix2 r k)
      = Ideal.div 1 (1 + Ideal.exp (-g (ix3 0 r k))) * (∑ x : Fin 2048, a (ix3 0 r x) * wa (ix2 x k))
        + Ideal.div 1 (1 + Ideal.exp (-h (ix3 0 r k))) * ∑ x : Fin 2048, c (ix3 0 r x) * wc (ix2 x k) := by
  pointwise [k0_pay1, k0_pay2, k0_pay3, k0_pay4, k0_pay5, zero_sub]

theorem shownA_apply (v : Vec Ideal S512x2048 .bf16) (r : Fin 512) (h : Fin 2048) : SA.shown v (ix3 0 r h) = v (ix2 r h) := by
  pointwise [SA.shown]
theorem tileA_apply (c : Dev nD) (X : SA.Act (F := Ideal) c) (b : Fin 32) (r : Fin 512) (h : Fin 2048) (p : Fin 8192) (hp : p.val = 512 * (b.val % 16) + r.val) :
    SA.tileOf c X b (ix2 r h) = (X : S8192x2048.Idx → EReal) (ix2 p h) := by
  refine congrArg (X : S8192x2048.Idx → EReal) (funext fun a => Fin.ext ?_)
  fin_cases a
  · show 512 * (b.val % 16) + 1 * r.val = p.val; omega
  · show 0 + 1 * h.val = h.val; omega
theorem shownC_apply (v : Vec Ideal S512x2048 .bf16) (r : Fin 512) (h : Fin 2048) : SC.shown v (ix3 0 r h) = v (ix2 r h) := by
  pointwise [SC.shown]
theorem tileC_apply (c : Dev nD) (X : SC.Act (F := Ideal) c) (b : Fin 32) (r : Fin 512) (h : Fin 2048) (p : Fin 8192) (hp : p.val = 512 * (b.val % 16) + r.val) :
    SC.tileOf c X b (ix2 r h) = (X : S8192x2048.Idx → EReal) (ix2 p h) := by
  refine congrArg (X : S8192x2048.Idx → EReal) (funext fun a => Fin.ext ?_)
  fin_cases a
  · show 512 * (b.val % 16) + 1 * r.val = p.val; omega
  · show 0 + 1 * h.val = h.val; omega
theorem shownG_apply (v : Vec Ideal S512x1024 .f32) (r : Fin 512) (h : Fin 1024) : SG.shown v (ix3 0 r h) = v (ix2 r h) := by
  pointwise [SG.shown]
theorem tileG_apply (c : Dev nD) (X : SG.Act (F := Ideal) c) (b : Fin 32) (r : Fin 512) (k : Fin 1024) (p : Fin 8192) (g : Fin 6144)
    (hp : p.val = 512 * (b.val % 16) + r.val) (hg : g.val = 2048 + 1024 * (b.val / 16) + k.val) :
    SG.tileOf c X b (ix2 r k) = (X : S8192x6144.Idx → EReal) (ix2 p g) := by
  refine congrArg (X : S8192x6144.Idx → EReal) (funext fun a => Fin.ext ?_)
  fin_cases a
  · show 512 * (b.val % 16) + 1 * r.val = p.val; omega
  · show 2048 + 1024 * (b.val / 16) + 1 * k.val = g.val; omega
theorem shownH_apply (v : Vec Ideal S512x1024 .f32) (r : Fin 512) (h : Fin 1024) : SH.shown v (ix3 0 r h) = v (ix2 r h) := by
  pointwise [SH.shown]
theorem tileH_apply (c : Dev nD) (X : SH.Act (F := Ideal) c) (b : Fin 32) (r : Fin 512) (k : Fin 1024) (p : Fin 8192) (g : Fin 6144)
    (hp : p.val = 512 * (b.val % 16) + r.val) (hg : g.val = 4096 + 1024 * (b.val / 16) + k.val) :
    SH.tileOf c X b (ix2 r k) = (X : S8192x6144.Idx → EReal) (ix2 p g) := by
  refine congrArg (X : S8192x6144.Idx → EReal) (funext fun a => Fin.ext ?_)
  fin_cases a
  · show 512 * (b.val % 16) + 1 * r.val = p.val; omega
  · show 4096 + 1024 * (b.val / 16) + 1 * k.val = g.val; omega
theorem blk_0 (c : Dev nD) (t : Fin grid0.N) (h : Fin 2048) (k : Fin 1024) (hp : t.val / 16 * 1024 + k.val < 2048) :
    iblk m c 0 t (ix2 h k) = (V m c main_arg2 : S2048x2048.Idx → EReal) (ix2 h ⟨t.val / 16 * 1024 + k.val, hp⟩) := by
  blk_ext [iblk, idx_all t]
theorem blk_1 (c : Dev nD) (t : Fin grid0.N) (h : Fin 2048) (k : Fin 1024) (hp : t.val / 16 * 1024 + k.val < 2048) :
    iblk m c 1 t (ix2 h k) = (V m c main_arg3 : S2048x2048.Idx → EReal) (ix2 h ⟨t.val / 16 * 1024 + k.val, hp⟩) := by
  blk_ext [iblk, idx_all t]

theorem flushed_2 (c : Dev nD) (t : Fin cfg0.N) : (dats m 0 c).flushed 2 t = (cfg0.win 2).cut (grid0.coords t) (left m c t) := by
  show (cfg0.win 2).cut (grid0.coords t) ((dats m 0 c).after 2 t) = _
  rw [after_2]
theorem idx_inj : ∀ t t' : Fin cfg0.N, win0_2.index t = win0_2.index t' → t = t' :=
  (by decide +kernel : ∀ t t' : Fin grid0.N, win0_2.index t = win0_2.index t' → t = t')
theorem blocks (c : Dev nD) (t : Fin cfg0.N) (hf : (cfg0.win 2).flush t = true) :
    ((cfg0.win 2).blk t).view.read (Elt Ideal) ((dats m 0 c).arrAt 2 cfg0.N) = (dats m 0 c).flushed 2 t :=
  (dats m 0 c).read_blk_arrAt_eq_flushed 2 (fun t t' _ _ hne => (cfg0.win 2).disjoint_blk fun h => hne (idx_inj t t' h)) cfg0.N t t.isLt hf

theorem emb_eq (t : Fin cfg0.N) (r : Fin 512) (k : Fin 1024) (hr : t.val % 16 * 512 + r.val < 8192) (hk : t.val / 16 * 1024 + k.val < 2048) :
    ((cfg0.win 2).blk t).view.emb (ix2 r k) = (ix2 (⟨t.val % 16 * 512 + r.val, hr⟩ : Fin 8192) (⟨t.val / 16 * 1024 + k.val, hk⟩ : Fin 2048) : S8192x2048.Idx) := by
  refine funext fun a => Fin.ext ?_
  have e := (idx_all t).2.2
  fin_cases a
  · show win0_2.index t 0 * 512 + 1 * r.val = t.val % 16 * 512 + r.val
    rw [e]; show t.val % 16 * 512 + 1 * r.val = _; omega
  · show win0_2.index t 1 * 1024 + 1 * k.val = t.val / 16 * 1024 + k.val
    rw [e]; show t.val / 16 * 1024 + 1 * k.val = _; omega

theorem flush_all : ∀ t : Fin cfg0.N, (cfg0.win 2).flush t = true :=
  (by decide +kernel : ∀ t : Fin grid0.N, win0_2.flush t = true)

theorem left_apply (c : Dev nD) (t : Fin cfg0.N) (r : Fin 512) (k : Fin 1024) (hr : t.val % 16 * 512 + r.val < 8192) (hk : t.val / 16 * 1024 + k.val < 2048) :
    left m c t (ix2 r k) = Cert.Merge.val (m ((c : Thread nD τ).loc main_arg0)) (m ((c : Thread nD τ).loc main_arg1)) (m ((c : Thread nD τ).loc main_arg2)) (m ((c : Thread nD τ).loc main_arg3)) (m ((c : Thread nD τ).loc main_arg4))
      ⟨t.val % 16 * 512 + r.val, hr⟩ ⟨t.val / 16 * 1024 + k.val, hk⟩ := by
  have ht : t.val < 32 := lt_of_lt_of_eq t.isLt (show cfg0.N = 32 from N_0)
  have hb : (Ring.bk 32 t.val).val = t.val := Ring.bk_val ht
  have hp : (⟨t.val % 16 * 512 + r.val, hr⟩ : Fin 8192).val = 512 * ((Ring.bk 32 t.val).val % 16) + r.val := by
    show t.val % 16 * 512 + r.val = _; rw [hb]; omega
  unfold left gated
  refine (pay_apply _ _ _ _ _ _ r k).trans ?_
  unfold Cert.Merge.val Cert.Merge.part
  have eg := (shownG_apply (SG.tileOf c (V m c main_arg4) (Ring.bk 32 t.val)) r k).trans (tileG_apply c (V m c main_arg4) _ r k ⟨t.val % 16 * 512 + r.val, hr⟩ (Cert.Merge.first ⟨t.val / 16 * 1024 + k.val, hk⟩) hp
    (by show 2048 + (t.val / 16 * 1024 + k.val) = _; rw [hb]; omega))
  have eh := (shownH_apply (SH.tileOf c (V m c main_arg4) (Ring.bk 32 t.val)) r k).trans (tileH_apply c (V m c main_arg4) _ r k ⟨t.val % 16 * 512 + r.val, hr⟩ (Cert.Merge.second ⟨t.val / 16 * 1024 + k.val, hk⟩) hp
    (by show 4096 + (t.val / 16 * 1024 + k.val) = _; rw [hb]; omega))
  rw [eg, eh]
  refine Ideal.add_congr (Ideal.mul_congr rfl (Finset.sum_congr rfl fun h _ => Ideal.mul_congr ?_ (blk_0 m c t h k hk))) (Ideal.mul_congr rfl (Finset.sum_congr rfl fun h _ => Ideal.mul_congr ?_ (blk_1 m c t h k hk)))
  · exact (shownA_apply _ r h).trans (tileA_apply c (V m c main_arg0) _ r h _ hp)
  · exact (shownC_apply _ r h).trans (tileC_apply c (V m c main_arg1) _ r h _ hp)

theorem final_apply (c : Dev nD) (p : Fin 8192) (q : Fin 2048) :
    ((dats m 0 c).arrAt 2 cfg0.N : S8192x2048.Idx → EReal) (ix2 p q)
      = Cert.Merge.val (m ((c : Thread nD τ).loc main_arg0)) (m ((c : Thread nD τ).loc main_arg1)) (m ((c : Thread nD τ).loc main_arg2)) (m ((c : Thread nD τ).loc main_arg3)) (m ((c : Thread nD τ).loc main_arg4)) p q := by
  have hp := p.isLt
  have hq := q.isLt
  have hlt : q.val / 1024 * 16 + p.val / 512 < cfg0.N := by
    show _ < grid0.N
    rw [N_0]
    omega
  obtain ⟨t, ht⟩ : ∃ t : Fin cfg0.N, t.val = q.val / 1024 * 16 + p.val / 512 := ⟨⟨_, hlt⟩, rfl⟩
  obtain ⟨r, hr⟩ : ∃ r : Fin 512, r.val = p.val % 512 := ⟨⟨_, Nat.mod_lt _ (by decide)⟩, rfl⟩
  obtain ⟨k, hk⟩ : ∃ k : Fin 1024, k.val = q.val % 1024 := ⟨⟨_, Nat.mod_lt _ (by decide)⟩, rfl⟩
  have h1 : t.val % 16 * 512 + r.val < 8192 := by omega
  have h2 : t.val / 16 * 1024 + k.val < 2048 := by omega
  have ep : (⟨t.val % 16 * 512 + r.val, h1⟩ : Fin 8192) = p := Fin.ext (by show t.val % 16 * 512 + r.val = p.val; omega)
  have eq : (⟨t.val / 16 * 1024 + k.val, h2⟩ : Fin 2048) = q := Fin.ext (by show t.val / 16 * 1024 + k.val = q.val; omega)
  have e := congrFun (blocks m c t (flush_all t)) (ix2 r k)
  rw [flushed_2] at e
  have e' : ((dats m 0 c).arrAt 2 cfg0.N : S8192x2048.Idx → EReal) (((cfg0.win 2).blk t).view.emb (ix2 r k)) = left m c t (ix2 r k) := e
  rw [emb_eq t r k h1 h2, left_apply m c t r k h1 h2, ep, eq] at e'
  exact e'

variable (ρ : Dev nD → PrngReg)

/-- A launch ends with the result array in place and the arguments as they were. -/
theorem value_run : θ_run defs (onTc (τ := τ) (main (F := Ideal))) ⟨m, fun _ => 0, ρ⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 2,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 0).trans (((dats m 0 c).arrAt_in 0 rfl _).trans ((A_eq m c 0).trans (V_main_arg2 m c))),
      ((h.1 c).1 1).trans (((dats m 0 c).arrAt_in 1 rfl _).trans ((A_eq m c 1).trans (V_main_arg3 m c))),
      ((h.1 c).2 main_arg4 (Pipeline.mem_restRefs_of main_arg4 (by decide) (by decide))).trans (V_main_arg4 m c)⟩)
    (run_quiet m ρ)

end Cert.Kernel6Ideal.Merge

namespace Cert.Reference6Ideal.Merge
open Cert.Reference6Ideal Cert.Reference6Ideal.Gen Idealize.ShloMosaic
variable (a c : FVec Ideal S8192x2048 .bf16) (wa wc : FVec Ideal S2048x2048 .bf16) (z : FVec Ideal S8192x6144 .f32)

/-- The two gates. -/
def gates : FVec Ideal S4x2048x2x2048 .f32 :=
  shapeCast _ (Host.divf (broadcastInDim S4x2048x4096 ![] bcast_S_S4x2048x4096 (constant S_ .f32 0x3F800000#32)) (addf (broadcastInDim S4x2048x4096 ![] bcast_S_S4x2048x4096 (constant S_ .f32 0x3F800000#32)) (Host.exp (Host.negf (extractStridedSlice S4x2048x4096 ![0, 0, 2048] (shapeCast _ z shapeCasts_S8192x6144_S4x2048x6144) slices_S4x2048x6144_S4x2048x4096_0_0_2048))))) shapeCasts_S4x2048x4096_S4x2048x2x2048

theorem gates_apply (n : Fin 4) (s : Fin 2048) (j : Fin 2) (q : Fin 2048) (g : Fin 6144) (hg : g.val = 2048 + (j.val * 2048 + q.val)) :
    gates z (ix4 n s j q) = Ideal.div 1 (1 + Ideal.exp (-z (ix2 ⟨n.val * 2048 + s.val, by omega⟩ g))) := by
  have hb : 2048 + (j.val * 2048 + q.val) < 6144 := by omega
  rw [show g = ⟨2048 + (j.val * 2048 + q.val), hb⟩ from Fin.ext hg]
  pointwise [gates]

/-- A projection of one branch. -/
def proj : FVec Ideal S4x2048x2048 .f32 :=
  Host.dotGeneral dot_S4x2048x2048_S2048x2048_S4x2048x2048_2_0_01_1_n_n none (extf .f32 (shapeCast _ a shapeCasts_S8192x2048_S4x2048x2048) bitsLt_bf16_f32) (extf .f32 wa bitsLt_bf16_f32)

theorem proj_apply (n : Fin 4) (s : Fin 2048) (q : Fin 2048) :
    proj a wa (ix3 n s q) = ∑ h : Fin 2048, a (ix2 ⟨n.val * 2048 + s.val, by omega⟩ h) * wa (ix2 h q) := by
  pointwise [proj]

/-- The result: the gated sum, narrowed. -/
def res : FVec Ideal S8192x2048 .bf16 :=
  truncf .bf16 (shapeCast _ (addf (mulf (shapeCast _ (extractStridedSlice S4x2048x1x2048 ![0, 0, 0, 0] (gates z) slices_S4x2048x2x2048_S4x2048x1x2048_0_0_0_0) shapeCasts_S4x2048x1x2048_S4x2048x2048) (proj a wa))
    (mulf (shapeCast _ (extractStridedSlice S4x2048x1x2048 ![0, 0, 1, 0] (gates z) slices_S4x2048x2x2048_S4x2048x1x2048_0_0_1_0) shapeCasts_S4x2048x1x2048_S4x2048x2048) (proj c wc))) shapeCasts_S4x2048x2048_S8192x2048) bitsLt_bf16_f32

theorem res_apply (n : Fin 4) (s : Fin 2048) (q : Fin 2048) :
    res a c wa wc z (ix2 ⟨n.val * 2048 + s.val, by omega⟩ q) = Cert.Merge.val a c wa wc z ⟨n.val * 2048 + s.val, by omega⟩ q := by
  have e0 := fun j : Fin 2048 => gates_apply z n s 0 j (Cert.Merge.first j) (by show 2048 + j.val = 2048 + (0 * 2048 + j.val); omega)
  have e1 := fun j : Fin 2048 => gates_apply z n s 1 j (Cert.Merge.second j) (by show 4096 + j.val = 2048 + (1 * 2048 + j.val); omega)
  pointwise [res, e0, e1, proj_apply, Cert.Merge.val, Cert.Merge.part]

end Cert.Reference6Ideal.Merge

namespace Cert.Merge
open Idealize.ShloMosaic Idealize.ShloMosaic.TcCoe Idealize.SL.Sem

theorem algebraic : Cert.algebraic_Kernel6Ideal_Reference6Ideal := by
  pair_intro
  · run_from Cert.Kernel6Ideal.Merge.value_run m g
  · run_from Cert.Reference6Ideal.Value.run m' g'
    · exact Cert.Norm.rows_ext _ _ fun n s k => (Cert.Reference6Ideal.Merge.res_apply _ _ _ _ _ n s k).trans
        (Cert.Kernel6Ideal.Merge.final_apply m c _ k).symm

theorem frame_reference : Cert.quiescent_Reference6Ideal := fun m g _ =>
  θ_run_mono (Cert.Reference6Ideal.Value.run m g) fun r h => ⟨fun c => (h c).2, sem_eq_zero_of_no_sems (by decide) r.2⟩

end Cert.Merge

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.ConvClaim
public import proofs.«01_k».proof.Proof.OutClaim
public import proofs.«01_k».proof.Proof.NormClaim
public import proofs.«01_k».proof.Proof.ZgClaim
public import proofs.«01_k».proof.Proof.QkvClaim
public import proofs.«01_k».proof.Proof.MergeClaim
public import Idealize.ShloMosaic.Adequacy
public import Idealize.ShloMosaic.Init

@[expose] public section

noncomputable section

namespace Cert.Proof

open Idealize.ShloMosaic Idealize.SL.Sem Cert.Kernel

/-- Each of the six calls and its reference end with the same arrays; nothing else is touched. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  fun m ρ _ => Cert.Kernel.Gen.frame m ρ, fun m ρ _ => Cert.KernelIdeal.Gen.frame m ρ, Cert.Conv.frame_reference,
  fun m ρ _ => Cert.Kernel2.Gen.frame m ρ, fun m ρ _ => Cert.Kernel2Ideal.Gen.frame m ρ, Cert.Out.frame_reference,
  fun m ρ _ => Cert.Kernel3.Gen.frame m ρ, fun m ρ _ => Cert.Kernel3Ideal.Gen.frame m ρ, Cert.Norm.frame_reference,
  fun m ρ _ => Cert.Kernel4.Zg.frame_run m ρ, fun m ρ _ => Cert.Kernel4Ideal.Zg.frame_run m ρ, Cert.Zg.frame_reference,
  fun m ρ _ => Cert.Kernel5.Qkv.frame_run m ρ, fun m ρ _ => Cert.Kernel5Ideal.Qkv.frame_run m ρ, Cert.Qkv.frame_reference,
  fun m ρ _ => Cert.Kernel6.Merge.frame_run m ρ, fun m ρ _ => Cert.Kernel6Ideal.Merge.frame_run m ρ, Cert.Merge.frame_reference,
  trivial, Cert.Conv.algebraic, trivial, Cert.Out.algebraic, trivial, Cert.Norm.algebraic, trivial, Cert.Zg.algebraic, trivial, Cert.Qkv.algebraic, trivial, Cert.Merge.algebraic⟩

end Cert.Proof

end
